-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))) = (fun _ => 1#1)

def Pre_FfnTwo [hPre_tables2 : Cert.Pre_tables2.Facts] (m : (ℓ : Loc Cert.FfnTwo.nD Cert.FfnTwo.τ Cert.FfnTwo.sig) → Buf (Elt Bits) ℓ) : Prop :=
  ∀ c : Dev Cert.FfnTwo.nD,
    (Cert.Pre_tables2.fn (F := Bits) (m ((c.tc : Thread Cert.FfnTwo.nD Cert.FfnTwo.τ).loc Cert.FfnTwo.main_arg0)) (m ((c.tc : Thread Cert.FfnTwo.nD Cert.FfnTwo.τ).loc Cert.FfnTwo.main_arg1)) (m ((c.tc : Thread Cert.FfnTwo.nD Cert.FfnTwo.τ).loc Cert.FfnTwo.main_arg2)) (m ((c.tc : Thread Cert.FfnTwo.nD Cert.FfnTwo.τ).loc Cert.FfnTwo.main_arg3)) (m ((c.tc : Thread Cert.FfnTwo.nD Cert.FfnTwo.τ).loc Cert.FfnTwo.main_arg4))) = (fun _ => 1#1)

def Pre_FfnTwoIdeal [hPre_tables2 : Cert.Pre_tables2.Facts] (m : (ℓ : Loc Cert.FfnTwoIdeal.nD Cert.FfnTwoIdeal.τ Cert.FfnTwoIdeal.sig) → Buf (Elt Ideal) ℓ) : Prop :=
  ∀ c : Dev Cert.FfnTwoIdeal.nD,
    (Cert.Pre_tables2.fn (F := Ideal) (m ((c.tc : Thread Cert.FfnTwoIdeal.nD Cert.FfnTwoIdeal.τ).loc Cert.FfnTwoIdeal.main_arg0)) (m ((c.tc : Thread Cert.FfnTwoIdeal.nD Cert.FfnTwoIdeal.τ).loc Cert.FfnTwoIdeal.main_arg1)) (m ((c.tc : Thread Cert.FfnTwoIdeal.nD Cert.FfnTwoIdeal.τ).loc Cert.FfnTwoIdeal.main_arg2)) (m ((c.tc : Thread Cert.FfnTwoIdeal.nD Cert.FfnTwoIdeal.τ).loc Cert.FfnTwoIdeal.main_arg3)) (m ((c.tc : Thread Cert.FfnTwoIdeal.nD Cert.FfnTwoIdeal.τ).loc Cert.FfnTwoIdeal.main_arg4))) = (fun _ => 1#1)

def Pre_FfnTwoRefIdeal (m : (ℓ : Loc Cert.FfnTwoRefIdeal.nD Cert.FfnTwoRefIdeal.τ Cert.FfnTwoRefIdeal.sig) → Buf (Elt Ideal) ℓ) : Prop :=
  True

def Pre_FfnTwoRefIdeal_tables2 [hPre_tables2 : Cert.Pre_tables2.Facts] (m : (ℓ : Loc Cert.FfnTwoRefIdeal.nD Cert.FfnTwoRefIdeal.τ Cert.FfnTwoRefIdeal.sig) → Buf (Elt Ideal) ℓ) : Prop :=
  ∀ c : Dev Cert.FfnTwoRefIdeal.nD,
    (Cert.Pre_tables2.fn (F := Ideal) (m ((c.tc : Thread Cert.FfnTwoRefIdeal.nD Cert.FfnTwoRefIdeal.τ).loc Cert.FfnTwoRefIdeal.main_arg0)) (m ((c.tc : Thread Cert.FfnTwoRefIdeal.nD Cert.FfnTwoRefIdeal.τ).loc Cert.FfnTwoRefIdeal.main_arg1)) (m ((c.tc : Thread Cert.FfnTwoRefIdeal.nD Cert.FfnTwoRefIdeal.τ).loc Cert.FfnTwoRefIdeal.main_arg2)) (m ((c.tc : Thread Cert.FfnTwoRefIdeal.nD Cert.FfnTwoRefIdeal.τ).loc Cert.FfnTwoRefIdeal.main_arg3)) (m ((c.tc : Thread Cert.FfnTwoRefIdeal.nD Cert.FfnTwoRefIdeal.τ).loc Cert.FfnTwoRefIdeal.main_arg4))) = (fun _ => 1#1)

def Pre_FfnOne [hPre_tables3 : Cert.Pre_tables3.Facts] (m : (ℓ : Loc Cert.FfnOne.nD Cert.FfnOne.τ Cert.FfnOne.sig) → Buf (Elt Bits) ℓ) : Prop :=
  ∀ c : Dev Cert.FfnOne.nD,
    (Cert.Pre_tables3.fn (F := Bits) (m ((c.tc : Thread Cert.FfnOne.nD Cert.FfnOne.τ).loc Cert.FfnOne.main_arg0)) (m ((c.tc : Thread Cert.FfnOne.nD Cert.FfnOne.τ).loc Cert.FfnOne.main_arg1)) (m ((c.tc : Thread Cert.FfnOne.nD Cert.FfnOne.τ).loc Cert.FfnOne.main_arg2)) (m ((c.tc : Thread Cert.FfnOne.nD Cert.FfnOne.τ).loc Cert.FfnOne.main_arg3)) (m ((c.tc : Thread Cert.FfnOne.nD Cert.FfnOne.τ).loc Cert.FfnOne.main_arg4))) = (fun _ => 1#1)

def Pre_FfnOneIdeal [hPre_tables3 : Cert.Pre_tables3.Facts] (m : (ℓ : Loc Cert.FfnOneIdeal.nD Cert.FfnOneIdeal.τ Cert.FfnOneIdeal.sig) → Buf (Elt Ideal) ℓ) : Prop :=
  ∀ c : Dev Cert.FfnOneIdeal.nD,
    (Cert.Pre_tables3.fn (F := Ideal) (m ((c.tc : Thread Cert.FfnOneIdeal.nD Cert.FfnOneIdeal.τ).loc Cert.FfnOneIdeal.main_arg0)) (m ((c.tc : Thread Cert.FfnOneIdeal.nD Cert.FfnOneIdeal.τ).loc Cert.FfnOneIdeal.main_arg1)) (m ((c.tc : Thread Cert.FfnOneIdeal.nD Cert.FfnOneIdeal.τ).loc Cert.FfnOneIdeal.main_arg2)) (m ((c.tc : Thread Cert.FfnOneIdeal.nD Cert.FfnOneIdeal.τ).loc Cert.FfnOneIdeal.main_arg3)) (m ((c.tc : Thread Cert.FfnOneIdeal.nD Cert.FfnOneIdeal.τ).loc Cert.FfnOneIdeal.main_arg4))) = (fun _ => 1#1)

def Pre_FfnOneRefIdeal (m : (ℓ : Loc Cert.FfnOneRefIdeal.nD Cert.FfnOneRefIdeal.τ Cert.FfnOneRefIdeal.sig) → Buf (Elt Ideal) ℓ) : Prop :=
  True

def Pre_FfnOneRefIdeal_tables3 [hPre_tables3 : Cert.Pre_tables3.Facts] (m : (ℓ : Loc Cert.FfnOneRefIdeal.nD Cert.FfnOneRefIdeal.τ Cert.FfnOneRefIdeal.sig) → Buf (Elt Ideal) ℓ) : Prop :=
  ∀ c : Dev Cert.FfnOneRefIdeal.nD,
    (Cert.Pre_tables3.fn (F := Ideal) (m ((c.tc : Thread Cert.FfnOneRefIdeal.nD Cert.FfnOneRefIdeal.τ).loc Cert.FfnOneRefIdeal.main_arg0)) (m ((c.tc : Thread Cert.FfnOneRefIdeal.nD Cert.FfnOneRefIdeal.τ).loc Cert.FfnOneRefIdeal.main_arg1)) (m ((c.tc : Thread Cert.FfnOneRefIdeal.nD Cert.FfnOneRefIdeal.τ).loc Cert.FfnOneRefIdeal.main_arg2)) (m ((c.tc : Thread Cert.FfnOneRefIdeal.nD Cert.FfnOneRefIdeal.τ).loc Cert.FfnOneRefIdeal.main_arg3)) (m ((c.tc : Thread Cert.FfnOneRefIdeal.nD Cert.FfnOneRefIdeal.τ).loc Cert.FfnOneRefIdeal.main_arg4))) = (fun _ => 1#1)

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInRefIdeal (m : (ℓ : Loc Cert.MixInRefIdeal.nD Cert.MixInRefIdeal.τ Cert.MixInRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_AttIn (m : (ℓ : Loc Cert.AttIn.nD Cert.AttIn.τ Cert.AttIn.sig) → Buf (Elt Bits) ℓ) : Prop :=
  True

def Pre_AttInIdeal (m : (ℓ : Loc Cert.AttInIdeal.nD Cert.AttInIdeal.τ Cert.AttInIdeal.sig) → Buf (Elt Ideal) ℓ) : Prop :=
  True

def Pre_AttInRefIdeal (m : (ℓ : Loc Cert.AttInRefIdeal.nD Cert.AttInRefIdeal.τ Cert.AttInRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_MemQ (m : (ℓ : Loc Cert.MemQ.nD Cert.MemQ.τ Cert.MemQ.sig) → Buf (Elt Bits) ℓ) : Prop :=
  True

def Pre_MemQIdeal (m : (ℓ : Loc Cert.MemQIdeal.nD Cert.MemQIdeal.τ Cert.MemQIdeal.sig) → Buf (Elt Ideal) ℓ) : Prop :=
  True

def Pre_MemQRefIdeal (m : (ℓ : Loc Cert.MemQRefIdeal.nD Cert.MemQRefIdeal.τ Cert.MemQRefIdeal.sig) → Buf (Elt Ideal) ℓ) : Prop :=
  True

def Pre_MemOut (m : (ℓ : Loc Cert.MemOut.nD Cert.MemOut.τ Cert.MemOut.sig) → Buf (Elt Bits) ℓ) : Prop :=
  True

def Pre_MemOutIdeal (m : (ℓ : Loc Cert.MemOutIdeal.nD Cert.MemOutIdeal.τ Cert.MemOutIdeal.sig) → Buf (Elt Ideal) ℓ) : Prop :=
  True

def Pre_MemOutRefIdeal (m : (ℓ : Loc Cert.MemOutRefIdeal.nD Cert.MemOutRefIdeal.τ Cert.MemOutRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_LatPrompt (m : (ℓ : Loc Cert.LatPrompt.nD Cert.LatPrompt.τ Cert.LatPrompt.sig) → Buf (Elt Bits) ℓ) : Prop :=
  True

def Pre_LatPromptIdeal (m : (ℓ : Loc Cert.LatPromptIdeal.nD Cert.LatPromptIdeal.τ Cert.LatPromptIdeal.sig) → Buf (Elt Ideal) ℓ) : Prop :=
  True

def Pre_LatPromptRefIdeal (m : (ℓ : Loc Cert.LatPromptRefIdeal.nD Cert.LatPromptRefIdeal.τ Cert.LatPromptRefIdeal.sig) → Buf (Elt Ideal) ℓ) : Prop :=
  True

def Pre_LatSample (m : (ℓ : Loc Cert.LatSample.nD Cert.LatSample.τ Cert.LatSample.sig) → Buf (Elt Bits) ℓ) : Prop :=
  True

def Pre_LatSampleIdeal (m : (ℓ : Loc Cert.LatSampleIdeal.nD Cert.LatSampleIdeal.τ Cert.LatSampleIdeal.sig) → Buf (Elt Ideal) ℓ) : Prop :=
  True

def Pre_LatSampleRefIdeal (m : (ℓ : Loc Cert.LatSampleRefIdeal.nD Cert.LatSampleRefIdeal.τ Cert.LatSampleRefIdeal.sig) → Buf (Elt Ideal) ℓ) : Prop :=
  True

def Pre_FinalNorm (m : (ℓ : Loc Cert.FinalNorm.nD Cert.FinalNorm.τ Cert.FinalNorm.sig) → Buf (Elt Bits) ℓ) : Prop :=
  True

def Pre_FinalNormIdeal (m : (ℓ : Loc Cert.FinalNormIdeal.nD Cert.FinalNormIdeal.τ Cert.FinalNormIdeal.sig) → Buf (Elt Ideal) ℓ) : Prop :=
  True

def Pre_FinalNormRefIdeal (m : (ℓ : Loc Cert.FinalNormRefIdeal.nD Cert.FinalNormRefIdeal.τ Cert.FinalNormRefIdeal.sig) → Buf (Elt Ideal) ℓ) : Prop :=
  True

def Pre_AttPost (m : (ℓ : Loc Cert.AttPost.nD Cert.AttPost.τ Cert.AttPost.sig) → Buf (Elt Bits) ℓ) : Prop :=
  True

def Pre_AttPostIdeal (m : (ℓ : Loc Cert.AttPostIdeal.nD Cert.AttPostIdeal.τ Cert.AttPostIdeal.sig) → Buf (Elt Ideal) ℓ) : Prop :=
  True

def Pre_AttPostRefIdeal (m : (ℓ : Loc Cert.AttPostRefIdeal.nD Cert.AttPostRefIdeal.τ Cert.AttPostRefIdeal.sig) → Buf (Elt Ideal) ℓ) : Prop :=
  True

def Pre_AttUq (m : (ℓ : Loc Cert.AttUq.nD Cert.AttUq.τ Cert.AttUq.sig) → Buf (Elt Bits) ℓ) : Prop :=
  True

def Pre_AttUqIdeal (m : (ℓ : Loc Cert.AttUqIdeal.nD Cert.AttUqIdeal.τ Cert.AttUqIdeal.sig) → Buf (Elt Ideal) ℓ) : Prop :=
  True

def Pre_AttUqRefIdeal (m : (ℓ : Loc Cert.AttUqRefIdeal.nD Cert.AttUqRefIdeal.τ Cert.AttUqRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_FfnTwo [hFfnTwo : Cert.FfnTwo.Facts] [hPre_tables2 : Cert.Pre_tables2.Facts] : Prop :=
  ∀ (m : (ℓ : Loc Cert.FfnTwo.nD Cert.FfnTwo.τ Cert.FfnTwo.sig) → Buf (Elt Bits) ℓ) (g : Dev Cert.FfnTwo.nD → PrngReg), Pre_FfnTwo m →
    θ_run (Cert.FfnTwo.defs (F := Bits)) (onTc (τ := Cert.FfnTwo.τ) (Cert.FfnTwo.main (F := Bits))) ⟨m, fun _ => 0, g⟩ (fun r => (∀ c : Dev Cert.FfnTwo.nD,
      r.2.mem ((c.tc : Thread Cert.FfnTwo.nD Cert.FfnTwo.τ).loc Cert.FfnTwo.main_arg0) = m ((c.tc : Thread Cert.FfnTwo.nD Cert.FfnTwo.τ).loc Cert.FfnTwo.main_arg0)
      ∧ r.2.mem ((c.tc : Thread Cert.FfnTwo.nD Cert.FfnTwo.τ).loc Cert.FfnTwo.main_arg1) = m ((c.tc : Thread Cert.FfnTwo.nD Cert.FfnTwo.τ).loc Cert.FfnTwo.main_arg1)
      ∧ r.2.mem ((c.tc : Thread Cert.FfnTwo.nD Cert.FfnTwo.τ).loc Cert.FfnTwo.main_arg2) = m ((c.tc : Thread Cert.FfnTwo.nD Cert.FfnTwo.τ).loc Cert.FfnTwo.main_arg2)
      ∧ r.2.mem ((c.tc : Thread Cert.FfnTwo.nD Cert.FfnTwo.τ).loc Cert.FfnTwo.main_arg3) = m ((c.tc : Thread Cert.FfnTwo.nD Cert.FfnTwo.τ).loc Cert.FfnTwo.main_arg3)
      ∧ r.2.mem ((c.tc : Thread Cert.FfnTwo.nD Cert.FfnTwo.τ).loc Cert.FfnTwo.main_arg4) = m ((c.tc : Thread Cert.FfnTwo.nD Cert.FfnTwo.τ).loc Cert.FfnTwo.main_arg4))
      ∧ r.2.sem = fun _ => 0)

def quiescent_FfnTwoIdeal [hFfnTwoIdeal : Cert.FfnTwoIdeal.Facts] [hPre_tables2 : Cert.Pre_tables2.Facts] : Prop :=
  ∀ (m : (ℓ : Loc Cert.FfnTwoIdeal.nD Cert.FfnTwoIdeal.τ Cert.FfnTwoIdeal.sig) → Buf (Elt Ideal) ℓ) (g : Dev Cert.FfnTwoIdeal.nD → PrngReg), Pre_FfnTwoIdeal m →
    θ_run (Cert.FfnTwoIdeal.defs (F := Ideal)) (onTc (τ := Cert.FfnTwoIdeal.τ) (Cert.FfnTwoIdeal.main (F := Ideal))) ⟨m, fun _ => 0, g⟩ (fun r => (∀ c : Dev Cert.FfnTwoIdeal.nD,
      r.2.mem ((c.tc : Thread Cert.FfnTwoIdeal.nD Cert.FfnTwoIdeal.τ).loc Cert.FfnTwoIdeal.main_arg0) = m ((c.tc : Thread Cert.FfnTwoIdeal.nD Cert.FfnTwoIdeal.τ).loc Cert.FfnTwoIdeal.main_arg0)
      ∧ r.2.mem ((c.tc : Thread Cert.FfnTwoIdeal.nD Cert.FfnTwoIdeal.τ).loc Cert.FfnTwoIdeal.main_arg1) = m ((c.tc : Thread Cert.FfnTwoIdeal.nD Cert.FfnTwoIdeal.τ).loc Cert.FfnTwoIdeal.main_arg1)
      ∧ r.2.mem ((c.tc : Thread Cert.FfnTwoIdeal.nD Cert.FfnTwoIdeal.τ).loc Cert.FfnTwoIdeal.main_arg2) = m ((c.tc : Thread Cert.FfnTwoIdeal.nD Cert.FfnTwoIdeal.τ).loc Cert.FfnTwoIdeal.main_arg2)
      ∧ r.2.mem ((c.tc : Thread Cert.FfnTwoIdeal.nD Cert.FfnTwoIdeal.τ).loc Cert.FfnTwoIdeal.main_arg3) = m ((c.tc : Thread Cert.FfnTwoIdeal.nD Cert.FfnTwoIdeal.τ).loc Cert.FfnTwoIdeal.main_arg3)
      ∧ r.2.mem ((c.tc : Thread Cert.FfnTwoIdeal.nD Cert.FfnTwoIdeal.τ).loc Cert.FfnTwoIdeal.main_arg4) = m ((c.tc : Thread Cert.FfnTwoIdeal.nD Cert.FfnTwoIdeal.τ).loc Cert.FfnTwoIdeal.main_arg4))
      ∧ r.2.sem = fun _ => 0)

def quiescent_FfnTwoRefIdeal [hFfnTwoRefIdeal : Cert.FfnTwoRefIdeal.Facts] : Prop :=
  ∀ (m : (ℓ : Loc Cert.FfnTwoRefIdeal.nD Cert.FfnTwoRefIdeal.τ Cert.FfnTwoRefIdeal.sig) → Buf (Elt Ideal) ℓ) (g : Dev Cert.FfnTwoRefIdeal.nD → PrngReg), Pre_FfnTwoRefIdeal m →
    θ_run (Cert.FfnTwoRefIdeal.defs (F := Ideal)) (onTc (τ := Cert.FfnTwoRefIdeal.τ) (Cert.FfnTwoRefIdeal.main (F := Ideal))) ⟨m, fun _ => 0, g⟩ (fun r => (∀ c : Dev Cert.FfnTwoRefIdeal.nD,
      r.2.mem ((c.tc : Thread Cert.FfnTwoRefIdeal.nD Cert.FfnTwoRefIdeal.τ).loc Cert.FfnTwoRefIdeal.main_arg0) = m ((c.tc : Thread Cert.FfnTwoRefIdeal.nD Cert.FfnTwoRefIdeal.τ).loc Cert.FfnTwoRefIdeal.main_arg0)
      ∧ r.2.mem ((c.tc : Thread Cert.FfnTwoRefIdeal.nD Cert.FfnTwoRefIdeal.τ).loc Cert.FfnTwoRefIdeal.main_arg1) = m ((c.tc : Thread Cert.FfnTwoRefIdeal.nD Cert.FfnTwoRefIdeal.τ).loc Cert.FfnTwoRefIdeal.main_arg1)
      ∧ r.2.mem ((c.tc : Thread Cert.FfnTwoRefIdeal.nD Cert.FfnTwoRefIdeal.τ).loc Cert.FfnTwoRefIdeal.main_arg2) = m ((c.tc : Thread Cert.FfnTwoRefIdeal.nD Cert.FfnTwoRefIdeal.τ).loc Cert.FfnTwoRefIdeal.main_arg2)
      ∧ r.2.mem ((c.tc : Thread Cert.FfnTwoRefIdeal.nD Cert.FfnTwoRefIdeal.τ).loc Cert.FfnTwoRefIdeal.main_arg3) = m ((c.tc : Thread Cert.FfnTwoRefIdeal.nD Cert.FfnTwoRefIdeal.τ).loc Cert.FfnTwoRefIdeal.main_arg3)
      ∧ r.2.mem ((c.tc : Thread Cert.FfnTwoRefIdeal.nD Cert.FfnTwoRefIdeal.τ).loc Cert.FfnTwoRefIdeal.main_arg4) = m ((c.tc : Thread Cert.FfnTwoRefIdeal.nD Cert.FfnTwoRefIdeal.τ).loc Cert.FfnTwoRefIdeal.main_arg4))
      ∧ r.2.sem = fun _ => 0)

def quiescent_FfnTwoRefIdeal_pre_tables2 [hFfnTwoRefIdeal : Cert.FfnTwoRefIdeal.Facts] [hPre_tables2 : Cert.Pre_tables2.Facts] : Prop :=
  ∀ (m : (ℓ : Loc Cert.FfnTwoRefIdeal.nD Cert.FfnTwoRefIdeal.τ Cert.FfnTwoRefIdeal.sig) → Buf (Elt Ideal) ℓ) (g : Dev Cert.FfnTwoRefIdeal.nD → PrngReg), Pre_FfnTwoRefIdeal_tables2 m →
    θ_run (Cert.FfnTwoRefIdeal.defs (F := Ideal)) (onTc (τ := Cert.FfnTwoRefIdeal.τ) (Cert.FfnTwoRefIdeal.main (F := Ideal))) ⟨m, fun _ => 0, g⟩ (fun r => (∀ c : Dev Cert.FfnTwoRefIdeal.nD,
      r.2.mem ((c.tc : Thread Cert.FfnTwoRefIdeal.nD Cert.FfnTwoRefIdeal.τ).loc Cert.FfnTwoRefIdeal.main_arg0) = m ((c.tc : Thread Cert.FfnTwoRefIdeal.nD Cert.FfnTwoRefIdeal.τ).loc Cert.FfnTwoRefIdeal.main_arg0)
      ∧ r.2.mem ((c.tc : Thread Cert.FfnTwoRefIdeal.nD Cert.FfnTwoRefIdeal.τ).loc Cert.FfnTwoRefIdeal.main_arg1) = m ((c.tc : Thread Cert.FfnTwoRefIdeal.nD Cert.FfnTwoRefIdeal.τ).loc Cert.FfnTwoRefIdeal.main_arg1)
      ∧ r.2.mem ((c.tc : Thread Cert.FfnTwoRefIdeal.nD Cert.FfnTwoRefIdeal.τ).loc Cert.FfnTwoRefIdeal.main_arg2) = m ((c.tc : Thread Cert.FfnTwoRefIdeal.nD Cert.FfnTwoRefIdeal.τ).loc Cert.FfnTwoRefIdeal.main_arg2)
      ∧ r.2.mem ((c.tc : Thread Cert.FfnTwoRefIdeal.nD Cert.FfnTwoRefIdeal.τ).loc Cert.FfnTwoRefIdeal.main_arg3) = m ((c.tc : Thread Cert.FfnTwoRefIdeal.nD Cert.FfnTwoRefIdeal.τ).loc Cert.FfnTwoRefIdeal.main_arg3)
      ∧ r.2.mem ((c.tc : Thread Cert.FfnTwoRefIdeal.nD Cert.FfnTwoRefIdeal.τ).loc Cert.FfnTwoRefIdeal.main_arg4) = m ((c.tc : Thread Cert.FfnTwoRefIdeal.nD Cert.FfnTwoRefIdeal.τ).loc Cert.FfnTwoRefIdeal.main_arg4))
      ∧ r.2.sem = fun _ => 0)

def quiescent_FfnOne [hFfnOne : Cert.FfnOne.Facts] [hPre_tables3 : Cert.Pre_tables3.Facts] : Prop :=
  ∀ (m : (ℓ : Loc Cert.FfnOne.nD Cert.FfnOne.τ Cert.FfnOne.sig) → Buf (Elt Bits) ℓ) (g : Dev Cert.FfnOne.nD → PrngReg), Pre_FfnOne m →
    θ_run (Cert.FfnOne.defs (F := Bits)) (onTc (τ := Cert.FfnOne.τ) (Cert.FfnOne.main (F := Bits))) ⟨m, fun _ => 0, g⟩ (fun r => (∀ c : Dev Cert.FfnOne.nD,
      r.2.mem ((c.tc : Thread Cert.FfnOne.nD Cert.FfnOne.τ).loc Cert.FfnOne.main_arg0) = m ((c.tc : Thread Cert.FfnOne.nD Cert.FfnOne.τ).loc Cert.FfnOne.main_arg0)
      ∧ r.2.mem ((c.tc : Thread Cert.FfnOne.nD Cert.FfnOne.τ).loc Cert.FfnOne.main_arg1) = m ((c.tc : Thread Cert.FfnOne.nD Cert.FfnOne.τ).loc Cert.FfnOne.main_arg1)
      ∧ r.2.mem ((c.tc : Thread Cert.FfnOne.nD Cert.FfnOne.τ).loc Cert.FfnOne.main_arg2) = m ((c.tc : Thread Cert.FfnOne.nD Cert.FfnOne.τ).loc Cert.FfnOne.main_arg2)
      ∧ r.2.mem ((c.tc : Thread Cert.FfnOne.nD Cert.FfnOne.τ).loc Cert.FfnOne.main_arg3) = m ((c.tc : Thread Cert.FfnOne.nD Cert.FfnOne.τ).loc Cert.FfnOne.main_arg3)
      ∧ r.2.mem ((c.tc : Thread Cert.FfnOne.nD Cert.FfnOne.τ).loc Cert.FfnOne.main_arg4) = m ((c.tc : Thread Cert.FfnOne.nD Cert.FfnOne.τ).loc Cert.FfnOne.main_arg4))
      ∧ r.2.sem = fun _ => 0)

def quiescent_FfnOneIdeal [hFfnOneIdeal : Cert.FfnOneIdeal.Facts] [hPre_tables3 : Cert.Pre_tables3.Facts] : Prop :=
  ∀ (m : (ℓ : Loc Cert.FfnOneIdeal.nD Cert.FfnOneIdeal.τ Cert.FfnOneIdeal.sig) → Buf (Elt Ideal) ℓ) (g : Dev Cert.FfnOneIdeal.nD → PrngReg), Pre_FfnOneIdeal m →
    θ_run (Cert.FfnOneIdeal.defs (F := Ideal)) (onTc (τ := Cert.FfnOneIdeal.τ) (Cert.FfnOneIdeal.main (F := Ideal))) ⟨m, fun _ => 0, g⟩ (fun r => (∀ c : Dev Cert.FfnOneIdeal.nD,
      r.2.mem ((c.tc : Thread Cert.FfnOneIdeal.nD Cert.FfnOneIdeal.τ).loc Cert.FfnOneIdeal.main_arg0) = m ((c.tc : Thread Cert.FfnOneIdeal.nD Cert.FfnOneIdeal.τ).loc Cert.FfnOneIdeal.main_arg0)
      ∧ r.2.mem ((c.tc : Thread Cert.FfnOneIdeal.nD Cert.FfnOneIdeal.τ).loc Cert.FfnOneIdeal.main_arg1) = m ((c.tc : Thread Cert.FfnOneIdeal.nD Cert.FfnOneIdeal.τ).loc Cert.FfnOneIdeal.main_arg1)
      ∧ r.2.mem ((c.tc : Thread Cert.FfnOneIdeal.nD Cert.FfnOneIdeal.τ).loc Cert.FfnOneIdeal.main_arg2) = m ((c.tc : Thread Cert.FfnOneIdeal.nD Cert.FfnOneIdeal.τ).loc Cert.FfnOneIdeal.main_arg2)
      ∧ r.2.mem ((c.tc : Thread Cert.FfnOneIdeal.nD Cert.FfnOneIdeal.τ).loc Cert.FfnOneIdeal.main_arg3) = m ((c.tc : Thread Cert.FfnOneIdeal.nD Cert.FfnOneIdeal.τ).loc Cert.FfnOneIdeal.main_arg3)
      ∧ r.2.mem ((c.tc : Thread Cert.FfnOneIdeal.nD Cert.FfnOneIdeal.τ).loc Cert.FfnOneIdeal.main_arg4) = m ((c.tc : Thread Cert.FfnOneIdeal.nD Cert.FfnOneIdeal.τ).loc Cert.FfnOneIdeal.main_arg4))
      ∧ r.2.sem = fun _ => 0)

def quiescent_FfnOneRefIdeal [hFfnOneRefIdeal : Cert.FfnOneRefIdeal.Facts] : Prop :=
  ∀ (m : (ℓ : Loc Cert.FfnOneRefIdeal.nD Cert.FfnOneRefIdeal.τ Cert.FfnOneRefIdeal.sig) → Buf (Elt Ideal) ℓ) (g : Dev Cert.FfnOneRefIdeal.nD → PrngReg), Pre_FfnOneRefIdeal m →
    θ_run (Cert.FfnOneRefIdeal.defs (F := Ideal)) (onTc (τ := Cert.FfnOneRefIdeal.τ) (Cert.FfnOneRefIdeal.main (F := Ideal))) ⟨m, fun _ => 0, g⟩ (fun r => (∀ c : Dev Cert.FfnOneRefIdeal.nD,
      r.2.mem ((c.tc : Thread Cert.FfnOneRefIdeal.nD Cert.FfnOneRefIdeal.τ).loc Cert.FfnOneRefIdeal.main_arg0) = m ((c.tc : Thread Cert.FfnOneRefIdeal.nD Cert.FfnOneRefIdeal.τ).loc Cert.FfnOneRefIdeal.main_arg0)
      ∧ r.2.mem ((c.tc : Thread Cert.FfnOneRefIdeal.nD Cert.FfnOneRefIdeal.τ).loc Cert.FfnOneRefIdeal.main_arg1) = m ((c.tc : Thread Cert.FfnOneRefIdeal.nD Cert.FfnOneRefIdeal.τ).loc Cert.FfnOneRefIdeal.main_arg1)
      ∧ r.2.mem ((c.tc : Thread Cert.FfnOneRefIdeal.nD Cert.FfnOneRefIdeal.τ).loc Cert.FfnOneRefIdeal.main_arg2) = m ((c.tc : Thread Cert.FfnOneRefIdeal.nD Cert.FfnOneRefIdeal.τ).loc Cert.FfnOneRefIdeal.main_arg2)
      ∧ r.2.mem ((c.tc : Thread Cert.FfnOneRefIdeal.nD Cert.FfnOneRefIdeal.τ).loc Cert.FfnOneRefIdeal.main_arg3) = m ((c.tc : Thread Cert.FfnOneRefIdeal.nD Cert.FfnOneRefIdeal.τ).loc Cert.FfnOneRefIdeal.main_arg3)
      ∧ r.2.mem ((c.tc : Thread Cert.FfnOneRefIdeal.nD Cert.FfnOneRefIdeal.τ).loc Cert.FfnOneRefIdeal.main_arg4) = m ((c.tc : Thread Cert.FfnOneRefIdeal.nD Cert.FfnOneRefIdeal.τ).loc Cert.FfnOneRefIdeal.main_arg4))
      ∧ r.2.sem = fun _ => 0)

def quiescent_FfnOneRefIdeal_pre_tables3 [hFfnOneRefIdeal : Cert.FfnOneRefIdeal.Facts] [hPre_tables3 : Cert.Pre_tables3.Facts] : Prop :=
  ∀ (m : (ℓ : Loc Cert.FfnOneRefIdeal.nD Cert.FfnOneRefIdeal.τ Cert.FfnOneRefIdeal.sig) → Buf (Elt Ideal) ℓ) (g : Dev Cert.FfnOneRefIdeal.nD → PrngReg), Pre_FfnOneRefIdeal_tables3 m →
    θ_run (Cert.FfnOneRefIdeal.defs (F := Ideal)) (onTc (τ := Cert.FfnOneRefIdeal.τ) (Cert.FfnOneRefIdeal.main (F := Ideal))) ⟨m, fun _ => 0, g⟩ (fun r => (∀ c : Dev Cert.FfnOneRefIdeal.nD,
      r.2.mem ((c.tc : Thread Cert.FfnOneRefIdeal.nD Cert.FfnOneRefIdeal.τ).loc Cert.FfnOneRefIdeal.main_arg0) = m ((c.tc : Thread Cert.FfnOneRefIdeal.nD Cert.FfnOneRefIdeal.τ).loc Cert.FfnOneRefIdeal.main_arg0)
      ∧ r.2.mem ((c.tc : Thread Cert.FfnOneRefIdeal.nD Cert.FfnOneRefIdeal.τ).loc Cert.FfnOneRefIdeal.main_arg1) = m ((c.tc : Thread Cert.FfnOneRefIdeal.nD Cert.FfnOneRefIdeal.τ).loc Cert.FfnOneRefIdeal.main_arg1)
      ∧ r.2.mem ((c.tc : Thread Cert.FfnOneRefIdeal.nD Cert.FfnOneRefIdeal.τ).loc Cert.FfnOneRefIdeal.main_arg2) = m ((c.tc : Thread Cert.FfnOneRefIdeal.nD Cert.FfnOneRefIdeal.τ).loc Cert.FfnOneRefIdeal.main_arg2)
      ∧ r.2.mem ((c.tc : Thread Cert.FfnOneRefIdeal.nD Cert.FfnOneRefIdeal.τ).loc Cert.FfnOneRefIdeal.main_arg3) = m ((c.tc : Thread Cert.FfnOneRefIdeal.nD Cert.FfnOneRefIdeal.τ).loc Cert.FfnOneRefIdeal.main_arg3)
      ∧ r.2.mem ((c.tc : Thread Cert.FfnOneRefIdeal.nD Cert.FfnOneRefIdeal.τ).loc Cert.FfnOneRefIdeal.main_arg4) = m ((c.tc : Thread Cert.FfnOneRefIdeal.nD Cert.FfnOneRefIdeal.τ).loc Cert.FfnOneRefIdeal.main_arg4))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2))
      ∧ r.2.sem = fun _ => 0)

def quiescent_AttIn [hAttIn : Cert.AttIn.Facts] : Prop :=
  ∀ (m : (ℓ : Loc Cert.AttIn.nD Cert.AttIn.τ Cert.AttIn.sig) → Buf (Elt Bits) ℓ) (g : Dev Cert.AttIn.nD → PrngReg), Pre_AttIn m →
    θ_run (Cert.AttIn.defs (F := Bits)) (onTc (τ := Cert.AttIn.τ) (Cert.AttIn.main (F := Bits))) ⟨m, fun _ => 0, g⟩ (fun r => (∀ c : Dev Cert.AttIn.nD,
      r.2.mem ((c.tc : Thread Cert.AttIn.nD Cert.AttIn.τ).loc Cert.AttIn.main_arg0) = m ((c.tc : Thread Cert.AttIn.nD Cert.AttIn.τ).loc Cert.AttIn.main_arg0)
      ∧ r.2.mem ((c.tc : Thread Cert.AttIn.nD Cert.AttIn.τ).loc Cert.AttIn.main_arg1) = m ((c.tc : Thread Cert.AttIn.nD Cert.AttIn.τ).loc Cert.AttIn.main_arg1)
      ∧ r.2.mem ((c.tc : Thread Cert.AttIn.nD Cert.AttIn.τ).loc Cert.AttIn.main_arg2) = m ((c.tc : Thread Cert.AttIn.nD Cert.AttIn.τ).loc Cert.AttIn.main_arg2))
      ∧ r.2.sem = fun _ => 0)

def quiescent_AttInIdeal [hAttInIdeal : Cert.AttInIdeal.Facts] : Prop :=
  ∀ (m : (ℓ : Loc Cert.AttInIdeal.nD Cert.AttInIdeal.τ Cert.AttInIdeal.sig) → Buf (Elt Ideal) ℓ) (g : Dev Cert.AttInIdeal.nD → PrngReg), Pre_AttInIdeal m →
    θ_run (Cert.AttInIdeal.defs (F := Ideal)) (onTc (τ := Cert.AttInIdeal.τ) (Cert.AttInIdeal.main (F := Ideal))) ⟨m, fun _ => 0, g⟩ (fun r => (∀ c : Dev Cert.AttInIdeal.nD,
      r.2.mem ((c.tc : Thread Cert.AttInIdeal.nD Cert.AttInIdeal.τ).loc Cert.AttInIdeal.main_arg0) = m ((c.tc : Thread Cert.AttInIdeal.nD Cert.AttInIdeal.τ).loc Cert.AttInIdeal.main_arg0)
      ∧ r.2.mem ((c.tc : Thread Cert.AttInIdeal.nD Cert.AttInIdeal.τ).loc Cert.AttInIdeal.main_arg1) = m ((c.tc : Thread Cert.AttInIdeal.nD Cert.AttInIdeal.τ).loc Cert.AttInIdeal.main_arg1)
      ∧ r.2.mem ((c.tc : Thread Cert.AttInIdeal.nD Cert.AttInIdeal.τ).loc Cert.AttInIdeal.main_arg2) = m ((c.tc : Thread Cert.AttInIdeal.nD Cert.AttInIdeal.τ).loc Cert.AttInIdeal.main_arg2))
      ∧ r.2.sem = fun _ => 0)

def quiescent_AttInRefIdeal [hAttInRefIdeal : Cert.AttInRefIdeal.Facts] : Prop :=
  ∀ (m : (ℓ : Loc Cert.AttInRefIdeal.nD Cert.AttInRefIdeal.τ Cert.AttInRefIdeal.sig) → Buf (Elt Ideal) ℓ) (g : Dev Cert.AttInRefIdeal.nD → PrngReg), Pre_AttInRefIdeal m →
    θ_run (Cert.AttInRefIdeal.defs (F := Ideal)) (onTc (τ := Cert.AttInRefIdeal.τ) (Cert.AttInRefIdeal.main (F := Ideal))) ⟨m, fun _ => 0, g⟩ (fun r => (∀ c : Dev Cert.AttInRefIdeal.nD,
      r.2.mem ((c.tc : Thread Cert.AttInRefIdeal.nD Cert.AttInRefIdeal.τ).loc Cert.AttInRefIdeal.main_arg0) = m ((c.tc : Thread Cert.AttInRefIdeal.nD Cert.AttInRefIdeal.τ).loc Cert.AttInRefIdeal.main_arg0)
      ∧ r.2.mem ((c.tc : Thread Cert.AttInRefIdeal.nD Cert.AttInRefIdeal.τ).loc Cert.AttInRefIdeal.main_arg1) = m ((c.tc : Thread Cert.AttInRefIdeal.nD Cert.AttInRefIdeal.τ).loc Cert.AttInRefIdeal.main_arg1)
      ∧ r.2.mem ((c.tc : Thread Cert.AttInRefIdeal.nD Cert.AttInRefIdeal.τ).loc Cert.AttInRefIdeal.main_arg2) = m ((c.tc : Thread Cert.AttInRefIdeal.nD Cert.AttInRefIdeal.τ).loc Cert.AttInRefIdeal.main_arg2))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2))
      ∧ r.2.sem = fun _ => 0)

def quiescent_MemQ [hMemQ : Cert.MemQ.Facts] : Prop :=
  ∀ (m : (ℓ : Loc Cert.MemQ.nD Cert.MemQ.τ Cert.MemQ.sig) → Buf (Elt Bits) ℓ) (g : Dev Cert.MemQ.nD → PrngReg), Pre_MemQ m →
    θ_run (Cert.MemQ.defs (F := Bits)) (onTc (τ := Cert.MemQ.τ) (Cert.MemQ.main (F := Bits))) ⟨m, fun _ => 0, g⟩ (fun r => (∀ c : Dev Cert.MemQ.nD,
      r.2.mem ((c.tc : Thread Cert.MemQ.nD Cert.MemQ.τ).loc Cert.MemQ.main_arg0) = m ((c.tc : Thread Cert.MemQ.nD Cert.MemQ.τ).loc Cert.MemQ.main_arg0)
      ∧ r.2.mem ((c.tc : Thread Cert.MemQ.nD Cert.MemQ.τ).loc Cert.MemQ.main_arg1) = m ((c.tc : Thread Cert.MemQ.nD Cert.MemQ.τ).loc Cert.MemQ.main_arg1)
      ∧ r.2.mem ((c.tc : Thread Cert.MemQ.nD Cert.MemQ.τ).loc Cert.MemQ.main_arg2) = m ((c.tc : Thread Cert.MemQ.nD Cert.MemQ.τ).loc Cert.MemQ.main_arg2))
      ∧ r.2.sem = fun _ => 0)

def quiescent_MemQIdeal [hMemQIdeal : Cert.MemQIdeal.Facts] : Prop :=
  ∀ (m : (ℓ : Loc Cert.MemQIdeal.nD Cert.MemQIdeal.τ Cert.MemQIdeal.sig) → Buf (Elt Ideal) ℓ) (g : Dev Cert.MemQIdeal.nD → PrngReg), Pre_MemQIdeal m →
    θ_run (Cert.MemQIdeal.defs (F := Ideal)) (onTc (τ := Cert.MemQIdeal.τ) (Cert.MemQIdeal.main (F := Ideal))) ⟨m, fun _ => 0, g⟩ (fun r => (∀ c : Dev Cert.MemQIdeal.nD,
      r.2.mem ((c.tc : Thread Cert.MemQIdeal.nD Cert.MemQIdeal.τ).loc Cert.MemQIdeal.main_arg0) = m ((c.tc : Thread Cert.MemQIdeal.nD Cert.MemQIdeal.τ).loc Cert.MemQIdeal.main_arg0)
      ∧ r.2.mem ((c.tc : Thread Cert.MemQIdeal.nD Cert.MemQIdeal.τ).loc Cert.MemQIdeal.main_arg1) = m ((c.tc : Thread Cert.MemQIdeal.nD Cert.MemQIdeal.τ).loc Cert.MemQIdeal.main_arg1)
      ∧ r.2.mem ((c.tc : Thread Cert.MemQIdeal.nD Cert.MemQIdeal.τ).loc Cert.MemQIdeal.main_arg2) = m ((c.tc : Thread Cert.MemQIdeal.nD Cert.MemQIdeal.τ).loc Cert.MemQIdeal.main_arg2))
      ∧ r.2.sem = fun _ => 0)

def quiescent_MemQRefIdeal [hMemQRefIdeal : Cert.MemQRefIdeal.Facts] : Prop :=
  ∀ (m : (ℓ : Loc Cert.MemQRefIdeal.nD Cert.MemQRefIdeal.τ Cert.MemQRefIdeal.sig) → Buf (Elt Ideal) ℓ) (g : Dev Cert.MemQRefIdeal.nD → PrngReg), Pre_MemQRefIdeal m →
    θ_run (Cert.MemQRefIdeal.defs (F := Ideal)) (onTc (τ := Cert.MemQRefIdeal.τ) (Cert.MemQRefIdeal.main (F := Ideal))) ⟨m, fun _ => 0, g⟩ (fun r => (∀ c : Dev Cert.MemQRefIdeal.nD,
      r.2.mem ((c.tc : Thread Cert.MemQRefIdeal.nD Cert.MemQRefIdeal.τ).loc Cert.MemQRefIdeal.main_arg0) = m ((c.tc : Thread Cert.MemQRefIdeal.nD Cert.MemQRefIdeal.τ).loc Cert.MemQRefIdeal.main_arg0)
      ∧ r.2.mem ((c.tc : Thread Cert.MemQRefIdeal.nD Cert.MemQRefIdeal.τ).loc Cert.MemQRefIdeal.main_arg1) = m ((c.tc : Thread Cert.MemQRefIdeal.nD Cert.MemQRefIdeal.τ).loc Cert.MemQRefIdeal.main_arg1)
      ∧ r.2.mem ((c.tc : Thread Cert.MemQRefIdeal.nD Cert.MemQRefIdeal.τ).loc Cert.MemQRefIdeal.main_arg2) = m ((c.tc : Thread Cert.MemQRefIdeal.nD Cert.MemQRefIdeal.τ).loc Cert.MemQRefIdeal.main_arg2))
      ∧ r.2.sem = fun _ => 0)

def quiescent_MemOut [hMemOut : Cert.MemOut.Facts] : Prop :=
  ∀ (m : (ℓ : Loc Cert.MemOut.nD Cert.MemOut.τ Cert.MemOut.sig) → Buf (Elt Bits) ℓ) (g : Dev Cert.MemOut.nD → PrngReg), Pre_MemOut m →
    θ_run (Cert.MemOut.defs (F := Bits)) (onTc (τ := Cert.MemOut.τ) (Cert.MemOut.main (F := Bits))) ⟨m, fun _ => 0, g⟩ (fun r => (∀ c : Dev Cert.MemOut.nD,
      r.2.mem ((c.tc : Thread Cert.MemOut.nD Cert.MemOut.τ).loc Cert.MemOut.main_arg0) = m ((c.tc : Thread Cert.MemOut.nD Cert.MemOut.τ).loc Cert.MemOut.main_arg0)
      ∧ r.2.mem ((c.tc : Thread Cert.MemOut.nD Cert.MemOut.τ).loc Cert.MemOut.main_arg1) = m ((c.tc : Thread Cert.MemOut.nD Cert.MemOut.τ).loc Cert.MemOut.main_arg1)
      ∧ r.2.mem ((c.tc : Thread Cert.MemOut.nD Cert.MemOut.τ).loc Cert.MemOut.main_arg2) = m ((c.tc : Thread Cert.MemOut.nD Cert.MemOut.τ).loc Cert.MemOut.main_arg2))
      ∧ r.2.sem = fun _ => 0)

def quiescent_MemOutIdeal [hMemOutIdeal : Cert.MemOutIdeal.Facts] : Prop :=
  ∀ (m : (ℓ : Loc Cert.MemOutIdeal.nD Cert.MemOutIdeal.τ Cert.MemOutIdeal.sig) → Buf (Elt Ideal) ℓ) (g : Dev Cert.MemOutIdeal.nD → PrngReg), Pre_MemOutIdeal m →
    θ_run (Cert.MemOutIdeal.defs (F := Ideal)) (onTc (τ := Cert.MemOutIdeal.τ) (Cert.MemOutIdeal.main (F := Ideal))) ⟨m, fun _ => 0, g⟩ (fun r => (∀ c : Dev Cert.MemOutIdeal.nD,
      r.2.mem ((c.tc : Thread Cert.MemOutIdeal.nD Cert.MemOutIdeal.τ).loc Cert.MemOutIdeal.main_arg0) = m ((c.tc : Thread Cert.MemOutIdeal.nD Cert.MemOutIdeal.τ).loc Cert.MemOutIdeal.main_arg0)
      ∧ r.2.mem ((c.tc : Thread Cert.MemOutIdeal.nD Cert.MemOutIdeal.τ).loc Cert.MemOutIdeal.main_arg1) = m ((c.tc : Thread Cert.MemOutIdeal.nD Cert.MemOutIdeal.τ).loc Cert.MemOutIdeal.main_arg1)
      ∧ r.2.mem ((c.tc : Thread Cert.MemOutIdeal.nD Cert.MemOutIdeal.τ).loc Cert.MemOutIdeal.main_arg2) = m ((c.tc : Thread Cert.MemOutIdeal.nD Cert.MemOutIdeal.τ).loc Cert.MemOutIdeal.main_arg2))
      ∧ r.2.sem = fun _ => 0)

def quiescent_MemOutRefIdeal [hMemOutRefIdeal : Cert.MemOutRefIdeal.Facts] : Prop :=
  ∀ (m : (ℓ : Loc Cert.MemOutRefIdeal.nD Cert.MemOutRefIdeal.τ Cert.MemOutRefIdeal.sig) → Buf (Elt Ideal) ℓ) (g : Dev Cert.MemOutRefIdeal.nD → PrngReg), Pre_MemOutRefIdeal m →
    θ_run (Cert.MemOutRefIdeal.defs (F := Ideal)) (onTc (τ := Cert.MemOutRefIdeal.τ) (Cert.MemOutRefIdeal.main (F := Ideal))) ⟨m, fun _ => 0, g⟩ (fun r => (∀ c : Dev Cert.MemOutRefIdeal.nD,
      r.2.mem ((c.tc : Thread Cert.MemOutRefIdeal.nD Cert.MemOutRefIdeal.τ).loc Cert.MemOutRefIdeal.main_arg0) = m ((c.tc : Thread Cert.MemOutRefIdeal.nD Cert.MemOutRefIdeal.τ).loc Cert.MemOutRefIdeal.main_arg0)
      ∧ r.2.mem ((c.tc : Thread Cert.MemOutRefIdeal.nD Cert.MemOutRefIdeal.τ).loc Cert.MemOutRefIdeal.main_arg1) = m ((c.tc : Thread Cert.MemOutRefIdeal.nD Cert.MemOutRefIdeal.τ).loc Cert.MemOutRefIdeal.main_arg1)
      ∧ r.2.mem ((c.tc : Thread Cert.MemOutRefIdeal.nD Cert.MemOutRefIdeal.τ).loc Cert.MemOutRefIdeal.main_arg2) = m ((c.tc : Thread Cert.MemOutRefIdeal.nD Cert.MemOutRefIdeal.τ).loc Cert.MemOutRefIdeal.main_arg2))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1))
      ∧ r.2.sem = fun _ => 0)

def quiescent_LatPrompt [hLatPrompt : Cert.LatPrompt.Facts] : Prop :=
  ∀ (m : (ℓ : Loc Cert.LatPrompt.nD Cert.LatPrompt.τ Cert.LatPrompt.sig) → Buf (Elt Bits) ℓ) (g : Dev Cert.LatPrompt.nD → PrngReg), Pre_LatPrompt m →
    θ_run (Cert.LatPrompt.defs (F := Bits)) (onTc (τ := Cert.LatPrompt.τ) (Cert.LatPrompt.main (F := Bits))) ⟨m, fun _ => 0, g⟩ (fun r => (∀ c : Dev Cert.LatPrompt.nD,
      r.2.mem ((c.tc : Thread Cert.LatPrompt.nD Cert.LatPrompt.τ).loc Cert.LatPrompt.main_arg0) = m ((c.tc : Thread Cert.LatPrompt.nD Cert.LatPrompt.τ).loc Cert.LatPrompt.main_arg0)
      ∧ r.2.mem ((c.tc : Thread Cert.LatPrompt.nD Cert.LatPrompt.τ).loc Cert.LatPrompt.main_arg1) = m ((c.tc : Thread Cert.LatPrompt.nD Cert.LatPrompt.τ).loc Cert.LatPrompt.main_arg1))
      ∧ r.2.sem = fun _ => 0)

def quiescent_LatPromptIdeal [hLatPromptIdeal : Cert.LatPromptIdeal.Facts] : Prop :=
  ∀ (m : (ℓ : Loc Cert.LatPromptIdeal.nD Cert.LatPromptIdeal.τ Cert.LatPromptIdeal.sig) → Buf (Elt Ideal) ℓ) (g : Dev Cert.LatPromptIdeal.nD → PrngReg), Pre_LatPromptIdeal m →
    θ_run (Cert.LatPromptIdeal.defs (F := Ideal)) (onTc (τ := Cert.LatPromptIdeal.τ) (Cert.LatPromptIdeal.main (F := Ideal))) ⟨m, fun _ => 0, g⟩ (fun r => (∀ c : Dev Cert.LatPromptIdeal.nD,
      r.2.mem ((c.tc : Thread Cert.LatPromptIdeal.nD Cert.LatPromptIdeal.τ).loc Cert.LatPromptIdeal.main_arg0) = m ((c.tc : Thread Cert.LatPromptIdeal.nD Cert.LatPromptIdeal.τ).loc Cert.LatPromptIdeal.main_arg0)
      ∧ r.2.mem ((c.tc : Thread Cert.LatPromptIdeal.nD Cert.LatPromptIdeal.τ).loc Cert.LatPromptIdeal.main_arg1) = m ((c.tc : Thread Cert.LatPromptIdeal.nD Cert.LatPromptIdeal.τ).loc Cert.LatPromptIdeal.main_arg1))
      ∧ r.2.sem = fun _ => 0)

def quiescent_LatPromptRefIdeal [hLatPromptRefIdeal : Cert.LatPromptRefIdeal.Facts] : Prop :=
  ∀ (m : (ℓ : Loc Cert.LatPromptRefIdeal.nD Cert.LatPromptRefIdeal.τ Cert.LatPromptRefIdeal.sig) → Buf (Elt Ideal) ℓ) (g : Dev Cert.LatPromptRefIdeal.nD → PrngReg), Pre_LatPromptRefIdeal m →
    θ_run (Cert.LatPromptRefIdeal.defs (F := Ideal)) (onTc (τ := Cert.LatPromptRefIdeal.τ) (Cert.LatPromptRefIdeal.main (F := Ideal))) ⟨m, fun _ => 0, g⟩ (fun r => (∀ c : Dev Cert.LatPromptRefIdeal.nD,
      r.2.mem ((c.tc : Thread Cert.LatPromptRefIdeal.nD Cert.LatPromptRefIdeal.τ).loc Cert.LatPromptRefIdeal.main_arg0) = m ((c.tc : Thread Cert.LatPromptRefIdeal.nD Cert.LatPromptRefIdeal.τ).loc Cert.LatPromptRefIdeal.main_arg0)
      ∧ r.2.mem ((c.tc : Thread Cert.LatPromptRefIdeal.nD Cert.LatPromptRefIdeal.τ).loc Cert.LatPromptRefIdeal.main_arg1) = m ((c.tc : Thread Cert.LatPromptRefIdeal.nD Cert.LatPromptRefIdeal.τ).loc Cert.LatPromptRefIdeal.main_arg1))
      ∧ r.2.sem = fun _ => 0)

def quiescent_LatSample [hLatSample : Cert.LatSample.Facts] : Prop :=
  ∀ (m : (ℓ : Loc Cert.LatSample.nD Cert.LatSample.τ Cert.LatSample.sig) → Buf (Elt Bits) ℓ) (g : Dev Cert.LatSample.nD → PrngReg), Pre_LatSample m →
    θ_run (Cert.LatSample.defs (F := Bits)) (onTc (τ := Cert.LatSample.τ) (Cert.LatSample.main (F := Bits))) ⟨m, fun _ => 0, g⟩ (fun r => (∀ c : Dev Cert.LatSample.nD,
      r.2.mem ((c.tc : Thread Cert.LatSample.nD Cert.LatSample.τ).loc Cert.LatSample.main_arg0) = m ((c.tc : Thread Cert.LatSample.nD Cert.LatSample.τ).loc Cert.LatSample.main_arg0)
      ∧ r.2.mem ((c.tc : Thread Cert.LatSample.nD Cert.LatSample.τ).loc Cert.LatSample.main_arg1) = m ((c.tc : Thread Cert.LatSample.nD Cert.LatSample.τ).loc Cert.LatSample.main_arg1))
      ∧ r.2.sem = fun _ => 0)

def quiescent_LatSampleIdeal [hLatSampleIdeal : Cert.LatSampleIdeal.Facts] : Prop :=
  ∀ (m : (ℓ : Loc Cert.LatSampleIdeal.nD Cert.LatSampleIdeal.τ Cert.LatSampleIdeal.sig) → Buf (Elt Ideal) ℓ) (g : Dev Cert.LatSampleIdeal.nD → PrngReg), Pre_LatSampleIdeal m →
    θ_run (Cert.LatSampleIdeal.defs (F := Ideal)) (onTc (τ := Cert.LatSampleIdeal.τ) (Cert.LatSampleIdeal.main (F := Ideal))) ⟨m, fun _ => 0, g⟩ (fun r => (∀ c : Dev Cert.LatSampleIdeal.nD,
      r.2.mem ((c.tc : Thread Cert.LatSampleIdeal.nD Cert.LatSampleIdeal.τ).loc Cert.LatSampleIdeal.main_arg0) = m ((c.tc : Thread Cert.LatSampleIdeal.nD Cert.LatSampleIdeal.τ).loc Cert.LatSampleIdeal.main_arg0)
      ∧ r.2.mem ((c.tc : Thread Cert.LatSampleIdeal.nD Cert.LatSampleIdeal.τ).loc Cert.LatSampleIdeal.main_arg1) = m ((c.tc : Thread Cert.LatSampleIdeal.nD Cert.LatSampleIdeal.τ).loc Cert.LatSampleIdeal.main_arg1))
      ∧ r.2.sem = fun _ => 0)

def quiescent_LatSampleRefIdeal [hLatSampleRefIdeal : Cert.LatSampleRefIdeal.Facts] : Prop :=
  ∀ (m : (ℓ : Loc Cert.LatSampleRefIdeal.nD Cert.LatSampleRefIdeal.τ Cert.LatSampleRefIdeal.sig) → Buf (Elt Ideal) ℓ) (g : Dev Cert.LatSampleRefIdeal.nD → PrngReg), Pre_LatSampleRefIdeal m →
    θ_run (Cert.LatSampleRefIdeal.defs (F := Ideal)) (onTc (τ := Cert.LatSampleRefIdeal.τ) (Cert.LatSampleRefIdeal.main (F := Ideal))) ⟨m, fun _ => 0, g⟩ (fun r => (∀ c : Dev Cert.LatSampleRefIdeal.nD,
      r.2.mem ((c.tc : Thread Cert.LatSampleRefIdeal.nD Cert.LatSampleRefIdeal.τ).loc Cert.LatSampleRefIdeal.main_arg0) = m ((c.tc : Thread Cert.LatSampleRefIdeal.nD Cert.LatSampleRefIdeal.τ).loc Cert.LatSampleRefIdeal.main_arg0)
      ∧ r.2.mem ((c.tc : Thread Cert.LatSampleRefIdeal.nD Cert.LatSampleRefIdeal.τ).loc Cert.LatSampleRefIdeal.main_arg1) = m ((c.tc : Thread Cert.LatSampleRefIdeal.nD Cert.LatSampleRefIdeal.τ).loc Cert.LatSampleRefIdeal.main_arg1))
      ∧ r.2.sem = fun _ => 0)

def quiescent_FinalNorm [hFinalNorm : Cert.FinalNorm.Facts] : Prop :=
  ∀ (m : (ℓ : Loc Cert.FinalNorm.nD Cert.FinalNorm.τ Cert.FinalNorm.sig) → Buf (Elt Bits) ℓ) (g : Dev Cert.FinalNorm.nD → PrngReg), Pre_FinalNorm m →
    θ_run (Cert.FinalNorm.defs (F := Bits)) (onTc (τ := Cert.FinalNorm.τ) (Cert.FinalNorm.main (F := Bits))) ⟨m, fun _ => 0, g⟩ (fun r => (∀ c : Dev Cert.FinalNorm.nD,
      r.2.mem ((c.tc : Thread Cert.FinalNorm.nD Cert.FinalNorm.τ).loc Cert.FinalNorm.main_arg0) = m ((c.tc : Thread Cert.FinalNorm.nD Cert.FinalNorm.τ).loc Cert.FinalNorm.main_arg0)
      ∧ r.2.mem ((c.tc : Thread Cert.FinalNorm.nD Cert.FinalNorm.τ).loc Cert.FinalNorm.main_arg1) = m ((c.tc : Thread Cert.FinalNorm.nD Cert.FinalNorm.τ).loc Cert.FinalNorm.main_arg1))
      ∧ r.2.sem = fun _ => 0)

def quiescent_FinalNormIdeal [hFinalNormIdeal : Cert.FinalNormIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg), Pre_FinalNormIdeal m →
    θ_run (Cert.FinalNormIdeal.defs (F := Ideal)) (onTc (τ := Cert.FinalNormIdeal.τ) (Cert.FinalNormIdeal.main (F := Ideal))) ⟨m, fun _ => 0, g⟩ (fun r => (∀ c : Dev Cert.FinalNormIdeal.nD,
      r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
      ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ r.2.sem = fun _ => 0)

def quiescent_FinalNormRefIdeal [hFinalNormRefIdeal : Cert.FinalNormRefIdeal.Facts] : Prop :=
  ∀ (m : (ℓ : Loc Cert.FinalNormRefIdeal.nD Cert.FinalNormRefIdeal.τ Cert.FinalNormRefIdeal.sig) → Buf (Elt Ideal) ℓ) (g : Dev Cert.FinalNormRefIdeal.nD → PrngReg), Pre_FinalNormRefIdeal m →
    θ_run (Cert.FinalNormRefIdeal.defs (F := Ideal)) (onTc (τ := Cert.FinalNormRefIdeal.τ) (Cert.FinalNormRefIdeal.main (F := Ideal))) ⟨m, fun _ => 0, g⟩ (fun r => (∀ c : Dev Cert.FinalNormRefIdeal.nD,
      r.2.mem ((c.tc : Thread Cert.FinalNormRefIdeal.nD Cert.FinalNormRefIdeal.τ).loc Cert.FinalNormRefIdeal.main_arg0) = m ((c.tc : Thread Cert.FinalNormRefIdeal.nD Cert.FinalNormRefIdeal.τ).loc Cert.FinalNormRefIdeal.main_arg0)
      ∧ r.2.mem ((c.tc : Thread Cert.FinalNormRefIdeal.nD Cert.FinalNormRefIdeal.τ).loc Cert.FinalNormRefIdeal.main_arg1) = m ((c.tc : Thread Cert.FinalNormRefIdeal.nD Cert.FinalNormRefIdeal.τ).loc Cert.FinalNormRefIdeal.main_arg1))
      ∧ r.2.sem = fun _ => 0)

def quiescent_AttPost [hAttPost : Cert.AttPost.Facts] : Prop :=
  ∀ (m : (ℓ : Loc Cert.AttPost.nD Cert.AttPost.τ Cert.AttPost.sig) → Buf (Elt Bits) ℓ) (g : Dev Cert.AttPost.nD → PrngReg), Pre_AttPost m →
    θ_run (Cert.AttPost.defs (F := Bits)) (onTc (τ := Cert.AttPost.τ) (Cert.AttPost.main (F := Bits))) ⟨m, fun _ => 0, g⟩ (fun r => (∀ c : Dev Cert.AttPost.nD,
      r.2.mem ((c.tc : Thread Cert.AttPost.nD Cert.AttPost.τ).loc Cert.AttPost.main_arg0) = m ((c.tc : Thread Cert.AttPost.nD Cert.AttPost.τ).loc Cert.AttPost.main_arg0)
      ∧ r.2.mem ((c.tc : Thread Cert.AttPost.nD Cert.AttPost.τ).loc Cert.AttPost.main_arg1) = m ((c.tc : Thread Cert.AttPost.nD Cert.AttPost.τ).loc Cert.AttPost.main_arg1)
      ∧ r.2.mem ((c.tc : Thread Cert.AttPost.nD Cert.AttPost.τ).loc Cert.AttPost.main_arg2) = m ((c.tc : Thread Cert.AttPost.nD Cert.AttPost.τ).loc Cert.AttPost.main_arg2))
      ∧ r.2.sem = fun _ => 0)

def quiescent_AttPostIdeal [hAttPostIdeal : Cert.AttPostIdeal.Facts] : Prop :=
  ∀ (m : (ℓ : Loc Cert.AttPostIdeal.nD Cert.AttPostIdeal.τ Cert.AttPostIdeal.sig) → Buf (Elt Ideal) ℓ) (g : Dev Cert.AttPostIdeal.nD → PrngReg), Pre_AttPostIdeal m →
    θ_run (Cert.AttPostIdeal.defs (F := Ideal)) (onTc (τ := Cert.AttPostIdeal.τ) (Cert.AttPostIdeal.main (F := Ideal))) ⟨m, fun _ => 0, g⟩ (fun r => (∀ c : Dev Cert.AttPostIdeal.nD,
      r.2.mem ((c.tc : Thread Cert.AttPostIdeal.nD Cert.AttPostIdeal.τ).loc Cert.AttPostIdeal.main_arg0) = m ((c.tc : Thread Cert.AttPostIdeal.nD Cert.AttPostIdeal.τ).loc Cert.AttPostIdeal.main_arg0)
      ∧ r.2.mem ((c.tc : Thread Cert.AttPostIdeal.nD Cert.AttPostIdeal.τ).loc Cert.AttPostIdeal.main_arg1) = m ((c.tc : Thread Cert.AttPostIdeal.nD Cert.AttPostIdeal.τ).loc Cert.AttPostIdeal.main_arg1)
      ∧ r.2.mem ((c.tc : Thread Cert.AttPostIdeal.nD Cert.AttPostIdeal.τ).loc Cert.AttPostIdeal.main_arg2) = m ((c.tc : Thread Cert.AttPostIdeal.nD Cert.AttPostIdeal.τ).loc Cert.AttPostIdeal.main_arg2))
      ∧ r.2.sem = fun _ => 0)

def quiescent_AttPostRefIdeal [hAttPostRefIdeal : Cert.AttPostRefIdeal.Facts] : Prop :=
  ∀ (m : (ℓ : Loc Cert.AttPostRefIdeal.nD Cert.AttPostRefIdeal.τ Cert.AttPostRefIdeal.sig) → Buf (Elt Ideal) ℓ) (g : Dev Cert.AttPostRefIdeal.nD → PrngReg), Pre_AttPostRefIdeal m →
    θ_run (Cert.AttPostRefIdeal.defs (F := Ideal)) (onTc (τ := Cert.AttPostRefIdeal.τ) (Cert.AttPostRefIdeal.main (F := Ideal))) ⟨m, fun _ => 0, g⟩ (fun r => (∀ c : Dev Cert.AttPostRefIdeal.nD,
      r.2.mem ((c.tc : Thread Cert.AttPostRefIdeal.nD Cert.AttPostRefIdeal.τ).loc Cert.AttPostRefIdeal.main_arg0) = m ((c.tc : Thread Cert.AttPostRefIdeal.nD Cert.AttPostRefIdeal.τ).loc Cert.AttPostRefIdeal.main_arg0)
      ∧ r.2.mem ((c.tc : Thread Cert.AttPostRefIdeal.nD Cert.AttPostRefIdeal.τ).loc Cert.AttPostRefIdeal.main_arg1) = m ((c.tc : Thread Cert.AttPostRefIdeal.nD Cert.AttPostRefIdeal.τ).loc Cert.AttPostRefIdeal.main_arg1)
      ∧ r.2.mem ((c.tc : Thread Cert.AttPostRefIdeal.nD Cert.AttPostRefIdeal.τ).loc Cert.AttPostRefIdeal.main_arg2) = m ((c.tc : Thread Cert.AttPostRefIdeal.nD Cert.AttPostRefIdeal.τ).loc Cert.AttPostRefIdeal.main_arg2))
      ∧ r.2.sem = fun _ => 0)

def quiescent_AttUq [hAttUq : Cert.AttUq.Facts] : Prop :=
  ∀ (m : (ℓ : Loc Cert.AttUq.nD Cert.AttUq.τ Cert.AttUq.sig) → Buf (Elt Bits) ℓ) (g : Dev Cert.AttUq.nD → PrngReg), Pre_AttUq m →
    θ_run (Cert.AttUq.defs (F := Bits)) (onTc (τ := Cert.AttUq.τ) (Cert.AttUq.main (F := Bits))) ⟨m, fun _ => 0, g⟩ (fun r => (∀ c : Dev Cert.AttUq.nD,
      r.2.mem ((c.tc : Thread Cert.AttUq.nD Cert.AttUq.τ).loc Cert.AttUq.main_arg0) = m ((c.tc : Thread Cert.AttUq.nD Cert.AttUq.τ).loc Cert.AttUq.main_arg0)
      ∧ r.2.mem ((c.tc : Thread Cert.AttUq.nD Cert.AttUq.τ).loc Cert.AttUq.main_arg1) = m ((c.tc : Thread Cert.AttUq.nD Cert.AttUq.τ).loc Cert.AttUq.main_arg1)
      ∧ r.2.mem ((c.tc : Thread Cert.AttUq.nD Cert.AttUq.τ).loc Cert.AttUq.main_arg2) = m ((c.tc : Thread Cert.AttUq.nD Cert.AttUq.τ).loc Cert.AttUq.main_arg2))
      ∧ r.2.sem = fun _ => 0)

def quiescent_AttUqIdeal [hAttUqIdeal : Cert.AttUqIdeal.Facts] : Prop :=
  ∀ (m : (ℓ : Loc Cert.AttUqIdeal.nD Cert.AttUqIdeal.τ Cert.AttUqIdeal.sig) → Buf (Elt Ideal) ℓ) (g : Dev Cert.AttUqIdeal.nD → PrngReg), Pre_AttUqIdeal m →
    θ_run (Cert.AttUqIdeal.defs (F := Ideal)) (onTc (τ := Cert.AttUqIdeal.τ) (Cert.AttUqIdeal.main (F := Ideal))) ⟨m, fun _ => 0, g⟩ (fun r => (∀ c : Dev Cert.AttUqIdeal.nD,
      r.2.mem ((c.tc : Thread Cert.AttUqIdeal.nD Cert.AttUqIdeal.τ).loc Cert.AttUqIdeal.main_arg0) = m ((c.tc : Thread Cert.AttUqIdeal.nD Cert.AttUqIdeal.τ).loc Cert.AttUqIdeal.main_arg0)
      ∧ r.2.mem ((c.tc : Thread Cert.AttUqIdeal.nD Cert.AttUqIdeal.τ).loc Cert.AttUqIdeal.main_arg1) = m ((c.tc : Thread Cert.AttUqIdeal.nD Cert.AttUqIdeal.τ).loc Cert.AttUqIdeal.main_arg1)
      ∧ r.2.mem ((c.tc : Thread Cert.AttUqIdeal.nD Cert.AttUqIdeal.τ).loc Cert.AttUqIdeal.main_arg2) = m ((c.tc : Thread Cert.AttUqIdeal.nD Cert.AttUqIdeal.τ).loc Cert.AttUqIdeal.main_arg2))
      ∧ r.2.sem = fun _ => 0)

def quiescent_AttUqRefIdeal [hAttUqRefIdeal : Cert.AttUqRefIdeal.Facts] : Prop :=
  ∀ (m : (ℓ : Loc Cert.AttUqRefIdeal.nD Cert.AttUqRefIdeal.τ Cert.AttUqRefIdeal.sig) → Buf (Elt Ideal) ℓ) (g : Dev Cert.AttUqRefIdeal.nD → PrngReg), Pre_AttUqRefIdeal m →
    θ_run (Cert.AttUqRefIdeal.defs (F := Ideal)) (onTc (τ := Cert.AttUqRefIdeal.τ) (Cert.AttUqRefIdeal.main (F := Ideal))) ⟨m, fun _ => 0, g⟩ (fun r => (∀ c : Dev Cert.AttUqRefIdeal.nD,
      r.2.mem ((c.tc : Thread Cert.AttUqRefIdeal.nD Cert.AttUqRefIdeal.τ).loc Cert.AttUqRefIdeal.main_arg0) = m ((c.tc : Thread Cert.AttUqRefIdeal.nD Cert.AttUqRefIdeal.τ).loc Cert.AttUqRefIdeal.main_arg0)
      ∧ r.2.mem ((c.tc : Thread Cert.AttUqRefIdeal.nD Cert.AttUqRefIdeal.τ).loc Cert.AttUqRefIdeal.main_arg1) = m ((c.tc : Thread Cert.AttUqRefIdeal.nD Cert.AttUqRefIdeal.τ).loc Cert.AttUqRefIdeal.main_arg1)
      ∧ r.2.mem ((c.tc : Thread Cert.AttUqRefIdeal.nD Cert.AttUqRefIdeal.τ).loc Cert.AttUqRefIdeal.main_arg2) = m ((c.tc : Thread Cert.AttUqRefIdeal.nD Cert.AttUqRefIdeal.τ).loc Cert.AttUqRefIdeal.main_arg2))
      ∧ r.2.sem = fun _ => 0)

def preserves_Attn_AttnIdeal : Prop :=
  True

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v2) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v41) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_FfnTwo_FfnTwoIdeal : Prop :=
  True

def algebraic_FfnTwoIdeal_FfnTwoRefIdeal [hFfnTwoIdeal : Cert.FfnTwoIdeal.Facts] [hFfnTwoRefIdeal : Cert.FfnTwoRefIdeal.Facts] [hPre_tables2 : Cert.Pre_tables2.Facts] : Prop :=
  ∀ (m : (ℓ : Loc Cert.FfnTwoIdeal.nD Cert.FfnTwoIdeal.τ Cert.FfnTwoIdeal.sig) → Buf (Elt Ideal) ℓ) (g : Dev Cert.FfnTwoIdeal.nD → PrngReg)
    (m' : (ℓ : Loc Cert.FfnTwoRefIdeal.nD Cert.FfnTwoRefIdeal.τ Cert.FfnTwoRefIdeal.sig) → Buf (Elt Ideal) ℓ) (g' : Dev Cert.FfnTwoRefIdeal.nD → PrngReg), Pre_FfnTwoIdeal m →
    (∀ c : Dev Cert.FfnTwoIdeal.nD,
      m' ((c.tc : Thread Cert.FfnTwoRefIdeal.nD Cert.FfnTwoRefIdeal.τ).loc Cert.FfnTwoRefIdeal.main_arg0) = m ((c.tc : Thread Cert.FfnTwoIdeal.nD Cert.FfnTwoIdeal.τ).loc Cert.FfnTwoIdeal.main_arg0)
      ∧ m' ((c.tc : Thread Cert.FfnTwoRefIdeal.nD Cert.FfnTwoRefIdeal.τ).loc Cert.FfnTwoRefIdeal.main_arg1) = m ((c.tc : Thread Cert.FfnTwoIdeal.nD Cert.FfnTwoIdeal.τ).loc Cert.FfnTwoIdeal.main_arg1)
      ∧ m' ((c.tc : Thread Cert.FfnTwoRefIdeal.nD Cert.FfnTwoRefIdeal.τ).loc Cert.FfnTwoRefIdeal.main_arg2) = m ((c.tc : Thread Cert.FfnTwoIdeal.nD Cert.FfnTwoIdeal.τ).loc Cert.FfnTwoIdeal.main_arg2)
      ∧ m' ((c.tc : Thread Cert.FfnTwoRefIdeal.nD Cert.FfnTwoRefIdeal.τ).loc Cert.FfnTwoRefIdeal.main_arg3) = m ((c.tc : Thread Cert.FfnTwoIdeal.nD Cert.FfnTwoIdeal.τ).loc Cert.FfnTwoIdeal.main_arg3)
      ∧ m' ((c.tc : Thread Cert.FfnTwoRefIdeal.nD Cert.FfnTwoRefIdeal.τ).loc Cert.FfnTwoRefIdeal.main_arg4) = m ((c.tc : Thread Cert.FfnTwoIdeal.nD Cert.FfnTwoIdeal.τ).loc Cert.FfnTwoIdeal.main_arg4)) →
    ∃ (v0 : (c : Dev Cert.FfnTwoIdeal.nD) → Buf (Elt Ideal) ((c.tc : Thread Cert.FfnTwoIdeal.nD Cert.FfnTwoIdeal.τ).loc Cert.FfnTwoIdeal.main_v1)),
      θ_run (Cert.FfnTwoIdeal.defs (F := Ideal)) (onTc (τ := Cert.FfnTwoIdeal.τ) (Cert.FfnTwoIdeal.main (F := Ideal))) ⟨m, fun _ => 0, g⟩ (fun r => ∀ c : Dev Cert.FfnTwoIdeal.nD,
          r.2.mem ((c.tc : Thread Cert.FfnTwoIdeal.nD Cert.FfnTwoIdeal.τ).loc Cert.FfnTwoIdeal.main_v1) = v0 c
          ∧ r.2.mem ((c.tc : Thread Cert.FfnTwoIdeal.nD Cert.FfnTwoIdeal.τ).loc Cert.FfnTwoIdeal.main_arg0) = m ((c.tc : Thread Cert.FfnTwoIdeal.nD Cert.FfnTwoIdeal.τ).loc Cert.FfnTwoIdeal.main_arg0)
          ∧ r.2.mem ((c.tc : Thread Cert.FfnTwoIdeal.nD Cert.FfnTwoIdeal.τ).loc Cert.FfnTwoIdeal.main_arg1) = m ((c.tc : Thread Cert.FfnTwoIdeal.nD Cert.FfnTwoIdeal.τ).loc Cert.FfnTwoIdeal.main_arg1)
          ∧ r.2.mem ((c.tc : Thread Cert.FfnTwoIdeal.nD Cert.FfnTwoIdeal.τ).loc Cert.FfnTwoIdeal.main_arg2) = m ((c.tc : Thread Cert.FfnTwoIdeal.nD Cert.FfnTwoIdeal.τ).loc Cert.FfnTwoIdeal.main_arg2)
          ∧ r.2.mem ((c.tc : Thread Cert.FfnTwoIdeal.nD Cert.FfnTwoIdeal.τ).loc Cert.FfnTwoIdeal.main_arg3) = m ((c.tc : Thread Cert.FfnTwoIdeal.nD Cert.FfnTwoIdeal.τ).loc Cert.FfnTwoIdeal.main_arg3)
          ∧ r.2.mem ((c.tc : Thread Cert.FfnTwoIdeal.nD Cert.FfnTwoIdeal.τ).loc Cert.FfnTwoIdeal.main_arg4) = m ((c.tc : Thread Cert.FfnTwoIdeal.nD Cert.FfnTwoIdeal.τ).loc Cert.FfnTwoIdeal.main_arg4))
      ∧ θ_run (Cert.FfnTwoRefIdeal.defs (F := Ideal)) (onTc (τ := Cert.FfnTwoRefIdeal.τ) (Cert.FfnTwoRefIdeal.main (F := Ideal))) ⟨m', fun _ => 0, g'⟩ (fun r => ∀ c : Dev Cert.FfnTwoRefIdeal.nD,
          r.2.mem ((c.tc : Thread Cert.FfnTwoRefIdeal.nD Cert.FfnTwoRefIdeal.τ).loc Cert.FfnTwoRefIdeal.main_v30) = v0 c
          ∧ r.2.mem ((c.tc : Thread Cert.FfnTwoRefIdeal.nD Cert.FfnTwoRefIdeal.τ).loc Cert.FfnTwoRefIdeal.main_arg0) = m' ((c.tc : Thread Cert.FfnTwoRefIdeal.nD Cert.FfnTwoRefIdeal.τ).loc Cert.FfnTwoRefIdeal.main_arg0)
          ∧ r.2.mem ((c.tc : Thread Cert.FfnTwoRefIdeal.nD Cert.FfnTwoRefIdeal.τ).loc Cert.FfnTwoRefIdeal.main_arg1) = m' ((c.tc : Thread Cert.FfnTwoRefIdeal.nD Cert.FfnTwoRefIdeal.τ).loc Cert.FfnTwoRefIdeal.main_arg1)
          ∧ r.2.mem ((c.tc : Thread Cert.FfnTwoRefIdeal.nD Cert.FfnTwoRefIdeal.τ).loc Cert.FfnTwoRefIdeal.main_arg2) = m' ((c.tc : Thread Cert.FfnTwoRefIdeal.nD Cert.FfnTwoRefIdeal.τ).loc Cert.FfnTwoRefIdeal.main_arg2)
          ∧ r.2.mem ((c.tc : Thread Cert.FfnTwoRefIdeal.nD Cert.FfnTwoRefIdeal.τ).loc Cert.FfnTwoRefIdeal.main_arg3) = m' ((c.tc : Thread Cert.FfnTwoRefIdeal.nD Cert.FfnTwoRefIdeal.τ).loc Cert.FfnTwoRefIdeal.main_arg3)
          ∧ r.2.mem ((c.tc : Thread Cert.FfnTwoRefIdeal.nD Cert.FfnTwoRefIdeal.τ).loc Cert.FfnTwoRefIdeal.main_arg4) = m' ((c.tc : Thread Cert.FfnTwoRefIdeal.nD Cert.FfnTwoRefIdeal.τ).loc Cert.FfnTwoRefIdeal.main_arg4))

def preserves_FfnOne_FfnOneIdeal : Prop :=
  True

def algebraic_FfnOneIdeal_FfnOneRefIdeal [hFfnOneIdeal : Cert.FfnOneIdeal.Facts] [hFfnOneRefIdeal : Cert.FfnOneRefIdeal.Facts] [hPre_tables3 : Cert.Pre_tables3.Facts] : Prop :=
  ∀ (m : (ℓ : Loc Cert.FfnOneIdeal.nD Cert.FfnOneIdeal.τ Cert.FfnOneIdeal.sig) → Buf (Elt Ideal) ℓ) (g : Dev Cert.FfnOneIdeal.nD → PrngReg)
    (m' : (ℓ : Loc Cert.FfnOneRefIdeal.nD Cert.FfnOneRefIdeal.τ Cert.FfnOneRefIdeal.sig) → Buf (Elt Ideal) ℓ) (g' : Dev Cert.FfnOneRefIdeal.nD → PrngReg), Pre_FfnOneIdeal m →
    (∀ c : Dev Cert.FfnOneIdeal.nD,
      m' ((c.tc : Thread Cert.FfnOneRefIdeal.nD Cert.FfnOneRefIdeal.τ).loc Cert.FfnOneRefIdeal.main_arg0) = m ((c.tc : Thread Cert.FfnOneIdeal.nD Cert.FfnOneIdeal.τ).loc Cert.FfnOneIdeal.main_arg0)
      ∧ m' ((c.tc : Thread Cert.FfnOneRefIdeal.nD Cert.FfnOneRefIdeal.τ).loc Cert.FfnOneRefIdeal.main_arg1) = m ((c.tc : Thread Cert.FfnOneIdeal.nD Cert.FfnOneIdeal.τ).loc Cert.FfnOneIdeal.main_arg1)
      ∧ m' ((c.tc : Thread Cert.FfnOneRefIdeal.nD Cert.FfnOneRefIdeal.τ).loc Cert.FfnOneRefIdeal.main_arg2) = m ((c.tc : Thread Cert.FfnOneIdeal.nD Cert.FfnOneIdeal.τ).loc Cert.FfnOneIdeal.main_arg2)
      ∧ m' ((c.tc : Thread Cert.FfnOneRefIdeal.nD Cert.FfnOneRefIdeal.τ).loc Cert.FfnOneRefIdeal.main_arg3) = m ((c.tc : Thread Cert.FfnOneIdeal.nD Cert.FfnOneIdeal.τ).loc Cert.FfnOneIdeal.main_arg3)
      ∧ m' ((c.tc : Thread Cert.FfnOneRefIdeal.nD Cert.FfnOneRefIdeal.τ).loc Cert.FfnOneRefIdeal.main_arg4) = m ((c.tc : Thread Cert.FfnOneIdeal.nD Cert.FfnOneIdeal.τ).loc Cert.FfnOneIdeal.main_arg4)) →
    ∃ (v0 : (c : Dev Cert.FfnOneIdeal.nD) → Buf (Elt Ideal) ((c.tc : Thread Cert.FfnOneIdeal.nD Cert.FfnOneIdeal.τ).loc Cert.FfnOneIdeal.main_v1)),
      θ_run (Cert.FfnOneIdeal.defs (F := Ideal)) (onTc (τ := Cert.FfnOneIdeal.τ) (Cert.FfnOneIdeal.main (F := Ideal))) ⟨m, fun _ => 0, g⟩ (fun r => ∀ c : Dev Cert.FfnOneIdeal.nD,
          r.2.mem ((c.tc : Thread Cert.FfnOneIdeal.nD Cert.FfnOneIdeal.τ).loc Cert.FfnOneIdeal.main_v1) = v0 c
          ∧ r.2.mem ((c.tc : Thread Cert.FfnOneIdeal.nD Cert.FfnOneIdeal.τ).loc Cert.FfnOneIdeal.main_arg0) = m ((c.tc : Thread Cert.FfnOneIdeal.nD Cert.FfnOneIdeal.τ).loc Cert.FfnOneIdeal.main_arg0)
          ∧ r.2.mem ((c.tc : Thread Cert.FfnOneIdeal.nD Cert.FfnOneIdeal.τ).loc Cert.FfnOneIdeal.main_arg1) = m ((c.tc : Thread Cert.FfnOneIdeal.nD Cert.FfnOneIdeal.τ).loc Cert.FfnOneIdeal.main_arg1)
          ∧ r.2.mem ((c.tc : Thread Cert.FfnOneIdeal.nD Cert.FfnOneIdeal.τ).loc Cert.FfnOneIdeal.main_arg2) = m ((c.tc : Thread Cert.FfnOneIdeal.nD Cert.FfnOneIdeal.τ).loc Cert.FfnOneIdeal.main_arg2)
          ∧ r.2.mem ((c.tc : Thread Cert.FfnOneIdeal.nD Cert.FfnOneIdeal.τ).loc Cert.FfnOneIdeal.main_arg3) = m ((c.tc : Thread Cert.FfnOneIdeal.nD Cert.FfnOneIdeal.τ).loc Cert.FfnOneIdeal.main_arg3)
          ∧ r.2.mem ((c.tc : Thread Cert.FfnOneIdeal.nD Cert.FfnOneIdeal.τ).loc Cert.FfnOneIdeal.main_arg4) = m ((c.tc : Thread Cert.FfnOneIdeal.nD Cert.FfnOneIdeal.τ).loc Cert.FfnOneIdeal.main_arg4))
      ∧ θ_run (Cert.FfnOneRefIdeal.defs (F := Ideal)) (onTc (τ := Cert.FfnOneRefIdeal.τ) (Cert.FfnOneRefIdeal.main (F := Ideal))) ⟨m', fun _ => 0, g'⟩ (fun r => ∀ c : Dev Cert.FfnOneRefIdeal.nD,
          r.2.mem ((c.tc : Thread Cert.FfnOneRefIdeal.nD Cert.FfnOneRefIdeal.τ).loc Cert.FfnOneRefIdeal.main_v54) = v0 c
          ∧ r.2.mem ((c.tc : Thread Cert.FfnOneRefIdeal.nD Cert.FfnOneRefIdeal.τ).loc Cert.FfnOneRefIdeal.main_arg0) = m' ((c.tc : Thread Cert.FfnOneRefIdeal.nD Cert.FfnOneRefIdeal.τ).loc Cert.FfnOneRefIdeal.main_arg0)
          ∧ r.2.mem ((c.tc : Thread Cert.FfnOneRefIdeal.nD Cert.FfnOneRefIdeal.τ).loc Cert.FfnOneRefIdeal.main_arg1) = m' ((c.tc : Thread Cert.FfnOneRefIdeal.nD Cert.FfnOneRefIdeal.τ).loc Cert.FfnOneRefIdeal.main_arg1)
          ∧ r.2.mem ((c.tc : Thread Cert.FfnOneRefIdeal.nD Cert.FfnOneRefIdeal.τ).loc Cert.FfnOneRefIdeal.main_arg2) = m' ((c.tc : Thread Cert.FfnOneRefIdeal.nD Cert.FfnOneRefIdeal.τ).loc Cert.FfnOneRefIdeal.main_arg2)
          ∧ r.2.mem ((c.tc : Thread Cert.FfnOneRefIdeal.nD Cert.FfnOneRefIdeal.τ).loc Cert.FfnOneRefIdeal.main_arg3) = m' ((c.tc : Thread Cert.FfnOneRefIdeal.nD Cert.FfnOneRefIdeal.τ).loc Cert.FfnOneRefIdeal.main_arg3)
          ∧ r.2.mem ((c.tc : Thread Cert.FfnOneRefIdeal.nD Cert.FfnOneRefIdeal.τ).loc Cert.FfnOneRefIdeal.main_arg4) = m' ((c.tc : Thread Cert.FfnOneRefIdeal.nD Cert.FfnOneRefIdeal.τ).loc Cert.FfnOneRefIdeal.main_arg4))

def preserves_MixIn_MixInIdeal : Prop :=
  True

def algebraic_MixInIdeal_MixInRefIdeal [hMixInIdeal : Cert.MixInIdeal.Facts] [hMixInRefIdeal : Cert.MixInRefIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)
      ∧ m' ((c.tc : Thread Cert.MixInRefIdeal.nD Cert.MixInRefIdeal.τ).loc Cert.MixInRefIdeal.main_arg2) = m ((c.tc : Thread Cert.MixInIdeal.nD Cert.MixInIdeal.τ).loc Cert.MixInIdeal.main_arg2)) →
    ∃ (v0 : (c : Dev Cert.MixInIdeal.nD) → Buf (Elt Ideal) ((c.tc : Thread Cert.MixInIdeal.nD Cert.MixInIdeal.τ).loc Cert.MixInIdeal.main_v2)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v2) = v0 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v13) = v0 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1)
          ∧ r.2.mem ((c.tc : Thread Cert.MixInRefIdeal.nD Cert.MixInRefIdeal.τ).loc Cert.MixInRefIdeal.main_arg2) = m' ((c.tc : Thread Cert.MixInRefIdeal.nD Cert.MixInRefIdeal.τ).loc Cert.MixInRefIdeal.main_arg2))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)) →
    ∃ (v0 : (c : Dev Cert.MixOutIdeal.nD) → Buf (Elt Ideal) ((c.tc : Thread Cert.MixOutIdeal.nD Cert.MixOutIdeal.τ).loc Cert.MixOutIdeal.main_v1)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v1) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v2) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2))

def preserves_AttIn_AttInIdeal : Prop :=
  True

def algebraic_AttInIdeal_AttInRefIdeal [hAttInIdeal : Cert.AttInIdeal.Facts] [hAttInRefIdeal : Cert.AttInRefIdeal.Facts] : Prop :=
  ∀ (m : (ℓ : Loc Cert.AttInIdeal.nD Cert.AttInIdeal.τ Cert.AttInIdeal.sig) → Buf (Elt Ideal) ℓ) (g : Dev Cert.AttInIdeal.nD → PrngReg)
    (m' : (ℓ : Loc Cert.AttInRefIdeal.nD Cert.AttInRefIdeal.τ Cert.AttInRefIdeal.sig) → Buf (Elt Ideal) ℓ) (g' : Dev Cert.AttInRefIdeal.nD → PrngReg), Pre_AttInIdeal m →
    (∀ c : Dev Cert.AttInIdeal.nD,
      m' ((c.tc : Thread Cert.AttInRefIdeal.nD Cert.AttInRefIdeal.τ).loc Cert.AttInRefIdeal.main_arg0) = m ((c.tc : Thread Cert.AttInIdeal.nD Cert.AttInIdeal.τ).loc Cert.AttInIdeal.main_arg0)
      ∧ m' ((c.tc : Thread Cert.AttInRefIdeal.nD Cert.AttInRefIdeal.τ).loc Cert.AttInRefIdeal.main_arg1) = m ((c.tc : Thread Cert.AttInIdeal.nD Cert.AttInIdeal.τ).loc Cert.AttInIdeal.main_arg1)
      ∧ m' ((c.tc : Thread Cert.AttInRefIdeal.nD Cert.AttInRefIdeal.τ).loc Cert.AttInRefIdeal.main_arg2) = m ((c.tc : Thread Cert.AttInIdeal.nD Cert.AttInIdeal.τ).loc Cert.AttInIdeal.main_arg2)) →
    ∃ (v0 : (c : Dev Cert.AttInIdeal.nD) → Buf (Elt Ideal) ((c.tc : Thread Cert.AttInIdeal.nD Cert.AttInIdeal.τ).loc Cert.AttInIdeal.main_v11)) (v1 : (c : Dev Cert.AttInIdeal.nD) → Buf (Elt Ideal) ((c.tc : Thread Cert.AttInIdeal.nD Cert.AttInIdeal.τ).loc Cert.AttInIdeal.main_v12)) (v2 : (c : Dev Cert.AttInIdeal.nD) → Buf (Elt Ideal) ((c.tc : Thread Cert.AttInIdeal.nD Cert.AttInIdeal.τ).loc Cert.AttInIdeal.main_v13)),
      θ_run (Cert.AttInIdeal.defs (F := Ideal)) (onTc (τ := Cert.AttInIdeal.τ) (Cert.AttInIdeal.main (F := Ideal))) ⟨m, fun _ => 0, g⟩ (fun r => ∀ c : Dev Cert.AttInIdeal.nD,
          r.2.mem ((c.tc : Thread Cert.AttInIdeal.nD Cert.AttInIdeal.τ).loc Cert.AttInIdeal.main_v11) = v0 c
          ∧ r.2.mem ((c.tc : Thread Cert.AttInIdeal.nD Cert.AttInIdeal.τ).loc Cert.AttInIdeal.main_v12) = v1 c
          ∧ r.2.mem ((c.tc : Thread Cert.AttInIdeal.nD Cert.AttInIdeal.τ).loc Cert.AttInIdeal.main_v13) = v2 c
          ∧ r.2.mem ((c.tc : Thread Cert.AttInIdeal.nD Cert.AttInIdeal.τ).loc Cert.AttInIdeal.main_arg0) = m ((c.tc : Thread Cert.AttInIdeal.nD Cert.AttInIdeal.τ).loc Cert.AttInIdeal.main_arg0)
          ∧ r.2.mem ((c.tc : Thread Cert.AttInIdeal.nD Cert.AttInIdeal.τ).loc Cert.AttInIdeal.main_arg1) = m ((c.tc : Thread Cert.AttInIdeal.nD Cert.AttInIdeal.τ).loc Cert.AttInIdeal.main_arg1)
          ∧ r.2.mem ((c.tc : Thread Cert.AttInIdeal.nD Cert.AttInIdeal.τ).loc Cert.AttInIdeal.main_arg2) = m ((c.tc : Thread Cert.AttInIdeal.nD Cert.AttInIdeal.τ).loc Cert.AttInIdeal.main_arg2))
      ∧ θ_run (Cert.AttInRefIdeal.defs (F := Ideal)) (onTc (τ := Cert.AttInRefIdeal.τ) (Cert.AttInRefIdeal.main (F := Ideal))) ⟨m', fun _ => 0, g'⟩ (fun r => ∀ c : Dev Cert.AttInRefIdeal.nD,
          r.2.mem ((c.tc : Thread Cert.AttInRefIdeal.nD Cert.AttInRefIdeal.τ).loc Cert.AttInRefIdeal.main_v15) = v0 c
          ∧ r.2.mem ((c.tc : Thread Cert.AttInRefIdeal.nD Cert.AttInRefIdeal.τ).loc Cert.AttInRefIdeal.main_v18) = v1 c
          ∧ r.2.mem ((c.tc : Thread Cert.AttInRefIdeal.nD Cert.AttInRefIdeal.τ).loc Cert.AttInRefIdeal.main_v19) = v2 c
          ∧ r.2.mem ((c.tc : Thread Cert.AttInRefIdeal.nD Cert.AttInRefIdeal.τ).loc Cert.AttInRefIdeal.main_arg0) = m' ((c.tc : Thread Cert.AttInRefIdeal.nD Cert.AttInRefIdeal.τ).loc Cert.AttInRefIdeal.main_arg0)
          ∧ r.2.mem ((c.tc : Thread Cert.AttInRefIdeal.nD Cert.AttInRefIdeal.τ).loc Cert.AttInRefIdeal.main_arg1) = m' ((c.tc : Thread Cert.AttInRefIdeal.nD Cert.AttInRefIdeal.τ).loc Cert.AttInRefIdeal.main_arg1)
          ∧ r.2.mem ((c.tc : Thread Cert.AttInRefIdeal.nD Cert.AttInRefIdeal.τ).loc Cert.AttInRefIdeal.main_arg2) = m' ((c.tc : Thread Cert.AttInRefIdeal.nD Cert.AttInRefIdeal.τ).loc Cert.AttInRefIdeal.main_arg2))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)) →
    ∃ (v0 : (c : Dev Cert.MemKvIdeal.nD) → Buf (Elt Ideal) ((c.tc : Thread Cert.MemKvIdeal.nD Cert.MemKvIdeal.τ).loc Cert.MemKvIdeal.main_v4)) (v1 : (c : Dev Cert.MemKvIdeal.nD) → Buf (Elt Ideal) ((c.tc : Thread Cert.MemKvIdeal.nD Cert.MemKvIdeal.τ).loc Cert.MemKvIdeal.main_v6)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v4) = v0 c
          ∧ r.2.mem ((c.tc : Thread Cert.MemKvIdeal.nD Cert.MemKvIdeal.τ).loc Cert.MemKvIdeal.main_v6) = v1 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v16) = v0 c
          ∧ r.2.mem ((c.tc : Thread Cert.MemKvRefIdeal.nD Cert.MemKvRefIdeal.τ).loc Cert.MemKvRefIdeal.main_v18) = v1 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2))

def preserves_MemQ_MemQIdeal : Prop :=
  True

def algebraic_MemQIdeal_MemQRefIdeal [hMemQIdeal : Cert.MemQIdeal.Facts] [hMemQRefIdeal : Cert.MemQRefIdeal.Facts] : Prop :=
  ∀ (m : (ℓ : Loc Cert.MemQIdeal.nD Cert.MemQIdeal.τ Cert.MemQIdeal.sig) → Buf (Elt Ideal) ℓ) (g : Dev Cert.MemQIdeal.nD → PrngReg)
    (m' : (ℓ : Loc Cert.MemQRefIdeal.nD Cert.MemQRefIdeal.τ Cert.MemQRefIdeal.sig) → Buf (Elt Ideal) ℓ) (g' : Dev Cert.MemQRefIdeal.nD → PrngReg), Pre_MemQIdeal m →
    (∀ c : Dev Cert.MemQIdeal.nD,
      m' ((c.tc : Thread Cert.MemQRefIdeal.nD Cert.MemQRefIdeal.τ).loc Cert.MemQRefIdeal.main_arg0) = m ((c.tc : Thread Cert.MemQIdeal.nD Cert.MemQIdeal.τ).loc Cert.MemQIdeal.main_arg0)
      ∧ m' ((c.tc : Thread Cert.MemQRefIdeal.nD Cert.MemQRefIdeal.τ).loc Cert.MemQRefIdeal.main_arg1) = m ((c.tc : Thread Cert.MemQIdeal.nD Cert.MemQIdeal.τ).loc Cert.MemQIdeal.main_arg1)
      ∧ m' ((c.tc : Thread Cert.MemQRefIdeal.nD Cert.MemQRefIdeal.τ).loc Cert.MemQRefIdeal.main_arg2) = m ((c.tc : Thread Cert.MemQIdeal.nD Cert.MemQIdeal.τ).loc Cert.MemQIdeal.main_arg2)) →
    ∃ (v0 : (c : Dev Cert.MemQIdeal.nD) → Buf (Elt Ideal) ((c.tc : Thread Cert.MemQIdeal.nD Cert.MemQIdeal.τ).loc Cert.MemQIdeal.main_v2)),
      θ_run (Cert.MemQIdeal.defs (F := Ideal)) (onTc (τ := Cert.MemQIdeal.τ) (Cert.MemQIdeal.main (F := Ideal))) ⟨m, fun _ => 0, g⟩ (fun r => ∀ c : Dev Cert.MemQIdeal.nD,
          r.2.mem ((c.tc : Thread Cert.MemQIdeal.nD Cert.MemQIdeal.τ).loc Cert.MemQIdeal.main_v2) = v0 c
          ∧ r.2.mem ((c.tc : Thread Cert.MemQIdeal.nD Cert.MemQIdeal.τ).loc Cert.MemQIdeal.main_arg0) = m ((c.tc : Thread Cert.MemQIdeal.nD Cert.MemQIdeal.τ).loc Cert.MemQIdeal.main_arg0)
          ∧ r.2.mem ((c.tc : Thread Cert.MemQIdeal.nD Cert.MemQIdeal.τ).loc Cert.MemQIdeal.main_arg1) = m ((c.tc : Thread Cert.MemQIdeal.nD Cert.MemQIdeal.τ).loc Cert.MemQIdeal.main_arg1)
          ∧ r.2.mem ((c.tc : Thread Cert.MemQIdeal.nD Cert.MemQIdeal.τ).loc Cert.MemQIdeal.main_arg2) = m ((c.tc : Thread Cert.MemQIdeal.nD Cert.MemQIdeal.τ).loc Cert.MemQIdeal.main_arg2))
      ∧ θ_run (Cert.MemQRefIdeal.defs (F := Ideal)) (onTc (τ := Cert.MemQRefIdeal.τ) (Cert.MemQRefIdeal.main (F := Ideal))) ⟨m', fun _ => 0, g'⟩ (fun r => ∀ c : Dev Cert.MemQRefIdeal.nD,
          r.2.mem ((c.tc : Thread Cert.MemQRefIdeal.nD Cert.MemQRefIdeal.τ).loc Cert.MemQRefIdeal.main_v14) = v0 c
          ∧ r.2.mem ((c.tc : Thread Cert.MemQRefIdeal.nD Cert.MemQRefIdeal.τ).loc Cert.MemQRefIdeal.main_arg0) = m' ((c.tc : Thread Cert.MemQRefIdeal.nD Cert.MemQRefIdeal.τ).loc Cert.MemQRefIdeal.main_arg0)
          ∧ r.2.mem ((c.tc : Thread Cert.MemQRefIdeal.nD Cert.MemQRefIdeal.τ).loc Cert.MemQRefIdeal.main_arg1) = m' ((c.tc : Thread Cert.MemQRefIdeal.nD Cert.MemQRefIdeal.τ).loc Cert.MemQRefIdeal.main_arg1)
          ∧ r.2.mem ((c.tc : Thread Cert.MemQRefIdeal.nD Cert.MemQRefIdeal.τ).loc Cert.MemQRefIdeal.main_arg2) = m' ((c.tc : Thread Cert.MemQRefIdeal.nD Cert.MemQRefIdeal.τ).loc Cert.MemQRefIdeal.main_arg2))

def preserves_MemOut_MemOutIdeal : Prop :=
  True

def algebraic_MemOutIdeal_MemOutRefIdeal [hMemOutIdeal : Cert.MemOutIdeal.Facts] [hMemOutRefIdeal : Cert.MemOutRefIdeal.Facts] : Prop :=
  ∀ (m : (ℓ : Loc Cert.MemOutIdeal.nD Cert.MemOutIdeal.τ Cert.MemOutIdeal.sig) → Buf (Elt Ideal) ℓ) (g : Dev Cert.MemOutIdeal.nD → PrngReg)
    (m' : (ℓ : Loc Cert.MemOutRefIdeal.nD Cert.MemOutRefIdeal.τ Cert.MemOutRefIdeal.sig) → Buf (Elt Ideal) ℓ) (g' : Dev Cert.MemOutRefIdeal.nD → PrngReg), Pre_MemOutIdeal m →
    (∀ c : Dev Cert.MemOutIdeal.nD,
      m' ((c.tc : Thread Cert.MemOutRefIdeal.nD Cert.MemOutRefIdeal.τ).loc Cert.MemOutRefIdeal.main_arg0) = m ((c.tc : Thread Cert.MemOutIdeal.nD Cert.MemOutIdeal.τ).loc Cert.MemOutIdeal.main_arg0)
      ∧ m' ((c.tc : Thread Cert.MemOutRefIdeal.nD Cert.MemOutRefIdeal.τ).loc Cert.MemOutRefIdeal.main_arg1) = m ((c.tc : Thread Cert.MemOutIdeal.nD Cert.MemOutIdeal.τ).loc Cert.MemOutIdeal.main_arg1)
      ∧ m' ((c.tc : Thread Cert.MemOutRefIdeal.nD Cert.MemOutRefIdeal.τ).loc Cert.MemOutRefIdeal.main_arg2) = m ((c.tc : Thread Cert.MemOutIdeal.nD Cert.MemOutIdeal.τ).loc Cert.MemOutIdeal.main_arg2)) →
    ∃ (v0 : (c : Dev Cert.MemOutIdeal.nD) → Buf (Elt Ideal) ((c.tc : Thread Cert.MemOutIdeal.nD Cert.MemOutIdeal.τ).loc Cert.MemOutIdeal.main_v1)),
      θ_run (Cert.MemOutIdeal.defs (F := Ideal)) (onTc (τ := Cert.MemOutIdeal.τ) (Cert.MemOutIdeal.main (F := Ideal))) ⟨m, fun _ => 0, g⟩ (fun r => ∀ c : Dev Cert.MemOutIdeal.nD,
          r.2.mem ((c.tc : Thread Cert.MemOutIdeal.nD Cert.MemOutIdeal.τ).loc Cert.MemOutIdeal.main_v1) = v0 c
          ∧ r.2.mem ((c.tc : Thread Cert.MemOutIdeal.nD Cert.MemOutIdeal.τ).loc Cert.MemOutIdeal.main_arg0) = m ((c.tc : Thread Cert.MemOutIdeal.nD Cert.MemOutIdeal.τ).loc Cert.MemOutIdeal.main_arg0)
          ∧ r.2.mem ((c.tc : Thread Cert.MemOutIdeal.nD Cert.MemOutIdeal.τ).loc Cert.MemOutIdeal.main_arg1) = m ((c.tc : Thread Cert.MemOutIdeal.nD Cert.MemOutIdeal.τ).loc Cert.MemOutIdeal.main_arg1)
          ∧ r.2.mem ((c.tc : Thread Cert.MemOutIdeal.nD Cert.MemOutIdeal.τ).loc Cert.MemOutIdeal.main_arg2) = m ((c.tc : Thread Cert.MemOutIdeal.nD Cert.MemOutIdeal.τ).loc Cert.MemOutIdeal.main_arg2))
      ∧ θ_run (Cert.MemOutRefIdeal.defs (F := Ideal)) (onTc (τ := Cert.MemOutRefIdeal.τ) (Cert.MemOutRefIdeal.main (F := Ideal))) ⟨m', fun _ => 0, g'⟩ (fun r => ∀ c : Dev Cert.MemOutRefIdeal.nD,
          r.2.mem ((c.tc : Thread Cert.MemOutRefIdeal.nD Cert.MemOutRefIdeal.τ).loc Cert.MemOutRefIdeal.main_v2) = v0 c
          ∧ r.2.mem ((c.tc : Thread Cert.MemOutRefIdeal.nD Cert.MemOutRefIdeal.τ).loc Cert.MemOutRefIdeal.main_arg0) = m' ((c.tc : Thread Cert.MemOutRefIdeal.nD Cert.MemOutRefIdeal.τ).loc Cert.MemOutRefIdeal.main_arg0)
          ∧ r.2.mem ((c.tc : Thread Cert.MemOutRefIdeal.nD Cert.MemOutRefIdeal.τ).loc Cert.MemOutRefIdeal.main_arg1) = m' ((c.tc : Thread Cert.MemOutRefIdeal.nD Cert.MemOutRefIdeal.τ).loc Cert.MemOutRefIdeal.main_arg1)
          ∧ r.2.mem ((c.tc : Thread Cert.MemOutRefIdeal.nD Cert.MemOutRefIdeal.τ).loc Cert.MemOutRefIdeal.main_arg2) = m' ((c.tc : Thread Cert.MemOutRefIdeal.nD Cert.MemOutRefIdeal.τ).loc Cert.MemOutRefIdeal.main_arg2))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)) →
    ∃ (v0 : (c : Dev Cert.GluIdeal.nD) → Buf (Elt Ideal) ((c.tc : Thread Cert.GluIdeal.nD Cert.GluIdeal.τ).loc Cert.GluIdeal.main_v1)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v1) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v8) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1))

def preserves_LatPrompt_LatPromptIdeal : Prop :=
  True

def algebraic_LatPromptIdeal_LatPromptRefIdeal [hLatPromptIdeal : Cert.LatPromptIdeal.Facts] [hLatPromptRefIdeal : Cert.LatPromptRefIdeal.Facts] : Prop :=
  ∀ (m : (ℓ : Loc Cert.LatPromptIdeal.nD Cert.LatPromptIdeal.τ Cert.LatPromptIdeal.sig) → Buf (Elt Ideal) ℓ) (g : Dev Cert.LatPromptIdeal.nD → PrngReg)
    (m' : (ℓ : Loc Cert.LatPromptRefIdeal.nD Cert.LatPromptRefIdeal.τ Cert.LatPromptRefIdeal.sig) → Buf (Elt Ideal) ℓ) (g' : Dev Cert.LatPromptRefIdeal.nD → PrngReg), Pre_LatPromptIdeal m →
    (∀ c : Dev Cert.LatPromptIdeal.nD,
      m' ((c.tc : Thread Cert.LatPromptRefIdeal.nD Cert.LatPromptRefIdeal.τ).loc Cert.LatPromptRefIdeal.main_arg0) = m ((c.tc : Thread Cert.LatPromptIdeal.nD Cert.LatPromptIdeal.τ).loc Cert.LatPromptIdeal.main_arg0)
      ∧ m' ((c.tc : Thread Cert.LatPromptRefIdeal.nD Cert.LatPromptRefIdeal.τ).loc Cert.LatPromptRefIdeal.main_arg1) = m ((c.tc : Thread Cert.LatPromptIdeal.nD Cert.LatPromptIdeal.τ).loc Cert.LatPromptIdeal.main_arg1)) →
    ∃ (v0 : (c : Dev Cert.LatPromptIdeal.nD) → Buf (Elt Ideal) ((c.tc : Thread Cert.LatPromptIdeal.nD Cert.LatPromptIdeal.τ).loc Cert.LatPromptIdeal.main_v1)),
      θ_run (Cert.LatPromptIdeal.defs (F := Ideal)) (onTc (τ := Cert.LatPromptIdeal.τ) (Cert.LatPromptIdeal.main (F := Ideal))) ⟨m, fun _ => 0, g⟩ (fun r => ∀ c : Dev Cert.LatPromptIdeal.nD,
          r.2.mem ((c.tc : Thread Cert.LatPromptIdeal.nD Cert.LatPromptIdeal.τ).loc Cert.LatPromptIdeal.main_v1) = v0 c
          ∧ r.2.mem ((c.tc : Thread Cert.LatPromptIdeal.nD Cert.LatPromptIdeal.τ).loc Cert.LatPromptIdeal.main_arg0) = m ((c.tc : Thread Cert.LatPromptIdeal.nD Cert.LatPromptIdeal.τ).loc Cert.LatPromptIdeal.main_arg0)
          ∧ r.2.mem ((c.tc : Thread Cert.LatPromptIdeal.nD Cert.LatPromptIdeal.τ).loc Cert.LatPromptIdeal.main_arg1) = m ((c.tc : Thread Cert.LatPromptIdeal.nD Cert.LatPromptIdeal.τ).loc Cert.LatPromptIdeal.main_arg1))
      ∧ θ_run (Cert.LatPromptRefIdeal.defs (F := Ideal)) (onTc (τ := Cert.LatPromptRefIdeal.τ) (Cert.LatPromptRefIdeal.main (F := Ideal))) ⟨m', fun _ => 0, g'⟩ (fun r => ∀ c : Dev Cert.LatPromptRefIdeal.nD,
          r.2.mem ((c.tc : Thread Cert.LatPromptRefIdeal.nD Cert.LatPromptRefIdeal.τ).loc Cert.LatPromptRefIdeal.main_v2) = v0 c
          ∧ r.2.mem ((c.tc : Thread Cert.LatPromptRefIdeal.nD Cert.LatPromptRefIdeal.τ).loc Cert.LatPromptRefIdeal.main_arg0) = m' ((c.tc : Thread Cert.LatPromptRefIdeal.nD Cert.LatPromptRefIdeal.τ).loc Cert.LatPromptRefIdeal.main_arg0)
          ∧ r.2.mem ((c.tc : Thread Cert.LatPromptRefIdeal.nD Cert.LatPromptRefIdeal.τ).loc Cert.LatPromptRefIdeal.main_arg1) = m' ((c.tc : Thread Cert.LatPromptRefIdeal.nD Cert.LatPromptRefIdeal.τ).loc Cert.LatPromptRefIdeal.main_arg1))

def preserves_LatSample_LatSampleIdeal : Prop :=
  True

def algebraic_LatSampleIdeal_LatSampleRefIdeal [hLatSampleIdeal : Cert.LatSampleIdeal.Facts] [hLatSampleRefIdeal : Cert.LatSampleRefIdeal.Facts] : Prop :=
  ∀ (m : (ℓ : Loc Cert.LatSampleIdeal.nD Cert.LatSampleIdeal.τ Cert.LatSampleIdeal.sig) → Buf (Elt Ideal) ℓ) (g : Dev Cert.LatSampleIdeal.nD → PrngReg)
    (m' : (ℓ : Loc Cert.LatSampleRefIdeal.nD Cert.LatSampleRefIdeal.τ Cert.LatSampleRefIdeal.sig) → Buf (Elt Ideal) ℓ) (g' : Dev Cert.LatSampleRefIdeal.nD → PrngReg), Pre_LatSampleIdeal m →
    (∀ c : Dev Cert.LatSampleIdeal.nD,
      m' ((c.tc : Thread Cert.LatSampleRefIdeal.nD Cert.LatSampleRefIdeal.τ).loc Cert.LatSampleRefIdeal.main_arg0) = m ((c.tc : Thread Cert.LatSampleIdeal.nD Cert.LatSampleIdeal.τ).loc Cert.LatSampleIdeal.main_arg0)
      ∧ m' ((c.tc : Thread Cert.LatSampleRefIdeal.nD Cert.LatSampleRefIdeal.τ).loc Cert.LatSampleRefIdeal.main_arg1) = m ((c.tc : Thread Cert.LatSampleIdeal.nD Cert.LatSampleIdeal.τ).loc Cert.LatSampleIdeal.main_arg1)) →
    ∃ (v0 : (c : Dev Cert.LatSampleIdeal.nD) → Buf (Elt Ideal) ((c.tc : Thread Cert.LatSampleIdeal.nD Cert.LatSampleIdeal.τ).loc Cert.LatSampleIdeal.main_v1)),
      θ_run (Cert.LatSampleIdeal.defs (F := Ideal)) (onTc (τ := Cert.LatSampleIdeal.τ) (Cert.LatSampleIdeal.main (F := Ideal))) ⟨m, fun _ => 0, g⟩ (fun r => ∀ c : Dev Cert.LatSampleIdeal.nD,
          r.2.mem ((c.tc : Thread Cert.LatSampleIdeal.nD Cert.LatSampleIdeal.τ).loc Cert.LatSampleIdeal.main_v1) = v0 c
          ∧ r.2.mem ((c.tc : Thread Cert.LatSampleIdeal.nD Cert.LatSampleIdeal.τ).loc Cert.LatSampleIdeal.main_arg0) = m ((c.tc : Thread Cert.LatSampleIdeal.nD Cert.LatSampleIdeal.τ).loc Cert.LatSampleIdeal.main_arg0)
          ∧ r.2.mem ((c.tc : Thread Cert.LatSampleIdeal.nD Cert.LatSampleIdeal.τ).loc Cert.LatSampleIdeal.main_arg1) = m ((c.tc : Thread Cert.LatSampleIdeal.nD Cert.LatSampleIdeal.τ).loc Cert.LatSampleIdeal.main_arg1))
      ∧ θ_run (Cert.LatSampleRefIdeal.defs (F := Ideal)) (onTc (τ := Cert.LatSampleRefIdeal.τ) (Cert.LatSampleRefIdeal.main (F := Ideal))) ⟨m', fun _ => 0, g'⟩ (fun r => ∀ c : Dev Cert.LatSampleRefIdeal.nD,
          r.2.mem ((c.tc : Thread Cert.LatSampleRefIdeal.nD Cert.LatSampleRefIdeal.τ).loc Cert.LatSampleRefIdeal.main_v1) = v0 c
          ∧ r.2.mem ((c.tc : Thread Cert.LatSampleRefIdeal.nD Cert.LatSampleRefIdeal.τ).loc Cert.LatSampleRefIdeal.main_arg0) = m' ((c.tc : Thread Cert.LatSampleRefIdeal.nD Cert.LatSampleRefIdeal.τ).loc Cert.LatSampleRefIdeal.main_arg0)
          ∧ r.2.mem ((c.tc : Thread Cert.LatSampleRefIdeal.nD Cert.LatSampleRefIdeal.τ).loc Cert.LatSampleRefIdeal.main_arg1) = m' ((c.tc : Thread Cert.LatSampleRefIdeal.nD Cert.LatSampleRefIdeal.τ).loc Cert.LatSampleRefIdeal.main_arg1))

def preserves_FinalNorm_FinalNormIdeal : Prop :=
  True

def algebraic_FinalNormIdeal_FinalNormRefIdeal [hFinalNormIdeal : Cert.FinalNormIdeal.Facts] [hFinalNormRefIdeal : Cert.FinalNormRefIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg)
    (m' : (ℓ : Loc Cert.FinalNormRefIdeal.nD Cert.FinalNormRefIdeal.τ Cert.FinalNormRefIdeal.sig) → Buf (Elt Ideal) ℓ) (g' : Dev Cert.FinalNormRefIdeal.nD → PrngReg), Pre_FinalNormIdeal m →
    (∀ c : Dev Cert.FinalNormIdeal.nD,
      m' ((c.tc : Thread Cert.FinalNormRefIdeal.nD Cert.FinalNormRefIdeal.τ).loc Cert.FinalNormRefIdeal.main_arg0) = m ((c.tc : Thread Cert.FinalNormIdeal.nD Cert.FinalNormIdeal.τ).loc Cert.FinalNormIdeal.main_arg0)
      ∧ m' ((c.tc : Thread Cert.FinalNormRefIdeal.nD Cert.FinalNormRefIdeal.τ).loc Cert.FinalNormRefIdeal.main_arg1) = m ((c.tc : Thread Cert.FinalNormIdeal.nD Cert.FinalNormIdeal.τ).loc Cert.FinalNormIdeal.main_arg1)) →
    ∃ (v0 : (c : Dev Cert.FinalNormIdeal.nD) → Buf (Elt Ideal) ((c.tc : Thread Cert.FinalNormIdeal.nD Cert.FinalNormIdeal.τ).loc Cert.FinalNormIdeal.main_v3)) (v1 : (c : Dev Cert.FinalNormIdeal.nD) → Buf (Elt Ideal) ((c.tc : Thread Cert.FinalNormIdeal.nD Cert.FinalNormIdeal.τ).loc Cert.FinalNormIdeal.main_v5)),
      θ_run (Cert.FinalNormIdeal.defs (F := Ideal)) (onTc (τ := Cert.FinalNormIdeal.τ) (Cert.FinalNormIdeal.main (F := Ideal))) ⟨m, fun _ => 0, g⟩ (fun r => ∀ c : Dev Cert.FinalNormIdeal.nD,
          r.2.mem ((c.tc : Thread Cert.FinalNormIdeal.nD Cert.FinalNormIdeal.τ).loc Cert.FinalNormIdeal.main_v3) = v0 c
          ∧ r.2.mem ((c.tc : Thread Cert.FinalNormIdeal.nD Cert.FinalNormIdeal.τ).loc Cert.FinalNormIdeal.main_v5) = v1 c
          ∧ r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
          ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ θ_run (Cert.FinalNormRefIdeal.defs (F := Ideal)) (onTc (τ := Cert.FinalNormRefIdeal.τ) (Cert.FinalNormRefIdeal.main (F := Ideal))) ⟨m', fun _ => 0, g'⟩ (fun r => ∀ c : Dev Cert.FinalNormRefIdeal.nD,
          r.2.mem ((c.tc : Thread Cert.FinalNormRefIdeal.nD Cert.FinalNormRefIdeal.τ).loc Cert.FinalNormRefIdeal.main_v14) = v0 c
          ∧ r.2.mem ((c.tc : Thread Cert.FinalNormRefIdeal.nD Cert.FinalNormRefIdeal.τ).loc Cert.FinalNormRefIdeal.main_v29) = v1 c
          ∧ r.2.mem ((c.tc : Thread Cert.FinalNormRefIdeal.nD Cert.FinalNormRefIdeal.τ).loc Cert.FinalNormRefIdeal.main_arg0) = m' ((c.tc : Thread Cert.FinalNormRefIdeal.nD Cert.FinalNormRefIdeal.τ).loc Cert.FinalNormRefIdeal.main_arg0)
          ∧ r.2.mem ((c.tc : Thread Cert.FinalNormRefIdeal.nD Cert.FinalNormRefIdeal.τ).loc Cert.FinalNormRefIdeal.main_arg1) = m' ((c.tc : Thread Cert.FinalNormRefIdeal.nD Cert.FinalNormRefIdeal.τ).loc Cert.FinalNormRefIdeal.main_arg1))

def preserves_AttPost_AttPostIdeal : Prop :=
  True

def algebraic_AttPostIdeal_AttPostRefIdeal [hAttPostIdeal : Cert.AttPostIdeal.Facts] [hAttPostRefIdeal : Cert.AttPostRefIdeal.Facts] : Prop :=
  ∀ (m : (ℓ : Loc Cert.AttPostIdeal.nD Cert.AttPostIdeal.τ Cert.AttPostIdeal.sig) → Buf (Elt Ideal) ℓ) (g : Dev Cert.AttPostIdeal.nD → PrngReg)
    (m' : (ℓ : Loc Cert.AttPostRefIdeal.nD Cert.AttPostRefIdeal.τ Cert.AttPostRefIdeal.sig) → Buf (Elt Ideal) ℓ) (g' : Dev Cert.AttPostRefIdeal.nD → PrngReg), Pre_AttPostIdeal m →
    (∀ c : Dev Cert.AttPostIdeal.nD,
      m' ((c.tc : Thread Cert.AttPostRefIdeal.nD Cert.AttPostRefIdeal.τ).loc Cert.AttPostRefIdeal.main_arg0) = m ((c.tc : Thread Cert.AttPostIdeal.nD Cert.AttPostIdeal.τ).loc Cert.AttPostIdeal.main_arg0)
      ∧ m' ((c.tc : Thread Cert.AttPostRefIdeal.nD Cert.AttPostRefIdeal.τ).loc Cert.AttPostRefIdeal.main_arg1) = m ((c.tc : Thread Cert.AttPostIdeal.nD Cert.AttPostIdeal.τ).loc Cert.AttPostIdeal.main_arg1)
      ∧ m' ((c.tc : Thread Cert.AttPostRefIdeal.nD Cert.AttPostRefIdeal.τ).loc Cert.AttPostRefIdeal.main_arg2) = m ((c.tc : Thread Cert.AttPostIdeal.nD Cert.AttPostIdeal.τ).loc Cert.AttPostIdeal.main_arg2)) →
    ∃ (v0 : (c : Dev Cert.AttPostIdeal.nD) → Buf (Elt Ideal) ((c.tc : Thread Cert.AttPostIdeal.nD Cert.AttPostIdeal.τ).loc Cert.AttPostIdeal.main_v1_0)) (v1 : (c : Dev Cert.AttPostIdeal.nD) → Buf (Elt Ideal) ((c.tc : Thread Cert.AttPostIdeal.nD Cert.AttPostIdeal.τ).loc Cert.AttPostIdeal.main_v2)) (v2 : (c : Dev Cert.AttPostIdeal.nD) → Buf (Elt Ideal) ((c.tc : Thread Cert.AttPostIdeal.nD Cert.AttPostIdeal.τ).loc Cert.AttPostIdeal.main_v1_2)),
      θ_run (Cert.AttPostIdeal.defs (F := Ideal)) (onTc (τ := Cert.AttPostIdeal.τ) (Cert.AttPostIdeal.main (F := Ideal))) ⟨m, fun _ => 0, g⟩ (fun r => ∀ c : Dev Cert.AttPostIdeal.nD,
          r.2.mem ((c.tc : Thread Cert.AttPostIdeal.nD Cert.AttPostIdeal.τ).loc Cert.AttPostIdeal.main_v1_0) = v0 c
          ∧ r.2.mem ((c.tc : Thread Cert.AttPostIdeal.nD Cert.AttPostIdeal.τ).loc Cert.AttPostIdeal.main_v2) = v1 c
          ∧ r.2.mem ((c.tc : Thread Cert.AttPostIdeal.nD Cert.AttPostIdeal.τ).loc Cert.AttPostIdeal.main_v1_2) = v2 c
          ∧ r.2.mem ((c.tc : Thread Cert.AttPostIdeal.nD Cert.AttPostIdeal.τ).loc Cert.AttPostIdeal.main_arg0) = m ((c.tc : Thread Cert.AttPostIdeal.nD Cert.AttPostIdeal.τ).loc Cert.AttPostIdeal.main_arg0)
          ∧ r.2.mem ((c.tc : Thread Cert.AttPostIdeal.nD Cert.AttPostIdeal.τ).loc Cert.AttPostIdeal.main_arg1) = m ((c.tc : Thread Cert.AttPostIdeal.nD Cert.AttPostIdeal.τ).loc Cert.AttPostIdeal.main_arg1)
          ∧ r.2.mem ((c.tc : Thread Cert.AttPostIdeal.nD Cert.AttPostIdeal.τ).loc Cert.AttPostIdeal.main_arg2) = m ((c.tc : Thread Cert.AttPostIdeal.nD Cert.AttPostIdeal.τ).loc Cert.AttPostIdeal.main_arg2))
      ∧ θ_run (Cert.AttPostRefIdeal.defs (F := Ideal)) (onTc (τ := Cert.AttPostRefIdeal.τ) (Cert.AttPostRefIdeal.main (F := Ideal))) ⟨m', fun _ => 0, g'⟩ (fun r => ∀ c : Dev Cert.AttPostRefIdeal.nD,
          r.2.mem ((c.tc : Thread Cert.AttPostRefIdeal.nD Cert.AttPostRefIdeal.τ).loc Cert.AttPostRefIdeal.main_v13) = v0 c
          ∧ r.2.mem ((c.tc : Thread Cert.AttPostRefIdeal.nD Cert.AttPostRefIdeal.τ).loc Cert.AttPostRefIdeal.main_v20) = v1 c
          ∧ r.2.mem ((c.tc : Thread Cert.AttPostRefIdeal.nD Cert.AttPostRefIdeal.τ).loc Cert.AttPostRefIdeal.main_v23) = v2 c
          ∧ r.2.mem ((c.tc : Thread Cert.AttPostRefIdeal.nD Cert.AttPostRefIdeal.τ).loc Cert.AttPostRefIdeal.main_arg0) = m' ((c.tc : Thread Cert.AttPostRefIdeal.nD Cert.AttPostRefIdeal.τ).loc Cert.AttPostRefIdeal.main_arg0)
          ∧ r.2.mem ((c.tc : Thread Cert.AttPostRefIdeal.nD Cert.AttPostRefIdeal.τ).loc Cert.AttPostRefIdeal.main_arg1) = m' ((c.tc : Thread Cert.AttPostRefIdeal.nD Cert.AttPostRefIdeal.τ).loc Cert.AttPostRefIdeal.main_arg1)
          ∧ r.2.mem ((c.tc : Thread Cert.AttPostRefIdeal.nD Cert.AttPostRefIdeal.τ).loc Cert.AttPostRefIdeal.main_arg2) = m' ((c.tc : Thread Cert.AttPostRefIdeal.nD Cert.AttPostRefIdeal.τ).loc Cert.AttPostRefIdeal.main_arg2))

def preserves_AttUq_AttUqIdeal : Prop :=
  True

def algebraic_AttUqIdeal_AttUqRefIdeal [hAttUqIdeal : Cert.AttUqIdeal.Facts] [hAttUqRefIdeal : Cert.AttUqRefIdeal.Facts] : Prop :=
  ∀ (m : (ℓ : Loc Cert.AttUqIdeal.nD Cert.AttUqIdeal.τ Cert.AttUqIdeal.sig) → Buf (Elt Ideal) ℓ) (g : Dev Cert.AttUqIdeal.nD → PrngReg)
    (m' : (ℓ : Loc Cert.AttUqRefIdeal.nD Cert.AttUqRefIdeal.τ Cert.AttUqRefIdeal.sig) → Buf (Elt Ideal) ℓ) (g' : Dev Cert.AttUqRefIdeal.nD → PrngReg), Pre_AttUqIdeal m →
    (∀ c : Dev Cert.AttUqIdeal.nD,
      m' ((c.tc : Thread Cert.AttUqRefIdeal.nD Cert.AttUqRefIdeal.τ).loc Cert.AttUqRefIdeal.main_arg0) = m ((c.tc : Thread Cert.AttUqIdeal.nD Cert.AttUqIdeal.τ).loc Cert.AttUqIdeal.main_arg0)
      ∧ m' ((c.tc : Thread Cert.AttUqRefIdeal.nD Cert.AttUqRefIdeal.τ).loc Cert.AttUqRefIdeal.main_arg1) = m ((c.tc : Thread Cert.AttUqIdeal.nD Cert.AttUqIdeal.τ).loc Cert.AttUqIdeal.main_arg1)
      ∧ m' ((c.tc : Thread Cert.AttUqRefIdeal.nD Cert.AttUqRefIdeal.τ).loc Cert.AttUqRefIdeal.main_arg2) = m ((c.tc : Thread Cert.AttUqIdeal.nD Cert.AttUqIdeal.τ).loc Cert.AttUqIdeal.main_arg2)) →
    ∃ (v0 : (c : Dev Cert.AttUqIdeal.nD) → Buf (Elt Ideal) ((c.tc : Thread Cert.AttUqIdeal.nD Cert.AttUqIdeal.τ).loc Cert.AttUqIdeal.main_v2)),
      θ_run (Cert.AttUqIdeal.defs (F := Ideal)) (onTc (τ := Cert.AttUqIdeal.τ) (Cert.AttUqIdeal.main (F := Ideal))) ⟨m, fun _ => 0, g⟩ (fun r => ∀ c : Dev Cert.AttUqIdeal.nD,
          r.2.mem ((c.tc : Thread Cert.AttUqIdeal.nD Cert.AttUqIdeal.τ).loc Cert.AttUqIdeal.main_v2) = v0 c
          ∧ r.2.mem ((c.tc : Thread Cert.AttUqIdeal.nD Cert.AttUqIdeal.τ).loc Cert.AttUqIdeal.main_arg0) = m ((c.tc : Thread Cert.AttUqIdeal.nD Cert.AttUqIdeal.τ).loc Cert.AttUqIdeal.main_arg0)
          ∧ r.2.mem ((c.tc : Thread Cert.AttUqIdeal.nD Cert.AttUqIdeal.τ).loc Cert.AttUqIdeal.main_arg1) = m ((c.tc : Thread Cert.AttUqIdeal.nD Cert.AttUqIdeal.τ).loc Cert.AttUqIdeal.main_arg1)
          ∧ r.2.mem ((c.tc : Thread Cert.AttUqIdeal.nD Cert.AttUqIdeal.τ).loc Cert.AttUqIdeal.main_arg2) = m ((c.tc : Thread Cert.AttUqIdeal.nD Cert.AttUqIdeal.τ).loc Cert.AttUqIdeal.main_arg2))
      ∧ θ_run (Cert.AttUqRefIdeal.defs (F := Ideal)) (onTc (τ := Cert.AttUqRefIdeal.τ) (Cert.AttUqRefIdeal.main (F := Ideal))) ⟨m', fun _ => 0, g'⟩ (fun r => ∀ c : Dev Cert.AttUqRefIdeal.nD,
          r.2.mem ((c.tc : Thread Cert.AttUqRefIdeal.nD Cert.AttUqRefIdeal.τ).loc Cert.AttUqRefIdeal.main_v14) = v0 c
          ∧ r.2.mem ((c.tc : Thread Cert.AttUqRefIdeal.nD Cert.AttUqRefIdeal.τ).loc Cert.AttUqRefIdeal.main_arg0) = m' ((c.tc : Thread Cert.AttUqRefIdeal.nD Cert.AttUqRefIdeal.τ).loc Cert.AttUqRefIdeal.main_arg0)
          ∧ r.2.mem ((c.tc : Thread Cert.AttUqRefIdeal.nD Cert.AttUqRefIdeal.τ).loc Cert.AttUqRefIdeal.main_arg1) = m' ((c.tc : Thread Cert.AttUqRefIdeal.nD Cert.AttUqRefIdeal.τ).loc Cert.AttUqRefIdeal.main_arg1)
          ∧ r.2.mem ((c.tc : Thread Cert.AttUqRefIdeal.nD Cert.AttUqRefIdeal.τ).loc Cert.AttUqRefIdeal.main_arg2) = m' ((c.tc : Thread Cert.AttUqRefIdeal.nD Cert.AttUqRefIdeal.τ).loc Cert.AttUqRefIdeal.main_arg2))

def Claim : Prop :=
  ∃ (hAttn : Cert.Attn.Facts) (hAttnIdeal : Cert.AttnIdeal.Facts) (hAttnRefIdeal : Cert.AttnRefIdeal.Facts) (hFfnTwo : Cert.FfnTwo.Facts) (hFfnTwoIdeal : Cert.FfnTwoIdeal.Facts) (hFfnTwoRefIdeal : Cert.FfnTwoRefIdeal.Facts) (hFfnOne : Cert.FfnOne.Facts) (hFfnOneIdeal : Cert.FfnOneIdeal.Facts) (hFfnOneRefIdeal : Cert.FfnOneRefIdeal.Facts) (hMixIn : Cert.MixIn.Facts) (hMixInIdeal : Cert.MixInIdeal.Facts) (hMixInRefIdeal : Cert.MixInRefIdeal.Facts) (hMixOut : Cert.MixOut.Facts) (hMixOutIdeal : Cert.MixOutIdeal.Facts) (hMixOutRefIdeal : Cert.MixOutRefIdeal.Facts) (hAttIn : Cert.AttIn.Facts) (hAttInIdeal : Cert.AttInIdeal.Facts) (hAttInRefIdeal : Cert.AttInRefIdeal.Facts) (hMemKv : Cert.MemKv.Facts) (hMemKvIdeal : Cert.MemKvIdeal.Facts) (hMemKvRefIdeal : Cert.MemKvRefIdeal.Facts) (hMemQ : Cert.MemQ.Facts) (hMemQIdeal : Cert.MemQIdeal.Facts) (hMemQRefIdeal : Cert.MemQRefIdeal.Facts) (hMemOut : Cert.MemOut.Facts) (hMemOutIdeal : Cert.MemOutIdeal.Facts) (hMemOutRefIdeal : Cert.MemOutRefIdeal.Facts) (hGlu : Cert.Glu.Facts) (hGluIdeal : Cert.GluIdeal.Facts) (hGluRefIdeal : Cert.GluRefIdeal.Facts) (hLatPrompt : Cert.LatPrompt.Facts) (hLatPromptIdeal : Cert.LatPromptIdeal.Facts) (hLatPromptRefIdeal : Cert.LatPromptRefIdeal.Facts) (hLatSample : Cert.LatSample.Facts) (hLatSampleIdeal : Cert.LatSampleIdeal.Facts) (hLatSampleRefIdeal : Cert.LatSampleRefIdeal.Facts) (hFinalNorm : Cert.FinalNorm.Facts) (hFinalNormIdeal : Cert.FinalNormIdeal.Facts) (hFinalNormRefIdeal : Cert.FinalNormRefIdeal.Facts) (hAttPost : Cert.AttPost.Facts) (hAttPostIdeal : Cert.AttPostIdeal.Facts) (hAttPostRefIdeal : Cert.AttPostRefIdeal.Facts) (hAttUq : Cert.AttUq.Facts) (hAttUqIdeal : Cert.AttUqIdeal.Facts) (hAttUqRefIdeal : Cert.AttUqRefIdeal.Facts) (hPre_finite : Cert.Pre_finite.Facts) (hPre_tables2 : Cert.Pre_tables2.Facts) (hPre_tables3 : Cert.Pre_tables3.Facts),
    quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_FfnTwo (hFfnTwo := hFfnTwo) (hPre_tables2 := hPre_tables2)
    ∧ quiescent_FfnTwoIdeal (hFfnTwoIdeal := hFfnTwoIdeal) (hPre_tables2 := hPre_tables2)
    ∧ quiescent_FfnTwoRefIdeal (hFfnTwoRefIdeal := hFfnTwoRefIdeal)
    ∧ quiescent_FfnTwoRefIdeal_pre_tables2 (hFfnTwoRefIdeal := hFfnTwoRefIdeal) (hPre_tables2 := hPre_tables2)
    ∧ quiescent_FfnOne (hFfnOne := hFfnOne) (hPre_tables3 := hPre_tables3)
    ∧ quiescent_FfnOneIdeal (hFfnOneIdeal := hFfnOneIdeal) (hPre_tables3 := hPre_tables3)
    ∧ quiescent_FfnOneRefIdeal (hFfnOneRefIdeal := hFfnOneRefIdeal)
    ∧ quiescent_FfnOneRefIdeal_pre_tables3 (hFfnOneRefIdeal := hFfnOneRefIdeal) (hPre_tables3 := hPre_tables3)
    ∧ quiescent_MixIn (hMixIn := hMixIn)
    ∧ quiescent_MixInIdeal (hMixInIdeal := hMixInIdeal)
    ∧ quiescent_MixInRefIdeal (hMixInRefIdeal := hMixInRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_AttIn (hAttIn := hAttIn)
    ∧ quiescent_AttInIdeal (hAttInIdeal := hAttInIdeal)
    ∧ quiescent_AttInRefIdeal (hAttInRefIdeal := hAttInRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_MemQ (hMemQ := hMemQ)
    ∧ quiescent_MemQIdeal (hMemQIdeal := hMemQIdeal)
    ∧ quiescent_MemQRefIdeal (hMemQRefIdeal := hMemQRefIdeal)
    ∧ quiescent_MemOut (hMemOut := hMemOut)
    ∧ quiescent_MemOutIdeal (hMemOutIdeal := hMemOutIdeal)
    ∧ quiescent_MemOutRefIdeal (hMemOutRefIdeal := hMemOutRefIdeal)
    ∧ quiescent_Glu (hGlu := hGlu)
    ∧ quiescent_GluIdeal (hGluIdeal := hGluIdeal)
    ∧ quiescent_GluRefIdeal (hGluRefIdeal := hGluRefIdeal)
    ∧ quiescent_LatPrompt (hLatPrompt := hLatPrompt)
    ∧ quiescent_LatPromptIdeal (hLatPromptIdeal := hLatPromptIdeal)
    ∧ quiescent_LatPromptRefIdeal (hLatPromptRefIdeal := hLatPromptRefIdeal)
    ∧ quiescent_LatSample (hLatSample := hLatSample)
    ∧ quiescent_LatSampleIdeal (hLatSampleIdeal := hLatSampleIdeal)
    ∧ quiescent_LatSampleRefIdeal (hLatSampleRefIdeal := hLatSampleRefIdeal)
    ∧ quiescent_FinalNorm (hFinalNorm := hFinalNorm)
    ∧ quiescent_FinalNormIdeal (hFinalNormIdeal := hFinalNormIdeal)
    ∧ quiescent_FinalNormRefIdeal (hFinalNormRefIdeal := hFinalNormRefIdeal)
    ∧ quiescent_AttPost (hAttPost := hAttPost)
    ∧ quiescent_AttPostIdeal (hAttPostIdeal := hAttPostIdeal)
    ∧ quiescent_AttPostRefIdeal (hAttPostRefIdeal := hAttPostRefIdeal)
    ∧ quiescent_AttUq (hAttUq := hAttUq)
    ∧ quiescent_AttUqIdeal (hAttUqIdeal := hAttUqIdeal)
    ∧ quiescent_AttUqRefIdeal (hAttUqRefIdeal := hAttUqRefIdeal)
    ∧ preserves_Attn_AttnIdeal
    ∧ algebraic_AttnIdeal_AttnRefIdeal_pre_finite (hAttnIdeal := hAttnIdeal) (hAttnRefIdeal := hAttnRefIdeal) (hPre_finite := hPre_finite)
    ∧ preserves_FfnTwo_FfnTwoIdeal
    ∧ algebraic_FfnTwoIdeal_FfnTwoRefIdeal (hFfnTwoIdeal := hFfnTwoIdeal) (hFfnTwoRefIdeal := hFfnTwoRefIdeal) (hPre_tables2 := hPre_tables2)
    ∧ preserves_FfnOne_FfnOneIdeal
    ∧ algebraic_FfnOneIdeal_FfnOneRefIdeal (hFfnOneIdeal := hFfnOneIdeal) (hFfnOneRefIdeal := hFfnOneRefIdeal) (hPre_tables3 := hPre_tables3)
    ∧ preserves_MixIn_MixInIdeal
    ∧ algebraic_MixInIdeal_MixInRefIdeal (hMixInIdeal := hMixInIdeal) (hMixInRefIdeal := hMixInRefIdeal)
    ∧ preserves_MixOut_MixOutIdeal
    ∧ algebraic_MixOutIdeal_MixOutRefIdeal (hMixOutIdeal := hMixOutIdeal) (hMixOutRefIdeal := hMixOutRefIdeal)
    ∧ preserves_AttIn_AttInIdeal
    ∧ algebraic_AttInIdeal_AttInRefIdeal (hAttInIdeal := hAttInIdeal) (hAttInRefIdeal := hAttInRefIdeal)
    ∧ preserves_MemKv_MemKvIdeal
    ∧ algebraic_MemKvIdeal_MemKvRefIdeal (hMemKvIdeal := hMemKvIdeal) (hMemKvRefIdeal := hMemKvRefIdeal)
    ∧ preserves_MemQ_MemQIdeal
    ∧ algebraic_MemQIdeal_MemQRefIdeal (hMemQIdeal := hMemQIdeal) (hMemQRefIdeal := hMemQRefIdeal)
    ∧ preserves_MemOut_MemOutIdeal
    ∧ algebraic_MemOutIdeal_MemOutRefIdeal (hMemOutIdeal := hMemOutIdeal) (hMemOutRefIdeal := hMemOutRefIdeal)
    ∧ preserves_Glu_GluIdeal
    ∧ algebraic_GluIdeal_GluRefIdeal (hGluIdeal := hGluIdeal) (hGluRefIdeal := hGluRefIdeal)
    ∧ preserves_LatPrompt_LatPromptIdeal
    ∧ algebraic_LatPromptIdeal_LatPromptRefIdeal (hLatPromptIdeal := hLatPromptIdeal) (hLatPromptRefIdeal := hLatPromptRefIdeal)
    ∧ preserves_LatSample_LatSampleIdeal
    ∧ algebraic_LatSampleIdeal_LatSampleRefIdeal (hLatSampleIdeal := hLatSampleIdeal) (hLatSampleRefIdeal := hLatSampleRefIdeal)
    ∧ preserves_FinalNorm_FinalNormIdeal
    ∧ algebraic_FinalNormIdeal_FinalNormRefIdeal (hFinalNormIdeal := hFinalNormIdeal) (hFinalNormRefIdeal := hFinalNormRefIdeal)
    ∧ preserves_AttPost_AttPostIdeal
    ∧ algebraic_AttPostIdeal_AttPostRefIdeal (hAttPostIdeal := hAttPostIdeal) (hAttPostRefIdeal := hAttPostRefIdeal)
    ∧ preserves_AttUq_AttUqIdeal
    ∧ algebraic_AttUqIdeal_AttUqRefIdeal (hAttUqIdeal := hAttUqIdeal) (hAttUqRefIdeal := hAttUqRefIdeal)
-- ==== Pre_finite.lean ====
abbrev S16x32x4096 : Shape := ⟨3, ![16, 32, 4096]⟩
abbrev S16x32x128 : Shape := ⟨3, ![16, 32, 128]⟩
abbrev S16x1056x4096 : Shape := ⟨3, ![16, 1056, 4096]⟩
abbrev S16x1056x64 : Shape := ⟨3, ![16, 1056, 64]⟩
abbrev S_ : Shape := ⟨0, ![]⟩

class Facts : Prop where
  bcast_S_S16x32x4096 : S_.BroadcastsInDim S16x32x4096 (![] : Fin 0 → Fin S16x32x4096.rank)
  reducesTo_S16x32x4096_S_d0_1_2 : S16x32x4096.ReducesTo [0, 1, 2] S_
  h_S_ : 0 < S_.numel
  bcast_S_S16x32x128 : S_.BroadcastsInDim S16x32x128 (![] : Fin 0 → Fin S16x32x128.rank)
  reducesTo_S16x32x128_S_d0_1_2 : S16x32x128.ReducesTo [0, 1, 2] S_
  bitsLt_bf16_f32 : FTy.bits .bf16 < FTy.bits .f32
  bcast_S_S16x1056x4096 : S_.BroadcastsInDim S16x1056x4096 (![] : Fin 0 → Fin S16x1056x4096.rank)
  reducesTo_S16x1056x4096_S_d0_1_2 : S16x1056x4096.ReducesTo [0, 1, 2] S_
  bcast_S_S16x1056x64 : S_.BroadcastsInDim S16x1056x64 (![] : Fin 0 → Fin S16x1056x64.rank)
  reducesTo_S16x1056x64_S_d0_1_2 : S16x1056x64.ReducesTo [0, 1, 2] S_

variable [Facts]

def fn_part1 {F : FTy → Type} [FloatOps F] (main_v3 : IVec S_ 1) (main_v7 : IVec S_ 1) (main_v12 : IVec S_ 1) (main_v16 : IVec S16x1056x64 1) : IVec S_ 1 :=
  let main_c_5 : IVec S_ 1 := constantI S_ 1 1#1
  let main_v17 : IVec S_ 1 := (fun x v => Host.reduce IntOp.andi x v reducesTo_S16x1056x64_S_d0_1_2 h_S_) main_v16 main_c_5
  let main_v18 : IVec S_ 1 := andi main_v3 main_v7
  let main_v19 : IVec S_ 1 := andi main_v18 main_v12
  let main_v20 : IVec S_ 1 := andi main_v19 main_v17
  main_v20

def fn {F : FTy → Type} [FloatOps F] (main_arg0 : FVec F S16x32x4096 .f32) (main_arg1 : FVec F S16x32x128 .f32) (main_arg2 : FVec F S16x1056x4096 .bf16) (main_arg3 : FVec F S16x1056x64 .bf16) : IVec S_ 1 :=
  let main_v0 : FVec F S16x32x4096 .f32 := Host.absf main_arg0
  let main_cst : FVec F S_ .f32 := constant S_ .f32 0x7F800000#32
  let main_v1 : FVec F S16x32x4096 .f32 := broadcastInDim S16x32x4096 ![] bcast_S_S16x32x4096 main_cst
  let main_v2 : IVec S16x32x4096 1 := cmpf .olt main_v0 main_v1
  let main_c : IVec S_ 1 := constantI S_ 1 1#1
  let main_v3 : IVec S_ 1 := (fun x v => Host.reduce IntOp.andi x v reducesTo_S16x32x4096_S_d0_1_2 h_S_) main_v2 main_c
  let main_v4 : FVec F S16x32x128 .f32 := Host.absf main_arg1
  let main_cst_0 : FVec F S_ .f32 := constant S_ .f32 0x7F800000#32
  let main_v5 : FVec F S16x32x128 .f32 := broadcastInDim S16x32x128 ![] bcast_S_S16x32x128 main_cst_0
  let main_v6 : IVec S16x32x128 1 := cmpf .olt main_v4 main_v5
  let main_c_1 : IVec S_ 1 := constantI S_ 1 1#1
  let main_v7 : IVec S_ 1 := (fun x v => Host.reduce IntOp.andi x v reducesTo_S16x32x128_S_d0_1_2 h_S_) main_v6 main_c_1
  let main_v8 : FVec F S16x1056x4096 .f32 := (extf .f32 · bitsLt_bf16_f32) main_arg2
  let main_v9 : FVec F S16x1056x4096 .f32 := Host.absf main_v8
  let main_cst_2 : FVec F S_ .f32 := constant S_ .f32 0x7F800000#32
  let main_v10 : FVec F S16x1056x4096 .f32 := broadcastInDim S16x1056x4096 ![] bcast_S_S16x1056x4096 main_cst_2
  let main_v11 : IVec S16x1056x4096 1 := cmpf .olt main_v9 main_v10
  let main_c_3 : IVec S_ 1 := constantI S_ 1 1#1
  let main_v12 : IVec S_ 1 := (fun x v => Host.reduce IntOp.andi x v reducesTo_S16x1056x4096_S_d0_1_2 h_S_) main_v11 main_c_3
  let main_v13 : FVec F S16x1056x64 .f32 := (extf .f32 · bitsLt_bf16_f32) main_arg3
  let main_v14 : FVec F S16x1056x64 .f32 := Host.absf main_v13
  let main_cst_4 : FVec F S_ .f32 := constant S_ .f32 0x7F800000#32
  let main_v15 : FVec F S16x1056x64 .f32 := broadcastInDim S16x1056x64 ![] bcast_S_S16x1056x64 main_cst_4
  let main_v16 : IVec S16x1056x64 1 := cmpf .olt main_v14 main_v15
  fn_part1 (F := F) main_v3 main_v7 main_v12 main_v16
-- ==== Pre_tables2.lean ====
abbrev S50688x1024 : Shape := ⟨2, ![50688, 1024]⟩
abbrev S99 : Shape := ⟨1, ![99]⟩
abbrev S1 : Shape := ⟨1, ![1]⟩
abbrev S4x32x1024x4096 : Shape := ⟨4, ![4, 32, 1024, 4096]⟩
abbrev S4x32x4096 : Shape := ⟨3, ![4, 32, 4096]⟩
abbrev S_ : Shape := ⟨0, ![]⟩

class Facts : Prop where
  bcast_S_S99 : S_.BroadcastsInDim S99 (![] : Fin 0 → Fin S99.rank)
  reducesTo_S99_S_d0 : S99.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S50688x1024 .bf16) (main_arg1 : IVec S99 32) (main_arg2 : IVec S1 32) (main_arg3 : FVec F S4x32x1024x4096 .f32) (main_arg4 : FVec F S4x32x4096 .f32) : IVec S_ 1 :=
  let main_c : IVec S_ 32 := constantI S_ 32 0#32
  let main_v0 : IVec S99 32 := broadcastInDim S99 ![] bcast_S_S99 main_c
  let main_v1 : IVec S99 1 := cmpi .sge main_arg1 main_v0
  let main_c_0 : IVec S_ 32 := constantI S_ 32 32#32
  let main_v2 : IVec S99 32 := broadcastInDim S99 ![] bcast_S_S99 main_c_0
  let main_v3 : IVec S99 1 := cmpi .slt main_arg1 main_v2
  let main_v4 : IVec S99 1 := andi main_v1 main_v3
  let main_c_1 : IVec S_ 1 := constantI S_ 1 1#1
  let main_v5 : IVec S_ 1 := (fun x v => Host.reduce IntOp.andi x v reducesTo_S99_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg2 main_v6
  let main_c_3 : IVec S_ 32 := constantI S_ 32 99#32
  let main_v8 : IVec S1 32 := broadcastInDim S1 ![] bcast_S_S1 main_c_3
  let main_v9 : IVec S1 1 := cmpi .sle main_arg2 main_v8
  let main_v10 : IVec S1 1 := andi main_v7 main_v9
  let main_c_4 : IVec S_ 1 := constantI S_ 1 1#1
  let main_v11 : IVec S_ 1 := (fun x v => Host.reduce IntOp.andi x v reducesTo_S1_S_d0 h_S_) main_v10 main_c_4
  let main_v12 : IVec S_ 1 := andi main_v5 main_v11
  main_v12
-- ==== Pre_tables3.lean ====
abbrev S50688x2048 : Shape := ⟨2, ![50688, 2048]⟩
abbrev S99 : Shape := ⟨1, ![99]⟩
abbrev S1 : Shape := ⟨1, ![1]⟩
abbrev S4x32x4096x2048 : Shape := ⟨4, ![4, 32, 4096, 2048]⟩
abbrev S4x32x2048 : Shape := ⟨3, ![4, 32, 2048]⟩
abbrev S_ : Shape := ⟨0, ![]⟩

class Facts : Prop where
  bcast_S_S99 : S_.BroadcastsInDim S99 (![] : Fin 0 → Fin S99.rank)
  reducesTo_S99_S_d0 : S99.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S50688x2048 32) (main_arg1 : IVec S99 32) (main_arg2 : IVec S1 32) (main_arg3 : FVec F S4x32x4096x2048 .f32) (main_arg4 : FVec F S4x32x2048 .f32) : IVec S_ 1 :=
  let main_c : IVec S_ 32 := constantI S_ 32 0#32
  let main_v0 : IVec S99 32 := broadcastInDim S99 ![] bcast_S_S99 main_c
  let main_v1 : IVec S99 1 := cmpi .sge main_arg1 main_v0
  let main_c_0 : IVec S_ 32 := constantI S_ 32 32#32
  let main_v2 : IVec S99 32 := broadcastInDim S99 ![] bcast_S_S99 main_c_0
  let main_v3 : IVec S99 1 := cmpi .slt main_arg1 main_v2
  let main_v4 : IVec S99 1 := andi main_v1 main_v3
  let main_c_1 : IVec S_ 1 := constantI S_ 1 1#1
  let main_v5 : IVec S_ 1 := (fun x v => Host.reduce IntOp.andi x v reducesTo_S99_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg2 main_v6
  let main_c_3 : IVec S_ 32 := constantI S_ 32 99#32
  let main_v8 : IVec S1 32 := broadcastInDim S1 ![] bcast_S_S1 main_c_3
  let main_v9 : IVec S1 1 := cmpi .sle main_arg2 main_v8
  let main_v10 : IVec S1 1 := andi main_v7 main_v9
  let main_c_4 : IVec S_ 1 := constantI S_ 1 1#1
  let main_v11 : IVec S_ 1 := (fun x v => Host.reduce IntOp.andi x v reducesTo_S1_S_d0 h_S_) main_v10 main_c_4
  let main_v12 : IVec S_ 1 := andi main_v5 main_v11
  main_v12
-- ==== Attn.lean ====
abbrev S16x32x4096 : Shape := ⟨3, ![16, 32, 4096]⟩
abbrev S16x32x128 : Shape := ⟨3, ![16, 32, 128]⟩
abbrev S16x1056x4096 : Shape := ⟨3, ![16, 1056, 4096]⟩
abbrev S16x1056x64 : Shape := ⟨3, ![16, 1056, 64]⟩
abbrev S_ : Shape := ⟨0, ![]⟩
abbrev S16x1056x128 : Shape := ⟨3, ![16, 1056, 128]⟩
abbrev S16x32x2048 : Shape := ⟨3, ![16, 32, 2048]⟩
abbrev S1x32x128 : Shape := ⟨3, ![1, 32, 128]⟩
abbrev S1x1056x128 : Shape := ⟨3, ![1, 1056, 128]⟩
abbrev S32x128 : Shape := ⟨2, ![32, 128]⟩
abbrev S1056x128 : Shape := ⟨2, ![1056, 128]⟩
abbrev S32x1056 : Shape := ⟨2, ![32, 1056]⟩
abbrev S32 : Shape := ⟨1, ![32]⟩
abbrev S32x1 : Shape := ⟨2, ![32, 1]⟩

abbrev nBuf : Space → Nat
  | .hbm => 8
  | .vmem => 14
  | .smem => 0
  | _ => 0

abbrev bufTy : (tb : Table) → Fin (tcTables nBuf tb) → BufTy
  | .hbm, ⟨0, _⟩ => ⟨S16x32x4096, .f32⟩
  | .hbm, ⟨1, _⟩ => ⟨S16x32x128, .f32⟩
  | .hbm, ⟨2, _⟩ => ⟨S16x1056x4096, .bf16⟩
  | .hbm, ⟨3, _⟩ => ⟨S16x1056x64, .bf16⟩
  | .hbm, ⟨4, _⟩ => ⟨S_, .bf16⟩
  | .hbm, ⟨5, _⟩ => ⟨S16x1056x64, .bf16⟩
  | .hbm, ⟨6, _⟩ => ⟨S16x1056x128, .bf16⟩
  | .hbm, ⟨7, _⟩ => ⟨S16x32x2048, .bf16⟩
  | .local _ .vmem, ⟨0, _⟩ => ⟨S1x32x128, .f32⟩
  | .local _ .vmem, ⟨1, _⟩ => ⟨S1x32x128, .f32⟩
  | .local _ .vmem, ⟨2, _⟩ => ⟨S1x32x128, .f32⟩
  | .local _ .vmem, ⟨3, _⟩ => ⟨S1x32x128, .f32⟩
  | .local _ .vmem, ⟨4, _⟩ => ⟨S1x32x128, .f32⟩
  | .local _ .vmem, ⟨5, _⟩ => ⟨S1x32x128, .f32⟩
  | .local _ .vmem, ⟨6, _⟩ => ⟨S1x1056x128, .bf16⟩
  | .local _ .vmem, ⟨7, _⟩ => ⟨S1x1056x128, .bf16⟩
  | .local _ .vmem, ⟨8, _⟩ => ⟨S1x1056x128, .bf16⟩
  | .local _ .vmem, ⟨9, _⟩ => ⟨S1x1056x128, .bf16⟩
  | .local _ .vmem, ⟨10, _⟩ => ⟨S1x1056x128, .bf16⟩
  | .local _ .vmem, ⟨11, _⟩ => ⟨S1x1056x128, .bf16⟩
  | .local _ .vmem, ⟨12, _⟩ => ⟨S1x32x128, .bf16⟩
  | .local _ .vmem, ⟨13, _⟩ => ⟨S1x32x128, .bf16⟩
  | _, _ => ⟨S16x32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![16, 16, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c0_i32 : BitVec 32 := 0#32
  let v1 : BitVec 32 := Scalar.addi c0_i32 v0
  let c0_i32_0 : BitVec 32 := 0#32
  let c0_i32_1 : BitVec 32 := 0#32
  ![arg0.toNat, c0_i32_0.toNat, v1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c1_i32 : BitVec 32 := 1#32
  let v1 : BitVec 32 := Scalar.addi c1_i32 v0
  let c0_i32 : BitVec 32 := 0#32
  let c0_i32_0 : BitVec 32 := 0#32
  ![arg0.toNat, c0_i32.toNat, v1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1056x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1056x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x1056x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x32x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== AttnRefIdeal.lean ====
abbrev S16x32x4096 : Shape := ⟨3, ![16, 32, 4096]⟩
abbrev S16x32x128 : Shape := ⟨3, ![16, 32, 128]⟩
abbrev S16x1056x4096 : Shape := ⟨3, ![16, 1056, 4096]⟩
abbrev S16x1056x64 : Shape := ⟨3, ![16, 1056, 64]⟩
abbrev S16x32x2048 : Shape := ⟨3, ![16, 32, 2048]⟩
abbrev S16x32x16x128 : Shape := ⟨4, ![16, 32, 16, 128]⟩
abbrev S16x32x16x64 : Shape := ⟨4, ![16, 32, 16, 64]⟩
abbrev S16x32x64 : Shape := ⟨3, ![16, 32, 64]⟩
abbrev S16x32x1x64 : Shape := ⟨4, ![16, 32, 1, 64]⟩
abbrev S16x32x16x192 : Shape := ⟨4, ![16, 32, 16, 192]⟩
abbrev S16x1056x16x256 : Shape := ⟨4, ![16, 1056, 16, 256]⟩
abbrev S16x1056x16x128 : Shape := ⟨4, ![16, 1056, 16, 128]⟩
abbrev S16x1056x1x64 : Shape := ⟨4, ![16, 1056, 1, 64]⟩
abbrev S16x1056x16x64 : Shape := ⟨4, ![16, 1056, 16, 64]⟩
abbrev S16x1056x16x192 : Shape := ⟨4, ![16, 1056, 16, 192]⟩
abbrev S16x16x32x1056 : Shape := ⟨4, ![16, 16, 32, 1056]⟩
abbrev S_ : Shape := ⟨0, ![]⟩
abbrev S16x16x32 : Shape := ⟨3, ![16, 16, 32]⟩
abbrev S16x16x32x1 : Shape := ⟨4, ![16, 16, 32, 1]⟩
abbrev S16x16x128x32 : Shape := ⟨4, ![16, 16, 128, 32]⟩

abbrev nBuf : Space → Nat
  | .hbm => 50
  | .vmem => 0
  | .smem => 0
  | _ => 0

abbrev bufTy : (tb : Table) → Fin (tcTables nBuf tb) → BufTy
  | .hbm, ⟨0, _⟩ => ⟨S16x32x4096, .f32⟩
  | .hbm, ⟨1, _⟩ => ⟨S16x32x128, .f32⟩
  | .hbm, ⟨2, _⟩ => ⟨S16x1056x4096, .bf16⟩
  | .hbm, ⟨3, _⟩ => ⟨S16x1056x64, .bf16⟩
  | .hbm, ⟨4, _⟩ => ⟨S16x32x2048, .f32⟩
  | .hbm, ⟨5, _⟩ => ⟨S16x32x16x128, .f32⟩
  | .hbm, ⟨6, _⟩ => ⟨S16x32x16x64, .f32⟩
  | .hbm, ⟨7, _⟩ => ⟨S16x32x64, .f32⟩
  | .hbm, ⟨8, _⟩ => ⟨S16x32x1x64, .f32⟩
  | .hbm, ⟨9, _⟩ => ⟨S16x32x16x64, .f32⟩
  | .hbm, ⟨10, _⟩ => ⟨S16x32x16x64, .f32⟩
  | .hbm, ⟨11, _⟩ => ⟨S16x32x16x64, .f32⟩
  | .hbm, ⟨12, _⟩ => ⟨S16x32x64, .f32⟩
  | .hbm, ⟨13, _⟩ => ⟨S16x32x1x64, .f32⟩
  | .hbm, ⟨14, _⟩ => ⟨S16x32x16x64, .f32⟩
  | .hbm, ⟨15, _⟩ => ⟨S16x32x16x64, .f32⟩
  | .hbm, ⟨16, _⟩ => ⟨S16x32x16x64, .f32⟩
  | .hbm, ⟨17, _⟩ => ⟨S16x32x2048, .f32⟩
  | .hbm, ⟨18, _⟩ => ⟨S16x32x16x128, .f32⟩
  | .hbm, ⟨19, _⟩ => ⟨S16x32x16x192, .f32⟩
  | .hbm, ⟨20, _⟩ => ⟨S16x1056x16x256, .bf16⟩
  | .hbm, ⟨21, _⟩ => ⟨S16x1056x16x256, .f32⟩
  | .hbm, ⟨22, _⟩ => ⟨S16x1056x16x128, .f32⟩
  | .hbm, ⟨23, _⟩ => ⟨S16x1056x64, .f32⟩
  | .hbm, ⟨24, _⟩ => ⟨S16x1056x1x64, .f32⟩
  | .hbm, ⟨25, _⟩ => ⟨S16x1056x16x64, .f32⟩
  | .hbm, ⟨26, _⟩ => ⟨S16x1056x16x192, .f32⟩
  | .hbm, ⟨27, _⟩ => ⟨S16x16x32x1056, .f32⟩
  | .hbm, ⟨28, _⟩ => ⟨S_, .f32⟩
  | .hbm, ⟨29, _⟩ => ⟨S16x16x32x1056, .f32⟩
  | .hbm, ⟨30, _⟩ => ⟨S16x16x32x1056, .f32⟩
  | .hbm, ⟨31, _⟩ => ⟨S_, .f32⟩
  | .hbm, ⟨32, _⟩ => ⟨S16x16x32, .f32⟩
  | .hbm, ⟨33, _⟩ => ⟨S_, .f32⟩
  | .hbm, ⟨34, _⟩ => ⟨S16x16x32, .f32⟩
  | .hbm, ⟨35, _⟩ => ⟨S16x16x32, .f32⟩
  | .hbm, ⟨36, _⟩ => ⟨S16x16x32x1, .f32⟩
  | .hbm, ⟨37, _⟩ => ⟨S16x16x32x1056, .f32⟩
  | .hbm, ⟨38, _⟩ => ⟨S16x16x32x1056, .f32⟩
  | .hbm, ⟨39, _⟩ => ⟨S16x16x32x1056, .f32⟩
  | .hbm, ⟨40, _⟩ => ⟨S_, .f32⟩
  | .hbm, ⟨41, _⟩ => ⟨S16x16x32, .f32⟩
  | .hbm, ⟨42, _⟩ => ⟨S16x16x32x1, .f32⟩
  | .hbm, ⟨43, _⟩ => ⟨S16x16x32x1056, .f32⟩
  | .hbm, ⟨44, _⟩ => ⟨S16x16x32x1056, .f32⟩
  | .hbm, ⟨45, _⟩ => ⟨S16x1056x16x128, .f32⟩
  | .hbm, ⟨46, _⟩ => ⟨S16x16x128x32, .f32⟩
  | .hbm, ⟨47, _⟩ => ⟨S16x32x16x128, .f32⟩
  | .hbm, ⟨48, _⟩ => ⟨S16x32x2048, .f32⟩
  | .hbm, ⟨49, _⟩ => ⟨S16x32x2048, .bf16⟩
  | _, _ => ⟨S16x32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst : Ref sig .tc := ⟨.hbm, 28, rfl⟩
abbrev main_v24 : Ref sig .tc := ⟨.hbm, 29, rfl⟩
abbrev main_v25 : Ref sig .tc := ⟨.hbm, 30, rfl⟩
abbrev main_cst_0 : Ref sig .tc := ⟨.hbm, 31, rfl⟩
abbrev main_v26 : Ref sig .tc := ⟨.hbm, 32, rfl⟩
abbrev main_cst_1 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_2 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩

abbrev nD : Nat := 1
abbrev τ : Topo := Topo.v7x

variable {F : FTy → Type} [FloatOps F]
-- ==== FfnTwo.lean ====
abbrev S50688x1024 : Shape := ⟨2, ![50688, 1024]⟩
abbrev S99 : Shape := ⟨1, ![99]⟩
abbrev S1 : Shape := ⟨1, ![1]⟩
abbrev S4x32x1024x4096 : Shape := ⟨4, ![4, 32, 1024, 4096]⟩
abbrev S4x32x4096 : Shape := ⟨3, ![4, 32, 4096]⟩
abbrev S4x32x1x4096 : Shape := ⟨4, ![4, 32, 1, 4096]⟩
abbrev S50688x4096 : Shape := ⟨2, ![50688, 4096]⟩
abbrev S512x1024 : Shape := ⟨2, ![512, 1024]⟩
abbrev S1x1x1024x2048 : Shape := ⟨4, ![1, 1, 1024, 2048]⟩
abbrev S1x1x1x2048 : Shape := ⟨4, ![1, 1, 1, 2048]⟩
abbrev S512x2048 : Shape := ⟨2, ![512, 2048]⟩
abbrev S1024x2048 : Shape := ⟨2, ![1024, 2048]⟩
abbrev S1x2048 : Shape := ⟨2, ![1, 2048]⟩

abbrev nBuf : Space → Nat
  | .hbm => 5
  | .vmem => 9
  | .smem => 2
  | _ => 0

abbrev bufTy : (tb : Table) → Fin (tcTables nBuf tb) → BufTy
  | .hbm, ⟨0, _⟩ => ⟨S50688x1024, .bf16⟩
  | .hbm, ⟨1, _⟩ => ⟨S4x32x1024x4096, .f32⟩
  | .hbm, ⟨2, _⟩ => ⟨S4x32x4096, .f32⟩
  | .hbm, ⟨3, _⟩ => ⟨S4x32x1x4096, .f32⟩
  | .hbm, ⟨4, _⟩ => ⟨S50688x4096, .f32⟩
  | .local _ .vmem, ⟨0, _⟩ => ⟨S512x1024, .bf16⟩
  | .local _ .vmem, ⟨1, _⟩ => ⟨S512x1024, .bf16⟩
  | .local _ .vmem, ⟨2, _⟩ => ⟨S1x1x1024x2048, .f32⟩
  | .local _ .vmem, ⟨3, _⟩ => ⟨S1x1x1024x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S512x2048, .f32⟩
  | .local _ .vmem, ⟨7, _⟩ => ⟨S512x2048, .f32⟩
  | .local _ .vmem, ⟨8, _⟩ => ⟨S1024x2048, .bf16⟩
  | .local _ .smem, ⟨0, _⟩ => ⟨S99, .i32⟩
  | .local _ .smem, ⟨1, _⟩ => ⟨S1, .i32⟩
  | _, _ => ⟨S50688x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_v1 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 99], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let v2 : Index := Scalar.indexCast v1
  ![v2.toNat]
def k0_cond2 (i : grid0.Coords) (v11 : BitVec 32) : BitVec 1 :=
  let arg1 : BitVec 32 := BitVec.ofNat 32 (i 1).val
  let v12 : BitVec 1 := Scalar.cmpi .slt arg1 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg1 : BitVec 32 := BitVec.ofNat 32 (i 1).val
  let v16 : BitVec 1 := Scalar.cmpi .sge arg1 v15
  let v17 : BitVec 32 := Scalar.extui v16
  let c0_i32_4 : BitVec 32 := 0#32
  let v18 : BitVec 1 := Scalar.cmpi .ne v17 c0_i32_4
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S99.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S99) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (k0_off1_inb : ∀ i : grid0.Coords, ∀ a, (k0_off1 i) a + S1.size a ≤ S99.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S99) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnTwoRefIdeal.lean ====
abbrev S50688x1024 : Shape := ⟨2, ![50688, 1024]⟩
abbrev S99 : Shape := ⟨1, ![99]⟩
abbrev S1 : Shape := ⟨1, ![1]⟩
abbrev S4x32x1024x4096 : Shape := ⟨4, ![4, 32, 1024, 4096]⟩
abbrev S4x32x4096 : Shape := ⟨3, ![4, 32, 4096]⟩
abbrev S99x512x1024 : Shape := ⟨3, ![99, 512, 1024]⟩
abbrev S1x32x1024x4096 : Shape := ⟨4, ![1, 32, 1024, 4096]⟩
abbrev S32x1024x4096 : Shape := ⟨3, ![32, 1024, 4096]⟩
abbrev S_ : Shape := ⟨0, ![]⟩
abbrev S99x1 : Shape := ⟨2, ![99, 1]⟩
abbrev S99x1024x4096 : Shape := ⟨3, ![99, 1024, 4096]⟩
abbrev S1x32x4096 : Shape := ⟨3, ![1, 32, 4096]⟩
abbrev S32x4096 : Shape := ⟨2, ![32, 4096]⟩
abbrev S99x4096 : Shape := ⟨2, ![99, 4096]⟩
abbrev S99x512x4096 : Shape := ⟨3, ![99, 512, 4096]⟩
abbrev S99x1x4096 : Shape := ⟨3, ![99, 1, 4096]⟩
abbrev S99x1x1 : Shape := ⟨3, ![99, 1, 1]⟩
abbrev S50688x4096 : Shape := ⟨2, ![50688, 4096]⟩

abbrev nBuf : Space → Nat
  | .hbm => 44
  | .vmem => 0
  | .smem => 0
  | _ => 0

abbrev bufTy : (tb : Table) → Fin (tcTables nBuf tb) → BufTy
  | .hbm, ⟨0, _⟩ => ⟨S50688x1024, .bf16⟩
  | .hbm, ⟨1, _⟩ => ⟨S99, .i32⟩
  | .hbm, ⟨2, _⟩ => ⟨S1, .i32⟩
  | .hbm, ⟨3, _⟩ => ⟨S4x32x1024x4096, .f32⟩
  | .hbm, ⟨4, _⟩ => ⟨S4x32x4096, .f32⟩
  | .hbm, ⟨5, _⟩ => ⟨S99x512x1024, .bf16⟩
  | .hbm, ⟨6, _⟩ => ⟨S1x32x1024x4096, .f32⟩
  | .hbm, ⟨7, _⟩ => ⟨S32x1024x4096, .f32⟩
  | .hbm, ⟨8, _⟩ => ⟨S_, .i32⟩
  | .hbm, ⟨9, _⟩ => ⟨S99, .i32⟩
  | .hbm, ⟨10, _⟩ => ⟨S99, .i1⟩
  | .hbm, ⟨11, _⟩ => ⟨S_, .i32⟩
  | .hbm, ⟨12, _⟩ => ⟨S99, .i32⟩
  | .hbm, ⟨13, _⟩ => ⟨S99, .i32⟩
  | .hbm, ⟨14, _⟩ => ⟨S99, .i32⟩
  | .hbm, ⟨15, _⟩ => ⟨S99x1, .i32⟩
  | .hbm, ⟨16, _⟩ => ⟨S99x1024x4096, .f32⟩
  | .hbm, ⟨17, _⟩ => ⟨S1x32x4096, .f32⟩
  | .hbm, ⟨18, _⟩ => ⟨S32x4096, .f32⟩
  | .hbm, ⟨19, _⟩ => ⟨S_, .i32⟩
  | .hbm, ⟨20, _⟩ => ⟨S99, .i32⟩
  | .hbm, ⟨21, _⟩ => ⟨S99, .i1⟩
  | .hbm, ⟨22, _⟩ => ⟨S_, .i32⟩
  | .hbm, ⟨23, _⟩ => ⟨S99, .i32⟩
  | .hbm, ⟨24, _⟩ => ⟨S99, .i32⟩
  | .hbm, ⟨25, _⟩ => ⟨S99, .i32⟩
  | .hbm, ⟨26, _⟩ => ⟨S99x1, .i32⟩
  | .hbm, ⟨27, _⟩ => ⟨S99x4096, .f32⟩
  | .hbm, ⟨28, _⟩ => ⟨S99x512x1024, .f32⟩
  | .hbm, ⟨29, _⟩ => ⟨S99x512x4096, .f32⟩
  | .hbm, ⟨30, _⟩ => ⟨S99x1x4096, .f32⟩
  | .hbm, ⟨31, _⟩ => ⟨S99x512x4096, .f32⟩
  | .hbm, ⟨32, _⟩ => ⟨S99x512x4096, .f32⟩
  | .hbm, ⟨33, _⟩ => ⟨S99, .i32⟩
  | .hbm, ⟨34, _⟩ => ⟨S_, .i32⟩
  | .hbm, ⟨35, _⟩ => ⟨S99, .i32⟩
  | .hbm, ⟨36, _⟩ => ⟨S99, .i1⟩
  | .hbm, ⟨37, _⟩ => ⟨S99x1x1, .i1⟩
  | .hbm, ⟨38, _⟩ => ⟨S_, .f32⟩
  | .hbm, ⟨39, _⟩ => ⟨S_, .f32⟩
  | .hbm, ⟨40, _⟩ => ⟨S99x512x4096, .i1⟩
  | .hbm, ⟨41, _⟩ => ⟨S99x512x4096, .f32⟩
  | .hbm, ⟨42, _⟩ => ⟨S99x512x4096, .f32⟩
  | .hbm, ⟨43, _⟩ => ⟨S50688x4096, .f32⟩
  | _, _ => ⟨S50688x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== FfnOne.lean ====
abbrev S50688x2048 : Shape := ⟨2, ![50688, 2048]⟩
abbrev S99 : Shape := ⟨1, ![99]⟩
abbrev S1 : Shape := ⟨1, ![1]⟩
abbrev S4x32x4096x2048 : Shape := ⟨4, ![4, 32, 4096, 2048]⟩
abbrev S4x32x2048 : Shape := ⟨3, ![4, 32, 2048]⟩
abbrev S4x32x1x2048 : Shape := ⟨4, ![4, 32, 1, 2048]⟩
abbrev S50688x1024 : Shape := ⟨2, ![50688, 1024]⟩
abbrev S512x2048 : Shape := ⟨2, ![512, 2048]⟩
abbrev S1x1x4096x512 : Shape := ⟨4, ![1, 1, 4096, 512]⟩
abbrev S1x1x1x512 : Shape := ⟨4, ![1, 1, 1, 512]⟩
abbrev S512x512 : Shape := ⟨2, ![512, 512]⟩
abbrev S4096x512 : Shape := ⟨2, ![4096, 512]⟩
abbrev S2048x512 : Shape := ⟨2, ![2048, 512]⟩
abbrev S1x512 : Shape := ⟨2, ![1, 512]⟩

abbrev nBuf : Space → Nat
  | .hbm => 5
  | .vmem => 14
  | .smem => 2
  | _ => 0

abbrev bufTy : (tb : Table) → Fin (tcTables nBuf tb) → BufTy
  | .hbm, ⟨0, _⟩ => ⟨S50688x2048, .i32⟩
  | .hbm, ⟨1, _⟩ => ⟨S4x32x4096x2048, .f32⟩
  | .hbm, ⟨2, _⟩ => ⟨S4x32x2048, .f32⟩
  | .hbm, ⟨3, _⟩ => ⟨S4x32x1x2048, .f32⟩
  | .hbm, ⟨4, _⟩ => ⟨S50688x1024, .bf16⟩
  | .local _ .vmem, ⟨0, _⟩ => ⟨S512x2048, .i32⟩
  | .local _ .vmem, ⟨1, _⟩ => ⟨S512x2048, .i32⟩
  | .local _ .vmem, ⟨2, _⟩ => ⟨S1x1x4096x512, .f32⟩
  | .local _ .vmem, ⟨3, _⟩ => ⟨S1x1x4096x512, .f32⟩
  | .local _ .vmem, ⟨4, _⟩ => ⟨S1x1x4096x512, .f32⟩
  | .local _ .vmem, ⟨5, _⟩ => ⟨S1x1x4096x512, .f32⟩
  | .local _ .vmem, ⟨6, _⟩ => ⟨S1x1x1x512, .f32⟩
  | .local _ .vmem, ⟨7, _⟩ => ⟨S1x1x1x512, .f32⟩
  | .local _ .vmem, ⟨8, _⟩ => ⟨S1x1x1x512, .f32⟩
  | .local _ .vmem, ⟨9, _⟩ => ⟨S1x1x1x512, .f32⟩
  | .local _ .vmem, ⟨10, _⟩ => ⟨S512x512, .bf16⟩
  | .local _ .vmem, ⟨11, _⟩ => ⟨S512x512, .bf16⟩
  | .local _ .vmem, ⟨12, _⟩ => ⟨S4096x512, .bf16⟩
  | .local _ .vmem, ⟨13, _⟩ => ⟨S4096x512, .bf16⟩
  | .local _ .smem, ⟨0, _⟩ => ⟨S99, .i32⟩
  | .local _ .smem, ⟨1, _⟩ => ⟨S1, .i32⟩
  | _, _ => ⟨S50688x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_v1 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 99], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let v2 : Index := Scalar.indexCast v1
  ![v2.toNat]
def k0_cond2 (i : grid0.Coords) (v11 : BitVec 32) : BitVec 1 :=
  let arg1 : BitVec 32 := BitVec.ofNat 32 (i 1).val
  let v12 : BitVec 1 := Scalar.cmpi .slt arg1 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg1 : BitVec 32 := BitVec.ofNat 32 (i 1).val
  let v16 : BitVec 1 := Scalar.cmpi .sge arg1 v15
  let v17 : BitVec 32 := Scalar.extui v16
  let c0_i32_4 : BitVec 32 := 0#32
  let v18 : BitVec 1 := Scalar.cmpi .ne v17 c0_i32_4
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S99.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S99) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (k0_off1_inb : ∀ i : grid0.Coords, ∀ a, (k0_off1 i) a + S1.size a ≤ S99.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S99) ![v0.toNat] S1.size (k0_off1_inb i)) numel1_S1
  let c2_i32 : BitVec 32 := 2#32
  let v2 : BitVec 32 := Scalar.addi c2_i32 arg0
  let c0_i32 : BitVec 32 := 0#32
  let c0_i32_0 : BitVec 32 := 0#32
  let c0_i32_1 : BitVec 32 := 0#32
  ![c0_i32.toNat, v1.toNat, c0_i32_0.toNat, v2.toNat]

def cc0_transform_3 (k0_off1_inb : ∀ i : grid0.Coords, ∀ a, (k0_off1 i) a + S1.size a ≤ S99.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S99) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_4 (k0_off1_inb : ∀ i : grid0.Coords, ∀ a, (k0_off1 i) a + S1.size a ≤ S99.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S99) ![v0.toNat] S1.size (k0_off1_inb i)) numel1_S1
  let c2_i32 : BitVec 32 := 2#32
  let v2 : BitVec 32 := Scalar.addi c2_i32 arg0
  let c0_i32 : BitVec 32 := 0#32
  let c0_i32_0 : BitVec 32 := 0#32
  let c0_i32_1 : BitVec 32 := 0#32
  ![c0_i32.toNat, v1.toNat, c0_i32_0.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnOneRefIdeal.lean ====
abbrev S50688x2048 : Shape := ⟨2, ![50688, 2048]⟩
abbrev S99 : Shape := ⟨1, ![99]⟩
abbrev S1 : Shape := ⟨1, ![1]⟩
abbrev S4x32x4096x2048 : Shape := ⟨4, ![4, 32, 4096, 2048]⟩
abbrev S4x32x2048 : Shape := ⟨3, ![4, 32, 2048]⟩
abbrev S_ : Shape := ⟨0, ![]⟩
abbrev S50688x4096 : Shape := ⟨2, ![50688, 4096]⟩
abbrev S99x512x4096 : Shape := ⟨3, ![99, 512, 4096]⟩
abbrev S1x32x4096x2048 : Shape := ⟨4, ![1, 32, 4096, 2048]⟩
abbrev S32x4096x2048 : Shape := ⟨3, ![32, 4096, 2048]⟩
abbrev S99x1 : Shape := ⟨2, ![99, 1]⟩
abbrev S99x4096x2048 : Shape := ⟨3, ![99, 4096, 2048]⟩
abbrev S1x32x2048 : Shape := ⟨3, ![1, 32, 2048]⟩
abbrev S32x2048 : Shape := ⟨2, ![32, 2048]⟩
abbrev S99x2048 : Shape := ⟨2, ![99, 2048]⟩
abbrev S99x512x2048 : Shape := ⟨3, ![99, 512, 2048]⟩
abbrev S99x1x2048 : Shape := ⟨3, ![99, 1, 2048]⟩
abbrev S99x512x1024 : Shape := ⟨3, ![99, 512, 1024]⟩
abbrev S99x1x1 : Shape := ⟨3, ![99, 1, 1]⟩
abbrev S50688x1024 : Shape := ⟨2, ![50688, 1024]⟩

abbrev nBuf : Space → Nat
  | .hbm => 82
  | .vmem => 0
  | .smem => 0
  | _ => 0

abbrev bufTy : (tb : Table) → Fin (tcTables nBuf tb) → BufTy
  | .hbm, ⟨0, _⟩ => ⟨S50688x2048, .i32⟩
  | .hbm, ⟨1, _⟩ => ⟨S99, .i32⟩
  | .hbm, ⟨2, _⟩ => ⟨S1, .i32⟩
  | .hbm, ⟨3, _⟩ => ⟨S4x32x4096x2048, .f32⟩
  | .hbm, ⟨4, _⟩ => ⟨S4x32x2048, .f32⟩
  | .hbm, ⟨5, _⟩ => ⟨S_, .i32⟩
  | .hbm, ⟨6, _⟩ => ⟨S50688x2048, .i32⟩
  | .hbm, ⟨7, _⟩ => ⟨S50688x2048, .i32⟩
  | .hbm, ⟨8, _⟩ => ⟨S50688x2048, .f32⟩
  | .hbm, ⟨9, _⟩ => ⟨S_, .i32⟩
  | .hbm, ⟨10, _⟩ => ⟨S50688x2048, .i32⟩
  | .hbm, ⟨11, _⟩ => ⟨S50688x2048, .i32⟩
  | .hbm, ⟨12, _⟩ => ⟨S50688x2048, .f32⟩
  | .hbm, ⟨13, _⟩ => ⟨S50688x4096, .f32⟩
  | .hbm, ⟨14, _⟩ => ⟨S99x512x4096, .f32⟩
  | .hbm, ⟨15, _⟩ => ⟨S1x32x4096x2048, .f32⟩
  | .hbm, ⟨16, _⟩ => ⟨S32x4096x2048, .f32⟩
  | .hbm, ⟨17, _⟩ => ⟨S_, .i32⟩
  | .hbm, ⟨18, _⟩ => ⟨S99, .i32⟩
  | .hbm, ⟨19, _⟩ => ⟨S99, .i1⟩
  | .hbm, ⟨20, _⟩ => ⟨S_, .i32⟩
  | .hbm, ⟨21, _⟩ => ⟨S99, .i32⟩
  | .hbm, ⟨22, _⟩ => ⟨S99, .i32⟩
  | .hbm, ⟨23, _⟩ => ⟨S99, .i32⟩
  | .hbm, ⟨24, _⟩ => ⟨S99x1, .i32⟩
  | .hbm, ⟨25, _⟩ => ⟨S99x4096x2048, .f32⟩
  | .hbm, ⟨26, _⟩ => ⟨S1x32x2048, .f32⟩
  | .hbm, ⟨27, _⟩ => ⟨S32x2048, .f32⟩
  | .hbm, ⟨28, _⟩ => ⟨S_, .i32⟩
  | .hbm, ⟨29, _⟩ => ⟨S99, .i32⟩
  | .hbm, ⟨30, _⟩ => ⟨S99, .i1⟩
  | .hbm, ⟨31, _⟩ => ⟨S_, .i32⟩
  | .hbm, ⟨32, _⟩ => ⟨S99, .i32⟩
  | .hbm, ⟨33, _⟩ => ⟨S99, .i32⟩
  | .hbm, ⟨34, _⟩ => ⟨S99, .i32⟩
  | .hbm, ⟨35, _⟩ => ⟨S99x1, .i32⟩
  | .hbm, ⟨36, _⟩ => ⟨S99x2048, .f32⟩
  | .hbm, ⟨37, _⟩ => ⟨S99x512x2048, .f32⟩
  | .hbm, ⟨38, _⟩ => ⟨S99x1x2048, .f32⟩
  | .hbm, ⟨39, _⟩ => ⟨S99x512x2048, .f32⟩
  | .hbm, ⟨40, _⟩ => ⟨S99x512x2048, .f32⟩
  | .hbm, ⟨41, _⟩ => ⟨S99x512x1024, .f32⟩
  | .hbm, ⟨42, _⟩ => ⟨S_, .f32⟩
  | .hbm, ⟨43, _⟩ => ⟨S99x512x1024, .f32⟩
  | .hbm, ⟨44, _⟩ => ⟨S99x512x1024, .f32⟩
  | .hbm, ⟨45, _⟩ => ⟨S99x512x1024, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S99x512x1024, .f32⟩
  | .hbm, ⟨50, _⟩ => ⟨S99x512x1024, .f32⟩
  | .hbm, ⟨51, _⟩ => ⟨S_, .f32⟩
  | .hbm, ⟨52, _⟩ => ⟨S99x512x1024, .f32⟩
  | .hbm, ⟨53, _⟩ => ⟨S99x512x1024, .f32⟩
  | .hbm, ⟨54, _⟩ => ⟨S_, .f32⟩
  | .hbm, ⟨55, _⟩ => ⟨S99x512x1024, .f32⟩
  | .hbm, ⟨56, _⟩ => ⟨S99x512x1024, .f32⟩
  | .hbm, ⟨57, _⟩ => ⟨S99x512x1024, .f32⟩
  | .hbm, ⟨58, _⟩ => ⟨S99x512x1024, .f32⟩
  | .hbm, ⟨59, _⟩ => ⟨S_, .f32⟩
  | .hbm, ⟨60, _⟩ => ⟨S99x512x1024, .f32⟩
  | .hbm, ⟨61, _⟩ => ⟨S99x512x1024, .f32⟩
  | .hbm, ⟨62, _⟩ => ⟨S_, .f32⟩
  | .hbm, ⟨63, _⟩ => ⟨S99x512x1024, .f32⟩
  | .hbm, ⟨64, _⟩ => ⟨S99x512x1024, .f32⟩
  | .hbm, ⟨65, _⟩ => ⟨S99x512x1024, .f32⟩
  | .hbm, ⟨66, _⟩ => ⟨S_, .f32⟩
  | .hbm, ⟨67, _⟩ => ⟨S99x512x1024, .f32⟩
  | .hbm, ⟨68, _⟩ => ⟨S99x512x1024, .f32⟩
  | .hbm, ⟨69, _⟩ => ⟨S99x512x1024, .f32⟩
  | .hbm, ⟨70, _⟩ => ⟨S99, .i32⟩
  | .hbm, ⟨71, _⟩ => ⟨S_, .i32⟩
  | .hbm, ⟨72, _⟩ => ⟨S99, .i32⟩
  | .hbm, ⟨73, _⟩ => ⟨S99, .i1⟩
  | .hbm, ⟨74, _⟩ => ⟨S99x1x1, .i1⟩
  | .hbm, ⟨75, _⟩ => ⟨S_, .f32⟩
  | .hbm, ⟨76, _⟩ => ⟨S_, .f32⟩
  | .hbm, ⟨77, _⟩ => ⟨S99x512x1024, .i1⟩
  | .hbm, ⟨78, _⟩ => ⟨S99x512x1024, .f32⟩
  | .hbm, ⟨79, _⟩ => ⟨S99x512x1024, .f32⟩
  | .hbm, ⟨80, _⟩ => ⟨S50688x1024, .f32⟩
  | .hbm, ⟨81, _⟩ => ⟨S50688x1024, .bf16⟩
  | _, _ => ⟨S50688x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_c_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_cst_6 : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_8 : Ref sig .tc := ⟨.hbm, 59, rfl⟩
abbrev main_v39 : Ref sig .tc := ⟨.hbm, 60, rfl⟩
abbrev main_v40 : Ref sig .tc := ⟨.hbm, 61, rfl⟩
abbrev main_cst_9 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_10 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_11 : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩

abbrev nD : Nat := 1
abbrev τ : Topo := Topo.v7x

variable {F : FTy → Type} [FloatOps F]
-- ==== MixIn.lean ====
abbrev S8704x4096 : Shape := ⟨2, ![8704, 4096]⟩
abbrev S4096x10240 : Shape := ⟨2, ![4096, 10240]⟩
abbrev S4096 : Shape := ⟨1, ![4096]⟩
abbrev S1x4096 : Shape := ⟨2, ![1, 4096]⟩
abbrev S8704x10240 : Shape := ⟨2, ![8704, 10240]⟩
abbrev S512x4096 : Shape := ⟨2, ![512, 4096]⟩
abbrev S4096x1024 : Shape := ⟨2, ![4096, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S8704x4096, .f32⟩
  | .hbm, ⟨1, _⟩ => ⟨S4096x10240, .f32⟩
  | .hbm, ⟨2, _⟩ => ⟨S4096, .f32⟩
  | .hbm, ⟨3, _⟩ => ⟨S4096x10240, .bf16⟩
  | .hbm, ⟨4, _⟩ => ⟨S1x4096, .f32⟩
  | .hbm, ⟨5, _⟩ => ⟨S8704x10240, .f32⟩
  | .local _ .vmem, ⟨0, _⟩ => ⟨S512x4096, .f32⟩
  | .local _ .vmem, ⟨1, _⟩ => ⟨S512x4096, .f32⟩
  | .local _ .vmem, ⟨2, _⟩ => ⟨S4096x1024, .bf16⟩
  | .local _ .vmem, ⟨3, _⟩ => ⟨S4096x1024, .bf16⟩
  | .local _ .vmem, ⟨4, _⟩ => ⟨S1x4096, .f32⟩
  | .local _ .vmem, ⟨5, _⟩ => ⟨S512x1024, .f32⟩
  | .local _ .vmem, ⟨6, _⟩ => ⟨S512x1024, .f32⟩
  | .local _ .vmem, ⟨7, _⟩ => ⟨S512x4096, .bf16⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![17, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MixInRefIdeal.lean ====
abbrev S8704x4096 : Shape := ⟨2, ![8704, 4096]⟩
abbrev S4096x10240 : Shape := ⟨2, ![4096, 10240]⟩
abbrev S4096 : Shape := ⟨1, ![4096]⟩
abbrev S_ : Shape := ⟨0, ![]⟩
abbrev S8704 : Shape := ⟨1, ![8704]⟩
abbrev S8704x1 : Shape := ⟨2, ![8704, 1]⟩
abbrev S1x4096 : Shape := ⟨2, ![1, 4096]⟩
abbrev S8704x10240 : Shape := ⟨2, ![8704, 10240]⟩

abbrev nBuf : Space → Nat
  | .hbm => 20
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S4096x10240, .f32⟩
  | .hbm, ⟨2, _⟩ => ⟨S4096, .f32⟩
  | .hbm, ⟨3, _⟩ => ⟨S8704x4096, .f32⟩
  | .hbm, ⟨4, _⟩ => ⟨S_, .f32⟩
  | .hbm, ⟨5, _⟩ => ⟨S8704, .f32⟩
  | .hbm, ⟨6, _⟩ => ⟨S8704x1, .f32⟩
  | .hbm, ⟨7, _⟩ => ⟨S_, .f32⟩
  | .hbm, ⟨8, _⟩ => ⟨S8704x1, .f32⟩
  | .hbm, ⟨9, _⟩ => ⟨S8704x1, .f32⟩
  | .hbm, ⟨10, _⟩ => ⟨S_, .f32⟩
  | .hbm, ⟨11, _⟩ => ⟨S8704x1, .f32⟩
  | .hbm, ⟨12, _⟩ => ⟨S8704x1, .f32⟩
  | .hbm, ⟨13, _⟩ => ⟨S8704x1, .f32⟩
  | .hbm, ⟨14, _⟩ => ⟨S8704x4096, .f32⟩
  | .hbm, ⟨15, _⟩ => ⟨S8704x4096, .f32⟩
  | .hbm, ⟨16, _⟩ => ⟨S1x4096, .f32⟩
  | .hbm, ⟨17, _⟩ => ⟨S8704x4096, .f32⟩
  | .hbm, ⟨18, _⟩ => ⟨S8704x4096, .f32⟩
  | .hbm, ⟨19, _⟩ => ⟨S8704x10240, .f32⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== MixOut.lean ====
abbrev S8704x4096 : Shape := ⟨2, ![8704, 4096]⟩
abbrev S4096x4096 : Shape := ⟨2, ![4096, 4096]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8704x4096, .bf16⟩
  | .hbm, ⟨1, _⟩ => ⟨S4096x4096, .f32⟩
  | .hbm, ⟨2, _⟩ => ⟨S8704x4096, .f32⟩
  | .hbm, ⟨3, _⟩ => ⟨S4096x4096, .bf16⟩
  | .hbm, ⟨4, _⟩ => ⟨S8704x4096, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x4096, .bf16⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![17, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MixOutRefIdeal.lean ====
abbrev S8704x4096 : Shape := ⟨2, ![8704, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S4096x4096, .f32⟩
  | .hbm, ⟨2, _⟩ => ⟨S8704x4096, .f32⟩
  | .hbm, ⟨3, _⟩ => ⟨S8704x4096, .f32⟩
  | .hbm, ⟨4, _⟩ => ⟨S8704x4096, .f32⟩
  | .hbm, ⟨5, _⟩ => ⟨S8704x4096, .f32⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== AttIn.lean ====
abbrev S8704x4096 : Shape := ⟨2, ![8704, 4096]⟩
abbrev S4096x7744 : Shape := ⟨2, ![4096, 7744]⟩
abbrev S4096 : Shape := ⟨1, ![4096]⟩
abbrev S4096x64 : Shape := ⟨2, ![4096, 64]⟩
abbrev S4096x32 : Shape := ⟨2, ![4096, 32]⟩
abbrev S_ : Shape := ⟨0, ![]⟩
abbrev S4096x384 : Shape := ⟨2, ![4096, 384]⟩
abbrev S4096x1600 : Shape := ⟨2, ![4096, 1600]⟩
abbrev S4096x6144 : Shape := ⟨2, ![4096, 6144]⟩
abbrev S4096x8192 : Shape := ⟨2, ![4096, 8192]⟩
abbrev S1x4096 : Shape := ⟨2, ![1, 4096]⟩
abbrev S8704x8192 : Shape := ⟨2, ![8704, 8192]⟩
abbrev S512x4096 : Shape := ⟨2, ![512, 4096]⟩
abbrev S4096x1024 : Shape := ⟨2, ![4096, 1024]⟩
abbrev S512x1024 : Shape := ⟨2, ![512, 1024]⟩
abbrev S512 : Shape := ⟨1, ![512]⟩
abbrev S512x1 : Shape := ⟨2, ![512, 1]⟩
abbrev S8704x1600 : Shape := ⟨2, ![8704, 1600]⟩
abbrev S8704x64 : Shape := ⟨2, ![8704, 64]⟩
abbrev S8704x6144 : Shape := ⟨2, ![8704, 6144]⟩

abbrev nBuf : Space → Nat
  | .hbm => 18
  | .vmem => 8
  | .smem => 0
  | _ => 0

abbrev bufTy : (tb : Table) → Fin (tcTables nBuf tb) → BufTy
  | .hbm, ⟨0, _⟩ => ⟨S8704x4096, .f32⟩
  | .hbm, ⟨1, _⟩ => ⟨S4096x7744, .f32⟩
  | .hbm, ⟨2, _⟩ => ⟨S4096, .f32⟩
  | .hbm, ⟨3, _⟩ => ⟨S4096x64, .f32⟩
  | .hbm, ⟨4, _⟩ => ⟨S4096x32, .f32⟩
  | .hbm, ⟨5, _⟩ => ⟨S4096x32, .f32⟩
  | .hbm, ⟨6, _⟩ => ⟨S4096x64, .f32⟩
  | .hbm, ⟨7, _⟩ => ⟨S_, .f32⟩
  | .hbm, ⟨8, _⟩ => ⟨S4096x384, .f32⟩
  | .hbm, ⟨9, _⟩ => ⟨S4096x1600, .f32⟩
  | .hbm, ⟨10, _⟩ => ⟨S4096x6144, .f32⟩
  | .hbm, ⟨11, _⟩ => ⟨S4096x8192, .f32⟩
  | .hbm, ⟨12, _⟩ => ⟨S4096x8192, .bf16⟩
  | .hbm, ⟨13, _⟩ => ⟨S1x4096, .f32⟩
  | .hbm, ⟨14, _⟩ => ⟨S8704x8192, .f32⟩
  | .hbm, ⟨15, _⟩ => ⟨S8704x1600, .f32⟩
  | .hbm, ⟨16, _⟩ => ⟨S8704x64, .f32⟩
  | .hbm, ⟨17, _⟩ => ⟨S8704x6144, .f32⟩
  | .local _ .vmem, ⟨0, _⟩ => ⟨S512x4096, .f32⟩
  | .local _ .vmem, ⟨1, _⟩ => ⟨S512x4096, .f32⟩
  | .local _ .vmem, ⟨2, _⟩ => ⟨S4096x1024, .bf16⟩
  | .local _ .vmem, ⟨3, _⟩ => ⟨S4096x1024, .bf16⟩
  | .local _ .vmem, ⟨4, _⟩ => ⟨S1x4096, .f32⟩
  | .local _ .vmem, ⟨5, _⟩ => ⟨S512x1024, .f32⟩
  | .local _ .vmem, ⟨6, _⟩ => ⟨S512x1024, .f32⟩
  | .local _ .vmem, ⟨7, _⟩ => ⟨S512x4096, .bf16⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![17, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttInRefIdeal.lean ====
abbrev S8704x4096 : Shape := ⟨2, ![8704, 4096]⟩
abbrev S4096x7744 : Shape := ⟨2, ![4096, 7744]⟩
abbrev S4096 : Shape := ⟨1, ![4096]⟩
abbrev S_ : Shape := ⟨0, ![]⟩
abbrev S8704 : Shape := ⟨1, ![8704]⟩
abbrev S8704x1 : Shape := ⟨2, ![8704, 1]⟩
abbrev S1x4096 : Shape := ⟨2, ![1, 4096]⟩
abbrev S8704x7744 : Shape := ⟨2, ![8704, 7744]⟩
abbrev S8704x64 : Shape := ⟨2, ![8704, 64]⟩
abbrev S8704x1600 : Shape := ⟨2, ![8704, 1600]⟩
abbrev S8704x32 : Shape := ⟨2, ![8704, 32]⟩
abbrev S8704x6144 : Shape := ⟨2, ![8704, 6144]⟩

abbrev nBuf : Space → Nat
  | .hbm => 26
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S4096x7744, .f32⟩
  | .hbm, ⟨2, _⟩ => ⟨S4096, .f32⟩
  | .hbm, ⟨3, _⟩ => ⟨S8704x4096, .f32⟩
  | .hbm, ⟨4, _⟩ => ⟨S_, .f32⟩
  | .hbm, ⟨5, _⟩ => ⟨S8704, .f32⟩
  | .hbm, ⟨6, _⟩ => ⟨S8704x1, .f32⟩
  | .hbm, ⟨7, _⟩ => ⟨S_, .f32⟩
  | .hbm, ⟨8, _⟩ => ⟨S8704x1, .f32⟩
  | .hbm, ⟨9, _⟩ => ⟨S8704x1, .f32⟩
  | .hbm, ⟨10, _⟩ => ⟨S_, .f32⟩
  | .hbm, ⟨11, _⟩ => ⟨S8704x1, .f32⟩
  | .hbm, ⟨12, _⟩ => ⟨S8704x1, .f32⟩
  | .hbm, ⟨13, _⟩ => ⟨S8704x1, .f32⟩
  | .hbm, ⟨14, _⟩ => ⟨S8704x4096, .f32⟩
  | .hbm, ⟨15, _⟩ => ⟨S8704x4096, .f32⟩
  | .hbm, ⟨16, _⟩ => ⟨S1x4096, .f32⟩
  | .hbm, ⟨17, _⟩ => ⟨S8704x4096, .f32⟩
  | .hbm, ⟨18, _⟩ => ⟨S8704x4096, .f32⟩
  | .hbm, ⟨19, _⟩ => ⟨S8704x7744, .f32⟩
  | .hbm, ⟨20, _⟩ => ⟨S8704x64, .f32⟩
  | .hbm, ⟨21, _⟩ => ⟨S8704x1600, .f32⟩
  | .hbm, ⟨22, _⟩ => ⟨S8704x32, .f32⟩
  | .hbm, ⟨23, _⟩ => ⟨S8704x32, .f32⟩
  | .hbm, ⟨24, _⟩ => ⟨S8704x64, .f32⟩
  | .hbm, ⟨25, _⟩ => ⟨S8704x6144, .f32⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== MemKv.lean ====
abbrev S256x4096 : Shape := ⟨2, ![256, 4096]⟩
abbrev S4096x1024 : Shape := ⟨2, ![4096, 1024]⟩
abbrev S4096 : Shape := ⟨1, ![4096]⟩
abbrev S1x4096 : Shape := ⟨2, ![1, 4096]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩
abbrev S1x256x4x128 : Shape := ⟨4, ![1, 256, 4, 128]⟩

abbrev nBuf : Space → Nat
  | .hbm => 10
  | .vmem => 5
  | .smem => 0
  | _ => 0

abbrev bufTy : (tb : Table) → Fin (tcTables nBuf tb) → BufTy
  | .hbm, ⟨0, _⟩ => ⟨S256x4096, .f32⟩
  | .hbm, ⟨1, _⟩ => ⟨S4096x1024, .f32⟩
  | .hbm, ⟨2, _⟩ => ⟨S4096, .f32⟩
  | .hbm, ⟨3, _⟩ => ⟨S4096x1024, .bf16⟩
  | .hbm, ⟨4, _⟩ => ⟨S1x4096, .f32⟩
  | .hbm, ⟨5, _⟩ => ⟨S256x1024, .f32⟩
  | .hbm, ⟨6, _⟩ => ⟨S256x512, .f32⟩
  | .hbm, ⟨7, _⟩ => ⟨S1x256x4x128, .f32⟩
  | .hbm, ⟨8, _⟩ => ⟨S256x512, .f32⟩
  | .hbm, ⟨9, _⟩ => ⟨S1x256x4x128, .f32⟩
  | .local _ .vmem, ⟨0, _⟩ => ⟨S256x4096, .f32⟩
  | .local _ .vmem, ⟨1, _⟩ => ⟨S4096x1024, .bf16⟩
  | .local _ .vmem, ⟨2, _⟩ => ⟨S1x4096, .f32⟩
  | .local _ .vmem, ⟨3, _⟩ => ⟨S256x1024, .f32⟩
  | .local _ .vmem, ⟨4, _⟩ => ⟨S256x4096, .bf16⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]
-- ==== MemKvRefIdeal.lean ====
abbrev S256x4096 : Shape := ⟨2, ![256, 4096]⟩
abbrev S4096x1024 : Shape := ⟨2, ![4096, 1024]⟩
abbrev S4096 : Shape := ⟨1, ![4096]⟩
abbrev S_ : Shape := ⟨0, ![]⟩
abbrev S256 : Shape := ⟨1, ![256]⟩
abbrev S256x1 : Shape := ⟨2, ![256, 1]⟩
abbrev S1x4096 : Shape := ⟨2, ![1, 4096]⟩
abbrev S256x1024 : Shape := ⟨2, ![256, 1024]⟩
abbrev S1x256x2x4x128 : Shape := ⟨5, ![1, 256, 2, 4, 128]⟩
abbrev S1x256x1x4x128 : Shape := ⟨5, ![1, 256, 1, 4, 128]⟩
abbrev S1x256x4x128 : Shape := ⟨4, ![1, 256, 4, 128]⟩

abbrev nBuf : Space → Nat
  | .hbm => 25
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S4096x1024, .f32⟩
  | .hbm, ⟨2, _⟩ => ⟨S4096, .f32⟩
  | .hbm, ⟨3, _⟩ => ⟨S256x4096, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x4096, .f32⟩
  | .hbm, ⟨15, _⟩ => ⟨S256x4096, .f32⟩
  | .hbm, ⟨16, _⟩ => ⟨S1x4096, .f32⟩
  | .hbm, ⟨17, _⟩ => ⟨S256x4096, .f32⟩
  | .hbm, ⟨18, _⟩ => ⟨S256x4096, .f32⟩
  | .hbm, ⟨19, _⟩ => ⟨S256x1024, .f32⟩
  | .hbm, ⟨20, _⟩ => ⟨S1x256x2x4x128, .f32⟩
  | .hbm, ⟨21, _⟩ => ⟨S1x256x1x4x128, .f32⟩
  | .hbm, ⟨22, _⟩ => ⟨S1x256x4x128, .f32⟩
  | .hbm, ⟨23, _⟩ => ⟨S1x256x1x4x128, .f32⟩
  | .hbm, ⟨24, _⟩ => ⟨S1x256x4x128, .f32⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== MemQ.lean ====
abbrev S8704x4096 : Shape := ⟨2, ![8704, 4096]⟩
abbrev S4096x512 : Shape := ⟨2, ![4096, 512]⟩
abbrev S4096 : Shape := ⟨1, ![4096]⟩
abbrev S1x4096 : Shape := ⟨2, ![1, 4096]⟩
abbrev S8704x512 : Shape := ⟨2, ![8704, 512]⟩
abbrev S512x4096 : Shape := ⟨2, ![512, 4096]⟩
abbrev S512x512 : Shape := ⟨2, ![512, 512]⟩
abbrev S512 : Shape := ⟨1, ![512]⟩
abbrev S512x1 : Shape := ⟨2, ![512, 1]⟩

abbrev nBuf : Space → Nat
  | .hbm => 6
  | .vmem => 7
  | .smem => 0
  | _ => 0

abbrev bufTy : (tb : Table) → Fin (tcTables nBuf tb) → BufTy
  | .hbm, ⟨0, _⟩ => ⟨S8704x4096, .f32⟩
  | .hbm, ⟨1, _⟩ => ⟨S4096x512, .f32⟩
  | .hbm, ⟨2, _⟩ => ⟨S4096, .f32⟩
  | .hbm, ⟨3, _⟩ => ⟨S4096x512, .bf16⟩
  | .hbm, ⟨4, _⟩ => ⟨S1x4096, .f32⟩
  | .hbm, ⟨5, _⟩ => ⟨S8704x512, .bf16⟩
  | .local _ .vmem, ⟨0, _⟩ => ⟨S512x4096, .f32⟩
  | .local _ .vmem, ⟨1, _⟩ => ⟨S512x4096, .f32⟩
  | .local _ .vmem, ⟨2, _⟩ => ⟨S4096x512, .bf16⟩
  | .local _ .vmem, ⟨3, _⟩ => ⟨S1x4096, .f32⟩
  | .local _ .vmem, ⟨4, _⟩ => ⟨S512x512, .bf16⟩
  | .local _ .vmem, ⟨5, _⟩ => ⟨S512x512, .bf16⟩
  | .local _ .vmem, ⟨6, _⟩ => ⟨S512x4096, .bf16⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![17, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MemQRefIdeal.lean ====
abbrev S8704x4096 : Shape := ⟨2, ![8704, 4096]⟩
abbrev S4096x512 : Shape := ⟨2, ![4096, 512]⟩
abbrev S4096 : Shape := ⟨1, ![4096]⟩
abbrev S_ : Shape := ⟨0, ![]⟩
abbrev S8704 : Shape := ⟨1, ![8704]⟩
abbrev S8704x1 : Shape := ⟨2, ![8704, 1]⟩
abbrev S1x4096 : Shape := ⟨2, ![1, 4096]⟩
abbrev S8704x512 : Shape := ⟨2, ![8704, 512]⟩

abbrev nBuf : Space → Nat
  | .hbm => 21
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S4096x512, .f32⟩
  | .hbm, ⟨2, _⟩ => ⟨S4096, .f32⟩
  | .hbm, ⟨3, _⟩ => ⟨S8704x4096, .f32⟩
  | .hbm, ⟨4, _⟩ => ⟨S_, .f32⟩
  | .hbm, ⟨5, _⟩ => ⟨S8704, .f32⟩
  | .hbm, ⟨6, _⟩ => ⟨S8704x1, .f32⟩
  | .hbm, ⟨7, _⟩ => ⟨S_, .f32⟩
  | .hbm, ⟨8, _⟩ => ⟨S8704x1, .f32⟩
  | .hbm, ⟨9, _⟩ => ⟨S8704x1, .f32⟩
  | .hbm, ⟨10, _⟩ => ⟨S_, .f32⟩
  | .hbm, ⟨11, _⟩ => ⟨S8704x1, .f32⟩
  | .hbm, ⟨12, _⟩ => ⟨S8704x1, .f32⟩
  | .hbm, ⟨13, _⟩ => ⟨S8704x1, .f32⟩
  | .hbm, ⟨14, _⟩ => ⟨S8704x4096, .f32⟩
  | .hbm, ⟨15, _⟩ => ⟨S8704x4096, .f32⟩
  | .hbm, ⟨16, _⟩ => ⟨S1x4096, .f32⟩
  | .hbm, ⟨17, _⟩ => ⟨S8704x4096, .f32⟩
  | .hbm, ⟨18, _⟩ => ⟨S8704x4096, .f32⟩
  | .hbm, ⟨19, _⟩ => ⟨S8704x512, .f32⟩
  | .hbm, ⟨20, _⟩ => ⟨S8704x512, .bf16⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== MemOut.lean ====
abbrev S8704x512 : Shape := ⟨2, ![8704, 512]⟩
abbrev S512x4096 : Shape := ⟨2, ![512, 4096]⟩
abbrev S8704x4096 : Shape := ⟨2, ![8704, 4096]⟩
abbrev S512x512 : Shape := ⟨2, ![512, 512]⟩
abbrev S512x1024 : Shape := ⟨2, ![512, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8704x512, .bf16⟩
  | .hbm, ⟨1, _⟩ => ⟨S512x4096, .f32⟩
  | .hbm, ⟨2, _⟩ => ⟨S8704x4096, .f32⟩
  | .hbm, ⟨3, _⟩ => ⟨S512x4096, .bf16⟩
  | .hbm, ⟨4, _⟩ => ⟨S8704x4096, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x512, .bf16⟩
  | _, _ => ⟨S8704x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![17, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MemOutRefIdeal.lean ====
abbrev S8704x512 : Shape := ⟨2, ![8704, 512]⟩
abbrev S512x4096 : Shape := ⟨2, ![512, 4096]⟩
abbrev S8704x4096 : Shape := ⟨2, ![8704, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8704x512, .bf16⟩
  | .hbm, ⟨1, _⟩ => ⟨S512x4096, .f32⟩
  | .hbm, ⟨2, _⟩ => ⟨S8704x4096, .f32⟩
  | .hbm, ⟨3, _⟩ => ⟨S8704x512, .f32⟩
  | .hbm, ⟨4, _⟩ => ⟨S8704x4096, .f32⟩
  | .hbm, ⟨5, _⟩ => ⟨S8704x4096, .f32⟩
  | _, _ => ⟨S8704x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Glu.lean ====
abbrev S8704x2048 : Shape := ⟨2, ![8704, 2048]⟩
abbrev S2048x2048 : Shape := ⟨2, ![2048, 2048]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8704x2048, .f32⟩
  | .hbm, ⟨1, _⟩ => ⟨S2048x2048, .f32⟩
  | .hbm, ⟨2, _⟩ => ⟨S2048x2048, .bf16⟩
  | .hbm, ⟨3, _⟩ => ⟨S8704x2048, .bf16⟩
  | .local _ .vmem, ⟨0, _⟩ => ⟨S512x2048, .f32⟩
  | .local _ .vmem, ⟨1, _⟩ => ⟨S512x2048, .f32⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x2048, .bf16⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![17, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GluRefIdeal.lean ====
abbrev S8704x2048 : Shape := ⟨2, ![8704, 2048]⟩
abbrev S2048x2048 : Shape := ⟨2, ![2048, 2048]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S2048x2048, .f32⟩
  | .hbm, ⟨2, _⟩ => ⟨S8704x2048, .f32⟩
  | .hbm, ⟨3, _⟩ => ⟨S8704x2048, .f32⟩
  | .hbm, ⟨4, _⟩ => ⟨S8704x2048, .f32⟩
  | .hbm, ⟨5, _⟩ => ⟨S_, .f32⟩
  | .hbm, ⟨6, _⟩ => ⟨S8704x2048, .f32⟩
  | .hbm, ⟨7, _⟩ => ⟨S8704x2048, .f32⟩
  | .hbm, ⟨8, _⟩ => ⟨S_, .f32⟩
  | .hbm, ⟨9, _⟩ => ⟨S8704x2048, .f32⟩
  | .hbm, ⟨10, _⟩ => ⟨S8704x2048, .f32⟩
  | .hbm, ⟨11, _⟩ => ⟨S8704x2048, .f32⟩
  | .hbm, ⟨12, _⟩ => ⟨S8704x2048, .bf16⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== LatPrompt.lean ====
abbrev S8704x512 : Shape := ⟨2, ![8704, 512]⟩
abbrev S512x4096 : Shape := ⟨2, ![512, 4096]⟩
abbrev S8192x4096 : Shape := ⟨2, ![8192, 4096]⟩
abbrev S512x512 : Shape := ⟨2, ![512, 512]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8704x512, .f32⟩
  | .hbm, ⟨1, _⟩ => ⟨S512x4096, .f32⟩
  | .hbm, ⟨2, _⟩ => ⟨S512x4096, .bf16⟩
  | .hbm, ⟨3, _⟩ => ⟨S8192x4096, .bf16⟩
  | .local _ .vmem, ⟨0, _⟩ => ⟨S512x512, .f32⟩
  | .local _ .vmem, ⟨1, _⟩ => ⟨S512x512, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x512, .bf16⟩
  | _, _ => ⟨S8704x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== LatPromptRefIdeal.lean ====
abbrev S8704x512 : Shape := ⟨2, ![8704, 512]⟩
abbrev S512x4096 : Shape := ⟨2, ![512, 4096]⟩
abbrev S8192x512 : Shape := ⟨2, ![8192, 512]⟩
abbrev S8192x4096 : Shape := ⟨2, ![8192, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8704x512, .f32⟩
  | .hbm, ⟨1, _⟩ => ⟨S512x4096, .f32⟩
  | .hbm, ⟨2, _⟩ => ⟨S8192x512, .f32⟩
  | .hbm, ⟨3, _⟩ => ⟨S8192x4096, .f32⟩
  | .hbm, ⟨4, _⟩ => ⟨S8192x4096, .bf16⟩
  | _, _ => ⟨S8704x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== LatSample.lean ====
abbrev S16896x512 : Shape := ⟨2, ![16896, 512]⟩
abbrev S512x4096 : Shape := ⟨2, ![512, 4096]⟩
abbrev S16896x4096 : Shape := ⟨2, ![16896, 4096]⟩
abbrev S528x512 : Shape := ⟨2, ![528, 512]⟩
abbrev S512x1024 : Shape := ⟨2, ![512, 1024]⟩
abbrev S528x1024 : Shape := ⟨2, ![528, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16896x512, .f32⟩
  | .hbm, ⟨1, _⟩ => ⟨S512x4096, .f32⟩
  | .hbm, ⟨2, _⟩ => ⟨S512x4096, .bf16⟩
  | .hbm, ⟨3, _⟩ => ⟨S16896x4096, .bf16⟩
  | .local _ .vmem, ⟨0, _⟩ => ⟨S528x512, .f32⟩
  | .local _ .vmem, ⟨1, _⟩ => ⟨S528x512, .f32⟩
  | .local _ .vmem, ⟨2, _⟩ => ⟨S512x1024, .bf16⟩
  | .local _ .vmem, ⟨3, _⟩ => ⟨S512x1024, .bf16⟩
  | .local _ .vmem, ⟨4, _⟩ => ⟨S528x1024, .bf16⟩
  | .local _ .vmem, ⟨5, _⟩ => ⟨S528x1024, .bf16⟩
  | .local _ .vmem, ⟨6, _⟩ => ⟨S528x512, .bf16⟩
  | _, _ => ⟨S16896x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S528x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S528x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== LatSampleRefIdeal.lean ====
abbrev S16896x512 : Shape := ⟨2, ![16896, 512]⟩
abbrev S512x4096 : Shape := ⟨2, ![512, 4096]⟩
abbrev S16896x4096 : Shape := ⟨2, ![16896, 4096]⟩

abbrev nBuf : Space → Nat
  | .hbm => 4
  | .vmem => 0
  | .smem => 0
  | _ => 0

abbrev bufTy : (tb : Table) → Fin (tcTables nBuf tb) → BufTy
  | .hbm, ⟨0, _⟩ => ⟨S16896x512, .f32⟩
  | .hbm, ⟨1, _⟩ => ⟨S512x4096, .f32⟩
  | .hbm, ⟨2, _⟩ => ⟨S16896x4096, .f32⟩
  | .hbm, ⟨3, _⟩ => ⟨S16896x4096, .bf16⟩
  | _, _ => ⟨S16896x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== FinalNorm.lean ====
abbrev S8704x4096 : Shape := ⟨2, ![8704, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩
abbrev S8192x4096 : Shape := ⟨2, ![8192, 4096]⟩
abbrev S1x8192x4096 : Shape := ⟨3, ![1, 8192, 4096]⟩
abbrev S512x4096 : Shape := ⟨2, ![512, 4096]⟩
abbrev S16x32x4096 : Shape := ⟨3, ![16, 32, 4096]⟩

abbrev nBuf : Space → Nat
  | .hbm => 8
  | .vmem => 5
  | .smem => 0
  | _ => 0

abbrev bufTy : (tb : Table) → Fin (tcTables nBuf tb) → BufTy
  | .hbm, ⟨0, _⟩ => ⟨S8704x4096, .f32⟩
  | .hbm, ⟨1, _⟩ => ⟨S4096, .f32⟩
  | .hbm, ⟨2, _⟩ => ⟨S1x4096, .f32⟩
  | .hbm, ⟨3, _⟩ => ⟨S8704x4096, .f32⟩
  | .hbm, ⟨4, _⟩ => ⟨S8192x4096, .f32⟩
  | .hbm, ⟨5, _⟩ => ⟨S1x8192x4096, .f32⟩
  | .hbm, ⟨6, _⟩ => ⟨S512x4096, .f32⟩
  | .hbm, ⟨7, _⟩ => ⟨S16x32x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalNormRefIdeal.lean ====
abbrev S8704x4096 : Shape := ⟨2, ![8704, 4096]⟩
abbrev S4096 : Shape := ⟨1, ![4096]⟩
abbrev S8192x4096 : Shape := ⟨2, ![8192, 4096]⟩
abbrev S1x8192x4096 : Shape := ⟨3, ![1, 8192, 4096]⟩
abbrev S_ : Shape := ⟨0, ![]⟩
abbrev S1x8192 : Shape := ⟨2, ![1, 8192]⟩
abbrev S1x8192x1 : Shape := ⟨3, ![1, 8192, 1]⟩
abbrev S1x1x4096 : Shape := ⟨3, ![1, 1, 4096]⟩
abbrev S512x4096 : Shape := ⟨2, ![512, 4096]⟩
abbrev S16x32x4096 : Shape := ⟨3, ![16, 32, 4096]⟩
abbrev S16x32 : Shape := ⟨2, ![16, 32]⟩
abbrev S16x32x1 : Shape := ⟨3, ![16, 32, 1]⟩

abbrev nBuf : Space → Nat
  | .hbm => 38
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S4096, .f32⟩
  | .hbm, ⟨2, _⟩ => ⟨S8192x4096, .f32⟩
  | .hbm, ⟨3, _⟩ => ⟨S1x8192x4096, .f32⟩
  | .hbm, ⟨4, _⟩ => ⟨S1x8192x4096, .f32⟩
  | .hbm, ⟨5, _⟩ => ⟨S_, .f32⟩
  | .hbm, ⟨6, _⟩ => ⟨S1x8192, .f32⟩
  | .hbm, ⟨7, _⟩ => ⟨S1x8192x1, .f32⟩
  | .hbm, ⟨8, _⟩ => ⟨S_, .f32⟩
  | .hbm, ⟨9, _⟩ => ⟨S1x8192x1, .f32⟩
  | .hbm, ⟨10, _⟩ => ⟨S1x8192x1, .f32⟩
  | .hbm, ⟨11, _⟩ => ⟨S_, .f32⟩
  | .hbm, ⟨12, _⟩ => ⟨S1x8192x1, .f32⟩
  | .hbm, ⟨13, _⟩ => ⟨S1x8192x1, .f32⟩
  | .hbm, ⟨14, _⟩ => ⟨S1x8192x1, .f32⟩
  | .hbm, ⟨15, _⟩ => ⟨S1x8192x4096, .f32⟩
  | .hbm, ⟨16, _⟩ => ⟨S1x8192x4096, .f32⟩
  | .hbm, ⟨17, _⟩ => ⟨S1x1x4096, .f32⟩
  | .hbm, ⟨18, _⟩ => ⟨S1x8192x4096, .f32⟩
  | .hbm, ⟨19, _⟩ => ⟨S1x8192x4096, .f32⟩
  | .hbm, ⟨20, _⟩ => ⟨S512x4096, .f32⟩
  | .hbm, ⟨21, _⟩ => ⟨S16x32x4096, .f32⟩
  | .hbm, ⟨22, _⟩ => ⟨S16x32x4096, .f32⟩
  | .hbm, ⟨23, _⟩ => ⟨S_, .f32⟩
  | .hbm, ⟨24, _⟩ => ⟨S16x32, .f32⟩
  | .hbm, ⟨25, _⟩ => ⟨S16x32x1, .f32⟩
  | .hbm, ⟨26, _⟩ => ⟨S_, .f32⟩
  | .hbm, ⟨27, _⟩ => ⟨S16x32x1, .f32⟩
  | .hbm, ⟨28, _⟩ => ⟨S16x32x1, .f32⟩
  | .hbm, ⟨29, _⟩ => ⟨S_, .f32⟩
  | .hbm, ⟨30, _⟩ => ⟨S16x32x1, .f32⟩
  | .hbm, ⟨31, _⟩ => ⟨S16x32x1, .f32⟩
  | .hbm, ⟨32, _⟩ => ⟨S16x32x1, .f32⟩
  | .hbm, ⟨33, _⟩ => ⟨S16x32x4096, .f32⟩
  | .hbm, ⟨34, _⟩ => ⟨S16x32x4096, .f32⟩
  | .hbm, ⟨35, _⟩ => ⟨S1x1x4096, .f32⟩
  | .hbm, ⟨36, _⟩ => ⟨S16x32x4096, .f32⟩
  | .hbm, ⟨37, _⟩ => ⟨S16x32x4096, .f32⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== AttPost.lean ====
abbrev S8704x8192 : Shape := ⟨2, ![8704, 8192]⟩
abbrev S512 : Shape := ⟨1, ![512]⟩
abbrev S8704x128 : Shape := ⟨2, ![8704, 128]⟩
abbrev S1x512 : Shape := ⟨2, ![1, 512]⟩
abbrev S8704x512 : Shape := ⟨2, ![8704, 512]⟩
abbrev S512x512 : Shape := ⟨2, ![512, 512]⟩
abbrev S512x128 : Shape := ⟨2, ![512, 128]⟩
abbrev S512x1 : Shape := ⟨2, ![512, 1]⟩
abbrev S8704x64 : Shape := ⟨2, ![8704, 64]⟩

abbrev nBuf : Space → Nat
  | .hbm => 8
  | .vmem => 13
  | .smem => 0
  | _ => 0

abbrev bufTy : (tb : Table) → Fin (tcTables nBuf tb) → BufTy
  | .hbm, ⟨0, _⟩ => ⟨S8704x8192, .f32⟩
  | .hbm, ⟨1, _⟩ => ⟨S512, .f32⟩
  | .hbm, ⟨2, _⟩ => ⟨S8704x128, .f32⟩
  | .hbm, ⟨3, _⟩ => ⟨S1x512, .f32⟩
  | .hbm, ⟨4, _⟩ => ⟨S8704x512, .f32⟩
  | .hbm, ⟨5, _⟩ => ⟨S8704x128, .f32⟩
  | .hbm, ⟨6, _⟩ => ⟨S8704x128, .bf16⟩
  | .hbm, ⟨7, _⟩ => ⟨S8704x64, .f32⟩
  | .local _ .vmem, ⟨0, _⟩ => ⟨S512x512, .f32⟩
  | .local _ .vmem, ⟨1, _⟩ => ⟨S512x512, .f32⟩
  | .local _ .vmem, ⟨2, _⟩ => ⟨S512x128, .f32⟩
  | .local _ .vmem, ⟨3, _⟩ => ⟨S512x128, .f32⟩
  | .local _ .vmem, ⟨4, _⟩ => ⟨S1x512, .f32⟩
  | .local _ .vmem, ⟨5, _⟩ => ⟨S512x128, .f32⟩
  | .local _ .vmem, ⟨6, _⟩ => ⟨S512x128, .f32⟩
  | .local _ .vmem, ⟨7, _⟩ => ⟨S512x512, .f32⟩
  | .local _ .vmem, ⟨8, _⟩ => ⟨S512x512, .f32⟩
  | .local _ .vmem, ⟨9, _⟩ => ⟨S512x128, .f32⟩
  | .local _ .vmem, ⟨10, _⟩ => ⟨S512x128, .f32⟩
  | .local _ .vmem, ⟨11, _⟩ => ⟨S512x128, .bf16⟩
  | .local _ .vmem, ⟨12, _⟩ => ⟨S512x128, .bf16⟩
  | _, _ => ⟨S8704x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AttPostRefIdeal.lean ====
abbrev S8704x8192 : Shape := ⟨2, ![8704, 8192]⟩
abbrev S512 : Shape := ⟨1, ![512]⟩
abbrev S8704x128 : Shape := ⟨2, ![8704, 128]⟩
abbrev S8704x512 : Shape := ⟨2, ![8704, 512]⟩
abbrev S_ : Shape := ⟨0, ![]⟩
abbrev S8704 : Shape := ⟨1, ![8704]⟩
abbrev S8704x1 : Shape := ⟨2, ![8704, 1]⟩
abbrev S1x512 : Shape := ⟨2, ![1, 512]⟩
abbrev S8704x64 : Shape := ⟨2, ![8704, 64]⟩

abbrev nBuf : Space → Nat
  | .hbm => 31
  | .vmem => 0
  | .smem => 0
  | _ => 0

abbrev bufTy : (tb : Table) → Fin (tcTables nBuf tb) → BufTy
  | .hbm, ⟨0, _⟩ => ⟨S8704x8192, .f32⟩
  | .hbm, ⟨1, _⟩ => ⟨S512, .f32⟩
  | .hbm, ⟨2, _⟩ => ⟨S8704x128, .f32⟩
  | .hbm, ⟨3, _⟩ => ⟨S8704x512, .f32⟩
  | .hbm, ⟨4, _⟩ => ⟨S8704x512, .f32⟩
  | .hbm, ⟨5, _⟩ => ⟨S_, .f32⟩
  | .hbm, ⟨6, _⟩ => ⟨S8704, .f32⟩
  | .hbm, ⟨7, _⟩ => ⟨S8704x1, .f32⟩
  | .hbm, ⟨8, _⟩ => ⟨S_, .f32⟩
  | .hbm, ⟨9, _⟩ => ⟨S8704x1, .f32⟩
  | .hbm, ⟨10, _⟩ => ⟨S8704x1, .f32⟩
  | .hbm, ⟨11, _⟩ => ⟨S_, .f32⟩
  | .hbm, ⟨12, _⟩ => ⟨S8704x1, .f32⟩
  | .hbm, ⟨13, _⟩ => ⟨S8704x1, .f32⟩
  | .hbm, ⟨14, _⟩ => ⟨S8704x1, .f32⟩
  | .hbm, ⟨15, _⟩ => ⟨S8704x512, .f32⟩
  | .hbm, ⟨16, _⟩ => ⟨S8704x512, .f32⟩
  | .hbm, ⟨17, _⟩ => ⟨S1x512, .f32⟩
  | .hbm, ⟨18, _⟩ => ⟨S8704x512, .f32⟩
  | .hbm, ⟨19, _⟩ => ⟨S8704x512, .f32⟩
  | .hbm, ⟨20, _⟩ => ⟨S8704x64, .f32⟩
  | .hbm, ⟨21, _⟩ => ⟨S8704x64, .f32⟩
  | .hbm, ⟨22, _⟩ => ⟨S8704x64, .f32⟩
  | .hbm, ⟨23, _⟩ => ⟨S8704x64, .f32⟩
  | .hbm, ⟨24, _⟩ => ⟨S8704x64, .f32⟩
  | .hbm, ⟨25, _⟩ => ⟨S8704x64, .f32⟩
  | .hbm, ⟨26, _⟩ => ⟨S8704x64, .f32⟩
  | .hbm, ⟨27, _⟩ => ⟨S8704x64, .bf16⟩
  | .hbm, ⟨28, _⟩ => ⟨S_, .bf16⟩
  | .hbm, ⟨29, _⟩ => ⟨S8704x64, .bf16⟩
  | .hbm, ⟨30, _⟩ => ⟨S8704x128, .bf16⟩
  | _, _ => ⟨S8704x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== AttUq.lean ====
abbrev S8704x8192 : Shape := ⟨2, ![8704, 8192]⟩
abbrev S1024x4096 : Shape := ⟨2, ![1024, 4096]⟩
abbrev S1024 : Shape := ⟨1, ![1024]⟩
abbrev S1x1024 : Shape := ⟨2, ![1, 1024]⟩
abbrev S8704x4096 : Shape := ⟨2, ![8704, 4096]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S8704x8192, .f32⟩
  | .hbm, ⟨1, _⟩ => ⟨S1024x4096, .f32⟩
  | .hbm, ⟨2, _⟩ => ⟨S1024, .f32⟩
  | .hbm, ⟨3, _⟩ => ⟨S1024x4096, .bf16⟩
  | .hbm, ⟨4, _⟩ => ⟨S1x1024, .f32⟩
  | .hbm, ⟨5, _⟩ => ⟨S8704x4096, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | _, _ => ⟨S8704x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![17, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttUqRefIdeal.lean ====
abbrev S8704x8192 : Shape := ⟨2, ![8704, 8192]⟩
abbrev S1024x4096 : Shape := ⟨2, ![1024, 4096]⟩
abbrev S1024 : Shape := ⟨1, ![1024]⟩
abbrev S8704x1024 : Shape := ⟨2, ![8704, 1024]⟩
abbrev S_ : Shape := ⟨0, ![]⟩
abbrev S8704 : Shape := ⟨1, ![8704]⟩
abbrev S8704x1 : Shape := ⟨2, ![8704, 1]⟩
abbrev S1x1024 : Shape := ⟨2, ![1, 1024]⟩
abbrev S8704x4096 : Shape := ⟨2, ![8704, 4096]⟩

abbrev nBuf : Space → Nat
  | .hbm => 21
  | .vmem => 0
  | .smem => 0
  | _ => 0

abbrev bufTy : (tb : Table) → Fin (tcTables nBuf tb) → BufTy
  | .hbm, ⟨0, _⟩ => ⟨S8704x8192, .f32⟩
  | .hbm, ⟨1, _⟩ => ⟨S1024x4096, .f32⟩
  | .hbm, ⟨2, _⟩ => ⟨S1024, .f32⟩
  | .hbm, ⟨3, _⟩ => ⟨S8704x1024, .f32⟩
  | .hbm, ⟨4, _⟩ => ⟨S8704x1024, .f32⟩
  | .hbm, ⟨5, _⟩ => ⟨S_, .f32⟩
  | .hbm, ⟨6, _⟩ => ⟨S8704, .f32⟩
  | .hbm, ⟨7, _⟩ => ⟨S8704x1, .f32⟩
  | .hbm, ⟨8, _⟩ => ⟨S_, .f32⟩
  | .hbm, ⟨9, _⟩ => ⟨S8704x1, .f32⟩
  | .hbm, ⟨10, _⟩ => ⟨S8704x1, .f32⟩
  | .hbm, ⟨11, _⟩ => ⟨S_, .f32⟩
  | .hbm, ⟨12, _⟩ => ⟨S8704x1, .f32⟩
  | .hbm, ⟨13, _⟩ => ⟨S8704x1, .f32⟩
  | .hbm, ⟨14, _⟩ => ⟨S8704x1, .f32⟩
  | .hbm, ⟨15, _⟩ => ⟨S8704x1024, .f32⟩
  | .hbm, ⟨16, _⟩ => ⟨S8704x1024, .f32⟩
  | .hbm, ⟨17, _⟩ => ⟨S1x1024, .f32⟩
  | .hbm, ⟨18, _⟩ => ⟨S8704x1024, .f32⟩
  | .hbm, ⟨19, _⟩ => ⟨S8704x1024, .f32⟩
  | .hbm, ⟨20, _⟩ => ⟨S8704x4096, .f32⟩
  | _, _ => ⟨S8704x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.Softmax.lean ====
/- Sums and softmax over finite extended reals: what an attention needs besides its reads.
   A kernel divides the weighted sum of the values by the sum of the weights; the reference divides every weight first.
   Over real weights the two are one number. -/
module

public import Idealize.ShloMosaic.Lib.Pipeline.ValueKit

@[expose] public section

set_option maxRecDepth 16384

noncomputable section

namespace Cert.Attention

open Idealize.ShloMosaic Idealize.ShloMosaic.TcCoe Idealize.SL.Sem

/-- A sum of reals is a real, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of extended reals each of which is a real. -/
theorem sum_real {n : Nat} {f : Fin n → EReal} {g : Fin n → ℝ} (h : ∀ i, f i = (g i : EReal)) :
    ∑ i, f i = ((∑ i, g i : ℝ) : EReal) := by
  rw [coe_sum]
  exact Finset.sum_congr rfl fun i _ => h i

/-- The pattern of −∞ reads as −∞. -/
theorem ofBits_negInf : Ideal.ofBits .f32 0xFF800000#32 = ⊥ := by simp [Ideal.ofBits, Ideal.ieee]

/-- The pattern of +∞ reads as +∞. -/
theorem ofBits_posInf : Ideal.ofBits .f32 0x7F800000#32 = ⊤ := by simp [Ideal.ofBits, Ideal.ieee]

/-- The largest of finitely many reals, at least one, is a real. -/
theorem fold_max_real {n : Nat} (hn : 0 < n) {s : Fin n → EReal} {g : Fin n → ℝ} (h : ∀ i, s i = (g i : EReal)) :
    ∃ M : ℝ, Finset.univ.fold max ⊥ s = (M : EReal) := by
  have hne : (Finset.univ : Finset (Fin n)).Nonempty := ⟨⟨0, hn⟩, Finset.mem_univ _⟩
  obtain ⟨i, _, hi⟩ := Finset.exists_mem_eq_sup Finset.univ hne s
  exact ⟨g i, by rw [← h i, ← hi]; rfl⟩

/-- Dividing a weighted sum by the sum of its (real, positive) weights, before or after summing. -/
theorem div_sum {n : Nat} (hn : 0 < n) {p v : Fin n → EReal} {p' v' : Fin n → ℝ} (hp : ∀ j, p j = (p' j : EReal))
    (hpos : ∀ j, 0 < p' j) (hv : ∀ j, v j = (v' j : EReal)) :
    Ideal.div (∑ j, p j * v j) (∑ j, p j) = ∑ j, v j * Ideal.div (p j) (∑ k, p k) := by
  have hne : (Finset.univ : Finset (Fin n)).Nonempty := ⟨⟨0, hn⟩, Finset.mem_univ _⟩
  have hL : (0 : ℝ) < ∑ j, p' j := Finset.sum_pos (fun j _ => hpos j) hne
  rw [sum_real hp, Ideal.div_coe hL.ne', sum_real (g := fun j => p' j * v' j) (fun j => by rw [hp, hv, EReal.coe_mul]),
    ← EReal.coe_mul, Finset.sum_mul, coe_sum]
  refine Finset.sum_congr rfl fun j _ => ?_
  rw [Ideal.div_coe hL.ne', hp, hv, ← EReal.coe_mul, ← EReal.coe_mul]
  congr 1
  ring

/-- Softmax of real scores: the weights over their sum after the weighted sum, against each weight over the sum. -/
theorem softmax_sum {n : Nat} (hn : 0 < n) {s v : Fin n → EReal} {s' v' : Fin n → ℝ} (hs : ∀ j, s j = (s' j : EReal))
    (hv : ∀ j, v j = (v' j : EReal)) :
    Ideal.div (∑ j, Ideal.exp (s j - Finset.univ.fold max ⊥ s) * v j) (∑ j, Ideal.exp (s j - Finset.univ.fold max ⊥ s))
      = ∑ j, v j * Ideal.div (Ideal.exp (s j - Finset.univ.fold max ⊥ s)) (∑ k, Ideal.exp (s k - Finset.univ.fold max ⊥ s)) := by
  obtain ⟨M, hM⟩ := fold_max_real hn hs
  rw [hM]
  exact div_sum hn (p' := fun j => Real.exp (s' j - M)) (fun j => by rw [hs, ← EReal.coe_sub, Ideal.exp_coe])
    (fun j => Real.exp_pos _) hv

/-- An extended real below +∞ in size is a real. -/
theorem real_of_lt {x : EReal} (h : Ideal.cmp .olt (max x (-x)) ⊤ = 1#1) : ∃ r : ℝ, x = (r : EReal) := by
  have hlt : max x (-x) < ⊤ := by
    by_contra hn
    simp [Ideal.cmp, hn] at h
  rw [max_lt_iff] at hlt
  induction x with
  | bot => exact absurd hlt.2 (by simp)
  | top => exact absurd hlt.1 (by simp)
  | coe r => exact ⟨r, rfl⟩

end Cert.Attention

end
-- ==== Proof.AttnRef.lean ====
/- The reference's attention, its scores named, read at an index. -/
module

public import proofs.«01_k».proof.Proof.Gen.AttnRefIdeal.Run
public import proofs.«01_k».proof.Proof.Softmax

@[expose] public section

set_option maxRecDepth 16384

noncomputable section

namespace Cert.Attention

open Cert.AttnRefIdeal Cert.AttnRefIdeal.Gen Idealize.ShloMosaic Idealize.ShloMosaic.TcCoe Idealize.SL.Sem

/-- The queries: their first 128 coordinates as they come, the last 64 rotated. -/
def queries (q : FVec Ideal S16x32x4096 .f32) (cs : FVec Ideal S16x32x128 .f32) : FVec Ideal S16x32x16x192 .f32 :=
  let r := shapeCast S16x32x16x128 (extractStridedSlice S16x32x2048 ![0, 0, 2048] q slices_S16x32x4096_S16x32x2048_0_0_2048) shapeCasts_S16x32x2048_S16x32x16x128
  Cert.AttnRefIdeal.Value.fn_main_v15
    (shapeCast S16x32x16x128 (extractStridedSlice S16x32x2048 ![0, 0, 0] q slices_S16x32x4096_S16x32x2048_0_0_0) shapeCasts_S16x32x2048_S16x32x16x128)
    (addf
      (mulf (extractStridedSlice S16x32x16x64 ![0, 0, 0, 0] r slices_S16x32x16x128_S16x32x16x64_0_0_0_0)
        (broadcastInDim S16x32x16x64 ![0, 1, 2, 3] bcast_S16x32x1x64_S16x32x16x64_0_1_2_3 (broadcastInDim S16x32x1x64 ![0, 1, 3] bcast_S16x32x64_S16x32x1x64_0_1_3 (extractStridedSlice S16x32x64 ![0, 0, 0] cs slices_S16x32x128_S16x32x64_0_0_0))))
      (mulf (extractStridedSlice S16x32x16x64 ![0, 0, 0, 64] r slices_S16x32x16x128_S16x32x16x64_0_0_0_64)
        (broadcastInDim S16x32x16x64 ![0, 1, 2, 3] bcast_S16x32x1x64_S16x32x16x64_0_1_2_3 (broadcastInDim S16x32x1x64 ![0, 1, 3] bcast_S16x32x64_S16x32x1x64_0_1_3 (extractStridedSlice S16x32x64 ![0, 0, 64] cs slices_S16x32x128_S16x32x64_0_0_64)))))

/-- The keys and values side by side, by head. -/
def heads (kv : FVec Ideal S16x1056x4096 .bf16) : FVec Ideal S16x1056x16x256 .f32 :=
  extf .f32 (shapeCast S16x1056x16x256 kv shapeCasts_S16x1056x4096_S16x1056x16x256) bitsLt_bf16_f32

/-- The keys: a head's own 128 coordinates, then the 64 rotated ones all heads share. -/
def keys (kv : FVec Ideal S16x1056x4096 .bf16) (kr : FVec Ideal S16x1056x64 .bf16) : FVec Ideal S16x1056x16x192 .f32 :=
  Cert.AttnRefIdeal.Value.fn_main_v22
    (extractStridedSlice S16x1056x16x128 ![0, 0, 0, 0] (heads kv) slices_S16x1056x16x256_S16x1056x16x128_0_0_0_0)
    (broadcastInDim S16x1056x16x64 ![0, 1, 2, 3] bcast_S16x1056x1x64_S16x1056x16x64_0_1_2_3 (broadcastInDim S16x1056x1x64 ![0, 1, 3] bcast_S16x1056x64_S16x1056x1x64_0_1_3 (extf .f32 kr bitsLt_bf16_f32)))

/-- The scaled scores. -/
def scores (q : FVec Ideal S16x32x4096 .f32) (cs : FVec Ideal S16x32x128 .f32) (kv : FVec Ideal S16x1056x4096 .bf16)
    (kr : FVec Ideal S16x1056x64 .bf16) : FVec Ideal S16x16x32x1056 .f32 :=
  mulf (Host.dotGeneral dot_S16x32x16x192_S16x1056x16x192_S16x16x32x1056_3_3_1_1_02_02 none (queries q cs) (keys kv kr))
    (broadcastInDim S16x16x32x1056 ![] bcast_S_S16x16x32x1056 (constant S_ .f32 0x3D93CD3A#32))

/-- Scores less their largest, raised. -/
def raised (s : FVec Ideal S16x16x32x1056 .f32) : FVec Ideal S16x16x32x1056 .f32 :=
  Host.exp (subf s (broadcastInDim S16x16x32x1056 ![0, 1, 2, 3] bcast_S16x16x32x1_S16x16x32x1056_0_1_2_3 (broadcastInDim S16x16x32x1 ![0, 1, 2] bcast_S16x16x32_S16x16x32x1_0_1_2 (maximumf (broadcastInDim S16x16x32 ![] bcast_S_S16x16x32 (constant S_ .f32 0xFF800000#32)) (Host.reduce FloatOps.maximumf s (constant S_ .f32 0xFF800000#32) reducesTo_S16x16x32x1056_S16x16x32_d3 h_S_)))))

/-- The reference's result. -/
def ref (q : FVec Ideal S16x32x4096 .f32) (cs : FVec Ideal S16x32x128 .f32) (kv : FVec Ideal S16x1056x4096 .bf16)
    (kr : FVec Ideal S16x1056x64 .bf16) : FVec Ideal S16x32x2048 .bf16 :=
  let e := raised (scores q cs kv kr)
  truncf .bf16 (shapeCast S16x32x2048 (transpose S16x32x16x128 [0, 3, 1, 2]
    (Host.dotGeneral dot_S16x1056x16x128_S16x16x32x1056_S16x16x128x32_1_3_3_2_02_01 none
      (extractStridedSlice S16x1056x16x128 ![0, 0, 0, 128] (heads kv) slices_S16x1056x16x256_S16x1056x16x128_0_0_0_128)
      (Host.divf e (broadcastInDim S16x16x32x1056 ![0, 1, 2, 3] bcast_S16x16x32x1_S16x16x32x1056_0_1_2_3 (broadcastInDim S16x16x32x1 ![0, 1, 2] bcast_S16x16x32_S16x16x32x1_0_1_2 (Host.reduceAdd e (constant S_ .f32 0x00000000#32) reducesTo_S16x16x32x1056_S16x16x32_d3 h_S_)))))
    transposes_S16x16x128x32_S16x32x16x128_0_3_1_2) shapeCasts_S16x32x16x128_S16x32x2048) bitsLt_bf16_f32

theorem res_eq (m : (ℓ : Loc nD τ sig) → Buf (Elt Ideal) ℓ) (c : Dev nD) :
    Cert.AttnRefIdeal.Value.res_out0 m c = ref (m ((c.tc : Thread nD τ).loc main_arg0)) (m ((c.tc : Thread nD τ).loc main_arg1)) (m ((c.tc : Thread nD τ).loc main_arg2)) (m ((c.tc : Thread nD τ).loc main_arg3)) := by
  unfold Cert.AttnRefIdeal.Value.res_out0 Cert.AttnRefIdeal.Value.res_main_v41
  rfl

/-- One score over real inputs, as the reference forms it. -/
theorem scores_at (q : FVec Ideal S16x32x4096 .f32) (cs : FVec Ideal S16x32x128 .f32) (kv : FVec Ideal S16x1056x4096 .bf16)
    (kr : FVec Ideal S16x1056x64 .bf16) (b : Fin 16) (h : Fin 16) (i : Fin 32) (j : Fin 1056) :
    scores q cs kv kr (ix4 b h i j)
      = (∑ x : Fin 128, q (ix3 b i ⟨h.val * 128 + x.val, by omega⟩) * kv (ix3 b j ⟨h.val * 256 + x.val, by omega⟩)
          + ∑ x : Fin 64,
            (q (ix3 b i ⟨2048 + (h.val * 128 + x.val), by omega⟩) * cs (ix3 b i ⟨x.val, by omega⟩)
                + q (ix3 b i ⟨2048 + (h.val * 128 + (64 + x.val)), by omega⟩) * cs (ix3 b i ⟨64 + x.val, by omega⟩))
              * kr (ix3 b j x))
        * Ideal.ofBits .f32 0x3D93CD3A#32 := by
  pointwise [scores, queries, keys, heads, Cert.AttnRefIdeal.Value.fn_main_v15, Cert.AttnRefIdeal.Value.fn_main_v22]

/-- The largest of the last axis, at any extents. -/
theorem max_at {n0 n1 n2 n3 : Nat} (s : FVec Ideal ⟨4, ![n0, n1, n2, n3]⟩ .f32) (init : FVec Ideal ⟨0, ![]⟩ .f32)
    (hr : (⟨4, ![n0, n1, n2, n3]⟩ : Shape).ReducesTo [3] ⟨3, ![n0, n1, n2]⟩) (hu : 0 < (⟨0, ![]⟩ : Shape).numel) (b : Fin n0) (h : Fin n1) (i : Fin n2) :
    Host.reduce FloatOps.maximumf s init hr hu (ix3 b h i)
      = Finset.univ.fold max (init (Shape.Idx.first hu)) (fun j => s (ix4 b h i j)) := by
  pointwise []

/-- An axis of one element has the index zero, however often it is asked. -/
theorem unit_or {n : Nat} (b : Fin n) (h0 h1 : n = 1 → 0 < n) :
    (if h : n = 1 then (⟨0, h0 h⟩ : Fin n) else if h : n = 1 then ⟨0, h1 h⟩ else b).val = b.val := by
  have hb := b.isLt
  split
  · show 0 = b.val
    omega
  · rfl

/-- Scores less given row values, raised, at any extents. -/
theorem raised_row {n0 n1 n2 n3 : Nat} (s : FVec Ideal ⟨4, ![n0, n1, n2, n3]⟩ .f32) (M : FVec Ideal ⟨3, ![n0, n1, n2]⟩ .f32)
    (z : FVec Ideal ⟨0, ![]⟩ .f32) (h0 : (⟨0, ![]⟩ : Shape).BroadcastsInDim ⟨3, ![n0, n1, n2]⟩ (![] : Fin 0 → Fin 3))
    (h1 : (⟨3, ![n0, n1, n2]⟩ : Shape).BroadcastsInDim ⟨4, ![n0, n1, n2, 1]⟩ (![0, 1, 2] : Fin 3 → Fin 4))
    (h2 : (⟨4, ![n0, n1, n2, 1]⟩ : Shape).BroadcastsInDim ⟨4, ![n0, n1, n2, n3]⟩ (![0, 1, 2, 3] : Fin 4 → Fin 4))
    (b : Fin n0) (h : Fin n1) (i : Fin n2) (j : Fin n3) :
    Host.exp (subf s (broadcastInDim ⟨4, ![n0, n1, n2, n3]⟩ ![0, 1, 2, 3] h2 (broadcastInDim ⟨4, ![n0, n1, n2, 1]⟩ ![0, 1, 2] h1
        (maximumf (broadcastInDim ⟨3, ![n0, n1, n2]⟩ ![] h0 z) M)))) (ix4 b h i j)
      = Ideal.exp (s (ix4 b h i j) - max (z ix0) (M (ix3 b h i))) := by
  pointwise []
  have e : ∀ f : (⟨3, ![n0, n1, n2]⟩ : Shape).Idx, (∀ a, (f a).val = (ix3 b h i a).val) → M f = M (ix3 b h i) :=
    fun f hf => congrArg M (funext fun a => Fin.ext (hf a))
  rw [e]
  have hb := b.isLt
  have hh := h.isLt
  have hi := i.isLt
  intro a
  fin_cases a
  all_goals
    simp [Shape.Idx.norm]
    exact unit_or _ _ _

/-- A score less the largest of its row, raised. -/
theorem raised_at (s : FVec Ideal S16x16x32x1056 .f32) (b : Fin 16) (h : Fin 16) (i : Fin 32) (j : Fin 1056) :
    raised s (ix4 b h i j) = Ideal.exp (s (ix4 b h i j) - Finset.univ.fold max ⊥ (fun k => s (ix4 b h i k))) := by
  have hm := max_at s (constant S_ .f32 0xFF800000#32) reducesTo_S16x16x32x1056_S16x16x32_d3 h_S_ b h i
  refine (raised_row s _ _ _ _ _ b h i j).trans ?_
  generalize Host.reduce FloatOps.maximumf s (constant S_ .f32 0xFF800000#32) reducesTo_S16x16x32x1056_S16x16x32_d3 h_S_ = M at hm ⊢
  have hm' : M (ix3 b h i) = Finset.univ.fold max ⊥ (fun k => s (ix4 b h i k)) := hm.trans (congrArg (fun z => Finset.univ.fold max z _) ofBits_negInf)
  rw [← hm']
  have hz : (constant S_ .f32 0xFF800000#32 : FVec Ideal S_ .f32) ix0 = (⊥ : EReal) := ofBits_negInf
  rw [hz, max_eq_right bot_le]

/-- The reference's result at an index: over the keys, the value times the weight over the sum of the weights. -/
theorem ref_at (q : FVec Ideal S16x32x4096 .f32) (cs : FVec Ideal S16x32x128 .f32) (kv : FVec Ideal S16x1056x4096 .bf16)
    (kr : FVec Ideal S16x1056x64 .bf16) (b : Fin 16) (i : Fin 32) (h : Fin 16) (x : Fin 128) :
    ref q cs kv kr (ix3 b i ⟨h.val * 128 + x.val, by omega⟩)
      = ∑ j : Fin 1056, kv (ix3 b j ⟨h.val * 256 + (128 + x.val), by omega⟩)
          * Ideal.div (raised (scores q cs kv kr) (ix4 b h i j)) (∑ k : Fin 1056, raised (scores q cs kv kr) (ix4 b h i k)) := by
  unfold ref
  generalize raised (scores q cs kv kr) = e
  pointwise [heads]

end Cert.Attention

end
-- ==== Proof.AttnKer.lean ====
/- The kernel's attention, block by block, and the array it leaves: the reference's. -/
module

public import proofs.«01_k».proof.Proof.Gen.AttnIdeal.Value
public import proofs.«01_k».proof.Proof.AttnRef

@[expose] public section

set_option maxRecDepth 16384

noncomputable section

namespace Cert.Attention

open Cert.AttnIdeal Cert.AttnIdeal.Gen Idealize.ShloMosaic Idealize.ShloMosaic.TcCoe Idealize.SL.Sem
open Idealize.ShloMosaic.Pipeline (Dat)

/-- One score as the kernel forms it from its blocks: the scale on the query, the rotation on 128 lanes whose upper half
    meets zeros in the keys. -/
def kscore (q : Vec Ideal S1x32x128 .f32) (k : Vec Ideal S1x1056x128 .bf16) (r cs : Vec Ideal S1x32x128 .f32)
    (kr : Vec Ideal S1x1056x128 .bf16) (i : Fin 32) (j : Fin 1056) : EReal :=
  ∑ x : Fin 128, (q (ix3 0 i x) : EReal) * Ideal.ofBits .f32 0x3D93CD3A#32 * k (ix3 0 j x)
    + ∑ x : Fin 128,
      ((r (ix3 0 i x) : EReal) * cs (ix3 0 i x)
          + r (ix3 0 i ⟨(x.val + 128 - 64) % 128, by omega⟩) * cs (ix3 0 i ⟨(x.val + 128 - 64) % 128, by omega⟩))
        * Ideal.ofBits .f32 0x3D93CD3A#32 * kr (ix3 0 j x)

/-- A weight of the kernel. -/
theorem weight_at (q : Vec Ideal S1x32x128 .f32) (k : Vec Ideal S1x1056x128 .bf16) (r cs : Vec Ideal S1x32x128 .f32)
    (kr : Vec Ideal S1x1056x128 .bf16) (i : Fin 32) (j : Fin 1056) :
    k0_pay2 q k r cs kr (ix2 i j)
      = Ideal.exp (kscore q k r cs kr i j - Finset.univ.fold max ⊥ (kscore q k r cs kr i)) := by
  pointwise [k0_pay2]
  rw [ofBits_negInf]
  rfl

/-- The kernel's block at an index: the weighted sum of the values over the sum of the weights. -/
theorem block_at (q : Vec Ideal S1x32x128 .f32) (k : Vec Ideal S1x1056x128 .bf16) (r cs : Vec Ideal S1x32x128 .f32)
    (kr v : Vec Ideal S1x1056x128 .bf16) (i : Fin 32) (x : Fin 128) :
    k0_pay1 (k0_pay3 q k r cs kr) (k0_pay4 q k r cs kr) (k0_pay5 v) (ix3 0 i x)
      = Ideal.div (∑ j : Fin 1056, k0_pay2 q k r cs kr (ix2 i j) * v (ix3 0 j x)) (∑ j : Fin 1056, k0_pay2 q k r cs kr (ix2 i j)) := by
  pointwise [k0_pay1, k0_pay3, k0_pay4, k0_pay5]

/-- The scale is a real. -/
theorem scale_real : ∃ s : ℝ, Ideal.ofBits .f32 0x3D93CD3A#32 = (s : EReal) := by
  refine ⟨9686330 * (2 ^ 27)⁻¹, ?_⟩
  simp [Ideal.ofBits, Ideal.ieee, EReal.coe_mul]

/-- A score over the reals: the query's plain half against the key's, the rotated half against the shared key's, scaled. -/
def score (q k r c : Fin 128 → ℝ) (u : Fin 64 → ℝ) (sc : ℝ) : ℝ :=
  (∑ x : Fin 128, q x * k x + ∑ x : Fin 64,
    (r ⟨x.val, by omega⟩ * c ⟨x.val, by omega⟩ + r ⟨64 + x.val, by omega⟩ * c ⟨64 + x.val, by omega⟩) * u x) * sc

/-- Over real blocks the kernel's score is the reference's. -/
theorem kscore_eq {q r cs : Vec Ideal S1x32x128 .f32} {k kr : Vec Ideal S1x1056x128 .bf16} {q' r' c' : Fin 128 → ℝ}
    {k' : Fin 128 → ℝ} {u' : Fin 64 → ℝ} {sc : ℝ} (i : Fin 32) (j : Fin 1056)
    (hsc : Ideal.ofBits .f32 0x3D93CD3A#32 = (sc : EReal))
    (hq : ∀ x, q (ix3 0 i x) = (q' x : EReal)) (hr : ∀ x, r (ix3 0 i x) = (r' x : EReal)) (hc : ∀ x, cs (ix3 0 i x) = (c' x : EReal))
    (hk : ∀ x, k (ix3 0 j x) = (k' x : EReal))
    (hu : ∀ x : Fin 128, kr (ix3 0 j x) = if h : x.val < 64 then (u' ⟨x.val, h⟩ : EReal) else 0) :
    kscore q k r cs kr i j = (score q' k' r' c' u' sc : EReal) := by
  have h2 : ∀ x : Fin 128, kr (ix3 0 j x) = ((if h : x.val < 64 then u' ⟨x.val, h⟩ else 0 : ℝ) : EReal) := by
    intro x
    rw [hu x]
    split <;> simp
  unfold kscore score
  rw [hsc, sum_real (g := fun x => q' x * sc * k' x) (fun x => by rw [hq, hk, EReal.coe_mul, EReal.coe_mul]),
    sum_real (g := fun x => (r' x * c' x + r' ⟨(x.val + 128 - 64) % 128, by omega⟩ * c' ⟨(x.val + 128 - 64) % 128, by omega⟩) * sc
        * (if h : x.val < 64 then u' ⟨x.val, h⟩ else 0))
      (fun x => by rw [h2, hr, hc, hr, hc, EReal.coe_mul, EReal.coe_mul, EReal.coe_add, EReal.coe_mul, EReal.coe_mul]),
    ← EReal.coe_add]
  congr 1
  rw [add_mul, Finset.sum_mul, Finset.sum_mul]
  congr 1
  · exact Finset.sum_congr rfl fun x _ => by ring
  · rw [Fin.sum_univ_two_halves (a := 64) (b := 64) (hN := rfl)]
    have e : ∀ k : Fin 64, ¬ (64 + k.val < 64) := fun k => by omega
    have e1 : ∀ k : Fin 64, (k.val + 128 - 64) % 128 = 64 + k.val := fun k => by omega
    simp only [e, dite_false, mul_zero, Finset.sum_const_zero, add_zero, Fin.is_lt, dite_true, e1]
    exact Finset.sum_congr rfl fun x _ => by ring

/-- Over real inputs the reference's score is the same. -/
theorem scores_eq {q : FVec Ideal Cert.AttnRefIdeal.S16x32x4096 .f32} {cs : FVec Ideal Cert.AttnRefIdeal.S16x32x128 .f32}
    {kv : FVec Ideal Cert.AttnRefIdeal.S16x1056x4096 .bf16} {kr : FVec Ideal Cert.AttnRefIdeal.S16x1056x64 .bf16}
    {q' : Cert.AttnRefIdeal.S16x32x4096.Idx → ℝ} {c' : Cert.AttnRefIdeal.S16x32x128.Idx → ℝ} {kv' : Cert.AttnRefIdeal.S16x1056x4096.Idx → ℝ}
    {kr' : Cert.AttnRefIdeal.S16x1056x64.Idx → ℝ} {sc : ℝ} (hsc : Ideal.ofBits .f32 0x3D93CD3A#32 = (sc : EReal))
    (hq : ∀ i, q i = (q' i : EReal)) (hc : ∀ i, cs i = (c' i : EReal)) (hkv : ∀ i, kv i = (kv' i : EReal)) (hkr : ∀ i, kr i = (kr' i : EReal))
    (b h : Fin 16) (i : Fin 32) (j : Fin 1056) :
    scores q cs kv kr (ix4 b h i j)
      = (score (fun x => q' (ix3 b i ⟨h.val * 128 + x.val, by omega⟩)) (fun x => kv' (ix3 b j ⟨h.val * 256 + x.val, by omega⟩))
          (fun x => q' (ix3 b i ⟨2048 + (h.val * 128 + x.val), by omega⟩)) (fun x => c' (ix3 b i x)) (fun x => kr' (ix3 b j x)) sc : EReal) := by
  rw [scores_at, hsc, sum_real (fun x => by rw [hq, hkv, ← EReal.coe_mul]),
    sum_real (fun x => by rw [hq, hc, hq, hc, hkr, ← EReal.coe_mul, ← EReal.coe_mul, ← EReal.coe_add, ← EReal.coe_mul]),
    ← EReal.coe_add, ← EReal.coe_mul]
  rfl

/-- The kernel's block at an index, where its scores and its values are the reals `S` and `W`. -/
theorem block_value {q r cs : Vec Ideal S1x32x128 .f32} {k kr v : Vec Ideal S1x1056x128 .bf16} {i : Fin 32} {x : Fin 128}
    {S W : Fin 1056 → ℝ} (hS : ∀ j, kscore q k r cs kr i j = (S j : EReal)) (hW : ∀ j, v (ix3 0 j x) = (W j : EReal)) :
    k0_pay1 (k0_pay3 q k r cs kr) (k0_pay4 q k r cs kr) (k0_pay5 v) (ix3 0 i x)
      = ∑ j : Fin 1056, (W j : EReal) * Ideal.div (Ideal.exp ((S j : EReal) - Finset.univ.fold max ⊥ fun k => (S k : EReal)))
          (∑ l : Fin 1056, Ideal.exp ((S l : EReal) - Finset.univ.fold max ⊥ fun k => (S k : EReal))) := by
  have e : kscore q k r cs kr i = fun j => (S j : EReal) := funext hS
  rw [block_at]
  simp only [weight_at, e, hW]
  exact softmax_sum (by omega) (fun _ => rfl) (fun _ => rfl)

variable (m : (ℓ : Loc nD τ sig) → Buf (Elt Ideal) ℓ)

theorem idx : ∀ t : Fin cfg0.N, win0_0.index t = ![t.val / 16, 0, t.val % 16] ∧ win0_1.index t = ![t.val / 16, 0, 16 + t.val % 16]
    ∧ win0_2.index t = ![t.val / 16, 0, 0] ∧ win0_3.index t = ![t.val / 16, 0, 2 * (t.val % 16)]
    ∧ win0_4.index t = ![t.val / 16, 0, 0] ∧ win0_5.index t = ![t.val / 16, 0, 2 * (t.val % 16) + 1]
    ∧ win0_6.index t = ![t.val / 16, 0, t.val % 16] :=
  (by decide +kernel : ∀ t : Fin grid0.N, _)

theorem krp_at (c : Dev nD) (b : Fin 16) (j : Fin 1056) (d : Fin 128) :
    (V m c main_v1 (ix3 b j d) : EReal) = if h : d.val < 64 then ((m ((c.tc : Thread nD τ).loc main_arg3) : S16x1056x64.Idx → EReal) (ix3 b j ⟨d.val, h⟩)) else (0 : EReal) := by
  entry_read
  pointwise []

theorem points : cfg0.N = 256 := by decide +kernel

theorem read0 (c : Dev nD) (t : Fin cfg0.N) (ht : t.val < 256) (i : Fin 32) (x : Fin 128) :
    (iblk m c 0 t (ix3 0 i x) : EReal) = m ((c.tc : Thread nD τ).loc main_arg0) (ix3 ⟨t.val / 16, by omega⟩ i ⟨t.val % 16 * 128 + x.val, by omega⟩) := by
  blk_ext [iblk, V, idx t]

theorem read1 (c : Dev nD) (t : Fin cfg0.N) (ht : t.val < 256) (i : Fin 32) (x : Fin 128) :
    (iblk m c 1 t (ix3 0 i x) : EReal) = m ((c.tc : Thread nD τ).loc main_arg0) (ix3 ⟨t.val / 16, by omega⟩ i ⟨2048 + (t.val % 16 * 128 + x.val), by omega⟩) := by
  blk_ext [iblk, V, idx t]

theorem read2 (c : Dev nD) (t : Fin cfg0.N) (ht : t.val < 256) (i : Fin 32) (x : Fin 128) :
    (iblk m c 2 t (ix3 0 i x) : EReal) = m ((c.tc : Thread nD τ).loc main_arg1) (ix3 ⟨t.val / 16, by omega⟩ i x) := by
  blk_ext [iblk, V, idx t]

theorem read3 (c : Dev nD) (t : Fin cfg0.N) (ht : t.val < 256) (j : Fin 1056) (x : Fin 128) :
    (iblk m c 3 t (ix3 0 j x) : EReal) = m ((c.tc : Thread nD τ).loc main_arg2) (ix3 ⟨t.val / 16, by omega⟩ j ⟨t.val % 16 * 256 + x.val, by omega⟩) := by
  blk_ext [iblk, V, idx t]

theorem read4 (c : Dev nD) (t : Fin cfg0.N) (ht : t.val < 256) (j : Fin 1056) (x : Fin 128) :
    (iblk m c 4 t (ix3 0 j x) : EReal) = if h : x.val < 64 then ((m ((c.tc : Thread nD τ).loc main_arg3) : S16x1056x64.Idx → EReal) (ix3 ⟨t.val / 16, by omega⟩ j ⟨x.val, h⟩)) else (0 : EReal) := by
  refine Eq.trans ?_ (krp_at m c ⟨t.val / 16, by omega⟩ j x)
  blk_ext [iblk, idx t]

theorem read5 (c : Dev nD) (t : Fin cfg0.N) (ht : t.val < 256) (j : Fin 1056) (x : Fin 128) :
    (iblk m c 5 t (ix3 0 j x) : EReal) = m ((c.tc : Thread nD τ).loc main_arg2) (ix3 ⟨t.val / 16, by omega⟩ j ⟨t.val % 16 * 256 + (128 + x.val), by omega⟩) := by
  blk_ext [iblk, V, idx t]

theorem point (c : Dev nD) (t : Fin cfg0.N) (ht : t.val < 256) (i : Fin 32) (x : Fin 128)
    {q' : S16x32x4096.Idx → ℝ} {c' : S16x32x128.Idx → ℝ} {kv' : S16x1056x4096.Idx → ℝ} {kr' : S16x1056x64.Idx → ℝ}
    (hq : ∀ i, (m ((c.tc : Thread nD τ).loc main_arg0) : S16x32x4096.Idx → EReal) i = (q' i : EReal))
    (hc : ∀ i, (m ((c.tc : Thread nD τ).loc main_arg1) : S16x32x128.Idx → EReal) i = (c' i : EReal))
    (hkv : ∀ i, (m ((c.tc : Thread nD τ).loc main_arg2) : S16x1056x4096.Idx → EReal) i = (kv' i : EReal))
    (hkr : ∀ i, (m ((c.tc : Thread nD τ).loc main_arg3) : S16x1056x64.Idx → EReal) i = (kr' i : EReal)) :
    k0_pay1 (k0_pay3 (iblk m c 0 t) (iblk m c 3 t) (iblk m c 1 t) (iblk m c 2 t) (iblk m c 4 t))
      (k0_pay4 (iblk m c 0 t) (iblk m c 3 t) (iblk m c 1 t) (iblk m c 2 t) (iblk m c 4 t)) (k0_pay5 (iblk m c 5 t)) (ix3 0 i x)
    = ref (m (c.tc.loc main_arg0)) (m (c.tc.loc main_arg1)) (m (c.tc.loc main_arg2)) (m (c.tc.loc main_arg3))
      (ix3 ⟨t.val / 16, by omega⟩ i ⟨(⟨t.val % 16, by omega⟩ : Fin 16).val * 128 + x.val, by show t.val % 16 * 128 + x.val < 2048; omega⟩) := by
  obtain ⟨sc, hsc⟩ := scale_real
  rw [ref_at]
  simp only [raised_at, scores_eq hsc hq hc hkv hkr, hkv]
  exact block_value
    (fun j => kscore_eq i j hsc (fun x => (read0 m c t ht i x).trans (hq _)) (fun x => (read1 m c t ht i x).trans (hq _))
      (fun x => (read2 m c t ht i x).trans (hc _)) (fun x => (read3 m c t ht j x).trans (hkv _))
      (fun x => (read4 m c t ht j x).trans (by simp only [hkr])))
    (fun j => (read5 m c t ht j x).trans (hkv _))

theorem final (c : Dev nD)
    {q' : S16x32x4096.Idx → ℝ} {c' : S16x32x128.Idx → ℝ} {kv' : S16x1056x4096.Idx → ℝ} {kr' : S16x1056x64.Idx → ℝ}
    (hq : ∀ i, (m ((c.tc : Thread nD τ).loc main_arg0) : S16x32x4096.Idx → EReal) i = (q' i : EReal))
    (hc : ∀ i, (m ((c.tc : Thread nD τ).loc main_arg1) : S16x32x128.Idx → EReal) i = (c' i : EReal))
    (hkv : ∀ i, (m ((c.tc : Thread nD τ).loc main_arg2) : S16x1056x4096.Idx → EReal) i = (kv' i : EReal))
    (hkr : ∀ i, (m ((c.tc : Thread nD τ).loc main_arg3) : S16x1056x64.Idx → EReal) i = (kr' i : EReal)) :
    (dats m 0 c).arrAt 6 (cfgs 0).N = ref (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 6 _ (by decide +kernel) fun t _ y => ?_
  have ht : t.val < 256 := lt_of_lt_of_eq t.isLt points
  blk_simp
  rw [after0_6]
  frame_out
  have ey : y = ix3 0 (y 1) (y 2) := by
    funext a
    fin_cases a
    · exact Subsingleton.elim (α := Fin 1) _ _
    · rfl
    · rfl
  rw [ey]
  refine (point m c t ht (y 1) (y 2) hq hc hkv hkr).trans ?_
  blk_ext [idx t]

end Cert.Attention

end
-- ==== Proof.Attn.lean ====
/- The attention's claim: over finite arguments the kernel and the reference leave one array. -/
module

public import proofs.«01_k».proof.Defs
public import proofs.«01_k».proof.Proof.AttnKer
public import proofs.«01_k».proof.Proof.Gen.Pre_finite
public import Idealize.ShloMosaic.Lib.Claim
public import Idealize.ShloMosaic.Lib.ReduceAll

@[expose] public section

set_option maxRecDepth 16384

noncomputable section

namespace Cert.Attention

open Idealize.ShloMosaic Idealize.ShloMosaic.TcCoe Idealize.SL.Sem
open Cert.AttnIdeal

instance : Subsingleton (Cert.Pre_finite.S_).Idx := ⟨fun a b => funext fun i => i.elim0⟩

/-- Elements each of which is a real, as a family of reals. -/
theorem choose_real {ι : Type} {f : ι → EReal} (h : ∀ i, ∃ r : ℝ, f i = (r : EReal)) : ∃ g : ι → ℝ, ∀ i, f i = (g i : EReal) :=
  ⟨fun i => (h i).choose, fun i => (h i).choose_spec⟩

/-- What the precondition says of four arrays: every element is a real. -/
theorem finite_args (q : FVec Ideal Cert.Pre_finite.S16x32x4096 .f32) (cs : FVec Ideal Cert.Pre_finite.S16x32x128 .f32)
    (kv : FVec Ideal Cert.Pre_finite.S16x1056x4096 .bf16) (kr : FVec Ideal Cert.Pre_finite.S16x1056x64 .bf16)
    (h : letI := Cert.Pre_finite.Gen.facts; Cert.Pre_finite.fn (F := Ideal) q cs kv kr = fun _ => 1#1) :
    (∃ f : Cert.Pre_finite.S16x32x4096.Idx → ℝ, ∀ i, q i = (f i : EReal)) ∧ (∃ f : Cert.Pre_finite.S16x32x128.Idx → ℝ, ∀ i, cs i = (f i : EReal))
      ∧ (∃ f : Cert.Pre_finite.S16x1056x4096.Idx → ℝ, ∀ i, kv i = (f i : EReal)) ∧ (∃ f : Cert.Pre_finite.S16x1056x64.Idx → ℝ, ∀ i, kr i = (f i : EReal)) := by
  have h0 := congrFun h ix0
  unfold Cert.Pre_finite.fn Cert.Pre_finite.fn_part1 at h0
  obtain ⟨h123, h4⟩ := IntOp.andi_eq_one.1 h0
  obtain ⟨h12, h3⟩ := IntOp.andi_eq_one.1 h123
  obtain ⟨h1, h2⟩ := IntOp.andi_eq_one.1 h12
  have real : ∀ x : EReal, Ideal.cmp .olt (max x (-x)) (Ideal.ofBits .f32 0x7F800000#32) = 1#1 → ∃ r : ℝ, x = (r : EReal) :=
    fun x hx => real_of_lt (by rw [ofBits_posInf] at hx; exact hx)
  refine ⟨choose_real fun i => ?_, choose_real fun i => ?_, choose_real fun i => ?_, choose_real fun i => ?_⟩
  · exact real _ (Host.reduce_andi_all _ _ _ _ _ h1 i)
  · exact real _ (Host.reduce_andi_all _ _ _ _ _ h2 i)
  · exact real _ (Host.reduce_andi_all _ _ _ _ _ h3 i)
  · exact real _ (Host.reduce_andi_all _ _ _ _ _ h4 i)

theorem algebraic : letI := Cert.AttnIdeal.Gen.facts; letI := Cert.AttnRefIdeal.Gen.facts; letI := Cert.Pre_finite.Gen.facts;
    Cert.algebraic_AttnIdeal_AttnRefIdeal_pre_finite := by
  pair_intro
  · run_from Cert.AttnIdeal.Gen.run_main m g
  · run_from Cert.AttnRefIdeal.Value.run m' g'
    obtain ⟨⟨q', hq⟩, ⟨c', hc⟩, ⟨kv', hkv⟩, ⟨kr', hkr⟩⟩ := finite_args _ _ _ _ (hpre c)
    refine (res_eq m' c).trans ?_
    obtain ⟨a0, a1, a2, a3⟩ := hagree c
    rw [a0, a1, a2, a3]
    exact (final m c hq hc hkv hkr).symm

end Cert.Attention

end
-- ==== Proof.FfnTwoIdealTile.lean ====
module

public import proofs.«01_k».proof.Proof.Gen.FfnTwoIdeal.Skeleton
public import proofs.«01_k».proof.Proof.Gen.FfnTwoIdeal.Launch
public import Idealize.ShloMosaic.Lib.Pipeline.Frame
public import Idealize.ShloMosaic.Lib.Pipeline.Kit
public import Idealize.ShloMosaic.Lib.Pipeline.FrameBody
public import Idealize.ShloMosaic.Lib.Pipeline.ValueKit
public import Idealize.ShloMosaic.Lib.Pipeline.TableIdle
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Init

@[expose] public section

set_option maxRecDepth 16384
set_option Elab.async false

noncomputable section

namespace Cert.FfnTwoIdeal.Tile

open Cert.FfnTwoIdeal Cert.FfnTwoIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The tiles' experts and the number of tiles in use, as the kernel holds them. -/
abbrev teM : Memref sig .tc .smem S99 .i32 := Memref.whole main_arg1
abbrev nuM : Memref sig .tc .smem S1 .i32 := Memref.whole main_arg2

/-- Tile `t`'s expert, its predecessor's, and the number of tiles in use, read off the tables. -/
abbrev cur (i : grid0.Coords) (T0 : S99.Idx → Elt F .i32) : BitVec 32 :=
  View.readAt (Elt F) teM.view (Rect.unit (s := S99) (k0_off1 i) S1.size (k0_off1_inb i)).toLoadRect T0 (Shape.Idx.first (numel1_S1.symm ▸ Nat.one_pos))
abbrev pre (i : grid0.Coords) (T0 : S99.Idx → Elt F .i32) : BitVec 32 :=
  View.readAt (Elt F) teM.view (Rect.unit (s := S99) (k0_off2 i) S1.size (k0_off2_inb i)).toLoadRect T0 (Shape.Idx.first (numel1_S1.symm ▸ Nat.one_pos))
abbrev cnt (T1 : S1.Idx → Elt F .i32) : BitVec 32 :=
  View.readAt (Elt F) nuM.view (Rect.unit (s := S1) ![0] S1.size inb_S1_S1_0).toLoadRect T1 (Shape.Idx.first (numel1_S1.symm ▸ Nat.one_pos))

/-- The tile begins a new expert. -/
abbrev New (i : grid0.Coords) (T0 : S99.Idx → Elt F .i32) : Prop :=
  Scalar.cmpi .ne (Scalar.extui (Scalar.ori (Scalar.cmpi .eq (BitVec.ofNat 32 (i 1).val) 0#32) (Scalar.cmpi .ne (cur i T0) (pre i T0)))) 0#32 = 1#1

/-- A memref holding what reads `X` is held at the canonical contents of `X`. -/
theorem held_of_read (c : Thread nD τ) {sp : Space} {sh : Shape} {e : EltTy} (m : Memref sig c.2.kind sp sh e) (q : PosShare TreeShare)
    (f : m.view.ty.Contents (Elt F)) {X : sh.Idx → Elt F e} (h : m.view.read (Elt F) f = X) :
    (m.view.loc c ↦[m.view.set]{q} f) ⊢ (m.view.loc c ↦[m.view.set]{q} m.view.rep X : sProp 𝕄) := by
  subst h
  rw [← owns_eq_rep]
  unfold owns
  iintro H; iexists f; isplitr
  · ipureintro; rfl
  · iexact H

/-- A tile is filled with zeros exactly when it isn't in use. -/
theorem unused_iff (i : grid0.Coords) (w : BitVec 32) : k0_cond3 i w = 1#1 ↔ ¬ k0_cond2 i w = 1#1 := by
  have e : ∀ b : BitVec 1, Scalar.cmpi .ne (Scalar.extui b : BitVec 32) 0#32 = 1#1 ↔ b = 1#1 := by decide
  unfold k0_cond3 k0_cond2
  rw [e, e]
  exact (IntOp.cmpi_sge).trans (not_lt.symm.trans (not_congr IntOp.cmpi_slt.symm))

open Classical in
set_option maxHeartbeats 16000000 in
/-- One run of the kernel's body: where the tile begins a new expert the scratch is refilled, a tile in use is computed from
    it and any other is filled with zeros. -/
theorem body_run (c : Dev nD) (i : grid0.Coords) (arg4 : Memref sig .tc .vmem S512x1024 .bf16) (harg4 : arg4.IsWhole) (arg5 : Memref sig .tc .vmem S1x1x1024x2048 .f32) (harg5 : arg5.IsWhole) (arg6 : Memref sig .tc .vmem S1x1x1x2048 .f32) (harg6 : arg6.IsWhole) (arg7 : Memref sig .tc .vmem S512x2048 .f32) (harg7 : arg7.IsWhole) (arg8 : Memref sig .tc .vmem S1024x2048 .bf16) (harg8 : arg8.IsWhole)
    (T0 : S99.Idx → Elt F .i32) (T1 : S1.Idx → Elt F .i32)
    (x0 : S512x1024.Idx → Elt F .bf16) (x1 : S1x1x1024x2048.Idx → Elt F .f32) (x2 : S1x1x1x2048.Idx → Elt F .f32)
    (s1 e1 : S1024x2048.Idx → Elt F .bf16) (o' o : S512x2048.Idx → Elt F .f32)
    (he1 : e1 = if New i T0 then k0_pay1 x1 else s1)
    (ho : o = if k0_cond2 i (cnt T1) = 1#1 then k0_pay2 x0 e1 x2 else k0_pay3) (K : PUnit → sProp 𝕄) :
    iprop((arg4.view.loc (c : Thread nD τ) ↦[arg4.view.set]{fullShare} arg4.view.rep x0) ∗ (arg5.view.loc (c : Thread nD τ) ↦[arg5.view.set]{fullShare} arg5.view.rep x1) ∗ (arg6.view.loc (c : Thread nD τ) ↦[arg6.view.set]{fullShare} arg6.view.rep x2) ∗ (teM.view.loc (c : Thread nD τ) ↦{fullShare.right} T0) ∗ (nuM.view.loc (c : Thread nD τ) ↦{fullShare.right} T1)
        ∗ (arg7.view.loc (c : Thread nD τ) ↦[arg7.view.set]{fullShare} arg7.view.rep o') ∗ (arg8.view.loc (c : Thread nD τ) ↦[arg8.view.set]{fullShare} arg8.view.rep s1)
        ∗ (iprop((arg4.view.loc (c : Thread nD τ) ↦[arg4.view.set]{fullShare} arg4.view.rep x0) ∗ (arg5.view.loc (c : Thread nD τ) ↦[arg5.view.set]{fullShare} arg5.view.rep x1) ∗ (arg6.view.loc (c : Thread nD τ) ↦[arg6.view.set]{fullShare} arg6.view.rep x2) ∗ (teM.view.loc (c : Thread nD τ) ↦{fullShare.right} T0) ∗ (nuM.view.loc (c : Thread nD τ) ↦{fullShare.right} T1)
            ∗ (arg7.view.loc (c : Thread nD τ) ↦[arg7.view.set]{fullShare} arg7.view.rep o) ∗ (arg8.view.loc (c : Thread nD τ) ↦[arg8.view.set]{fullShare} arg8.view.rep e1)) -∗ K ⟨⟩))
      ⊢ wp frame (wpE (defs₀ (F := F)) Variants.none c none) Set.univ
          (cc0_moe_ffn2 i teM (Memref.isWhole_whole _) nuM (Memref.isWhole_whole _) arg4 harg4 arg5 harg5 arg6 harg6 arg7 harg7 arg8 harg8) K := by
  have hT0 : teM.IsWhole := Memref.isWhole_whole _
  have hT1 : nuM.IsWhole := Memref.isWhole_whole _
  rw [cc0_moe_ffn2_eq_skeleton]; unfold cc0_moe_ffn2_skel
  by_cases hc0 : New i T0 <;> by_cases h2 : k0_cond2 i (cnt T1) = 1#1
  all_goals iintro ⟨H0, H1, H2, HT0, HT1, HO, HS0, Hk⟩
  · rw [if_pos hc0] at he1; rw [if_pos h2] at ho; subst he1 ho
    have h3 : ¬ k0_cond3 i (cnt T1) = 1#1 := fun h => (unused_iff i (cnt T1)).1 h h2
    sl_exec! (disch := first | (guard_target = Scalar.cmpi _ _ _ = _; exact hc0) | (guard_target = ¬(Scalar.cmpi _ _ _ = _); exact hc0) | (guard_target = k0_cond2 _ _ = _; exact h2) | (guard_target = ¬(k0_cond2 _ _ = _); exact h2) | (guard_target = k0_cond3 _ _ = _; exact h3) | (guard_target = ¬(k0_cond3 _ _ = _); exact h3))
    sl_step
    iapply Hk
    isplitl [H0]; · iexact H0
    isplitl [H1]; · iexact H1
    isplitl [H2]; · iexact H2
    isplitl [HT0]; · iexact HT0
    isplitl [HT1]; · iexact HT1
    isplitl [HO]
    · iapply (held_of_read (c : Thread nD τ) arg7 fullShare _ ?g1) $$ HO
      frame_out [View.read_rep, View.readCov_eq_canon']
      refine congrArg (fun z => k0_pay2 x0 z x2) (funext fun j => congrArg (k0_pay1 x1) (funext fun a => Fin.ext ?_))
      fin_cases a <;> exact (ValueKit.rect_emb_unit_val _ _ _ _ _).trans (Nat.zero_add _)
    · iapply (held_of_read (c : Thread nD τ) arg8 fullShare _ ?h1) $$ HS0
      frame_out [View.read_rep]
  · rw [if_pos hc0] at he1; rw [if_neg h2] at ho; subst he1 ho
    have h3 : k0_cond3 i (cnt T1) = 1#1 := (unused_iff i (cnt T1)).2 h2
    sl_exec! (disch := first | (guard_target = Scalar.cmpi _ _ _ = _; exact hc0) | (guard_target = ¬(Scalar.cmpi _ _ _ = _); exact hc0) | (guard_target = k0_cond2 _ _ = _; exact h2) | (guard_target = ¬(k0_cond2 _ _ = _); exact h2) | (guard_target = k0_cond3 _ _ = _; exact h3) | (guard_target = ¬(k0_cond3 _ _ = _); exact h3))
    sl_step
    iapply Hk
    isplitl [H0]; · iexact H0
    isplitl [H1]; · iexact H1
    isplitl [H2]; · iexact H2
    isplitl [HT0]; · iexact HT0
    isplitl [HT1]; · iexact HT1
    isplitl [HO]
    · iapply (held_of_read (c : Thread nD τ) arg7 fullShare _ ?g2) $$ HO
      frame_out
    · iapply (held_of_read (c : Thread nD τ) arg8 fullShare _ ?h2) $$ HS0
      frame_out [View.read_rep]
  · rw [if_neg hc0] at he1; rw [if_pos h2] at ho; subst he1 ho
    have h3 : ¬ k0_cond3 i (cnt T1) = 1#1 := fun h => (unused_iff i (cnt T1)).1 h h2
    sl_exec! (disch := first | (guard_target = Scalar.cmpi _ _ _ = _; exact hc0) | (guard_target = ¬(Scalar.cmpi _ _ _ = _); exact hc0) | (guard_target = k0_cond2 _ _ = _; exact h2) | (guard_target = ¬(k0_cond2 _ _ = _); exact h2) | (guard_target = k0_cond3 _ _ = _; exact h3) | (guard_target = ¬(k0_cond3 _ _ = _); exact h3))
    sl_step
    iapply Hk
    isplitl [H0]; · iexact H0
    isplitl [H1]; · iexact H1
    isplitl [H2]; · iexact H2
    isplitl [HT0]; · iexact HT0
    isplitl [HT1]; · iexact HT1
    isplitl [HO]
    · iapply (held_of_read (c : Thread nD τ) arg7 fullShare _ ?g3) $$ HO
      frame_out [View.read_rep]
    · iexact HS0
  · rw [if_neg hc0] at he1; rw [if_neg h2] at ho; subst he1 ho
    have h3 : k0_cond3 i (cnt T1) = 1#1 := (unused_iff i (cnt T1)).2 h2
    sl_exec! (disch := first | (guard_target = Scalar.cmpi _ _ _ = _; exact hc0) | (guard_target = ¬(Scalar.cmpi _ _ _ = _); exact hc0) | (guard_target = k0_cond2 _ _ = _; exact h2) | (guard_target = ¬(k0_cond2 _ _ = _); exact h2) | (guard_target = k0_cond3 _ _ = _; exact h3) | (guard_target = ¬(k0_cond3 _ _ = _); exact h3))
    sl_step
    iapply Hk
    isplitl [H0]; · iexact H0
    isplitl [H1]; · iexact H1
    isplitl [H2]; · iexact H2
    isplitl [HT0]; · iexact HT0
    isplitl [HT1]; · iexact HT1
    isplitl [HO]
    · iapply (held_of_read (c : Thread nD τ) arg7 fullShare _ ?g4) $$ HO
      frame_out
    · iexact HS0

end Cert.FfnTwoIdeal.Tile
end
-- ==== Proof.FfnTwoIdealRun.lean ====
module

public import proofs.«01_k».proof.Proof.FfnTwoIdealTile
public import Idealize.ShloMosaic.Lib.Pipeline.ValueKit
public import Idealize.ShloMosaic.Lib.Pointwise

@[expose] public section

set_option maxRecDepth 16384
set_option Elab.async false

noncomputable section

namespace Cert.FfnTwoIdeal.Tile

open Cert.FfnTwoIdeal Cert.FfnTwoIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-- The two tables as the memory holds them at the start. -/
abbrev tab0 : S99.Idx → Elt F .i32 := m (((0 : Dev nD) : Thread nD τ).loc main_arg1)
abbrev tab1 : S1.Idx → Elt F .i32 := m (((0 : Dev nD) : Thread nD τ).loc main_arg2)
def tabs : pre0.Contents (Elt F) := fun
  | 0 => tab0 m
  | 1 => tab1 m
  | ⟨_ + 2, h⟩ => absurd h (Nat.not_lt.2 (Nat.le_add_left _ _))

/-- Every buffer as the one host operation leaves it. -/
def V (c : Dev nD) (b : Ref sig .tc) : Buf (Elt F) ((c : Thread nD τ).loc b) := StableHlo.after hostOps0 (fun b => m (c, b)) b

/-! ## The words the kernel and its index maps read off the tables -/

theorem off1 (i : grid0.Coords) : k0_off1 i 0 = (i 1).val :=
  (by decide : ∀ k : Fin 99, (Scalar.indexCast (BitVec.ofNat 32 k.val) : Index).toNat = k.val) (i 1)
theorem off2 (i : grid0.Coords) : k0_off2 i 0 = (i 1).val - 1 :=
  (by decide : ∀ k : Fin 99, (Scalar.indexCast (Scalar.maxsi (Scalar.subi (BitVec.ofNat 32 k.val) 1#32) 0#32) : Index).toNat = k.val - 1) (i 1)

omit [FloatOps F] in
theorem at0 (i : grid0.Coords) : (tabs m).at 0 (Rect.unit (s := S99) (k0_off1 i) S1.size (k0_off1_inb i)) numel1_S1 = tab0 m (ix1 (i 1)) := by
  refine congrArg (tab0 m) ?_
  funext a; apply Fin.ext; fin_cases a
  exact (ValueKit.rect_emb_unit_val _ _ _ _ _).trans (congrArg (· + 0) (off1 i))
omit [FloatOps F] in
theorem at1 : (tabs m).at 1 (Rect.unit (s := S1) ![0] S1.size inb_S1_S1_0) numel1_S1 = tab1 m (ix1 0) := by
  refine congrArg (tab1 m) ?_
  funext a; apply Fin.ext; fin_cases a
  rfl
omit [FloatOps F] in
theorem cur_eq (i : grid0.Coords) : cur i (tab0 m) = tab0 m (ix1 (i 1)) := at0 m i
omit [FloatOps F] in
theorem cnt_eq : cnt (tab1 m) = tab1 m (ix1 0) := at1 m
omit [FloatOps F] in
theorem pre_eq (i : grid0.Coords) : pre i (tab0 m) = tab0 m (ix1 ⟨(i 1).val - 1, lt_of_le_of_lt (Nat.sub_le _ _) (i 1).isLt⟩) := by
  refine congrArg (tab0 m) ?_
  funext a; apply Fin.ext; fin_cases a
  exact (ValueKit.rect_emb_unit_val _ _ _ _ _).trans (congrArg (· + 0) (off2 i))

omit [FloatOps F] in
/-- A tile that doesn't begin a new expert isn't the first of its column of the grid, and has its predecessor's expert. -/
theorem not_new (i : grid0.Coords) (h : ¬ New i (tab0 m)) :
    (i 1).val ≠ 0 ∧ tab0 m (ix1 (i 1)) = tab0 m (ix1 ⟨(i 1).val - 1, lt_of_le_of_lt (Nat.sub_le _ _) (i 1).isLt⟩) := by
  have e : ∀ b : BitVec 1, Scalar.cmpi .ne (Scalar.extui b : BitVec 32) 0#32 = 1#1 ↔ b = 1#1 := by decide
  have e2 : ∀ a b : BitVec 1, Scalar.ori a b = 1#1 ↔ a = 1#1 ∨ b = 1#1 := by decide
  unfold New at h
  rw [e, e2, not_or] at h
  constructor
  · intro h0
    refine h.1 (IntOp.cmpi_eq.2 ?_)
    rw [h0]
  · by_contra hne
    refine h.2 (IntOp.cmpi_ne.2 ?_)
    rw [cur_eq, pre_eq]
    exact hne

/-! ## The pipeline at these tables -/

variable (hok : ok0 (tabs m))

def adm : (pcfg0 (F := F)).Adm := ⟨tabs m, hok⟩
abbrev cfgA : Pipeline.Cfg sig Λ₀ := cfg0 (adm m hok)
abbrev crd (t : Fin (cfgA m hok).N) : grid0.Coords := (cfgA m hok).grid.coords t

theorem crd_0 (t : Fin (cfgA m hok).N) : (crd m hok t 0).val = t.val / 99 :=
  (by decide +kernel : ∀ t : Fin grid0.N, (grid0.coords t 0).val = t.val / 99) t
theorem crd_1 (t : Fin (cfgA m hok).N) : (crd m hok t 1).val = t.val % 99 :=
  (by decide +kernel : ∀ t : Fin grid0.N, (grid0.coords t 1).val = t.val % 99) t
theorem lt_N (t : Fin (cfgA m hok).N) : t.val < 198 := lt_of_lt_of_eq t.isLt N_0

/-- Tile `t`'s expert. -/
def te (t : Fin (cfgA m hok).N) : BitVec 32 := tab0 m (ix1 (crd m hok t 1))
/-- The number of tiles in use. -/
def nu : BitVec 32 := tab1 m (ix1 0)

theorem index0 (t : Fin (cfgA m hok).N) : ((cfgA m hok).win 0).index t = ![(Scalar.minsi (BitVec.ofNat 32 (crd m hok t 1).val) (Scalar.subi (nu m) 1#32)).toNat, 0] := by
  unfold nu; rw [← at1 m]; rfl
theorem fst0 : ∀ k : Fin 2, (BitVec.ofNat 32 k.val).toNat = k.val := by decide
theorem index1 (t : Fin (cfgA m hok).N) : ((cfgA m hok).win 1).index t = ![0, (te m hok t).toNat, 0, t.val / 99] := by
  rw [← crd_0 m hok, ← fst0 (crd m hok t 0)]; unfold te; rw [← at0 m]; rfl
theorem index2 (t : Fin (cfgA m hok).N) : ((cfgA m hok).win 2).index t = ![0, (te m hok t).toNat, 0, t.val / 99] := by
  rw [← crd_0 m hok, ← fst0 (crd m hok t 0)]; unfold te; rw [← at0 m]; rfl
theorem index3 (t : Fin (cfgA m hok).N) : ((cfgA m hok).win 3).index t = ![t.val % 99, t.val / 99] :=
  (by decide +kernel : ∀ t : Fin grid0.N, cc0_transform_3 (grid0.coords t) = ![t.val % 99, t.val / 99]) t

/-- A window's block at a point, read off its array as the host operation leaves it. -/
def iblk (c : Dev nD) (w : Fin (cfgA m hok).W) (t : Fin (cfgA m hok).N) : (((cfgA m hok).win w).xblock (crd m hok t)).Idx → Elt F ((cfgA m hok).win w).elt :=
  (((cfgA m hok).win w).blk t).view.read (Elt F) (V m c ((spec0 w).arr.view.ref))

theorem read1 (c : Dev nD) (t : Fin (cfgA m hok).N) (ht : t.val < 198) (hte : (te m hok t).toNat < 32) (k : Fin 1024) (n : Fin 2048) :
    iblk m hok c 1 t (ix4 0 0 k n) = m ((c : Thread nD τ).loc main_arg3) (ix4 0 ⟨(te m hok t).toNat, hte⟩ k ⟨t.val / 99 * 2048 + n.val, by omega⟩) := by
  blk_ext [iblk, V, index1 m hok t]
theorem bias_at (c : Dev nD) (e : Fin 32) (n : Fin 4096) :
    V m c main_v0 (ix4 0 e 0 n) = m ((c : Thread nD τ).loc main_arg4) (ix3 0 e n) := by
  unfold V; entry_read
  pointwise []
theorem read2 (c : Dev nD) (t : Fin (cfgA m hok).N) (ht : t.val < 198) (hte : (te m hok t).toNat < 32) (n : Fin 2048) :
    iblk m hok c 2 t (ix4 0 0 0 n) = m ((c : Thread nD τ).loc main_arg4) (ix3 0 ⟨(te m hok t).toNat, hte⟩ ⟨t.val / 99 * 2048 + n.val, by omega⟩) := by
  refine Eq.trans ?_ (bias_at m c ⟨(te m hok t).toNat, hte⟩ ⟨t.val / 99 * 2048 + n.val, by omega⟩)
  blk_ext [iblk, index2 m hok t]

/-- Tile `t`'s block of rows: its own, or the last in use. -/
theorem min_toNat (w : BitVec 32) (h1 : 1 ≤ w.toNat) (h2 : w.toNat ≤ 99) (k : Fin 99) :
    (Scalar.minsi (BitVec.ofNat 32 k.val) (Scalar.subi w 1#32)).toNat = min k.val (w.toNat - 1) := by
  have e : ∀ n : Fin 100, 1 ≤ n.val → ∀ k : Fin 99, (Scalar.minsi (BitVec.ofNat 32 k.val) (Scalar.subi (BitVec.ofNat 32 n.val) 1#32)).toNat = min k.val (n.val - 1) := by decide +kernel
  have := e ⟨w.toNat, by omega⟩ h1 k
  simpa using this
theorem read0 (c : Dev nD) (t : Fin (cfgA m hok).N) (ht : t.val % 99 < (nu m).toNat) (hnu : (nu m).toNat ≤ 99) (r : Fin 512) (k : Fin 1024) :
    iblk m hok c 0 t (ix2 r k) = m ((c : Thread nD τ).loc main_arg0) (ix2 ⟨t.val % 99 * 512 + r.val, by omega⟩ k) := by
  have e := index0 m hok t
  rw [min_toNat (nu m) (by omega) hnu (crd m hok t 1), crd_1, min_eq_left (by omega)] at e
  blk_ext [iblk, V, e]

/-- Where a tile has its predecessor's expert, the weight block is the predecessor's. -/
theorem blocks_same (c : Dev nD) (hte : ∀ k, (tab0 m k).toNat < 32) (t : Fin (cfgA m hok).N) (h : ¬ New (crd m hok t) (tab0 m)) :
    ∃ p : Fin (cfgA m hok).N, p.val + 1 = t.val ∧ iblk m hok c 1 p = iblk m hok c 1 t := by
  obtain ⟨h0, he⟩ := not_new m _ h
  have ht := lt_N m hok t
  rw [crd_1] at h0
  have hd : (t.val - 1) / 99 = t.val / 99 := by omega
  refine ⟨⟨t.val - 1, lt_of_le_of_lt (Nat.sub_le _ _) t.isLt⟩, by show t.val - 1 + 1 = t.val; omega, ?_⟩
  have hte' : te m hok ⟨t.val - 1, lt_of_le_of_lt (Nat.sub_le _ _) t.isLt⟩ = te m hok t := by
    unfold te; rw [he]; congr 2; apply Fin.ext
    rw [crd_1]; show (t.val - 1) % 99 = (crd m hok t 1).val - 1
    rw [crd_1]; omega
  funext y; change S1x1x1024x2048.Idx at y
  have ey : y = ix4 0 0 (y 2) (y 3) := by
    funext a; fin_cases a <;> first | rfl | exact Subsingleton.elim (α := Fin 1) _ _
  rw [ey]
  refine (read1 m hok c _ (by show t.val - 1 < 198; omega) (hte _) _ _).trans (Eq.trans ?_ (read1 m hok c t ht (hte _) _ _).symm)
  simp only [hte', hd]; rfl

/-! ## The side condition on the tables -/

omit hok in
/-- Tables in range name blocks inside their arrays. -/
theorem ok_of (hte : ∀ k, (tab0 m k).toNat < 32) (h1 : 1 ≤ (nu m).toNat) (h2 : (nu m).toNat ≤ 99) : ok0 (tabs m) := by
  have c0 : ∀ i : grid0.Coords, (i 0).val < 2 := fun i => (i 0).isLt
  have c1 : ∀ i : grid0.Coords, (i 1).val < 99 := fun i => (i 1).isLt
  have e0 : ∀ i : grid0.Coords, cc0_transform_0 inb_S1_S1_0 numel1_S1 (tabs m) i = ![(Scalar.minsi (BitVec.ofNat 32 (i 1).val) (Scalar.subi (nu m) 1#32)).toNat, 0] := by
    intro i; unfold nu; rw [← at1 m]; rfl
  have e1 : ∀ i : grid0.Coords, cc0_transform_1 k0_off1_inb numel1_S1 (tabs m) i = ![0, (tab0 m (ix1 (i 1))).toNat, 0, (i 0).val] := by
    intro i; rw [← fst0 (i 0), ← at0 m]; rfl
  have e2 : ∀ i : grid0.Coords, cc0_transform_2 k0_off1_inb numel1_S1 (tabs m) i = ![0, (tab0 m (ix1 (i 1))).toNat, 0, (i 0).val] := by
    intro i; rw [← fst0 (i 0), ← at0 m]; rfl
  refine ⟨fun i => ⟨?_, .inr (Affine.block_words_dvd (s := S50688x1024) (p := EltTy.packing .bf16) (by decide) (by decide))⟩, fun i => ⟨?_, .inl rfl⟩, fun i => ⟨?_, .inl rfl⟩⟩
  · rw [e0, min_toNat (nu m) h1 h2 (i 1)]
    have h := c1 i
    intro a; fin_cases a
    · show (min (i 1).val ((nu m).toNat - 1) + 1) * 512 ≤ 50688
      have := Nat.min_le_left (i 1).val ((nu m).toNat - 1); omega
    · show (0 + 1) * 1024 ≤ 1024; omega
  · rw [e1]
    have h := c0 i; have g := hte (ix1 (i 1))
    intro a; fin_cases a
    · show (0 + 1) * 1 ≤ 4; omega
    · show ((tab0 m (ix1 (i 1))).toNat + 1) * 1 ≤ 32; omega
    · show (0 + 1) * 1024 ≤ 1024; omega
    · show ((i 0).val + 1) * 2048 ≤ 4096; omega
  · rw [e2]
    have h := c0 i; have g := hte (ix1 (i 1))
    intro a; fin_cases a
    · show (0 + 1) * 1 ≤ 4; omega
    · show ((tab0 m (ix1 (i 1))).toNat + 1) * 1 ≤ 32; omega
    · show (0 + 1) * 1 ≤ 1; omega
    · show ((i 0).val + 1) * 2048 ≤ 4096; omega

/-! ## The invariant and what each point leaves -/

abbrev sc0 : Memref sig .tc .vmem S1024x2048 .bf16 := Memref.whole cc0_scratch0

open Classical in
/-- What point `t` leaves in the result's block. -/
def out (c : Dev nD) (t : Fin (cfgA m hok).N) : S512x2048.Idx → Elt F .f32 :=
  if k0_cond2 (crd m hok t) (cnt (tab1 m)) = 1#1 then
    k0_pay2 (iblk m hok c 0 t) (k0_pay1 (iblk m hok c 1 t)) (iblk m hok c 2 t)
  else k0_pay3

/-- Before point `t` the scratch holds the previous point's weight block, and the tables and the generator's state stand. -/
def Phi (c : Dev nD) (t : Fin ((cfgA m hok).N + 1)) : sProp 𝕄 :=
  iprop((∃ s1, ⌜∀ p : Fin (cfgA m hok).N, p.val + 1 = t.val → s1 = k0_pay1 (iblk m hok c 1 p)⌝ ∗ owns (c : Thread nD τ) sc0 fullShare s1)
    ∗ (teM.view.loc (c : Thread nD τ) ↦{fullShare.right} tab0 m) ∗ (nuM.view.loc (c : Thread nD τ) ↦{fullShare.right} tab1 m) ∗ (∃ r, prngReg c r))

/-- The proof data of the one pipeline. -/
def dats (_ : Fin 1) (c : Dev nD) : Dat τ (Elt F) Unit ℕ (UR sig nD τ) ℕ (cfgA m hok) c where
  A w := V m c ((spec0 w).arr.view.ref)
  after w t := match w with
    | ⟨0, _⟩ => iblk m hok c 0 t
    | ⟨1, _⟩ => iblk m hok c 1 t
    | ⟨2, _⟩ => iblk m hok c 2 t
    | ⟨3, _⟩ => out m hok c t
  Φ t := Phi m hok c t
  q w := Pipeline.shareOf (cfgA m hok).spec w
  owed _ := 0

theorem after0_0 (c : Dev nD) (t : Fin (cfgA m hok).N) : (dats m hok 0 c).after 0 t = iblk m hok c 0 t := rfl
theorem after0_1 (c : Dev nD) (t : Fin (cfgA m hok).N) : (dats m hok 0 c).after 1 t = iblk m hok c 1 t := rfl
theorem after0_2 (c : Dev nD) (t : Fin (cfgA m hok).N) : (dats m hok 0 c).after 2 t = iblk m hok c 2 t := rfl
theorem after0_3 (c : Dev nD) (t : Fin (cfgA m hok).N) : (dats m hok 0 c).after 3 t = out m hok c t := rfl

theorem before0_0 (c : Dev nD) (t : Fin (cfgA m hok).N) (d) : (dats m hok 0 c).before 0 t d = iblk m hok c 0 t :=
  ((dats m hok 0 c).before_in_eq_fetched 0 rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA m hok).N) (d) : (dats m hok 0 c).before 1 t d = iblk m hok c 1 t :=
  ((dats m hok 0 c).before_in_eq_fetched 1 rfl (fun _ => rfl) (fun _ _ _ => rfl) (fun t => by rw [after0_1]; unfold Dat.blockOf iblk; rfl) t d).trans
    (by unfold Dat.fetched Dat.blockOf iblk; rfl)
theorem before0_2 (c : Dev nD) (t : Fin (cfgA m hok).N) (d) : (dats m hok 0 c).before 2 t d = iblk m hok c 2 t :=
  ((dats m hok 0 c).before_in_eq_fetched 2 rfl (fun _ => rfl) (fun _ _ _ => rfl) (fun t => by rw [after0_2]; unfold Dat.blockOf iblk; rfl) t d).trans
    (by unfold Dat.fetched Dat.blockOf iblk; rfl)

/-- Every point stores the result's block. -/
theorem idle3 (i : grid0.Coords) : (cfgA m hok).idle 3 i = false := by
  show (!(k0_cond2 i ((tabs m).atD 1 ![0]) == 1#1) && !(k0_cond3 i ((tabs m).atD 1 ![0]) == 1#1)) = false
  by_cases h : k0_cond2 i ((tabs m).atD 1 ![0]) = 1#1
  · rw [h]; rfl
  · rw [(unused_iff i _).2 h]; simp

/-! ## The body at a point -/

abbrev ms0 (t : Fin (cfgA m hok).N) : Memref sig .tc .vmem S512x1024 .bf16 := spec0_0.stage ((cfgA m hok).slots t (0 : Fin 4))
abbrev ms1 (t : Fin (cfgA m hok).N) : Memref sig .tc .vmem S1x1x1024x2048 .f32 := spec0_1.stage ((cfgA m hok).slots t (1 : Fin 4))
abbrev ms2 (t : Fin (cfgA m hok).N) : Memref sig .tc .vmem S1x1x1x2048 .f32 := spec0_2.stage ((cfgA m hok).slots t (2 : Fin 4))
abbrev ms3 (t : Fin (cfgA m hok).N) : Memref sig .tc .vmem S512x2048 .f32 := spec0_3.stage ((cfgA m hok).slots t (3 : Fin 4))
abbrev bodyAt (t : Fin (cfgA m hok).N) : Prog (TpuEff nD τ sig (Elt F) Λ₀ .tc) PUnit :=
  cc0_moe_ffn2 (crd m hok t) teM (Memref.isWhole_whole _) nuM (Memref.isWhole_whole _)
    (ms0 m hok t) (hstage0_0 (((cfgA m hok).slots t (0 : Fin 4)).cast nbuf0_0)) (ms1 m hok t) (hstage0_1 (((cfgA m hok).slots t (1 : Fin 4)).cast nbuf0_1))
    (ms2 m hok t) (hstage0_2 (((cfgA m hok).slots t (2 : Fin 4)).cast nbuf0_2)) (ms3 m hok t) (hstage0_3 (((cfgA m hok).slots t (3 : Fin 4)).cast nbuf0_3))
    sc0 (Memref.isWhole_whole _)

set_option maxHeartbeats 4000000 in
theorem sound_body (hte : ∀ k, (tab0 m k).toNat < 32) (c : Dev nD) (t : Fin (cfgA m hok).N) :
    iprop((dats m hok 0 c).Φ t.castSucc ∗ (dats m hok 0 c).owesAt () t.castSucc
        ∗ (∃ d, owns (c : Thread nD τ) (ms0 m hok t) fullShare ((dats m hok 0 c).before 0 t d))
        ∗ (∃ d, owns (c : Thread nD τ) (ms1 m hok t) fullShare ((dats m hok 0 c).before 1 t d))
        ∗ (∃ d, owns (c : Thread nD τ) (ms2 m hok t) fullShare ((dats m hok 0 c).before 2 t d))
        ∗ (∃ d, owns (c : Thread nD τ) (ms3 m hok t) fullShare ((dats m hok 0 c).before 3 t d)))

      ⊢ wp frame (wpE (defs₀ (F := F)) Variants.none c none) Set.univ (bodyAt m hok t) fun _ =>
          iprop((dats m hok 0 c).Φ t.succ ∗ (dats m hok 0 c).owesAt () t.succ
            ∗ bigSep Finset.univ fun w : Fin (cfgA m hok).W =>
                match (cfgA m hok).idle w ((cfgA m hok).grid.coords t) with
                | true =>
                  match ((cfgA m hok).win w).flush t with
                  | false => iprop(∃ d, owns (c : Thread nD τ) (((cfgA m hok).win w).stage ((cfgA m hok).slots t w)) fullShare ((dats m hok 0 c).before w t d))
                  | true => owns (c : Thread nD τ) (((cfgA m hok).win w).stage ((cfgA m hok).slots t w)) fullShare ((dats m hok 0 c).after w t)
                | false => owns (c : Thread nD τ) (((cfgA m hok).win w).stage ((cfgA m hok).slots t w)) fullShare ((dats m hok 0 c).after w t)) := by
  rw [bigSep_W0]
  rewrite [idle3 m hok]
  simp only [before0_0, before0_1, before0_2, after0_0, after0_1, after0_2, after0_3]
  rewrite [show (dats m hok 0 c).Φ t.succ = Phi m hok c t.succ from rfl, show (dats m hok 0 c).Φ t.castSucc = Phi m hok c t.castSucc from rfl,
    show (dats m hok 0 c).owesAt () t.succ = (dats m hok 0 c).owesAt () t.castSucc from rfl]
  unfold Phi
  iintro ⟨⟨⟨%s1, %hs, HS0⟩, HT0, HT1, Hr⟩, Ho, ⟨%d0, H0⟩, ⟨%d1, H1⟩, ⟨%d2, H2⟩, ⟨%d3, H3⟩⟩
  have key : ¬ New (crd m hok t) (tab0 m) → s1 = k0_pay1 (iblk m hok c 1 t) := by
    intro hn
    obtain ⟨p, hp, b1⟩ := blocks_same m hok c hte t hn
    rw [← b1]
    exact hs p (hp.trans (Fin.val_castSucc t).symm)
  iapply (body_run c (crd m hok t) (ms0 m hok t) _ (ms1 m hok t) _ (ms2 m hok t) _ (ms3 m hok t) _ sc0 _
    (tab0 m) (tab1 m) (iblk m hok c 0 t) (iblk m hok c 1 t) (iblk m hok c 2 t)
    s1 (k0_pay1 (iblk m hok c 1 t)) ((dats m hok 0 c).before 3 t d3) (out m hok c t)
    (by by_cases hn : New (crd m hok t) (tab0 m)
        · rw [if_pos hn]
        · rw [if_neg hn]; exact (key hn).symm)
    rfl _)
  isplitl [H0]; · iapply rep_of_owns; iexact H0
  isplitl [H1]; · iapply rep_of_owns; iexact H1
  isplitl [H2]; · iapply rep_of_owns; iexact H2
  isplitl [HT0]; · iexact HT0
  isplitl [HT1]; · iexact HT1
  isplitl [H3]; · iapply rep_of_owns; iexact H3
  isplitl [HS0]; · iapply rep_of_owns; iexact HS0
  iintro ⟨H0, H1, H2, HT0, HT1, H3, HS0⟩
  isplitl [HS0 HT0 HT1 Hr]
  · isplitl [HS0]
    · iexists _; isplitr; swap
      · iapply owns_of_rep; iexact HS0
      · ipureintro
        intro p hp
        have : p = t := by rw [Fin.val_succ] at hp; exact Fin.ext (Nat.succ.inj hp)
        subst this
        rfl
    isplitl [HT0]; · iexact HT0
    isplitl [HT1]; · iexact HT1
    iexact Hr
  isplitl [Ho]; · iexact Ho
  isplitl [H0]; · iapply owns_of_rep; iexact H0
  isplitl [H1]; · iapply owns_of_rep; iexact H1
  isplitl [H2]; · iapply owns_of_rep; iexact H2
  iapply owns_of_rep; iexact H3

theorem body_obligation (hte : ∀ k, (tab0 m k).toNat < 32) (c : Dev nD) :
    BodyObligation (dats m hok 0 c) (defs₀ (F := F)) Variants.none () Set.univ := fun t => by
  rw [bigSep_W0]
  exact sound_body m hok hte c t

/-! ## The launch -/

theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

theorem enter (c : Dev nD) : iprop(Pipeline.ΦA (cfgA m hok).spec c ∗ Pipeline.ΦT pre0 (adm m hok).1 c) ⊢ (dats m hok 0 c).Φ 0 := by
  rw [show (dats m hok 0 c).Φ 0 = Phi m hok c 0 from rfl]
  unfold Pipeline.ΦA Pipeline.ΦT Phi
  rw [prefHeld_eq, show Pipeline.scopedRest (cfgA m hok).spec c = Pipeline.scopedRest spec0 c from rfl, scopedRest0_eq]
  iintro ⟨⟨⟨%f0, HS0⟩, Hr⟩, HT0, HT1⟩
  isplitl [HS0]
  · iexists f0; isplitr; swap
    · rw [owns_whole]
      iexact HS0
    · ipureintro; intro p hp; exact absurd hp (Nat.succ_ne_zero _)
  isplitl [HT0]; · iexact HT0
  isplitl [HT1]; · iexact HT1
  iexact Hr

theorem leave (c : Dev nD) : (dats m hok 0 c).Φ (Fin.last (cfgA m hok).N) ⊢ Pipeline.ΦA (cfgA m hok).spec c := by
  rw [show (dats m hok 0 c).Φ (Fin.last (cfgA m hok).N) = Phi m hok c (Fin.last _) from rfl]
  unfold Pipeline.ΦA Phi
  rw [show Pipeline.scopedRest (cfgA m hok).spec c = Pipeline.scopedRest spec0 c from rfl, scopedRest0_eq]
  simp only [owns_whole]
  iintro ⟨⟨%f0, %hs, HS0⟩, HT0, HT1, Hr⟩
  isplitl [HS0]
  · iexists f0; iexact HS0
  iexact Hr

theorem hostOps0_fresh : (hostOps0 : List (HloOp τ sig (Elt F))).Forall fun op => op.fresh = ∅ := by
  simp only [List.Forall]; rfl

theorem V_arg (c : Dev nD) (b : Ref sig .tc) (hb : b ≠ main_v0) : V m c b = m ((c : Thread nD τ).loc b) :=
  StableHlo.after_of_forall_not_mem (b := Proc.devRef .tc b) _ _ (List.forall_iff_forall_mem.mp (by
    simp only [List.Forall, StableHlo.reshape_writes, Finset.mem_singleton]
    exact fun h => hb (Proc.devRef_injective _ h)))

theorem run_frame (hte : ∀ k, (tab0 m k).toNat < 32) (g : Dev nD → PrngReg) :
    θ_run (defs (F := F)) (onTc (τ := τ) (main (F := F))) ⟨m, fun _ => 0, g⟩ fun r =>
      Pipeline.FramePost (Pipeline.pin (pcfgs (F := F)) fun _ => adm m hok) (dats m hok) 0 (V m) r ∧ r.2.sem = fun _ => 0 :=
  Pipeline.θ_run_frameP_track_shared (pcfgs (F := F)) (fun _ => adm m hok) (dats m hok) 0 (launch0 (F := F)).to₀ defs₀ Variants.none m g main
    (fun c => (body_obligation m hok hte c).loose) (fun _ _ _ => rfl) (fun _ _ => rfl) (V m)
    (Pipeline.hmainP_prefix (pcfgs (F := F)) 0 defs₀ Variants.none m main hostOps0 hostOps0_sub hostOps0_fresh main_chain)
    (fun _ _ => rfl) (fun c k => by
      obtain rfl : c = 0 := Subsingleton.elim _ _
      match k with
      | 0 => exact V_arg m 0 main_arg1 (by decide)
      | 1 => exact V_arg m 0 main_arg2 (by decide))
    (enter m hok) (leave m hok) _ (fun r h => h)

/-- After the run the arguments are what they were. -/
theorem args_kept {r : PUnit × MemSt nD τ sig (Elt F)} (h : Pipeline.FramePost (Pipeline.pin (pcfgs (F := F)) fun _ => adm m hok) (dats m hok) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(h.in_eq c 0 rfl).trans (V_arg m c main_arg0 (by decide)), (h.rest_eq c main_arg1 (show main_arg1 ∈ Pipeline.restRefs sig spec0 from by decide)).trans (V_arg m c main_arg1 (by decide)),
    (h.rest_eq c main_arg2 (show main_arg2 ∈ Pipeline.restRefs sig spec0 from by decide)).trans (V_arg m c main_arg2 (by decide)), (h.in_eq c 1 rfl).trans (V_arg m c main_arg3 (by decide)),
    (h.rest_eq c main_arg4 (show main_arg4 ∈ Pipeline.restRefs sig spec0 from by decide)).trans (V_arg m c main_arg4 (by decide))⟩

end Cert.FfnTwoIdeal.Tile
end
-- ==== Proof.Experts.lean ====
/- What both expert layers need: a gather of whole matrices, a wrapped index, a condition over tiles. -/
module

public import Idealize.ShloMosaic.Lib.Routing.Ops
public import Idealize.ShloMosaic.Lib.Pointwise
public import Idealize.ShloMosaic.Lib.WordCmp

@[expose] public section

noncomputable section

namespace Cert.Experts

open Idealize.ShloMosaic

/-- The dimension numbers of a gather along the first axis of three, one matrix for each index. -/
abbrev slabDims (N A B n : Nat) (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- Such a gather takes the matrix the index names, where it names one. -/
theorem gather_slab {α : Type} {N A B n : Nat} (wf : GatherDims.WF ⟨3, ![N, A, B]⟩ ⟨2, ![n, 1]⟩ ⟨3, ![n, A, B]⟩ [1, 2] [0] [] [0] [] 1 ![1, A, B])
    (x : (⟨3, ![N, A, B]⟩ : Shape).Idx → α) (idx : IVec ⟨2, ![n, 1]⟩ 32) (t : Fin n) (k : Fin A) (y : Fin B) (e : Fin N)
    (he : idx (ix2 t (0 : Fin 1)) = BitVec.ofNat 32 e.val) (hN : N < 2 ^ 31) :
    Host.gather (slabDims N A B n wf) x idx (ix3 t k y) = x (ix3 e k y) := by
  unfold Host.gather
  refine congrArg x (funext fun a => Fin.ext ?_)
  show (slabDims N A B n wf).start (ix3 t k y) idx a + (slabDims N A B n wf).batchCoord (ix3 t k y) a + (slabDims N A B n wf).offCoord (ix3 t k y) a = _
  rw [GatherDims.batchCoord_eq_zero _ _ _ List.not_mem_nil, Nat.add_zero]
  have h012 : a = 0 ∨ a = 1 ∨ a = 2 := by
    match a with
    | ⟨0, _⟩ => exact .inl rfl
    | ⟨1, _⟩ => exact .inr (.inl rfl)
    | ⟨2, _⟩ => exact .inr (.inr rfl)
  rcases h012 with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ (slabDims N A B n wf).startIndexMap from List.mem_singleton.mpr rfl)]
    have hsi : (slabDims N A B n wf).siIdx (ix3 t k y) ⟨List.idxOf (0 : Fin 3) (slabDims N A B n wf).startIndexMap,
        List.idxOf_lt_length_iff.2 (List.mem_singleton.mpr rfl)⟩ = ix2 t (0 : Fin 1) := by
      funext b
      refine Fin.ext ?_
      match b with
      | ⟨0, _⟩ => rfl
      | ⟨1, _⟩ => rfl
    have hlt := e.isLt
    rw [hsi, he, StableHlo.Predicate.toInt_ofNat_small _ (by omega)]
    show min ((e.val : Int)).toNat (N - 1) = e.val
    omega
  · unfold GatherDims.start
    rw [dif_neg (show (1 : Fin 3) ∉ (slabDims N A B n wf).startIndexMap from fun h => absurd (congrArg Fin.val (List.mem_singleton.1 h)) Nat.one_ne_zero), Nat.zero_add]
    rfl
  · unfold GatherDims.start
    rw [dif_neg (show (2 : Fin 3) ∉ (slabDims N A B n wf).startIndexMap from fun h => absurd (congrArg Fin.val (List.mem_singleton.1 h)) (Nat.succ_ne_zero 1)), Nat.zero_add]
    rfl

/-- An index in range isn't wrapped. -/
theorem wrap_at (te : IVec ⟨1, ![99]⟩ 32) (t : Fin 99) (h : (te (ix1 t)).toNat < 32)
    (h0 : (⟨0, ![]⟩ : Shape).BroadcastsInDim ⟨1, ![99]⟩ (![] : Fin 0 → Fin 1)) (h1 : (⟨0, ![]⟩ : Shape).BroadcastsInDim ⟨1, ![99]⟩ (![] : Fin 0 → Fin 1))
    (h2 : (⟨1, ![99]⟩ : Shape).BroadcastsInDim ⟨2, ![99, 1]⟩ (![0] : Fin 1 → Fin 2)) :
    broadcastInDim ⟨2, ![99, 1]⟩ ![0] h2 (select (cmpi .slt te (broadcastInDim ⟨1, ![99]⟩ ![] h0 (constantI ⟨0, ![]⟩ 32 0#32)))
      (addi te (broadcastInDim ⟨1, ![99]⟩ ![] h1 (constantI ⟨0, ![]⟩ 32 32#32))) te) (ix2 t (0 : Fin 1)) = BitVec.ofNat 32 (te (ix1 t)).toNat := by
  pointwise []
  rw [WordCmp.cmpi_slt_zero, decide_eq_false (by omega)]
  show te (ix1 t) = _
  exact BitVec.eq_of_toNat_eq (by simp)

/-- Whether a tile is in use, as the array of the results' shape says it. -/
theorem used_at {M D : Nat} (nu : IVec ⟨1, ![1]⟩ 32) (hc : (⟨1, ![1]⟩ : Shape).ShapeCasts ⟨0, ![]⟩) (h0 : (⟨0, ![]⟩ : Shape).BroadcastsInDim ⟨1, ![99]⟩ (![] : Fin 0 → Fin 1))
    (h1 : (⟨1, ![99]⟩ : Shape).BroadcastsInDim ⟨3, ![99, 1, 1]⟩ (![0] : Fin 1 → Fin 3))
    (h2 : (⟨3, ![99, 1, 1]⟩ : Shape).BroadcastsInDim ⟨3, ![99, M, D]⟩ (![0, 1, 2] : Fin 3 → Fin 3)) (t : Fin 99) (r : Fin M) (n : Fin D) :
    broadcastInDim ⟨3, ![99, M, D]⟩ ![0, 1, 2] h2 (broadcastInDim ⟨3, ![99, 1, 1]⟩ ![0] h1
      (cmpi .slt (iotaInDim ⟨1, ![99]⟩ 32 0) (broadcastInDim ⟨1, ![99]⟩ ![] h0 (shapeCast ⟨0, ![]⟩ nu hc)))) (ix3 t r n)
      = IntOp.cmpi .slt (BitVec.ofNat 32 t.val) (nu (ix1 0)) := by
  pointwise []

/-- A packed word's low half as a number, and its high half. -/
def low (x : BitVec 32) : EReal := Ideal.ofBits .f32 (IntOp.shli .vector x 16#32)
def high (x : BitVec 32) : EReal := Ideal.ofBits .f32 (IntOp.andi x 4294901760#32)

theorem low_host (x : BitVec 32) : Ideal.ofBits .f32 (IntOp.shli .host x 16#32) = low x := rfl

/-- The gated product of the two bounded halves. -/
def swi (g l : EReal) : EReal :=
  min g (Ideal.ofBits .f32 0x40E00000#32) * Ideal.div (Ideal.ofBits .f32 0x3F800000#32) (Ideal.ofBits .f32 0x3F800000#32 + Ideal.exp (-(Ideal.ofBits .f32 0x3FD9DB23#32 * min g (Ideal.ofBits .f32 0x40E00000#32))))
    * (min (Ideal.ofBits .f32 0x40E00000#32) (max (Ideal.ofBits .f32 0xC0E00000#32) l) + Ideal.ofBits .f32 0x3F800000#32)

theorem ofBits_zero : Ideal.ofBits .f32 0x00000000#32 = 0 := by simp [Ideal.ofBits, Ideal.ieee]
theorem ofBits_zero16 : Ideal.ofBits .bf16 0x0000#16 = 0 := by simp [Ideal.ofBits, Ideal.ieee]

/-- A sum over an axis laid end to end from two. -/
theorem sum_halves {M : Type} [AddCommMonoid M] (n : Nat) (f : Fin (n + n) → M) :
    ∑ k, f k = ∑ k : Fin n, f ⟨k.val, by omega⟩ + ∑ k : Fin n, f ⟨n + k.val, by omega⟩ :=
  Fin.sum_univ_add f

end Cert.Experts

end
-- ==== Proof.FfnTwoRef.lean ====
/- The second expert layer's reference, its parts named, read at an index. -/
module

public import proofs.«01_k».proof.Proof.Gen.FfnTwoRefIdeal.Run
public import proofs.«01_k».proof.Proof.Experts

@[expose] public section

set_option maxRecDepth 16384

noncomputable section

namespace Cert.FfnTwoValue

open Cert.FfnTwoRefIdeal Cert.FfnTwoRefIdeal.Gen Cert.Experts Idealize.ShloMosaic Idealize.ShloMosaic.TcCoe Idealize.SL.Sem

/-- The rows in tiles. -/
def rows (x : FVec Ideal S50688x1024 .bf16) : FVec Ideal S99x512x1024 .f32 :=
  extf .f32 (shapeCast S99x512x1024 x shapeCasts_S50688x1024_S99x512x1024) bitsLt_bf16_f32

/-- The tiles' experts as a column, a negative one counted from the end. -/
def wrapped (te : IVec S99 32) : IVec S99x1 32 :=
  broadcastInDim S99x1 ![0] bcast_S99_S99x1_0 (select (cmpi .slt te (broadcastInDim S99 ![] bcast_S_S99 (constantI S_ 32 0#32)))
    (addi te (broadcastInDim S99 ![] bcast_S_S99 (constantI S_ 32 32#32))) te)

/-- Each tile's weights. -/
def weights (te : IVec S99 32) (w : FVec Ideal S4x32x1024x4096 .f32) : FVec Ideal S99x1024x4096 .f32 :=
  Host.gather gather_S32x1024x4096_S99x1_S99x1024x4096_12_0_n_n_0_1_110244096 (shapeCast S32x1024x4096 (extractStridedSlice S1x32x1024x4096 ![0, 0, 0, 0] w slices_S4x32x1024x4096_S1x32x1024x4096_0_0_0_0) shapeCasts_S1x32x1024x4096_S32x1024x4096) (wrapped te)

/-- Each tile's bias. -/
def biases (te : IVec S99 32) (b : FVec Ideal S4x32x4096 .f32) : FVec Ideal S99x4096 .f32 :=
  Host.gather gather_S32x4096_S99x1_S99x4096_1_0_n_n_0_1_14096 (shapeCast S32x4096 (extractStridedSlice S1x32x4096 ![0, 0, 0] b slices_S4x32x4096_S1x32x4096_0_0_0) shapeCasts_S1x32x4096_S32x4096) (wrapped te)

/-- Each tile's rows through its expert's matrix, its bias added. -/
def outcome (x : FVec Ideal S50688x1024 .bf16) (te : IVec S99 32) (w : FVec Ideal S4x32x1024x4096 .f32) (b : FVec Ideal S4x32x4096 .f32) : FVec Ideal S99x512x4096 .f32 :=
  addf (Host.dotGeneral dot_S99x512x1024_S99x1024x4096_S99x512x4096_2_1_1_2_0_0 none (rows x) (weights te w))
    (broadcastInDim S99x512x4096 ![0, 1, 2] bcast_S99x1x4096_S99x512x4096_0_1_2 (broadcastInDim S99x1x4096 ![0, 2] bcast_S99x4096_S99x1x4096_0_2 (biases te b)))

/-- Whether a tile is in use. -/
def used (nu : IVec S1 32) : IVec S99x512x4096 1 :=
  broadcastInDim S99x512x4096 ![0, 1, 2] bcast_S99x1x1_S99x512x4096_0_1_2 (broadcastInDim S99x1x1 ![0] bcast_S99_S99x1x1_0
    (cmpi .slt (iotaInDim S99 32 0) (broadcastInDim S99 ![] bcast_S_S99 (shapeCast S_ nu shapeCasts_S1_S_))))

/-- The reference's result. -/
def ref (x : FVec Ideal S50688x1024 .bf16) (te : IVec S99 32) (nu : IVec S1 32) (w : FVec Ideal S4x32x1024x4096 .f32) (b : FVec Ideal S4x32x4096 .f32) : FVec Ideal S50688x4096 .f32 :=
  shapeCast S50688x4096 (select (used nu) (outcome x te w b) (broadcastInDim S99x512x4096 ![] bcast_S_S99x512x4096 (id (constant S_ .f32 0x00000000#32)))) shapeCasts_S99x512x4096_S50688x4096

theorem weights_at (te : IVec S99 32) (w : FVec Ideal S4x32x1024x4096 .f32) (t : Fin 99) (h : (te (ix1 t)).toNat < 32) (k : Fin 1024) (n : Fin 4096) :
    weights te w (ix3 t k n) = w (ix4 0 ⟨(te (ix1 t)).toNat, h⟩ k n) := by
  unfold weights
  refine (gather_slab gather_S32x1024x4096_S99x1_S99x1024x4096_12_0_n_n_0_1_110244096_wf _ _ t k n ⟨(te (ix1 t)).toNat, h⟩ (wrap_at te t h _ _ _) (by decide)).trans ?_
  pointwise []

theorem biases_at (te : IVec S99 32) (b : FVec Ideal S4x32x4096 .f32) (t : Fin 99) (h : (te (ix1 t)).toNat < 32) (n : Fin 4096) :
    biases te b (ix2 t n) = b (ix3 0 ⟨(te (ix1 t)).toNat, h⟩ n) := by
  unfold biases
  refine (Routing.gather_row gather_S32x4096_S99x1_S99x4096_1_0_n_n_0_1_14096 rfl rfl rfl rfl rfl _ _ t n ⟨(te (ix1 t)).toNat, h⟩ (wrap_at te t h _ _ _) (by decide)).trans ?_
  pointwise []

theorem add_at {s : Shape} (a b : FVec Ideal s .f32) (i : s.Idx) : addf a b i = a i + b i := rfl
theorem select_at {s : Shape} (c : IVec s 1) (a b : FVec Ideal s .f32) (i : s.Idx) : select c a b i = Scalar.select (c i) (a i) (b i) := rfl
theorem dot_at (x : FVec Ideal S99x512x1024 .f32) (w : FVec Ideal S99x1024x4096 .f32) (t : Fin 99) (r : Fin 512) (n : Fin 4096) :
    Host.dotGeneral dot_S99x512x1024_S99x1024x4096_S99x512x4096_2_1_1_2_0_0 none x w (ix3 t r n) = ∑ k : Fin 1024, x (ix3 t r k) * w (ix3 t k n) := by
  pointwise []

theorem rows_at (x : FVec Ideal S50688x1024 .bf16) (t : Fin 99) (r : Fin 512) (k : Fin 1024) :
    rows x (ix3 t r k) = x (ix2 ⟨t.val * 512 + r.val, by omega⟩ k) := by
  pointwise [rows]

theorem bias_at (b : FVec Ideal S99x4096 .f32) (t : Fin 99) (r : Fin 512) (n : Fin 4096) :
    (broadcastInDim S99x512x4096 ![0, 1, 2] bcast_S99x1x4096_S99x512x4096_0_1_2 (broadcastInDim S99x1x4096 ![0, 2] bcast_S99x4096_S99x1x4096_0_2 b)) (ix3 t r n) = b (ix2 t n) := by
  pointwise []

theorem cast2_at (x : FVec Ideal S99x512x4096 .f32) (t : Fin 99) (r : Fin 512) (n : Fin 4096) :
    shapeCast S50688x4096 x shapeCasts_S99x512x4096_S50688x4096 (ix2 ⟨t.val * 512 + r.val, by omega⟩ n) = x (ix3 t r n) := by
  pointwise []

theorem outcome_at (x : FVec Ideal S50688x1024 .bf16) (te : IVec S99 32) (w : FVec Ideal S4x32x1024x4096 .f32) (b : FVec Ideal S4x32x4096 .f32) (t : Fin 99)
    (h : (te (ix1 t)).toNat < 32) (r : Fin 512) (n : Fin 4096) :
    outcome x te w b (ix3 t r n)
      = (∑ k : Fin 1024, x (ix2 ⟨t.val * 512 + r.val, by omega⟩ k) * w (ix4 0 ⟨(te (ix1 t)).toNat, h⟩ k n)) + b (ix3 0 ⟨(te (ix1 t)).toNat, h⟩ n) := by
  unfold outcome
  rw [add_at, dot_at, bias_at, biases_at te b t h]
  simp only [rows_at, weights_at te w t h]

theorem ref_at (x : FVec Ideal S50688x1024 .bf16) (te : IVec S99 32) (nu : IVec S1 32) (w : FVec Ideal S4x32x1024x4096 .f32) (b : FVec Ideal S4x32x4096 .f32)
    (t : Fin 99) (r : Fin 512) (n : Fin 4096) :
    ref x te nu w b (ix2 ⟨t.val * 512 + r.val, by omega⟩ n)
      = Scalar.select (IntOp.cmpi .slt (BitVec.ofNat 32 t.val) (nu (ix1 0))) (outcome x te w b (ix3 t r n)) 0 := by
  unfold ref used
  rw [cast2_at, select_at, used_at]
  exact congrArg (Scalar.select _ _) ofBits_zero

end Cert.FfnTwoValue

end
-- ==== Proof.FfnTwoKer.lean ====
/- The second expert layer's kernel: what it leaves is the reference's result. -/
module

public import proofs.«01_k».proof.Proof.FfnTwoIdealRun
public import proofs.«01_k».proof.Proof.FfnTwoRef
public import Idealize.ShloMosaic.Lib.Pipeline.Covers

@[expose] public section

set_option maxRecDepth 16384

noncomputable section

namespace Cert.FfnTwoValue

open Cert.FfnTwoIdeal Cert.FfnTwoIdeal.Gen Cert.FfnTwoIdeal.Tile Cert.Experts Idealize.ShloMosaic Idealize.ShloMosaic.TcCoe Idealize.SL.Sem

/-- One column of a tile's row through a weight block, its bias added. -/
def column (x w : Fin 1024 → EReal) (b : EReal) : EReal := (∑ k : Fin 1024, x k * w k) + b

theorem pay1_at (x : FVec Ideal S1x1x1024x2048 .f32) (k : Fin 1024) (n : Fin 2048) : k0_pay1 (F := Ideal) x (ix2 k n) = x (ix4 0 0 k n) := by
  pointwise [k0_pay1]
theorem pay2_at (x : FVec Ideal S512x1024 .bf16) (w : FVec Ideal S1024x2048 .bf16) (b : FVec Ideal S1x1x1x2048 .f32) (r : Fin 512) (n : Fin 2048) :
    k0_pay2 (F := Ideal) x w b (ix2 r n) = column (fun k => x (ix2 r k)) (fun k => w (ix2 k n)) (b (ix4 0 0 0 n)) := by
  unfold column
  pointwise [k0_pay2]

theorem tile_at (x : FVec Ideal S512x1024 .bf16) (w : FVec Ideal S1x1x1024x2048 .f32) (b : FVec Ideal S1x1x1x2048 .f32) (r : Fin 512) (n : Fin 2048) :
    k0_pay2 (F := Ideal) x (k0_pay1 (F := Ideal) w) b (ix2 r n) = column (fun k => x (ix2 r k)) (fun k => w (ix4 0 0 k n)) (b (ix4 0 0 0 n)) := by
  rw [pay2_at]
  simp only [pay1_at]

theorem column_congr {x x' w w' : Fin 1024 → EReal} {b b' : EReal} (hx : ∀ k, x k = x' k) (hw : ∀ k, w k = w' k) (hb : b = b') :
    column x w b = column x' w' b' := by
  rw [funext hx, funext hw, hb]

theorem outcome_column (x : FVec Ideal S50688x1024 .bf16) (tb : IVec S99 32) (w : FVec Ideal S4x32x1024x4096 .f32) (b : FVec Ideal S4x32x4096 .f32) (t : Fin 99)
    (e : Fin 32) (h : (tb (ix1 t)).toNat = e.val) (r : Fin 512) (n : Fin 4096) :
    outcome x tb w b (ix3 t r n) = column (fun k => x (ix2 ⟨t.val * 512 + r.val, by omega⟩ k)) (fun k => w (ix4 0 e k n)) (b (ix3 0 e n)) := by
  obtain ⟨e, he⟩ := e
  have h' : (tb (ix1 t)).toNat = e := h
  subst h'
  exact outcome_at x tb w b t he r n

variable (m : (ℓ : Loc nD τ sig) → Buf (Elt Ideal) ℓ) (hok : ok0 (tabs m))

theorem used_iff (i : grid0.Coords) (w : BitVec 32) : k0_cond2 i w = 1#1 ↔ IntOp.cmpi .slt (BitVec.ofNat 32 (i 1).val) w = 1#1 := by
  have e : ∀ b : BitVec 1, Scalar.cmpi .ne (Scalar.extui b : BitVec 32) 0#32 = 1#1 ↔ b = 1#1 := by decide
  unfold k0_cond2
  exact e _

theorem slt_small (k : Fin 99) (w : BitVec 32) (hw : w.toNat ≤ 99) : IntOp.cmpi .slt (BitVec.ofNat 32 k.val) w = 1#1 ↔ k.val < w.toNat := by
  rw [← WordCmp.cmpi_slt_ofNat_eq_one_iff (w := 32) (a := k.val) (b := w.toNat) (by omega) (by omega), BitVec.ofNat_toNat, BitVec.setWidth_eq]

/-- What a point leaves is the reference's block. -/
theorem out_at (hte : ∀ k, (tab0 m k).toNat < 32) (hnu : (nu m).toNat ≤ 99) (t : Fin (cfgA m hok).N) (ht : t.val < 198) (r : Fin 512) (n : Fin 2048) :
    out (F := Ideal) m hok 0 t (ix2 r n)
      = ref (m (((0 : Dev nD).tc : Thread nD τ).loc main_arg0)) (m (((0 : Dev nD).tc : Thread nD τ).loc main_arg1)) (m (((0 : Dev nD).tc : Thread nD τ).loc main_arg2))
          (m (((0 : Dev nD).tc : Thread nD τ).loc main_arg3)) (m (((0 : Dev nD).tc : Thread nD τ).loc main_arg4))
          (ix2 ⟨t.val % 99 * 512 + r.val, by omega⟩ ⟨t.val / 99 * 2048 + n.val, by omega⟩) := by
  have ec : crd m hok t 1 = (⟨t.val % 99, by omega⟩ : Fin 99) := Fin.ext (crd_1 m hok t)
  refine Eq.trans ?_ (ref_at _ _ _ _ _ (⟨t.val % 99, by omega⟩ : Fin 99) r ⟨t.val / 99 * 2048 + n.val, by omega⟩).symm
  unfold out
  rw [cnt_eq]
  by_cases hu : k0_cond2 (crd m hok t) (tab1 m (ix1 0)) = 1#1
  · rw [if_pos hu]
    have hs := (used_iff _ _).1 hu
    have hlt : t.val % 99 < (nu m).toNat := by
      have := (slt_small _ _ hnu).1 hs
      rwa [crd_1] at this
    have he : (tab0 m (ix1 (⟨t.val % 99, by omega⟩ : Fin 99))).toNat = (te m hok t).toNat := by unfold te; rw [ec]
    rw [crd_1] at hs
    have hs' : IntOp.cmpi .slt (BitVec.ofNat 32 (⟨t.val % 99, by omega⟩ : Fin 99).val) (m (((0 : Dev nD).tc : Thread nD τ).loc main_arg2) (ix1 0)) = 1#1 := hs
    rw [hs']
    refine (tile_at _ _ _ r n).trans ?_
    refine Eq.trans ?_ (if_pos rfl).symm
    exact (column_congr (fun k => read0 m hok 0 t hlt hnu r k) (fun k => read1 m hok 0 t ht (hte _) k n) (read2 m hok 0 t ht (hte _) n)).trans
      (outcome_column _ _ _ _ (⟨t.val % 99, by omega⟩ : Fin 99) ⟨(te m hok t).toNat, hte _⟩ he r _).symm
  · rw [if_neg hu]
    have hs := fun h => hu ((used_iff _ _).2 h)
    rw [crd_1] at hs
    refine Eq.trans ?_ (if_neg hs).symm
    exact ofBits_zero

theorem covers : ((cfgA m hok).win 3).Covers := by
  refine ((cfgA m hok).win 3).covers_of_index_surj rfl (fun a => ?_) fun β => ?_
  · fin_cases a
    · show 0 < 512; omega
    · show 0 < 2048; omega
  obtain ⟨b0, e0⟩ : ∃ b : Fin 99, (b.val : Nat) = (β ⟨0, Nat.zero_lt_two⟩).val :=
    ⟨⟨_, lt_of_lt_of_eq (β ⟨0, Nat.zero_lt_two⟩).isLt (show (50688 + 512 - 1) / 512 = 99 from by omega)⟩, rfl⟩
  obtain ⟨b1, e1⟩ : ∃ b : Fin 2, (b.val : Nat) = (β ⟨1, Nat.one_lt_two⟩).val :=
    ⟨⟨_, lt_of_lt_of_eq (β ⟨1, Nat.one_lt_two⟩).isLt (show (4096 + 2048 - 1) / 2048 = 2 from by omega)⟩, rfl⟩
  refine ⟨⟨b1.val * 99 + b0.val, lt_of_lt_of_eq (by omega : b1.val * 99 + b0.val < 198) N_0.symm⟩, fun a => ?_⟩
  rw [index3]
  fin_cases a
  · refine Eq.trans ?_ e0
    show (b1.val * 99 + b0.val) % 99 = b0.val; omega
  · refine Eq.trans ?_ e1
    show (b1.val * 99 + b0.val) / 99 = b1.val; omega

/-- The whole array after the last point. -/
theorem final (hte : ∀ k, (tab0 m k).toNat < 32) (hnu : (nu m).toNat ≤ 99) :
    (dats m hok 0 0).arrAt 3 (cfgA m hok).N
      = ref (m (((0 : Dev nD).tc : Thread nD τ).loc main_arg0)) (m (((0 : Dev nD).tc : Thread nD τ).loc main_arg1)) (m (((0 : Dev nD).tc : Thread nD τ).loc main_arg2))
          (m (((0 : Dev nD).tc : Thread nD τ).loc main_arg3)) (m (((0 : Dev nD).tc : Thread nD τ).loc main_arg4)) := by
  refine (dats m hok 0 0).arrAt_eq_of_covers 3 _ (covers m hok) fun t _ y => ?_
  have ht := lt_N m hok t
  blk_simp
  rw [after0_3]
  change S512x2048.Idx at y
  have ey : y = ix2 (y 0) (y 1) := by
    funext a; fin_cases a <;> rfl
  rw [ey]
  refine (out_at m hok hte hnu t ht (y 0) (y 1)).trans ?_
  blk_ext [index3 m hok t]

end Cert.FfnTwoValue

end
-- ==== Proof.FfnTwoTables.lean ====
/- What the range given for the two integer arguments of the second expert product says of their words. -/
module

public import proofs.«01_k».proof.Pre_tables2
public import proofs.«01_k».proof.Proof.Gen.Pre_tables2
public import Idealize.ShloMosaic.Lib.ReduceAll
public import Idealize.ShloMosaic.Lib.WordCmp
public import Idealize.ShloMosaic.Lib.Pointwise

@[expose] public section

noncomputable section

namespace Cert.FfnTwoValue

open Idealize.ShloMosaic

instance : Subsingleton (Cert.Pre_tables2.S_).Idx := ⟨fun _ _ => funext fun i => i.elim0⟩

/-- A word that reads, signed, from zero up to below `n`, reads so unsigned. -/
theorem toNat_lt_of_signed (x : BitVec 32) (n : Nat) (h0 : (0 : Int) ≤ x.toInt) (h1 : x.toInt < n) : x.toNat < n := by
  rw [BitVec.toInt_eq_toNat_cond] at h0 h1
  have := x.isLt
  split at h0 <;> omega

/-- The lower end likewise. -/
theorem le_toNat_of_signed (x : BitVec 32) (n : Nat) (h0 : (n : Int) ≤ x.toInt) : n ≤ x.toNat := by
  rw [BitVec.toInt_eq_toNat_cond] at h0
  have := x.isLt
  split at h0 <;> omega

theorem tables {F : FTy → Type} [FloatOps F] (x : FVec F Cert.Pre_tables2.S50688x1024 .bf16) (te : IVec Cert.Pre_tables2.S99 32) (nu : IVec Cert.Pre_tables2.S1 32)
    (w : FVec F Cert.Pre_tables2.S4x32x1024x4096 .f32) (b : FVec F Cert.Pre_tables2.S4x32x4096 .f32)
    (h : letI := Cert.Pre_tables2.Gen.facts; Cert.Pre_tables2.fn (F := F) x te nu w b = fun _ => 1#1) :
    (∀ k, (te k).toNat < 32) ∧ 1 ≤ (nu (ix1 0)).toNat ∧ (nu (ix1 0)).toNat ≤ 99 := by
  have h0 := congrFun h ix0
  unfold Cert.Pre_tables2.fn at h0
  obtain ⟨ht, hn⟩ := IntOp.andi_eq_one.1 h0
  refine ⟨fun k => ?_, ?_⟩
  · obtain ⟨h1, h2⟩ := IntOp.andi_eq_one.1 (Host.reduce_andi_all _ _ _ _ _ ht k)
    exact toNat_lt_of_signed _ 32 (IntOp.cmpi_sge.1 h1) (IntOp.cmpi_slt.1 h2)
  · obtain ⟨h1, h2⟩ := IntOp.andi_eq_one.1 (Host.reduce_andi_all _ _ _ _ _ hn (ix1 0))
    have h2' := IntOp.cmpi_sle.1 h2
    have h1' := IntOp.cmpi_sge.1 h1
    refine ⟨le_toNat_of_signed _ 1 h1', Nat.le_of_lt_succ (toNat_lt_of_signed _ 100 ?_ ?_)⟩
    · exact le_trans (by decide) h1'
    · exact lt_of_le_of_lt h2' (by decide)

end Cert.FfnTwoValue

end
-- ==== Proof.FfnTwoClaim.lean ====
/- The claims of the second expert product: with the tables in their ranges it runs, keeps its arguments and leaves the reference's array. -/
module

public import proofs.«01_k».proof.Defs
public import proofs.«01_k».proof.Proof.FfnTwoKer
public import proofs.«01_k».proof.Proof.FfnTwoTables
public import proofs.«01_k».proof.Proof.FfnTwoRun
public import Idealize.ShloMosaic.Lib.Claim

@[expose] public section

set_option maxRecDepth 16384

noncomputable section

namespace Cert.FfnTwoValue

open Idealize.ShloMosaic Idealize.ShloMosaic.TcCoe Idealize.SL.Sem

theorem frame_bits : letI := Cert.FfnTwo.Gen.facts; letI := Cert.Pre_tables2.Gen.facts; Cert.quiescent_FfnTwo := by
  intro m g hpre
  obtain ⟨hte, h1, h2⟩ := tables _ _ _ _ _ (hpre 0)
  have hok := Cert.FfnTwo.Tile.ok_of m hte h1 h2
  exact (θ_run Cert.FfnTwo.defs _ _).mono (fun r h => ⟨fun c => Cert.FfnTwo.Tile.args_kept m hok h.1 c, h.2⟩) (Cert.FfnTwo.Tile.run_frame m hok hte g)

theorem frame_ideal : letI := Cert.FfnTwoIdeal.Gen.facts; letI := Cert.Pre_tables2.Gen.facts; Cert.quiescent_FfnTwoIdeal := by
  intro m g hpre
  obtain ⟨hte, h1, h2⟩ := tables _ _ _ _ _ (hpre 0)
  have hok := Cert.FfnTwoIdeal.Tile.ok_of m hte h1 h2
  exact (θ_run Cert.FfnTwoIdeal.defs _ _).mono (fun r h => ⟨fun c => Cert.FfnTwoIdeal.Tile.args_kept m hok h.1 c, h.2⟩)
    (Cert.FfnTwoIdeal.Tile.run_frame m hok hte g)

theorem frame_ref : letI := Cert.FfnTwoRefIdeal.Gen.facts; Cert.quiescent_FfnTwoRefIdeal := fun m g _ =>
  (θ_run Cert.FfnTwoRefIdeal.defs _ _).mono (fun r h => ⟨fun c => (h c).2, sem_eq_zero_of_no_sems (by decide) r.2⟩)
    (Cert.FfnTwoRefIdeal.Value.run (F := Ideal) m g)

theorem algebraic : letI := Cert.FfnTwoIdeal.Gen.facts; letI := Cert.FfnTwoRefIdeal.Gen.facts; letI := Cert.Pre_tables2.Gen.facts;
    Cert.algebraic_FfnTwoIdeal_FfnTwoRefIdeal := by
  intro m g m' g' hpre hagree
  obtain ⟨hte, h1, h2⟩ := tables _ _ _ _ _ (hpre 0)
  have hok := Cert.FfnTwoIdeal.Tile.ok_of m hte h1 h2
  refine ⟨fun c => (Cert.FfnTwoIdeal.Tile.dats m hok 0 c).arrAt 3 (Cert.FfnTwoIdeal.Tile.cfgA m hok).N, ?_, ?_⟩
  · exact (θ_run Cert.FfnTwoIdeal.defs _ _).mono (fun r h c => ⟨h.1.out_eq c 3, Cert.FfnTwoIdeal.Tile.args_kept m hok h.1 c⟩)
      (Cert.FfnTwoIdeal.Tile.run_frame m hok hte g)
  · refine (θ_run Cert.FfnTwoRefIdeal.defs _ _).mono (fun r h c => ⟨(h c).1.trans ?_, (h c).2⟩) (Cert.FfnTwoRefIdeal.Value.run (F := Ideal) m' g')
    obtain rfl : c = 0 := Subsingleton.elim _ _
    refine Eq.trans (b := ref (m' (((0 : Dev Cert.FfnTwoRefIdeal.nD).tc : Thread Cert.FfnTwoRefIdeal.nD Cert.FfnTwoRefIdeal.τ).loc Cert.FfnTwoRefIdeal.main_arg0)) (m' (((0 : Dev Cert.FfnTwoRefIdeal.nD).tc : Thread Cert.FfnTwoRefIdeal.nD Cert.FfnTwoRefIdeal.τ).loc Cert.FfnTwoRefIdeal.main_arg1))
      (m' (((0 : Dev Cert.FfnTwoRefIdeal.nD).tc : Thread Cert.FfnTwoRefIdeal.nD Cert.FfnTwoRefIdeal.τ).loc Cert.FfnTwoRefIdeal.main_arg2)) (m' (((0 : Dev Cert.FfnTwoRefIdeal.nD).tc : Thread Cert.FfnTwoRefIdeal.nD Cert.FfnTwoRefIdeal.τ).loc Cert.FfnTwoRefIdeal.main_arg3))
      (m' (((0 : Dev Cert.FfnTwoRefIdeal.nD).tc : Thread Cert.FfnTwoRefIdeal.nD Cert.FfnTwoRefIdeal.τ).loc Cert.FfnTwoRefIdeal.main_arg4))) rfl ?_
    obtain ⟨a0, a1, a2, a3, a4⟩ := hagree 0
    rw [a0, a1, a2, a3, a4]
    exact (final m hok hte h2).symm

end Cert.FfnTwoValue

end
-- ==== Proof.FfnOneIdealTile.lean ====
module

public import proofs.«01_k».proof.Proof.Gen.FfnOneIdeal.Skeleton
public import proofs.«01_k».proof.Proof.Gen.FfnOneIdeal.Launch
public import Idealize.ShloMosaic.Lib.Pipeline.Frame
public import Idealize.ShloMosaic.Lib.Pipeline.Kit
public import Idealize.ShloMosaic.Lib.Pipeline.FrameBody
public import Idealize.ShloMosaic.Lib.Pipeline.ValueKit
public import Idealize.ShloMosaic.Lib.Pipeline.TableIdle
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Init

@[expose] public section

set_option maxRecDepth 16384
set_option Elab.async false

noncomputable section

namespace Cert.FfnOneIdeal.Tile

open Cert.FfnOneIdeal Cert.FfnOneIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The tiles' experts and the number of tiles in use, as the kernel holds them. -/
abbrev teM : Memref sig .tc .smem S99 .i32 := Memref.whole main_arg1
abbrev nuM : Memref sig .tc .smem S1 .i32 := Memref.whole main_arg2

/-- Tile `t`'s expert, its predecessor's, and the number of tiles in use, read off the tables. -/
abbrev cur (i : grid0.Coords) (T0 : S99.Idx → Elt F .i32) : BitVec 32 :=
  View.readAt (Elt F) teM.view (Rect.unit (s := S99) (k0_off1 i) S1.size (k0_off1_inb i)).toLoadRect T0 (Shape.Idx.first (numel1_S1.symm ▸ Nat.one_pos))
abbrev pre (i : grid0.Coords) (T0 : S99.Idx → Elt F .i32) : BitVec 32 :=
  View.readAt (Elt F) teM.view (Rect.unit (s := S99) (k0_off2 i) S1.size (k0_off2_inb i)).toLoadRect T0 (Shape.Idx.first (numel1_S1.symm ▸ Nat.one_pos))
abbrev cnt (T1 : S1.Idx → Elt F .i32) : BitVec 32 :=
  View.readAt (Elt F) nuM.view (Rect.unit (s := S1) ![0] S1.size inb_S1_S1_0).toLoadRect T1 (Shape.Idx.first (numel1_S1.symm ▸ Nat.one_pos))

/-- The tile begins a new expert. -/
abbrev New (i : grid0.Coords) (T0 : S99.Idx → Elt F .i32) : Prop :=
  Scalar.cmpi .ne (Scalar.extui (Scalar.ori (Scalar.cmpi .eq (BitVec.ofNat 32 (i 1).val) 0#32) (Scalar.cmpi .ne (cur i T0) (pre i T0)))) 0#32 = 1#1

/-- The upper and the lower half of the rows of a weight block. -/
abbrev top (s : S4096x512.Idx → Elt F .bf16) : S2048x512.Idx → Elt F .bf16 :=
  View.ld s (Rect.unit (s := S4096x512) ![0, 0] S2048x512.size inb_S4096x512_S2048x512_0_0)
abbrev bot (s : S4096x512.Idx → Elt F .bf16) : S2048x512.Idx → Elt F .bf16 :=
  View.ld s (Rect.unit (s := S4096x512) ![2048, 0] S2048x512.size inb_S4096x512_S2048x512_2048_0)

/-- What the kernel computes of a tile's rows, from the two weight blocks and the two pieces of the bias. -/
def tile (x : S512x2048.Idx → Elt F .i32) (s1 s2 : S4096x512.Idx → Elt F .bf16) (b1 b2 : S1x1x1x512.Idx → Elt F .f32) :
    S512x512.Idx → Elt F .bf16 :=
  k0_pay3 (k0_pay7 x (top s1) (bot s1) b1) (k0_pay8 x (top s2) (bot s2) b2)

/-- A memref holding what reads `X` is held at the canonical contents of `X`. -/
theorem held_of_read (c : Thread nD τ) {sp : Space} {sh : Shape} {e : EltTy} (m : Memref sig c.2.kind sp sh e) (q : PosShare TreeShare)
    (f : m.view.ty.Contents (Elt F)) {X : sh.Idx → Elt F e} (h : m.view.read (Elt F) f = X) :
    (m.view.loc c ↦[m.view.set]{q} f) ⊢ (m.view.loc c ↦[m.view.set]{q} m.view.rep X : sProp 𝕄) := by
  subst h
  rw [← owns_eq_rep]
  unfold owns
  iintro H; iexists f; isplitr
  · ipureintro; rfl
  · iexact H

/-- A tile is filled with zeros exactly when it isn't in use. -/
theorem unused_iff (i : grid0.Coords) (w : BitVec 32) : k0_cond3 i w = 1#1 ↔ ¬ k0_cond2 i w = 1#1 := by
  have e : ∀ b : BitVec 1, Scalar.cmpi .ne (Scalar.extui b : BitVec 32) 0#32 = 1#1 ↔ b = 1#1 := by decide
  unfold k0_cond3 k0_cond2
  rw [e, e]
  exact (IntOp.cmpi_sge).trans (not_lt.symm.trans (not_congr IntOp.cmpi_slt.symm))

open Classical in
set_option maxHeartbeats 16000000 in
/-- One run of the kernel's body: where the tile begins a new expert the two scratches are refilled, a tile in use is
    computed from them and any other is filled with zeros. -/
theorem body_run (c : Dev nD) (i : grid0.Coords) (arg4 : Memref sig .tc .vmem S512x2048 .i32) (harg4 : arg4.IsWhole) (arg5 : Memref sig .tc .vmem S1x1x4096x512 .f32) (harg5 : arg5.IsWhole) (arg6 : Memref sig .tc .vmem S1x1x4096x512 .f32) (harg6 : arg6.IsWhole) (arg7 : Memref sig .tc .vmem S1x1x1x512 .f32) (harg7 : arg7.IsWhole) (arg8 : Memref sig .tc .vmem S1x1x1x512 .f32) (harg8 : arg8.IsWhole) (arg9 : Memref sig .tc .vmem S512x512 .bf16) (harg9 : arg9.IsWhole) (arg10 : Memref sig .tc .vmem S4096x512 .bf16) (harg10 : arg10.IsWhole) (arg11 : Memref sig .tc .vmem S4096x512 .bf16) (harg11 : arg11.IsWhole)
    (T0 : S99.Idx → Elt F .i32) (T1 : S1.Idx → Elt F .i32)
    (x0 : S512x2048.Idx → Elt F .i32) (x1 x2 : S1x1x4096x512.Idx → Elt F .f32) (x3 x4 : S1x1x1x512.Idx → Elt F .f32)
    (s1 s2 e1 e2 : S4096x512.Idx → Elt F .bf16) (o' o : S512x512.Idx → Elt F .bf16)
    (he1 : e1 = if New i T0 then k0_pay1 x1 else s1) (he2 : e2 = if New i T0 then k0_pay2 x2 else s2)
    (ho : o = if k0_cond2 i (cnt T1) = 1#1 then tile x0 e1 e2 x3 x4 else k0_pay4) (K : PUnit → sProp 𝕄) :
    iprop((arg4.view.loc (c : Thread nD τ) ↦[arg4.view.set]{fullShare} arg4.view.rep x0) ∗ (arg5.view.loc (c : Thread nD τ) ↦[arg5.view.set]{fullShare} arg5.view.rep x1) ∗ (arg6.view.loc (c : Thread nD τ) ↦[arg6.view.set]{fullShare} arg6.view.rep x2) ∗ (arg7.view.loc (c : Thread nD τ) ↦[arg7.view.set]{fullShare} arg7.view.rep x3) ∗ (arg8.view.loc (c : Thread nD τ) ↦[arg8.view.set]{fullShare} arg8.view.rep x4) ∗ (teM.view.loc (c : Thread nD τ) ↦{fullShare.right} T0) ∗ (nuM.view.loc (c : Thread nD τ) ↦{fullShare.right} T1)
        ∗ (arg9.view.loc (c : Thread nD τ) ↦[arg9.view.set]{fullShare} arg9.view.rep o') ∗ (arg10.view.loc (c : Thread nD τ) ↦[arg10.view.set]{fullShare} arg10.view.rep s1) ∗ (arg11.view.loc (c : Thread nD τ) ↦[arg11.view.set]{fullShare} arg11.view.rep s2)
        ∗ (iprop((arg4.view.loc (c : Thread nD τ) ↦[arg4.view.set]{fullShare} arg4.view.rep x0) ∗ (arg5.view.loc (c : Thread nD τ) ↦[arg5.view.set]{fullShare} arg5.view.rep x1) ∗ (arg6.view.loc (c : Thread nD τ) ↦[arg6.view.set]{fullShare} arg6.view.rep x2) ∗ (arg7.view.loc (c : Thread nD τ) ↦[arg7.view.set]{fullShare} arg7.view.rep x3) ∗ (arg8.view.loc (c : Thread nD τ) ↦[arg8.view.set]{fullShare} arg8.view.rep x4) ∗ (teM.view.loc (c : Thread nD τ) ↦{fullShare.right} T0) ∗ (nuM.view.loc (c : Thread nD τ) ↦{fullShare.right} T1)
            ∗ (arg9.view.loc (c : Thread nD τ) ↦[arg9.view.set]{fullShare} arg9.view.rep o) ∗ (arg10.view.loc (c : Thread nD τ) ↦[arg10.view.set]{fullShare} arg10.view.rep e1) ∗ (arg11.view.loc (c : Thread nD τ) ↦[arg11.view.set]{fullShare} arg11.view.rep e2)) -∗ K ⟨⟩))
      ⊢ wp frame (wpE (defs₀ (F := F)) Variants.none c none) Set.univ
          (cc0_moe_ffn1 i teM (Memref.isWhole_whole _) nuM (Memref.isWhole_whole _) arg4 harg4 arg5 harg5 arg6 harg6 arg7 harg7 arg8 harg8 arg9 harg9 arg10 harg10 arg11 harg11) K := by
  have hT0 : teM.IsWhole := Memref.isWhole_whole _
  have hT1 : nuM.IsWhole := Memref.isWhole_whole _
  rw [cc0_moe_ffn1_eq_skeleton]; unfold cc0_moe_ffn1_skel
  rw [k0_part1_eq_skeleton]; unfold k0_part1_skel
  by_cases hc0 : New i T0 <;> by_cases h2 : k0_cond2 i (cnt T1) = 1#1
  all_goals iintro ⟨H0, H1, H2, H3, H4, HT0, HT1, HO, HS0, HS1, Hk⟩
  · rw [if_pos hc0] at he1 he2; rw [if_pos h2] at ho; subst he1 he2 ho
    have h3 : ¬ k0_cond3 i (cnt T1) = 1#1 := fun h => (unused_iff i (cnt T1)).1 h h2
    sl_exec! (disch := first | (guard_target = Scalar.cmpi _ _ _ = _; exact hc0) | (guard_target = ¬(Scalar.cmpi _ _ _ = _); exact hc0) | (guard_target = k0_cond2 _ _ = _; exact h2) | (guard_target = ¬(k0_cond2 _ _ = _); exact h2) | (guard_target = k0_cond3 _ _ = _; exact h3) | (guard_target = ¬(k0_cond3 _ _ = _); exact h3))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO]
    · iapply (held_of_read (c : Thread nD τ) arg9 fullShare _ ?g1) $$ HO
      frame_out [View.read_rep, View.readCov_eq_canon']
      rfl
    isplitl [HS0]
    · iapply (held_of_read (c : Thread nD τ) arg10 fullShare _ ?g2) $$ HS0
      frame_out [View.read_rep]
    · iapply (held_of_read (c : Thread nD τ) arg11 fullShare _ ?g3) $$ HS1
      frame_out [View.read_rep]
  · rw [if_pos hc0] at he1 he2; rw [if_neg h2] at ho; subst he1 he2 ho
    have h3 : k0_cond3 i (cnt T1) = 1#1 := (unused_iff i (cnt T1)).2 h2
    sl_exec! (disch := first | (guard_target = Scalar.cmpi _ _ _ = _; exact hc0) | (guard_target = ¬(Scalar.cmpi _ _ _ = _); exact hc0) | (guard_target = k0_cond2 _ _ = _; exact h2) | (guard_target = ¬(k0_cond2 _ _ = _); exact h2) | (guard_target = k0_cond3 _ _ = _; exact h3) | (guard_target = ¬(k0_cond3 _ _ = _); exact h3))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO]
    · iapply (held_of_read (c : Thread nD τ) arg9 fullShare _ ?g4) $$ HO
      frame_out
    isplitl [HS0]
    · iapply (held_of_read (c : Thread nD τ) arg10 fullShare _ ?g5) $$ HS0
      frame_out [View.read_rep]
    · iapply (held_of_read (c : Thread nD τ) arg11 fullShare _ ?g6) $$ HS1
      frame_out [View.read_rep]
  · rw [if_neg hc0] at he1 he2; rw [if_pos h2] at ho; subst he1 he2 ho
    have h3 : ¬ k0_cond3 i (cnt T1) = 1#1 := fun h => (unused_iff i (cnt T1)).1 h h2
    sl_exec! (disch := first | (guard_target = Scalar.cmpi _ _ _ = _; exact hc0) | (guard_target = ¬(Scalar.cmpi _ _ _ = _); exact hc0) | (guard_target = k0_cond2 _ _ = _; exact h2) | (guard_target = ¬(k0_cond2 _ _ = _); exact h2) | (guard_target = k0_cond3 _ _ = _; exact h3) | (guard_target = ¬(k0_cond3 _ _ = _); exact h3))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO]
    · iapply (held_of_read (c : Thread nD τ) arg9 fullShare _ ?g7) $$ HO
      frame_out [View.read_rep]
      rfl
    isplitl [HS0]
    · iexact HS0
    · iexact HS1
  · rw [if_neg hc0] at he1 he2; rw [if_neg h2] at ho; subst he1 he2 ho
    have h3 : k0_cond3 i (cnt T1) = 1#1 := (unused_iff i (cnt T1)).2 h2
    sl_exec! (disch := first | (guard_target = Scalar.cmpi _ _ _ = _; exact hc0) | (guard_target = ¬(Scalar.cmpi _ _ _ = _); exact hc0) | (guard_target = k0_cond2 _ _ = _; exact h2) | (guard_target = ¬(k0_cond2 _ _ = _); exact h2) | (guard_target = k0_cond3 _ _ = _; exact h3) | (guard_target = ¬(k0_cond3 _ _ = _); exact h3))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO]
    · iapply (held_of_read (c : Thread nD τ) arg9 fullShare _ ?g8) $$ HO
      frame_out
    isplitl [HS0]
    · iexact HS0
    · iexact HS1

end Cert.FfnOneIdeal.Tile
end
-- ==== Proof.FfnOneIdealRun.lean ====
module

public import proofs.«01_k».proof.Proof.FfnOneIdealTile
public import Idealize.ShloMosaic.Lib.Pipeline.ValueKit
public import Idealize.ShloMosaic.Lib.Pointwise

@[expose] public section

set_option maxRecDepth 16384
set_option Elab.async false

noncomputable section

namespace Cert.FfnOneIdeal.Tile

open Cert.FfnOneIdeal Cert.FfnOneIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-- The two tables as the memory holds them at the start. -/
abbrev tab0 : S99.Idx → Elt F .i32 := m (((0 : Dev nD) : Thread nD τ).loc main_arg1)
abbrev tab1 : S1.Idx → Elt F .i32 := m (((0 : Dev nD) : Thread nD τ).loc main_arg2)
def tabs : pre0.Contents (Elt F) := fun
  | 0 => tab0 m
  | 1 => tab1 m
  | ⟨_ + 2, h⟩ => absurd h (Nat.not_lt.2 (Nat.le_add_left _ _))

/-- Every buffer as the one host operation leaves it. -/
def V (c : Dev nD) (b : Ref sig .tc) : Buf (Elt F) ((c : Thread nD τ).loc b) := StableHlo.after hostOps0 (fun b => m (c, b)) b

/-! ## The words the kernel and its index maps read off the tables -/

theorem off1 (i : grid0.Coords) : k0_off1 i 0 = (i 1).val :=
  (by decide : ∀ k : Fin 99, (Scalar.indexCast (BitVec.ofNat 32 k.val) : Index).toNat = k.val) (i 1)
theorem off2 (i : grid0.Coords) : k0_off2 i 0 = (i 1).val - 1 :=
  (by decide : ∀ k : Fin 99, (Scalar.indexCast (Scalar.maxsi (Scalar.subi (BitVec.ofNat 32 k.val) 1#32) 0#32) : Index).toNat = k.val - 1) (i 1)

omit [FloatOps F] in
theorem at0 (i : grid0.Coords) : (tabs m).at 0 (Rect.unit (s := S99) (k0_off1 i) S1.size (k0_off1_inb i)) numel1_S1 = tab0 m (ix1 (i 1)) := by
  refine congrArg (tab0 m) ?_
  funext a; apply Fin.ext; fin_cases a
  exact (ValueKit.rect_emb_unit_val _ _ _ _ _).trans (congrArg (· + 0) (off1 i))
omit [FloatOps F] in
theorem at1 : (tabs m).at 1 (Rect.unit (s := S1) ![0] S1.size inb_S1_S1_0) numel1_S1 = tab1 m (ix1 0) := by
  refine congrArg (tab1 m) ?_
  funext a; apply Fin.ext; fin_cases a
  rfl
omit [FloatOps F] in
theorem cur_eq (i : grid0.Coords) : cur i (tab0 m) = tab0 m (ix1 (i 1)) := at0 m i
omit [FloatOps F] in
theorem cnt_eq : cnt (tab1 m) = tab1 m (ix1 0) := at1 m
omit [FloatOps F] in
theorem pre_eq (i : grid0.Coords) : pre i (tab0 m) = tab0 m (ix1 ⟨(i 1).val - 1, lt_of_le_of_lt (Nat.sub_le _ _) (i 1).isLt⟩) := by
  refine congrArg (tab0 m) ?_
  funext a; apply Fin.ext; fin_cases a
  exact (ValueKit.rect_emb_unit_val _ _ _ _ _).trans (congrArg (· + 0) (off2 i))

omit [FloatOps F] in
/-- A tile that doesn't begin a new expert isn't the first of its column of the grid, and has its predecessor's expert. -/
theorem not_new (i : grid0.Coords) (h : ¬ New i (tab0 m)) :
    (i 1).val ≠ 0 ∧ tab0 m (ix1 (i 1)) = tab0 m (ix1 ⟨(i 1).val - 1, lt_of_le_of_lt (Nat.sub_le _ _) (i 1).isLt⟩) := by
  have e : ∀ b : BitVec 1, Scalar.cmpi .ne (Scalar.extui b : BitVec 32) 0#32 = 1#1 ↔ b = 1#1 := by decide
  have e2 : ∀ a b : BitVec 1, Scalar.ori a b = 1#1 ↔ a = 1#1 ∨ b = 1#1 := by decide
  unfold New at h
  rw [e, e2, not_or] at h
  constructor
  · intro h0
    refine h.1 (IntOp.cmpi_eq.2 ?_)
    rw [h0]
  · by_contra hne
    refine h.2 (IntOp.cmpi_ne.2 ?_)
    rw [cur_eq, pre_eq]
    exact hne

/-! ## The pipeline at these tables -/

variable (hok : ok0 (tabs m))

def adm : (pcfg0 (F := F)).Adm := ⟨tabs m, hok⟩
abbrev cfgA : Pipeline.Cfg sig Λ₀ := cfg0 (adm m hok)
abbrev crd (t : Fin (cfgA m hok).N) : grid0.Coords := (cfgA m hok).grid.coords t

theorem crd_0 (t : Fin (cfgA m hok).N) : (crd m hok t 0).val = t.val / 99 :=
  (by decide +kernel : ∀ t : Fin grid0.N, (grid0.coords t 0).val = t.val / 99) t
theorem crd_1 (t : Fin (cfgA m hok).N) : (crd m hok t 1).val = t.val % 99 :=
  (by decide +kernel : ∀ t : Fin grid0.N, (grid0.coords t 1).val = t.val % 99) t
theorem lt_N (t : Fin (cfgA m hok).N) : t.val < 198 := lt_of_lt_of_eq t.isLt N_0

/-- Tile `t`'s expert. -/
def te (t : Fin (cfgA m hok).N) : BitVec 32 := tab0 m (ix1 (crd m hok t 1))
/-- The number of tiles in use. -/
def nu : BitVec 32 := tab1 m (ix1 0)

theorem index0 (t : Fin (cfgA m hok).N) : ((cfgA m hok).win 0).index t = ![(Scalar.minsi (BitVec.ofNat 32 (crd m hok t 1).val) (Scalar.subi (nu m) 1#32)).toNat, 0] := by
  unfold nu; rw [← at1 m]; rfl
theorem fst0 : ∀ k : Fin 2, (BitVec.ofNat 32 k.val).toNat = k.val := by decide
theorem fst2 : ∀ k : Fin 2, (Scalar.addi 2#32 (BitVec.ofNat 32 k.val)).toNat = 2 + k.val := by decide
theorem index1 (t : Fin (cfgA m hok).N) : ((cfgA m hok).win 1).index t = ![0, (te m hok t).toNat, 0, t.val / 99] := by
  rw [← crd_0 m hok, ← fst0 (crd m hok t 0)]; unfold te; rw [← at0 m]; rfl
theorem index2 (t : Fin (cfgA m hok).N) : ((cfgA m hok).win 2).index t = ![0, (te m hok t).toNat, 0, 2 + t.val / 99] := by
  rw [← crd_0 m hok, ← fst2 (crd m hok t 0)]; unfold te; rw [← at0 m]; rfl
theorem index3 (t : Fin (cfgA m hok).N) : ((cfgA m hok).win 3).index t = ![0, (te m hok t).toNat, 0, t.val / 99] := by
  rw [← crd_0 m hok, ← fst0 (crd m hok t 0)]; unfold te; rw [← at0 m]; rfl
theorem index4 (t : Fin (cfgA m hok).N) : ((cfgA m hok).win 4).index t = ![0, (te m hok t).toNat, 0, 2 + t.val / 99] := by
  rw [← crd_0 m hok, ← fst2 (crd m hok t 0)]; unfold te; rw [← at0 m]; rfl
theorem index5 (t : Fin (cfgA m hok).N) : ((cfgA m hok).win 5).index t = ![t.val % 99, t.val / 99] :=
  (by decide +kernel : ∀ t : Fin grid0.N, cc0_transform_5 (grid0.coords t) = ![t.val % 99, t.val / 99]) t

/-- A window's block at a point, read off its array as the host operation leaves it. -/
def iblk (c : Dev nD) (w : Fin (cfgA m hok).W) (t : Fin (cfgA m hok).N) : (((cfgA m hok).win w).xblock (crd m hok t)).Idx → Elt F ((cfgA m hok).win w).elt :=
  (((cfgA m hok).win w).blk t).view.read (Elt F) (V m c ((spec0 w).arr.view.ref))

theorem read1 (c : Dev nD) (t : Fin (cfgA m hok).N) (ht : t.val < 198) (hte : (te m hok t).toNat < 32) (k : Fin 4096) (n : Fin 512) :
    iblk m hok c 1 t (ix4 0 0 k n) = m ((c : Thread nD τ).loc main_arg3) (ix4 0 ⟨(te m hok t).toNat, hte⟩ k ⟨t.val / 99 * 512 + n.val, by omega⟩) := by
  blk_ext [iblk, V, index1 m hok t]
theorem read2 (c : Dev nD) (t : Fin (cfgA m hok).N) (ht : t.val < 198) (hte : (te m hok t).toNat < 32) (k : Fin 4096) (n : Fin 512) :
    iblk m hok c 2 t (ix4 0 0 k n) = m ((c : Thread nD τ).loc main_arg3) (ix4 0 ⟨(te m hok t).toNat, hte⟩ k ⟨1024 + (t.val / 99 * 512 + n.val), by omega⟩) := by
  blk_ext [iblk, V, index2 m hok t]
theorem bias_at (c : Dev nD) (e : Fin 32) (n : Fin 2048) :
    V m c main_v0 (ix4 0 e 0 n) = m ((c : Thread nD τ).loc main_arg4) (ix3 0 e n) := by
  unfold V; entry_read
  pointwise []
theorem read3 (c : Dev nD) (t : Fin (cfgA m hok).N) (ht : t.val < 198) (hte : (te m hok t).toNat < 32) (n : Fin 512) :
    iblk m hok c 3 t (ix4 0 0 0 n) = m ((c : Thread nD τ).loc main_arg4) (ix3 0 ⟨(te m hok t).toNat, hte⟩ ⟨t.val / 99 * 512 + n.val, by omega⟩) := by
  refine Eq.trans ?_ (bias_at m c ⟨(te m hok t).toNat, hte⟩ ⟨t.val / 99 * 512 + n.val, by omega⟩)
  blk_ext [iblk, index3 m hok t]
theorem read4 (c : Dev nD) (t : Fin (cfgA m hok).N) (ht : t.val < 198) (hte : (te m hok t).toNat < 32) (n : Fin 512) :
    iblk m hok c 4 t (ix4 0 0 0 n) = m ((c : Thread nD τ).loc main_arg4) (ix3 0 ⟨(te m hok t).toNat, hte⟩ ⟨1024 + (t.val / 99 * 512 + n.val), by omega⟩) := by
  refine Eq.trans ?_ (bias_at m c ⟨(te m hok t).toNat, hte⟩ ⟨1024 + (t.val / 99 * 512 + n.val), by omega⟩)
  blk_ext [iblk, index4 m hok t]

/-- Tile `t`'s block of rows: its own, or the last in use. -/
theorem min_toNat (w : BitVec 32) (h1 : 1 ≤ w.toNat) (h2 : w.toNat ≤ 99) (k : Fin 99) :
    (Scalar.minsi (BitVec.ofNat 32 k.val) (Scalar.subi w 1#32)).toNat = min k.val (w.toNat - 1) := by
  have e : ∀ n : Fin 100, 1 ≤ n.val → ∀ k : Fin 99, (Scalar.minsi (BitVec.ofNat 32 k.val) (Scalar.subi (BitVec.ofNat 32 n.val) 1#32)).toNat = min k.val (n.val - 1) := by decide +kernel
  have := e ⟨w.toNat, by omega⟩ h1 k
  simpa using this
theorem read0 (c : Dev nD) (t : Fin (cfgA m hok).N) (ht : t.val % 99 < (nu m).toNat) (hnu : (nu m).toNat ≤ 99) (r : Fin 512) (k : Fin 2048) :
    iblk m hok c 0 t (ix2 r k) = m ((c : Thread nD τ).loc main_arg0) (ix2 ⟨t.val % 99 * 512 + r.val, by omega⟩ k) := by
  have e := index0 m hok t
  rw [min_toNat (nu m) (by omega) hnu (crd m hok t 1), crd_1, min_eq_left (by omega)] at e
  blk_ext [iblk, V, e]

/-- Where a tile has its predecessor's expert, the two weight blocks are the predecessor's. -/
theorem blocks_same (c : Dev nD) (hte : ∀ k, (tab0 m k).toNat < 32) (t : Fin (cfgA m hok).N) (h : ¬ New (crd m hok t) (tab0 m)) :
    ∃ p : Fin (cfgA m hok).N, p.val + 1 = t.val ∧ iblk m hok c 1 p = iblk m hok c 1 t ∧ iblk m hok c 2 p = iblk m hok c 2 t := by
  obtain ⟨h0, he⟩ := not_new m _ h
  have ht := lt_N m hok t
  rw [crd_1] at h0
  have hd : (t.val - 1) / 99 = t.val / 99 := by omega
  refine ⟨⟨t.val - 1, lt_of_le_of_lt (Nat.sub_le _ _) t.isLt⟩, by show t.val - 1 + 1 = t.val; omega, ?_, ?_⟩
  all_goals
    have hte' : te m hok ⟨t.val - 1, lt_of_le_of_lt (Nat.sub_le _ _) t.isLt⟩ = te m hok t := by
      unfold te; rw [he]; congr 2; apply Fin.ext
      rw [crd_1]; show (t.val - 1) % 99 = (crd m hok t 1).val - 1
      rw [crd_1]; omega
    funext y; change S1x1x4096x512.Idx at y
  · have ey : y = ix4 0 0 (y 2) (y 3) := by
      funext a; fin_cases a <;> first | rfl | exact Subsingleton.elim (α := Fin 1) _ _
    rw [ey]
    refine (read1 m hok c _ (by show t.val - 1 < 198; omega) (hte _) _ _).trans (Eq.trans ?_ (read1 m hok c t ht (hte _) _ _).symm)
    simp only [hte', hd]; rfl
  · have ey : y = ix4 0 0 (y 2) (y 3) := by
      funext a; fin_cases a <;> first | rfl | exact Subsingleton.elim (α := Fin 1) _ _
    rw [ey]
    refine (read2 m hok c _ (by show t.val - 1 < 198; omega) (hte _) _ _).trans (Eq.trans ?_ (read2 m hok c t ht (hte _) _ _).symm)
    simp only [hte', hd]; rfl

/-! ## The side condition on the tables -/

omit hok in
/-- Tables in range name blocks inside their arrays. -/
theorem ok_of (hte : ∀ k, (tab0 m k).toNat < 32) (h1 : 1 ≤ (nu m).toNat) (h2 : (nu m).toNat ≤ 99) : ok0 (tabs m) := by
  have c0 : ∀ i : grid0.Coords, (i 0).val < 2 := fun i => (i 0).isLt
  have c1 : ∀ i : grid0.Coords, (i 1).val < 99 := fun i => (i 1).isLt
  have e0 : ∀ i : grid0.Coords, cc0_transform_0 inb_S1_S1_0 numel1_S1 (tabs m) i = ![(Scalar.minsi (BitVec.ofNat 32 (i 1).val) (Scalar.subi (nu m) 1#32)).toNat, 0] := by
    intro i; unfold nu; rw [← at1 m]; rfl
  have e1 : ∀ i : grid0.Coords, cc0_transform_1 k0_off1_inb numel1_S1 (tabs m) i = ![0, (tab0 m (ix1 (i 1))).toNat, 0, (i 0).val] := by
    intro i; rw [← fst0 (i 0), ← at0 m]; rfl
  have e2 : ∀ i : grid0.Coords, cc0_transform_2 k0_off1_inb numel1_S1 (tabs m) i = ![0, (tab0 m (ix1 (i 1))).toNat, 0, 2 + (i 0).val] := by
    intro i; rw [← fst2 (i 0), ← at0 m]; rfl
  have e3 : ∀ i : grid0.Coords, cc0_transform_3 k0_off1_inb numel1_S1 (tabs m) i = ![0, (tab0 m (ix1 (i 1))).toNat, 0, (i 0).val] := by
    intro i; rw [← fst0 (i 0), ← at0 m]; rfl
  have e4 : ∀ i : grid0.Coords, cc0_transform_4 k0_off1_inb numel1_S1 (tabs m) i = ![0, (tab0 m (ix1 (i 1))).toNat, 0, 2 + (i 0).val] := by
    intro i; rw [← fst2 (i 0), ← at0 m]; rfl
  refine ⟨fun i => ⟨?_, .inl rfl⟩, fun i => ⟨?_, .inl rfl⟩, fun i => ⟨?_, .inl rfl⟩, fun i => ⟨?_, .inl rfl⟩, fun i => ⟨?_, .inl rfl⟩⟩
  · rw [e0, min_toNat (nu m) h1 h2 (i 1)]
    have h := c1 i
    intro a; fin_cases a
    · show (min (i 1).val ((nu m).toNat - 1) + 1) * 512 ≤ 50688
      have := Nat.min_le_left (i 1).val ((nu m).toNat - 1); omega
    · show (0 + 1) * 2048 ≤ 2048; omega
  · rw [e1]
    have h := c0 i; have g := hte (ix1 (i 1))
    intro a; fin_cases a
    · show (0 + 1) * 1 ≤ 4; omega
    · show ((tab0 m (ix1 (i 1))).toNat + 1) * 1 ≤ 32; omega
    · show (0 + 1) * 4096 ≤ 4096; omega
    · show ((i 0).val + 1) * 512 ≤ 2048; omega
  · rw [e2]
    have h := c0 i; have g := hte (ix1 (i 1))
    intro a; fin_cases a
    · show (0 + 1) * 1 ≤ 4; omega
    · show ((tab0 m (ix1 (i 1))).toNat + 1) * 1 ≤ 32; omega
    · show (0 + 1) * 4096 ≤ 4096; omega
    · show (2 + (i 0).val + 1) * 512 ≤ 2048; omega
  · rw [e3]
    have h := c0 i; have g := hte (ix1 (i 1))
    intro a; fin_cases a
    · show (0 + 1) * 1 ≤ 4; omega
    · show ((tab0 m (ix1 (i 1))).toNat + 1) * 1 ≤ 32; omega
    · show (0 + 1) * 1 ≤ 1; omega
    · show ((i 0).val + 1) * 512 ≤ 2048; omega
  · rw [e4]
    have h := c0 i; have g := hte (ix1 (i 1))
    intro a; fin_cases a
    · show (0 + 1) * 1 ≤ 4; omega
    · show ((tab0 m (ix1 (i 1))).toNat + 1) * 1 ≤ 32; omega
    · show (0 + 1) * 1 ≤ 1; omega
    · show (2 + (i 0).val + 1) * 512 ≤ 2048; omega

/-! ## The invariant and what each point leaves -/

abbrev sc0 : Memref sig .tc .vmem S4096x512 .bf16 := Memref.whole cc0_scratch0
abbrev sc1 : Memref sig .tc .vmem S4096x512 .bf16 := Memref.whole cc0_scratch1

open Classical in
/-- What point `t` leaves in the result's block. -/
def out (c : Dev nD) (t : Fin (cfgA m hok).N) : S512x512.Idx → Elt F .bf16 :=
  if k0_cond2 (crd m hok t) (cnt (tab1 m)) = 1#1 then
    tile (iblk m hok c 0 t) (k0_pay1 (iblk m hok c 1 t)) (k0_pay2 (iblk m hok c 2 t)) (iblk m hok c 3 t) (iblk m hok c 4 t)
  else k0_pay4

/-- Before point `t` the scratches hold the previous point's weight blocks, and the tables and the generator's state stand. -/
def Phi (c : Dev nD) (t : Fin ((cfgA m hok).N + 1)) : sProp 𝕄 :=
  iprop((∃ s1, ∃ s2, ⌜∀ p : Fin (cfgA m hok).N, p.val + 1 = t.val → s1 = k0_pay1 (iblk m hok c 1 p) ∧ s2 = k0_pay2 (iblk m hok c 2 p)⌝
      ∗ owns (c : Thread nD τ) sc0 fullShare s1 ∗ owns (c : Thread nD τ) sc1 fullShare s2)
    ∗ (teM.view.loc (c : Thread nD τ) ↦{fullShare.right} tab0 m) ∗ (nuM.view.loc (c : Thread nD τ) ↦{fullShare.right} tab1 m) ∗ (∃ r, prngReg c r))

/-- The proof data of the one pipeline. -/
def dats (_ : Fin 1) (c : Dev nD) : Dat τ (Elt F) Unit ℕ (UR sig nD τ) ℕ (cfgA m hok) c where
  A w := V m c ((spec0 w).arr.view.ref)
  after w t := match w with
    | ⟨0, _⟩ => iblk m hok c 0 t
    | ⟨1, _⟩ => iblk m hok c 1 t
    | ⟨2, _⟩ => iblk m hok c 2 t
    | ⟨3, _⟩ => iblk m hok c 3 t
    | ⟨4, _⟩ => iblk m hok c 4 t
    | ⟨5, _⟩ => out m hok c t
  Φ t := Phi m hok c t
  q w := Pipeline.shareOf (cfgA m hok).spec w
  owed _ := 0

theorem after0_0 (c : Dev nD) (t : Fin (cfgA m hok).N) : (dats m hok 0 c).after 0 t = iblk m hok c 0 t := rfl
theorem after0_1 (c : Dev nD) (t : Fin (cfgA m hok).N) : (dats m hok 0 c).after 1 t = iblk m hok c 1 t := rfl
theorem after0_2 (c : Dev nD) (t : Fin (cfgA m hok).N) : (dats m hok 0 c).after 2 t = iblk m hok c 2 t := rfl
theorem after0_3 (c : Dev nD) (t : Fin (cfgA m hok).N) : (dats m hok 0 c).after 3 t = iblk m hok c 3 t := rfl
theorem after0_4 (c : Dev nD) (t : Fin (cfgA m hok).N) : (dats m hok 0 c).after 4 t = iblk m hok c 4 t := rfl
theorem after0_5 (c : Dev nD) (t : Fin (cfgA m hok).N) : (dats m hok 0 c).after 5 t = out m hok c t := rfl

theorem before0_0 (c : Dev nD) (t : Fin (cfgA m hok).N) (d) : (dats m hok 0 c).before 0 t d = iblk m hok c 0 t :=
  ((dats m hok 0 c).before_in_eq_fetched 0 rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA m hok).N) (d) : (dats m hok 0 c).before 1 t d = iblk m hok c 1 t :=
  ((dats m hok 0 c).before_in_eq_fetched 1 rfl (fun _ => rfl) (fun _ _ _ => rfl) (fun t => by rw [after0_1]; unfold Dat.blockOf iblk; rfl) t d).trans
    (by unfold Dat.fetched Dat.blockOf iblk; rfl)
theorem before0_2 (c : Dev nD) (t : Fin (cfgA m hok).N) (d) : (dats m hok 0 c).before 2 t d = iblk m hok c 2 t :=
  ((dats m hok 0 c).before_in_eq_fetched 2 rfl (fun _ => rfl) (fun _ _ _ => rfl) (fun t => by rw [after0_2]; unfold Dat.blockOf iblk; rfl) t d).trans
    (by unfold Dat.fetched Dat.blockOf iblk; rfl)
theorem before0_3 (c : Dev nD) (t : Fin (cfgA m hok).N) (d) : (dats m hok 0 c).before 3 t d = iblk m hok c 3 t :=
  ((dats m hok 0 c).before_in_eq_fetched 3 rfl (fun _ => rfl) (fun _ _ _ => rfl) (fun t => by rw [after0_3]; unfold Dat.blockOf iblk; rfl) t d).trans
    (by unfold Dat.fetched Dat.blockOf iblk; rfl)
theorem before0_4 (c : Dev nD) (t : Fin (cfgA m hok).N) (d) : (dats m hok 0 c).before 4 t d = iblk m hok c 4 t :=
  ((dats m hok 0 c).before_in_eq_fetched 4 rfl (fun _ => rfl) (fun _ _ _ => rfl) (fun t => by rw [after0_4]; unfold Dat.blockOf iblk; rfl) t d).trans
    (by unfold Dat.fetched Dat.blockOf iblk; rfl)

/-- Every point stores the result's block. -/
theorem idle5 (i : grid0.Coords) : (cfgA m hok).idle 5 i = false := by
  show (!(k0_cond2 i ((tabs m).atD 1 ![0]) == 1#1) && !(k0_cond3 i ((tabs m).atD 1 ![0]) == 1#1)) = false
  by_cases h : k0_cond2 i ((tabs m).atD 1 ![0]) = 1#1
  · rw [h]; rfl
  · rw [(unused_iff i _).2 h]; simp

/-! ## The body at a point -/

abbrev ms0 (t : Fin (cfgA m hok).N) : Memref sig .tc .vmem S512x2048 .i32 := spec0_0.stage ((cfgA m hok).slots t (0 : Fin 6))
abbrev ms1 (t : Fin (cfgA m hok).N) : Memref sig .tc .vmem S1x1x4096x512 .f32 := spec0_1.stage ((cfgA m hok).slots t (1 : Fin 6))
abbrev ms2 (t : Fin (cfgA m hok).N) : Memref sig .tc .vmem S1x1x4096x512 .f32 := spec0_2.stage ((cfgA m hok).slots t (2 : Fin 6))
abbrev ms3 (t : Fin (cfgA m hok).N) : Memref sig .tc .vmem S1x1x1x512 .f32 := spec0_3.stage ((cfgA m hok).slots t (3 : Fin 6))
abbrev ms4 (t : Fin (cfgA m hok).N) : Memref sig .tc .vmem S1x1x1x512 .f32 := spec0_4.stage ((cfgA m hok).slots t (4 : Fin 6))
abbrev ms5 (t : Fin (cfgA m hok).N) : Memref sig .tc .vmem S512x512 .bf16 := spec0_5.stage ((cfgA m hok).slots t (5 : Fin 6))
abbrev bodyAt (t : Fin (cfgA m hok).N) : Prog (TpuEff nD τ sig (Elt F) Λ₀ .tc) PUnit :=
  cc0_moe_ffn1 (crd m hok t) teM (Memref.isWhole_whole _) nuM (Memref.isWhole_whole _)
    (ms0 m hok t) (hstage0_0 (((cfgA m hok).slots t (0 : Fin 6)).cast nbuf0_0)) (ms1 m hok t) (hstage0_1 (((cfgA m hok).slots t (1 : Fin 6)).cast nbuf0_1))
    (ms2 m hok t) (hstage0_2 (((cfgA m hok).slots t (2 : Fin 6)).cast nbuf0_2)) (ms3 m hok t) (hstage0_3 (((cfgA m hok).slots t (3 : Fin 6)).cast nbuf0_3))
    (ms4 m hok t) (hstage0_4 (((cfgA m hok).slots t (4 : Fin 6)).cast nbuf0_4)) (ms5 m hok t) (hstage0_5 (((cfgA m hok).slots t (5 : Fin 6)).cast nbuf0_5))
    sc0 (Memref.isWhole_whole _) sc1 (Memref.isWhole_whole _)

set_option maxHeartbeats 4000000 in
theorem sound_body (hte : ∀ k, (tab0 m k).toNat < 32) (c : Dev nD) (t : Fin (cfgA m hok).N) :
    iprop((dats m hok 0 c).Φ t.castSucc ∗ (dats m hok 0 c).owesAt () t.castSucc
        ∗ (∃ d, owns (c : Thread nD τ) (ms0 m hok t) fullShare ((dats m hok 0 c).before 0 t d))
        ∗ (∃ d, owns (c : Thread nD τ) (ms1 m hok t) fullShare ((dats m hok 0 c).before 1 t d))
        ∗ (∃ d, owns (c : Thread nD τ) (ms2 m hok t) fullShare ((dats m hok 0 c).before 2 t d))
        ∗ (∃ d, owns (c : Thread nD τ) (ms3 m hok t) fullShare ((dats m hok 0 c).before 3 t d))
        ∗ (∃ d, owns (c : Thread nD τ) (ms4 m hok t) fullShare ((dats m hok 0 c).before 4 t d))
        ∗ (∃ d, owns (c : Thread nD τ) (ms5 m hok t) fullShare ((dats m hok 0 c).before 5 t d)))
      ⊢ wp frame (wpE (defs₀ (F := F)) Variants.none c none) Set.univ (bodyAt m hok t) fun _ =>
          iprop((dats m hok 0 c).Φ t.succ ∗ (dats m hok 0 c).owesAt () t.succ
            ∗ bigSep Finset.univ fun w : Fin (cfgA m hok).W =>
                match (cfgA m hok).idle w ((cfgA m hok).grid.coords t) with
                | true =>
                  match ((cfgA m hok).win w).flush t with
                  | false => iprop(∃ d, owns (c : Thread nD τ) (((cfgA m hok).win w).stage ((cfgA m hok).slots t w)) fullShare ((dats m hok 0 c).before w t d))
                  | true => owns (c : Thread nD τ) (((cfgA m hok).win w).stage ((cfgA m hok).slots t w)) fullShare ((dats m hok 0 c).after w t)
                | false => owns (c : Thread nD τ) (((cfgA m hok).win w).stage ((cfgA m hok).slots t w)) fullShare ((dats m hok 0 c).after w t)) := by
  rw [bigSep_W0]
  rewrite [idle5 m hok]
  simp only [before0_0, before0_1, before0_2, before0_3, before0_4, after0_0, after0_1, after0_2, after0_3, after0_4, after0_5]
  rewrite [show (dats m hok 0 c).Φ t.succ = Phi m hok c t.succ from rfl, show (dats m hok 0 c).Φ t.castSucc = Phi m hok c t.castSucc from rfl,
    show (dats m hok 0 c).owesAt () t.succ = (dats m hok 0 c).owesAt () t.castSucc from rfl]
  unfold Phi
  iintro ⟨⟨⟨%s1, %s2, %hs, HS0, HS1⟩, HT0, HT1, Hr⟩, Ho, ⟨%d0, H0⟩, ⟨%d1, H1⟩, ⟨%d2, H2⟩, ⟨%d3, H3⟩, ⟨%d4, H4⟩, ⟨%d5, H5⟩⟩
  have key : ¬ New (crd m hok t) (tab0 m) → s1 = k0_pay1 (iblk m hok c 1 t) ∧ s2 = k0_pay2 (iblk m hok c 2 t) := by
    intro hn
    obtain ⟨p, hp, b1, b2⟩ := blocks_same m hok c hte t hn
    rw [← b1, ← b2]
    exact hs p (hp.trans (Fin.val_castSucc t).symm)
  iapply (body_run c (crd m hok t) (ms0 m hok t) _ (ms1 m hok t) _ (ms2 m hok t) _ (ms3 m hok t) _ (ms4 m hok t) _ (ms5 m hok t) _ sc0 _ sc1 _
    (tab0 m) (tab1 m) (iblk m hok c 0 t) (iblk m hok c 1 t) (iblk m hok c 2 t) (iblk m hok c 3 t) (iblk m hok c 4 t)
    s1 s2 (k0_pay1 (iblk m hok c 1 t)) (k0_pay2 (iblk m hok c 2 t)) ((dats m hok 0 c).before 5 t d5) (out m hok c t)
    (by by_cases hn : New (crd m hok t) (tab0 m)
        · rw [if_pos hn]
        · rw [if_neg hn]; exact (key hn).1.symm)
    (by by_cases hn : New (crd m hok t) (tab0 m)
        · rw [if_pos hn]
        · rw [if_neg hn]; exact (key hn).2.symm)
    rfl _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [HT0]; · iexact HT0
  isplitl [HT1]; · iexact HT1
  isplitl [H5]; · iapply rep_of_owns; iexact H5
  isplitl [HS0]; · iapply rep_of_owns; iexact HS0
  isplitl [HS1]; · iapply rep_of_owns; iexact HS1
  iintro ⟨H0, H1, H2, H3, H4, HT0, HT1, H5, HS0, HS1⟩
  isplitl [HS0 HS1 HT0 HT1 Hr]
  · isplitl [HS0 HS1]
    · iexists _; iexists _; isplitr; swap
      · isplitl [HS0]
        · iapply owns_of_rep; iexact HS0
        · iapply owns_of_rep; iexact HS1
      · ipureintro
        intro p hp
        have : p = t := by rw [Fin.val_succ] at hp; exact Fin.ext (Nat.succ.inj hp)
        subst this
        exact ⟨rfl, rfl⟩
    isplitl [HT0]; · iexact HT0
    isplitl [HT1]; · iexact HT1
    iexact Hr
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  iapply owns_of_rep; iexact H5

theorem body_obligation (hte : ∀ k, (tab0 m k).toNat < 32) (c : Dev nD) :
    BodyObligation (dats m hok 0 c) (defs₀ (F := F)) Variants.none () Set.univ := fun t => by
  rw [bigSep_W0]
  exact sound_body m hok hte c t

/-! ## The launch -/

theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

theorem enter (c : Dev nD) : iprop(Pipeline.ΦA (cfgA m hok).spec c ∗ Pipeline.ΦT pre0 (adm m hok).1 c) ⊢ (dats m hok 0 c).Φ 0 := by
  rw [show (dats m hok 0 c).Φ 0 = Phi m hok c 0 from rfl]
  unfold Pipeline.ΦA Pipeline.ΦT Phi
  rw [prefHeld_eq, show Pipeline.scopedRest (cfgA m hok).spec c = Pipeline.scopedRest spec0 c from rfl, scopedRest0_eq]
  iintro ⟨⟨⟨⟨%f0, HS0⟩, ⟨%f1, HS1⟩⟩, Hr⟩, HT0, HT1⟩
  isplitl [HS0 HS1]
  · iexists f0; iexists f1; isplitr; swap
    · rw [owns_whole, owns_whole]
      isplitl [HS0]; · iexact HS0
      iexact HS1
    · ipureintro; intro p hp; exact absurd hp (Nat.succ_ne_zero _)
  isplitl [HT0]; · iexact HT0
  isplitl [HT1]; · iexact HT1
  iexact Hr

theorem leave (c : Dev nD) : (dats m hok 0 c).Φ (Fin.last (cfgA m hok).N) ⊢ Pipeline.ΦA (cfgA m hok).spec c := by
  rw [show (dats m hok 0 c).Φ (Fin.last (cfgA m hok).N) = Phi m hok c (Fin.last _) from rfl]
  unfold Pipeline.ΦA Phi
  rw [show Pipeline.scopedRest (cfgA m hok).spec c = Pipeline.scopedRest spec0 c from rfl, scopedRest0_eq]
  simp only [owns_whole]
  iintro ⟨⟨%f0, %f1, %hs, HS0, HS1⟩, HT0, HT1, Hr⟩
  isplitl [HS0 HS1]
  · isplitl [HS0]
    · iexists f0; iexact HS0
    · iexists f1; iexact HS1
  iexact Hr

theorem hostOps0_fresh : (hostOps0 : List (HloOp τ sig (Elt F))).Forall fun op => op.fresh = ∅ := by
  simp only [List.Forall]; rfl

theorem V_arg (c : Dev nD) (b : Ref sig .tc) (hb : b ≠ main_v0) : V m c b = m ((c : Thread nD τ).loc b) :=
  StableHlo.after_of_forall_not_mem (b := Proc.devRef .tc b) _ _ (List.forall_iff_forall_mem.mp (by
    simp only [List.Forall, StableHlo.reshape_writes, Finset.mem_singleton]
    exact fun h => hb (Proc.devRef_injective _ h)))

theorem run_frame (hte : ∀ k, (tab0 m k).toNat < 32) (g : Dev nD → PrngReg) :
    θ_run (defs (F := F)) (onTc (τ := τ) (main (F := F))) ⟨m, fun _ => 0, g⟩ fun r =>
      Pipeline.FramePost (Pipeline.pin (pcfgs (F := F)) fun _ => adm m hok) (dats m hok) 0 (V m) r ∧ r.2.sem = fun _ => 0 :=
  Pipeline.θ_run_frameP_track_shared (pcfgs (F := F)) (fun _ => adm m hok) (dats m hok) 0 launch₀0 defs₀ Variants.none m g main
    (fun c => (body_obligation m hok hte c).loose) (fun _ _ _ => rfl) (fun _ _ => rfl) (V m)
    (Pipeline.hmainP_prefix (pcfgs (F := F)) 0 defs₀ Variants.none m main hostOps0 hostOps0_sub hostOps0_fresh main_chain)
    (fun _ _ => rfl) (fun c k => by
      obtain rfl : c = 0 := Subsingleton.elim _ _
      match k with
      | 0 => exact V_arg m 0 main_arg1 (by decide)
      | 1 => exact V_arg m 0 main_arg2 (by decide))
    (enter m hok) (leave m hok) _ (fun r h => h)

/-- After the run the arguments are what they were. -/
theorem args_kept {r : PUnit × MemSt nD τ sig (Elt F)} (h : Pipeline.FramePost (Pipeline.pin (pcfgs (F := F)) fun _ => adm m hok) (dats m hok) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(h.in_eq c 0 rfl).trans (V_arg m c main_arg0 (by decide)), (h.rest_eq c main_arg1 (show main_arg1 ∈ Pipeline.restRefs sig spec0 from by decide)).trans (V_arg m c main_arg1 (by decide)),
    (h.rest_eq c main_arg2 (show main_arg2 ∈ Pipeline.restRefs sig spec0 from by decide)).trans (V_arg m c main_arg2 (by decide)), (h.in_eq c 1 rfl).trans (V_arg m c main_arg3 (by decide)),
    (h.rest_eq c main_arg4 (show main_arg4 ∈ Pipeline.restRefs sig spec0 from by decide)).trans (V_arg m c main_arg4 (by decide))⟩

end Cert.FfnOneIdeal.Tile
end
-- ==== Proof.FfnOneRef.lean ====
/- The first expert layer's reference, its parts named, read at an index. -/
module

public import proofs.«01_k».proof.Proof.Gen.FfnOneRefIdeal.Run
public import proofs.«01_k».proof.Proof.Experts

@[expose] public section

set_option maxRecDepth 16384

noncomputable section

namespace Cert.FfnOneValue

open Cert.FfnOneRefIdeal Cert.FfnOneRefIdeal.Gen Cert.Experts Idealize.ShloMosaic Idealize.ShloMosaic.TcCoe Idealize.SL.Sem

/-- The rows, their two packed halves side by side. -/
def rows (x : IVec S50688x2048 32) : FVec Ideal S50688x4096 .f32 :=
  Cert.FfnOneRefIdeal.Value.fn_main_v6 (F := Ideal) (bitcastToFloat (F := Ideal) .f32 (Host.shli x (broadcastInDim S50688x2048 ![] bcast_S_S50688x2048 (constantI S_ 32 16#32))))
    (bitcastToFloat (F := Ideal) .f32 (andi x (broadcastInDim S50688x2048 ![] bcast_S_S50688x2048 (constantI S_ 32 4294901760#32))))

/-- The tiles' experts as a column, a negative one counted from the end. -/
def wrapped (te : IVec S99 32) : IVec S99x1 32 :=
  broadcastInDim S99x1 ![0] bcast_S99_S99x1_0 (select (cmpi .slt te (broadcastInDim S99 ![] bcast_S_S99 (constantI S_ 32 0#32)))
    (addi te (broadcastInDim S99 ![] bcast_S_S99 (constantI S_ 32 32#32))) te)

/-- Each tile's weights. -/
def weights (te : IVec S99 32) (w : FVec Ideal S4x32x4096x2048 .f32) : FVec Ideal S99x4096x2048 .f32 :=
  Host.gather gather_S32x4096x2048_S99x1_S99x4096x2048_12_0_n_n_0_1_140962048 (shapeCast S32x4096x2048 (extractStridedSlice S1x32x4096x2048 ![0, 0, 0, 0] w slices_S4x32x4096x2048_S1x32x4096x2048_0_0_0_0) shapeCasts_S1x32x4096x2048_S32x4096x2048) (wrapped te)

/-- Each tile's bias. -/
def biases (te : IVec S99 32) (b : FVec Ideal S4x32x2048 .f32) : FVec Ideal S99x2048 .f32 :=
  Host.gather gather_S32x2048_S99x1_S99x2048_1_0_n_n_0_1_12048 (shapeCast S32x2048 (extractStridedSlice S1x32x2048 ![0, 0, 0] b slices_S4x32x2048_S1x32x2048_0_0_0) shapeCasts_S1x32x2048_S32x2048) (wrapped te)

/-- Each tile's rows through its expert's matrix, its bias added. -/
def hidden (x : IVec S50688x2048 32) (te : IVec S99 32) (w : FVec Ideal S4x32x4096x2048 .f32) (b : FVec Ideal S4x32x2048 .f32) : FVec Ideal S99x512x2048 .f32 :=
  addf (Host.dotGeneral dot_S99x512x4096_S99x4096x2048_S99x512x2048_2_1_1_2_0_0 none (shapeCast S99x512x4096 (rows x) shapeCasts_S50688x4096_S99x512x4096) (weights te w))
    (broadcastInDim S99x512x2048 ![0, 1, 2] bcast_S99x1x2048_S99x512x2048_0_1_2 (broadcastInDim S99x1x2048 ![0, 2] bcast_S99x2048_S99x1x2048_0_2 (biases te b)))

/-- The gate's half, bounded above. -/
def gate (h : FVec Ideal S99x512x2048 .f32) : FVec Ideal S99x512x1024 .f32 :=
  minimumf (extractStridedSlice S99x512x1024 ![0, 0, 0] h slices_S99x512x2048_S99x512x1024_0_0_0) (broadcastInDim S99x512x1024 ![] bcast_S_S99x512x1024 (constant S_ .f32 0x40E00000#32))

/-- The other half, bounded on both sides. -/
def lin (h : FVec Ideal S99x512x2048 .f32) : FVec Ideal S99x512x1024 .f32 :=
  minimumf (broadcastInDim S99x512x1024 ![] bcast_S_S99x512x1024 (id (constant S_ .f32 0x40E00000#32)))
    (maximumf (broadcastInDim S99x512x1024 ![] bcast_S_S99x512x1024 (id (constant S_ .f32 0xC0E00000#32))) (extractStridedSlice S99x512x1024 ![0, 0, 1024] h slices_S99x512x2048_S99x512x1024_0_0_1024))

/-- The gated halves. -/
def gated (h : FVec Ideal S99x512x2048 .f32) : FVec Ideal S99x512x1024 .f32 :=
  mulf (mulf (gate h) (Host.divf (broadcastInDim S99x512x1024 ![] bcast_S_S99x512x1024 (constant S_ .f32 0x3F800000#32))
      (addf (broadcastInDim S99x512x1024 ![] bcast_S_S99x512x1024 (constant S_ .f32 0x3F800000#32))
        (Host.exp (Host.negf (mulf (broadcastInDim S99x512x1024 ![] bcast_S_S99x512x1024 (constant S_ .f32 0x3FD9DB23#32)) (gate h)))))))
    (addf (lin h) (broadcastInDim S99x512x1024 ![] bcast_S_S99x512x1024 (constant S_ .f32 0x3F800000#32)))

/-- Whether a tile is in use. -/
def used (nu : IVec S1 32) : IVec S99x512x1024 1 :=
  broadcastInDim S99x512x1024 ![0, 1, 2] bcast_S99x1x1_S99x512x1024_0_1_2 (broadcastInDim S99x1x1 ![0] bcast_S99_S99x1x1_0
    (cmpi .slt (iotaInDim S99 32 0) (broadcastInDim S99 ![] bcast_S_S99 (shapeCast S_ nu shapeCasts_S1_S_))))

/-- The reference's result. -/
def ref (x : IVec S50688x2048 32) (te : IVec S99 32) (nu : IVec S1 32) (w : FVec Ideal S4x32x4096x2048 .f32) (b : FVec Ideal S4x32x2048 .f32) : FVec Ideal S50688x1024 .bf16 :=
  truncf .bf16 (shapeCast S50688x1024 (select (used nu) (gated (hidden x te w b)) (broadcastInDim S99x512x1024 ![] bcast_S_S99x512x1024 (id (constant S_ .f32 0x00000000#32)))) shapeCasts_S99x512x1024_S50688x1024) bitsLt_bf16_f32

theorem res_eq (m : (ℓ : Loc nD τ sig) → Buf (Elt Ideal) ℓ) (c : Dev nD) :
    Cert.FfnOneRefIdeal.Value.res_out0 m c = ref (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  unfold Cert.FfnOneRefIdeal.Value.res_out0 Cert.FfnOneRefIdeal.Value.res_main_v54
  rfl

theorem weights_at (te : IVec S99 32) (w : FVec Ideal S4x32x4096x2048 .f32) (t : Fin 99) (h : (te (ix1 t)).toNat < 32) (k : Fin 4096) (n : Fin 2048) :
    weights te w (ix3 t k n) = w (ix4 0 ⟨(te (ix1 t)).toNat, h⟩ k n) := by
  unfold weights
  refine (gather_slab gather_S32x4096x2048_S99x1_S99x4096x2048_12_0_n_n_0_1_140962048_wf _ _ t k n ⟨(te (ix1 t)).toNat, h⟩ (wrap_at te t h _ _ _) (by decide)).trans ?_
  pointwise []

theorem biases_at (te : IVec S99 32) (b : FVec Ideal S4x32x2048 .f32) (t : Fin 99) (h : (te (ix1 t)).toNat < 32) (n : Fin 2048) :
    biases te b (ix2 t n) = b (ix3 0 ⟨(te (ix1 t)).toNat, h⟩ n) := by
  unfold biases
  refine (Routing.gather_row gather_S32x2048_S99x1_S99x2048_1_0_n_n_0_1_12048 rfl rfl rfl rfl rfl _ _ t n ⟨(te (ix1 t)).toNat, h⟩ (wrap_at te t h _ _ _) (by decide)).trans ?_
  pointwise []

theorem rows_low (x : IVec S50688x2048 32) (r : Fin 50688) (k : Fin 2048) :
    rows x (ix2 r ⟨k.val, by omega⟩) = low (x (ix2 r k)) := by
  rw [← low_host]
  pointwise [rows, Cert.FfnOneRefIdeal.Value.fn_main_v6]
theorem rows_high (x : IVec S50688x2048 32) (r : Fin 50688) (k : Fin 2048) :
    rows x (ix2 r ⟨2048 + k.val, by omega⟩) = high (x (ix2 r k)) := by
  unfold high
  pointwise [rows, Cert.FfnOneRefIdeal.Value.fn_main_v6]

theorem add_at {s : Shape} (a b : FVec Ideal s .f32) (i : s.Idx) : addf a b i = a i + b i := rfl
theorem select_at {s : Shape} (c : IVec s 1) (a b : FVec Ideal s .f32) (i : s.Idx) : select c a b i = Scalar.select (c i) (a i) (b i) := rfl
theorem trunc_at {s : Shape} (a : FVec Ideal s .f32) (i : s.Idx) : truncf .bf16 a bitsLt_bf16_f32 i = a i := rfl
theorem dot_at (x : FVec Ideal S99x512x4096 .f32) (w : FVec Ideal S99x4096x2048 .f32) (t : Fin 99) (r : Fin 512) (n : Fin 2048) :
    Host.dotGeneral dot_S99x512x4096_S99x4096x2048_S99x512x2048_2_1_1_2_0_0 none x w (ix3 t r n) = ∑ k : Fin 4096, x (ix3 t r k) * w (ix3 t k n) := by
  pointwise []

theorem cast_at (x : FVec Ideal S50688x4096 .f32) (t : Fin 99) (r : Fin 512) (n : Fin 4096) :
    shapeCast S99x512x4096 x shapeCasts_S50688x4096_S99x512x4096 (ix3 t r n) = x (ix2 ⟨t.val * 512 + r.val, by omega⟩ n) := by
  pointwise []

theorem bias_at (b : FVec Ideal S99x2048 .f32) (t : Fin 99) (r : Fin 512) (n : Fin 2048) :
    (broadcastInDim S99x512x2048 ![0, 1, 2] bcast_S99x1x2048_S99x512x2048_0_1_2 (broadcastInDim S99x1x2048 ![0, 2] bcast_S99x2048_S99x1x2048_0_2 b)) (ix3 t r n) = b (ix2 t n) := by
  pointwise []

theorem gated_at (h : FVec Ideal S99x512x2048 .f32) (t : Fin 99) (r : Fin 512) (n : Fin 1024) :
    gated h (ix3 t r n) = swi (h (ix3 t r ⟨n.val, by omega⟩)) (h (ix3 t r ⟨1024 + n.val, by omega⟩)) := by
  unfold swi
  pointwise [gated, gate, lin]
  rfl

theorem cast2_at (x : FVec Ideal S99x512x1024 .f32) (t : Fin 99) (r : Fin 512) (n : Fin 1024) :
    shapeCast S50688x1024 x shapeCasts_S99x512x1024_S50688x1024 (ix2 ⟨t.val * 512 + r.val, by omega⟩ n) = x (ix3 t r n) := by
  pointwise []

theorem hidden_at (x : IVec S50688x2048 32) (te : IVec S99 32) (w : FVec Ideal S4x32x4096x2048 .f32) (b : FVec Ideal S4x32x2048 .f32) (t : Fin 99)
    (h : (te (ix1 t)).toNat < 32) (r : Fin 512) (n : Fin 2048) :
    hidden x te w b (ix3 t r n)
      = (∑ k : Fin 2048, low (x (ix2 ⟨t.val * 512 + r.val, by omega⟩ k)) * w (ix4 0 ⟨(te (ix1 t)).toNat, h⟩ ⟨k.val, by omega⟩ n)
          + ∑ k : Fin 2048, high (x (ix2 ⟨t.val * 512 + r.val, by omega⟩ k)) * w (ix4 0 ⟨(te (ix1 t)).toNat, h⟩ ⟨2048 + k.val, by omega⟩ n))
        + b (ix3 0 ⟨(te (ix1 t)).toNat, h⟩ n) := by
  have e : hidden x te w b (ix3 t r n) = (∑ k : Fin 4096, rows x (ix2 ⟨t.val * 512 + r.val, by omega⟩ k) * weights te w (ix3 t k n)) + biases te b (ix2 t n) := by
    unfold hidden
    rw [add_at, dot_at, bias_at]
    simp only [cast_at]
  rw [e, biases_at te b t h, sum_halves 2048 fun k : Fin 4096 => rows x (ix2 ⟨t.val * 512 + r.val, by omega⟩ k) * weights te w (ix3 t k n)]
  simp only [rows_low, rows_high, weights_at te w t h]

theorem ref_at (x : IVec S50688x2048 32) (te : IVec S99 32) (nu : IVec S1 32) (w : FVec Ideal S4x32x4096x2048 .f32) (b : FVec Ideal S4x32x2048 .f32)
    (t : Fin 99) (r : Fin 512) (n : Fin 1024) :
    ref x te nu w b (ix2 ⟨t.val * 512 + r.val, by omega⟩ n)
      = Scalar.select (IntOp.cmpi .slt (BitVec.ofNat 32 t.val) (nu (ix1 0)))
          (swi (hidden x te w b (ix3 t r ⟨n.val, by omega⟩)) (hidden x te w b (ix3 t r ⟨1024 + n.val, by omega⟩))) 0 := by
  unfold ref used
  rw [trunc_at, cast2_at, select_at, used_at, gated_at]
  exact congrArg (Scalar.select _ _) ofBits_zero

end Cert.FfnOneValue

end
-- ==== Proof.FfnOneKer.lean ====
/- The first expert layer's kernel: what it leaves is the reference's result. -/
module

public import proofs.«01_k».proof.Proof.FfnOneIdealRun
public import proofs.«01_k».proof.Proof.FfnOneRef
public import Idealize.ShloMosaic.Lib.Pipeline.Covers

@[expose] public section

set_option maxRecDepth 16384

noncomputable section

namespace Cert.FfnOneValue

open Cert.FfnOneIdeal Cert.FfnOneIdeal.Gen Cert.FfnOneIdeal.Tile Cert.Experts Idealize.ShloMosaic Idealize.ShloMosaic.TcCoe Idealize.SL.Sem

/-- One column of a tile's row through a weight block, its bias added. -/
def column (x : Fin 2048 → BitVec 32) (w : Fin 4096 → EReal) (b : EReal) : EReal :=
  (∑ k : Fin 2048, low (x k) * w ⟨k.val, by omega⟩ + ∑ k : Fin 2048, high (x k) * w ⟨2048 + k.val, by omega⟩) + b

theorem top_at (s : FVec Ideal S4096x512 .bf16) (k : Fin 2048) (n : Fin 512) : top (F := Ideal) s (ix2 k n) = s (ix2 ⟨k.val, by omega⟩ n) := by
  refine congrArg s (funext fun a => Fin.ext ?_)
  fin_cases a <;> exact (ValueKit.rect_emb_unit_val _ _ _ _ _).trans (Nat.add_comm _ _)
theorem bot_at (s : FVec Ideal S4096x512 .bf16) (k : Fin 2048) (n : Fin 512) : bot (F := Ideal) s (ix2 k n) = s (ix2 ⟨2048 + k.val, by omega⟩ n) := by
  refine congrArg s (funext fun a => Fin.ext ?_)
  fin_cases a
  · exact ValueKit.rect_emb_unit_val _ _ _ _ _
  · exact (ValueKit.rect_emb_unit_val _ _ _ _ _).trans (Nat.add_comm _ _)

theorem pay1_at (x : FVec Ideal S1x1x4096x512 .f32) (k : Fin 4096) (n : Fin 512) : k0_pay1 (F := Ideal) x (ix2 k n) = x (ix4 0 0 k n) := by
  pointwise [k0_pay1]
theorem pay2_at (x : FVec Ideal S1x1x4096x512 .f32) (k : Fin 4096) (n : Fin 512) : k0_pay2 (F := Ideal) x (ix2 k n) = x (ix4 0 0 k n) := by
  pointwise [k0_pay2]
theorem pay5_at (x : IVec S512x2048 32) (r : Fin 512) (k : Fin 2048) : k0_pay5 (F := Ideal) x (ix2 r k) = low (x (ix2 r k)) := rfl
theorem pay6_at (x : IVec S512x2048 32) (r : Fin 512) (k : Fin 2048) : k0_pay6 (F := Ideal) x (ix2 r k) = high (x (ix2 r k)) := rfl

theorem pay7_at (x : IVec S512x2048 32) (w1 w2 : FVec Ideal S2048x512 .bf16) (b : FVec Ideal S1x1x1x512 .f32) (r : Fin 512) (n : Fin 512) :
    k0_pay7 (F := Ideal) x w1 w2 b (ix2 r n)
      = min ((∑ k : Fin 2048, k0_pay5 (F := Ideal) x (ix2 r k) * w1 (ix2 k n) + ∑ k : Fin 2048, k0_pay6 (F := Ideal) x (ix2 r k) * w2 (ix2 k n)) + b (ix4 0 0 0 n))
          (Ideal.ofBits .f32 0x40E00000#32) := by
  unfold k0_pay7
  generalize k0_pay5 (F := Ideal) x = lo
  generalize k0_pay6 (F := Ideal) x = hi
  pointwise []
theorem pay8_at (x : IVec S512x2048 32) (w1 w2 : FVec Ideal S2048x512 .bf16) (b : FVec Ideal S1x1x1x512 .f32) (r : Fin 512) (n : Fin 512) :
    k0_pay8 (F := Ideal) x w1 w2 b (ix2 r n)
      = min (Ideal.ofBits .f32 0x40E00000#32) (max (Ideal.ofBits .f32 0xC0E00000#32)
          ((∑ k : Fin 2048, k0_pay5 (F := Ideal) x (ix2 r k) * w1 (ix2 k n) + ∑ k : Fin 2048, k0_pay6 (F := Ideal) x (ix2 r k) * w2 (ix2 k n)) + b (ix4 0 0 0 n))) := by
  unfold k0_pay8
  generalize k0_pay5 (F := Ideal) x = lo
  generalize k0_pay6 (F := Ideal) x = hi
  pointwise []
theorem pay3_at (g l : FVec Ideal S512x512 .f32) (r : Fin 512) (n : Fin 512) :
    k0_pay3 (F := Ideal) g l (ix2 r n) = g (ix2 r n) * Ideal.div (Ideal.ofBits .f32 0x3F800000#32) (Ideal.ofBits .f32 0x3F800000#32 + Ideal.exp (-(Ideal.ofBits .f32 0x3FD9DB23#32 * g (ix2 r n))))
      * (l (ix2 r n) + Ideal.ofBits .f32 0x3F800000#32) := by
  pointwise [k0_pay3]
  try rw [zero_sub]

theorem tile_at (x : IVec S512x2048 32) (w1 w2 : FVec Ideal S1x1x4096x512 .f32) (b1 b2 : FVec Ideal S1x1x1x512 .f32) (r : Fin 512) (n : Fin 512) :
    tile (F := Ideal) x (k0_pay1 (F := Ideal) w1) (k0_pay2 (F := Ideal) w2) b1 b2 (ix2 r n)
      = swi (column (fun k => x (ix2 r k)) (fun k => w1 (ix4 0 0 k n)) (b1 (ix4 0 0 0 n))) (column (fun k => x (ix2 r k)) (fun k => w2 (ix4 0 0 k n)) (b2 (ix4 0 0 0 n))) := by
  unfold tile
  rw [pay3_at, pay7_at, pay8_at]
  have e1 : ∀ w : FVec Ideal S1x1x4096x512 .f32, ∀ b : EReal,
      (∑ k : Fin 2048, k0_pay5 (F := Ideal) x (ix2 r k) * top (F := Ideal) (k0_pay1 (F := Ideal) w) (ix2 k n) + ∑ k : Fin 2048, k0_pay6 (F := Ideal) x (ix2 r k) * bot (F := Ideal) (k0_pay1 (F := Ideal) w) (ix2 k n)) + b
        = column (fun k => x (ix2 r k)) (fun k => w (ix4 0 0 k n)) b := fun w b =>
    congrArg (· + b) (congrArg₂ (· + ·)
      (Finset.sum_congr rfl fun k _ => congrArg₂ (· * ·) (pay5_at x r k) ((top_at _ k n).trans (pay1_at w _ n)))
      (Finset.sum_congr rfl fun k _ => congrArg₂ (· * ·) (pay6_at x r k) ((bot_at _ k n).trans (pay1_at w _ n))))
  have e2 : k0_pay2 (F := Ideal) w2 = k0_pay1 (F := Ideal) w2 := rfl
  rw [e2, e1, e1]
  rfl

theorem column_congr {x x' : Fin 2048 → BitVec 32} {w w' : Fin 4096 → EReal} {b b' : EReal} (hx : ∀ k, x k = x' k) (hw : ∀ k, w k = w' k) (hb : b = b') :
    column x w b = column x' w' b' := by
  rw [funext hx, funext hw, hb]

theorem hidden_column (x : IVec S50688x2048 32) (tb : IVec S99 32) (w : FVec Ideal S4x32x4096x2048 .f32) (b : FVec Ideal S4x32x2048 .f32) (t : Fin 99)
    (e : Fin 32) (h : (tb (ix1 t)).toNat = e.val) (r : Fin 512) (n : Fin 2048) :
    hidden x tb w b (ix3 t r n) = column (fun k => x (ix2 ⟨t.val * 512 + r.val, by omega⟩ k)) (fun k => w (ix4 0 e k n)) (b (ix3 0 e n)) := by
  obtain ⟨e, he⟩ := e
  have h' : (tb (ix1 t)).toNat = e := h
  subst h'
  exact hidden_at x tb w b t he r n

variable (m : (ℓ : Loc nD τ sig) → Buf (Elt Ideal) ℓ) (hok : ok0 (tabs m))

theorem used_iff (i : grid0.Coords) (w : BitVec 32) : k0_cond2 i w = 1#1 ↔ IntOp.cmpi .slt (BitVec.ofNat 32 (i 1).val) w = 1#1 := by
  have e : ∀ b : BitVec 1, Scalar.cmpi .ne (Scalar.extui b : BitVec 32) 0#32 = 1#1 ↔ b = 1#1 := by decide
  unfold k0_cond2
  exact e _

theorem slt_small (k : Fin 99) (w : BitVec 32) (hw : w.toNat ≤ 99) : IntOp.cmpi .slt (BitVec.ofNat 32 k.val) w = 1#1 ↔ k.val < w.toNat := by
  rw [← WordCmp.cmpi_slt_ofNat_eq_one_iff (w := 32) (a := k.val) (b := w.toNat) (by omega) (by omega), BitVec.ofNat_toNat, BitVec.setWidth_eq]

/-- What a point leaves is the reference's block. -/
theorem out_at (hte : ∀ k, (tab0 m k).toNat < 32) (hnu : (nu m).toNat ≤ 99) (t : Fin (cfgA m hok).N) (ht : t.val < 198) (r n : Fin 512) :
    out (F := Ideal) m hok 0 t (ix2 r n)
      = ref (m (((0 : Dev nD).tc : Thread nD τ).loc main_arg0)) (m (((0 : Dev nD).tc : Thread nD τ).loc main_arg1)) (m (((0 : Dev nD).tc : Thread nD τ).loc main_arg2))
          (m (((0 : Dev nD).tc : Thread nD τ).loc main_arg3)) (m (((0 : Dev nD).tc : Thread nD τ).loc main_arg4))
          (ix2 ⟨t.val % 99 * 512 + r.val, by omega⟩ ⟨t.val / 99 * 512 + n.val, by omega⟩) := by
  have ec : crd m hok t 1 = (⟨t.val % 99, by omega⟩ : Fin 99) := Fin.ext (crd_1 m hok t)
  refine Eq.trans ?_ (ref_at _ _ _ _ _ (⟨t.val % 99, by omega⟩ : Fin 99) r ⟨t.val / 99 * 512 + n.val, by omega⟩).symm
  unfold out
  rw [cnt_eq]
  by_cases hu : k0_cond2 (crd m hok t) (tab1 m (ix1 0)) = 1#1
  · rw [if_pos hu]
    have hs := (used_iff _ _).1 hu
    have hlt : t.val % 99 < (nu m).toNat := by
      have := (slt_small _ _ hnu).1 hs
      rwa [crd_1] at this
    have he : (tab0 m (ix1 (⟨t.val % 99, by omega⟩ : Fin 99))).toNat = (te m hok t).toNat := by unfold te; rw [ec]
    rw [crd_1] at hs
    have hs' : IntOp.cmpi .slt (BitVec.ofNat 32 (⟨t.val % 99, by omega⟩ : Fin 99).val) (m (((0 : Dev nD).tc : Thread nD τ).loc main_arg2) (ix1 0)) = 1#1 := hs
    rw [hs']
    refine (tile_at _ _ _ _ _ r n).trans ?_
    refine Eq.trans ?_ (if_pos rfl).symm
    refine congrArg₂ swi ?_ ?_
    · exact (column_congr (fun k => read0 m hok 0 t hlt hnu r k) (fun k => read1 m hok 0 t ht (hte _) k n) (read3 m hok 0 t ht (hte _) n)).trans
        (hidden_column _ _ _ _ (⟨t.val % 99, by omega⟩ : Fin 99) ⟨(te m hok t).toNat, hte _⟩ he r _).symm
    · exact (column_congr (fun k => read0 m hok 0 t hlt hnu r k) (fun k => read2 m hok 0 t ht (hte _) k n) (read4 m hok 0 t ht (hte _) n)).trans
        (hidden_column _ _ _ _ (⟨t.val % 99, by omega⟩ : Fin 99) ⟨(te m hok t).toNat, hte _⟩ he r _).symm
  · rw [if_neg hu]
    have hs := fun h => hu ((used_iff _ _).2 h)
    rw [crd_1] at hs
    refine Eq.trans ?_ (if_neg hs).symm
    exact ofBits_zero16

theorem covers : ((cfgA m hok).win 5).Covers := by
  refine ((cfgA m hok).win 5).covers_of_index_surj rfl (fun a => ?_) fun β => ?_
  · fin_cases a
    · show 0 < 512; omega
    · show 0 < 512; omega
  obtain ⟨b0, e0⟩ : ∃ b : Fin 99, (b.val : Nat) = (β ⟨0, Nat.zero_lt_two⟩).val :=
    ⟨⟨_, lt_of_lt_of_eq (β ⟨0, Nat.zero_lt_two⟩).isLt (show (50688 + 512 - 1) / 512 = 99 from by omega)⟩, rfl⟩
  obtain ⟨b1, e1⟩ : ∃ b : Fin 2, (b.val : Nat) = (β ⟨1, Nat.one_lt_two⟩).val :=
    ⟨⟨_, lt_of_lt_of_eq (β ⟨1, Nat.one_lt_two⟩).isLt (show (1024 + 512 - 1) / 512 = 2 from by omega)⟩, rfl⟩
  refine ⟨⟨b1.val * 99 + b0.val, lt_of_lt_of_eq (by omega : b1.val * 99 + b0.val < 198) N_0.symm⟩, fun a => ?_⟩
  rw [index5]
  fin_cases a
  · refine Eq.trans ?_ e0
    show (b1.val * 99 + b0.val) % 99 = b0.val; omega
  · refine Eq.trans ?_ e1
    show (b1.val * 99 + b0.val) / 99 = b1.val; omega

/-- The whole array after the last point. -/
theorem final (hte : ∀ k, (tab0 m k).toNat < 32) (hnu : (nu m).toNat ≤ 99) :
    (dats m hok 0 0).arrAt 5 (cfgA m hok).N
      = ref (m (((0 : Dev nD).tc : Thread nD τ).loc main_arg0)) (m (((0 : Dev nD).tc : Thread nD τ).loc main_arg1)) (m (((0 : Dev nD).tc : Thread nD τ).loc main_arg2))
          (m (((0 : Dev nD).tc : Thread nD τ).loc main_arg3)) (m (((0 : Dev nD).tc : Thread nD τ).loc main_arg4)) := by
  refine (dats m hok 0 0).arrAt_eq_of_covers 5 _ (covers m hok) fun t _ y => ?_
  have ht := lt_N m hok t
  blk_simp
  rw [after0_5]
  change S512x512.Idx at y
  have ey : y = ix2 (y 0) (y 1) := by
    funext a; fin_cases a <;> rfl
  rw [ey]
  refine (out_at m hok hte hnu t ht (y 0) (y 1)).trans ?_
  blk_ext [index5 m hok t]

end Cert.FfnOneValue

end
-- ==== Proof.FfnOneTables.lean ====
/- What the range given for the two integer arguments of the first expert product says of their words. -/
module

public import proofs.«01_k».proof.Pre_tables3
public import proofs.«01_k».proof.Proof.Gen.Pre_tables3
public import Idealize.ShloMosaic.Lib.ReduceAll
public import Idealize.ShloMosaic.Lib.WordCmp
public import Idealize.ShloMosaic.Lib.Pointwise

@[expose] public section

noncomputable section

namespace Cert.FfnOneValue

open Idealize.ShloMosaic

instance : Subsingleton (Cert.Pre_tables3.S_).Idx := ⟨fun _ _ => funext fun i => i.elim0⟩

/-- A word that reads, signed, from zero up to below `n`, reads so unsigned. -/
theorem toNat_lt_of_signed (x : BitVec 32) (n : Nat) (h0 : (0 : Int) ≤ x.toInt) (h1 : x.toInt < n) : x.toNat < n := by
  rw [BitVec.toInt_eq_toNat_cond] at h0 h1
  have := x.isLt
  split at h0 <;> omega

/-- The lower end likewise. -/
theorem le_toNat_of_signed (x : BitVec 32) (n : Nat) (h0 : (n : Int) ≤ x.toInt) : n ≤ x.toNat := by
  rw [BitVec.toInt_eq_toNat_cond] at h0
  have := x.isLt
  split at h0 <;> omega

theorem tables {F : FTy → Type} [FloatOps F] (x : IVec Cert.Pre_tables3.S50688x2048 32) (te : IVec Cert.Pre_tables3.S99 32) (nu : IVec Cert.Pre_tables3.S1 32)
    (w : FVec F Cert.Pre_tables3.S4x32x4096x2048 .f32) (b : FVec F Cert.Pre_tables3.S4x32x2048 .f32)
    (h : letI := Cert.Pre_tables3.Gen.facts; Cert.Pre_tables3.fn (F := F) x te nu w b = fun _ => 1#1) :
    (∀ k, (te k).toNat < 32) ∧ 1 ≤ (nu (ix1 0)).toNat ∧ (nu (ix1 0)).toNat ≤ 99 := by
  have h0 := congrFun h ix0
  unfold Cert.Pre_tables3.fn at h0
  obtain ⟨ht, hn⟩ := IntOp.andi_eq_one.1 h0
  refine ⟨fun k => ?_, ?_⟩
  · obtain ⟨h1, h2⟩ := IntOp.andi_eq_one.1 (Host.reduce_andi_all _ _ _ _ _ ht k)
    exact toNat_lt_of_signed _ 32 (IntOp.cmpi_sge.1 h1) (IntOp.cmpi_slt.1 h2)
  · obtain ⟨h1, h2⟩ := IntOp.andi_eq_one.1 (Host.reduce_andi_all _ _ _ _ _ hn (ix1 0))
    have h2' := IntOp.cmpi_sle.1 h2
    have h1' := IntOp.cmpi_sge.1 h1
    refine ⟨le_toNat_of_signed _ 1 h1', Nat.le_of_lt_succ (toNat_lt_of_signed _ 100 ?_ ?_)⟩
    · exact le_trans (by decide) h1'
    · exact lt_of_le_of_lt h2' (by decide)

end Cert.FfnOneValue

end
-- ==== Proof.FfnOneClaim.lean ====
/- The claims of the first expert product: with the tables in their ranges it runs, keeps its arguments and leaves the reference's array. -/
module

public import proofs.«01_k».proof.Defs
public import proofs.«01_k».proof.Proof.FfnOneKer
public import proofs.«01_k».proof.Proof.FfnOneTables
public import proofs.«01_k».proof.Proof.FfnOneRun
public import Idealize.ShloMosaic.Lib.Claim

@[expose] public section

set_option maxRecDepth 16384

noncomputable section

namespace Cert.FfnOneValue

open Idealize.ShloMosaic Idealize.ShloMosaic.TcCoe Idealize.SL.Sem

theorem frame_bits : letI := Cert.FfnOne.Gen.facts; letI := Cert.Pre_tables3.Gen.facts; Cert.quiescent_FfnOne := by
  intro m g hpre
  obtain ⟨hte, h1, h2⟩ := tables _ _ _ _ _ (hpre 0)
  have hok := Cert.FfnOne.Tile.ok_of m hte h1 h2
  exact (θ_run Cert.FfnOne.defs _ _).mono (fun r h => ⟨fun c => Cert.FfnOne.Tile.args_kept m hok h.1 c, h.2⟩) (Cert.FfnOne.Tile.run_frame m hok hte g)

theorem frame_ideal : letI := Cert.FfnOneIdeal.Gen.facts; letI := Cert.Pre_tables3.Gen.facts; Cert.quiescent_FfnOneIdeal := by
  intro m g hpre
  obtain ⟨hte, h1, h2⟩ := tables _ _ _ _ _ (hpre 0)
  have hok := Cert.FfnOneIdeal.Tile.ok_of m hte h1 h2
  exact (θ_run Cert.FfnOneIdeal.defs _ _).mono (fun r h => ⟨fun c => Cert.FfnOneIdeal.Tile.args_kept m hok h.1 c, h.2⟩)
    (Cert.FfnOneIdeal.Tile.run_frame m hok hte g)

theorem frame_ref : letI := Cert.FfnOneRefIdeal.Gen.facts; Cert.quiescent_FfnOneRefIdeal := fun m g _ =>
  (θ_run Cert.FfnOneRefIdeal.defs _ _).mono (fun r h => ⟨fun c => (h c).2, sem_eq_zero_of_no_sems (by decide) r.2⟩)
    (Cert.FfnOneRefIdeal.Value.run (F := Ideal) m g)

theorem algebraic : letI := Cert.FfnOneIdeal.Gen.facts; letI := Cert.FfnOneRefIdeal.Gen.facts; letI := Cert.Pre_tables3.Gen.facts;
    Cert.algebraic_FfnOneIdeal_FfnOneRefIdeal := by
  intro m g m' g' hpre hagree
  obtain ⟨hte, h1, h2⟩ := tables _ _ _ _ _ (hpre 0)
  have hok := Cert.FfnOneIdeal.Tile.ok_of m hte h1 h2
  refine ⟨fun c => (Cert.FfnOneIdeal.Tile.dats m hok 0 c).arrAt 5 (Cert.FfnOneIdeal.Tile.cfgA m hok).N, ?_, ?_⟩
  · exact (θ_run Cert.FfnOneIdeal.defs _ _).mono (fun r h c => ⟨h.1.out_eq c 5, Cert.FfnOneIdeal.Tile.args_kept m hok h.1 c⟩)
      (Cert.FfnOneIdeal.Tile.run_frame m hok hte g)
  · refine (θ_run Cert.FfnOneRefIdeal.defs _ _).mono (fun r h c => ⟨(h c).1.trans ?_, (h c).2⟩) (Cert.FfnOneRefIdeal.Value.run (F := Ideal) m' g')
    obtain rfl : c = 0 := Subsingleton.elim _ _
    refine (res_eq m' 0).trans ?_
    obtain ⟨a0, a1, a2, a3, a4⟩ := hagree 0
    rw [a0, a1, a2, a3, a4]
    exact (final m hok hte h2).symm

end Cert.FfnOneValue

end
-- ==== Proof.MixIn.lean ====
/- The recurrent layers' input product: at a row block's first column block the kernel norms the rows and keeps them in a
   scratch, which the other column blocks then multiply. What it leaves is the reference's result. -/
module

public import proofs.«01_k».proof.Defs
public import proofs.«01_k».proof.Proof.Gen.MixInIdeal.Value
public import proofs.«01_k».proof.Proof.Gen.MixInRefIdeal.Run
public import Idealize.ShloMosaic.Lib.Claim
public import Idealize.ShloMosaic.Lib.Pipeline.ValueKit

@[expose] public section

set_option maxRecDepth 16384

noncomputable section

namespace Cert.MixInRefIdeal.Product

open Cert.MixInRefIdeal Cert.MixInRefIdeal.Gen Idealize.ShloMosaic Idealize.ShloMosaic.TcCoe Idealize.SL.Sem

/-- An element of a normed row: the row's element over the root of the mean square, times its gain. -/
def normed (x g : Fin 4096 → EReal) (k : Fin 4096) : EReal :=
  x k * Ideal.rsqrt (Ideal.div (∑ j : Fin 4096, x j * x j) (Ideal.ofBits .f32 0x45800000#32) + Ideal.ofBits .f32 0x358637BD#32) * g k

/-- The reference's row factors, one for a row. -/
def factors (x : FVec Ideal S8704x4096 .f32) : FVec Ideal S8704x1 .f32 :=
  Host.rsqrt (addf (Host.divf (broadcastInDim S8704x1 ![0] bcast_S8704_S8704x1_0 (Host.reduceAdd (mulf x x) (constant S_ .f32 0x00000000#32) reducesTo_S8704x4096_S8704_d1 h_S_)) (broadcastInDim S8704x1 ![] bcast_S_S8704x1 (constant S_ .f32 0x45800000#32))) (broadcastInDim S8704x1 ![] bcast_S_S8704x1 (constant S_ .f32 0x358637BD#32)))

/-- The reference's normed rows. -/
def rows (x : FVec Ideal S8704x4096 .f32) (g : FVec Ideal S4096 .f32) : FVec Ideal S8704x4096 .f32 :=
  mulf (mulf x (broadcastInDim S8704x4096 ![0, 1] bcast_S8704x1_S8704x4096_0_1 (factors x)))
    (broadcastInDim S8704x4096 ![0, 1] bcast_S1x4096_S8704x4096_0_1 (broadcastInDim S1x4096 ![1] bcast_S4096_S1x4096_1 g))

/-- The reference's result: the normed rows through the matrix. -/
def ref (x : FVec Ideal S8704x4096 .f32) (w : FVec Ideal S4096x10240 .f32) (g : FVec Ideal S4096 .f32) : FVec Ideal S8704x10240 .f32 :=
  Host.dotGeneral dot_S8704x4096_S4096x10240_S8704x10240_1_0_0_1_n_n none (rows x g) w

theorem mul_at {s : Shape} (a b : FVec Ideal s .f32) (i : s.Idx) : mulf a b i = a i * b i := rfl

theorem dot_at (x : FVec Ideal S8704x4096 .f32) (w : FVec Ideal S4096x10240 .f32) (r : Fin 8704) (n : Fin 10240) :
    Host.dotGeneral dot_S8704x4096_S4096x10240_S8704x10240_1_0_0_1_n_n none x w (ix2 r n) = ∑ k : Fin 4096, x (ix2 r k) * w (ix2 k n) := by
  pointwise []

theorem sum_at (x : FVec Ideal S8704x4096 .f32) (r : Fin 8704) :
    Host.reduceAdd x (constant S_ .f32 0x00000000#32) reducesTo_S8704x4096_S8704_d1 h_S_ (ix1 r) = ∑ j : Fin 4096, x (ix2 r j) := by
  pointwise []

theorem factor_at (s : FVec Ideal S8704 .f32) (r : Fin 8704) :
    Host.rsqrt (addf (Host.divf (broadcastInDim S8704x1 ![0] bcast_S8704_S8704x1_0 s) (broadcastInDim S8704x1 ![] bcast_S_S8704x1 (constant S_ .f32 0x45800000#32))) (broadcastInDim S8704x1 ![] bcast_S_S8704x1 (constant S_ .f32 0x358637BD#32))) (ix2 r 0)
      = Ideal.rsqrt (Ideal.div (s (ix1 r)) (Ideal.ofBits .f32 0x45800000#32) + Ideal.ofBits .f32 0x358637BD#32) := by
  pointwise []

theorem spread_at (f : FVec Ideal S8704x1 .f32) (r : Fin 8704) (k : Fin 4096) :
    broadcastInDim S8704x4096 ![0, 1] bcast_S8704x1_S8704x4096_0_1 f (ix2 r k) = f (ix2 r 0) := by
  pointwise []

theorem gain_at (g : FVec Ideal S4096 .f32) (r : Fin 8704) (k : Fin 4096) :
    broadcastInDim S8704x4096 ![0, 1] bcast_S1x4096_S8704x4096_0_1 (broadcastInDim S1x4096 ![1] bcast_S4096_S1x4096_1 g) (ix2 r k) = g (ix1 k) := by
  pointwise []

theorem rows_at (x : FVec Ideal S8704x4096 .f32) (g : FVec Ideal S4096 .f32) (r : Fin 8704) (k : Fin 4096) :
    rows x g (ix2 r k) = normed (fun j => x (ix2 r j)) (fun j => g (ix1 j)) k := by
  unfold rows factors normed
  rw [mul_at, mul_at, spread_at, gain_at, factor_at, sum_at]
  rfl

theorem ref_at (x : FVec Ideal S8704x4096 .f32) (w : FVec Ideal S4096x10240 .f32) (g : FVec Ideal S4096 .f32) (r : Fin 8704) (n : Fin 10240) :
    ref x w g (ix2 r n) = ∑ k : Fin 4096, normed (fun j => x (ix2 r j)) (fun j => g (ix1 j)) k * w (ix2 k n) := by
  unfold ref
  rw [dot_at]
  simp only [rows_at]

end Cert.MixInRefIdeal.Product

namespace Cert.MixInIdeal.Product

open Cert.MixInIdeal Cert.MixInIdeal.Gen Cert.MixInRefIdeal.Product Idealize.ShloMosaic Idealize.ShloMosaic.TcCoe Idealize.SL.Sem
open Idealize.ShloMosaic.Pipeline (Dat)

theorem pay1_at (x : Vec Ideal S512x4096 .f32) (g : Vec Ideal S1x4096 .f32) (r : Fin 512) (k : Fin 4096) :
    k0_pay1 (F := Ideal) x g (ix2 r k) = normed (fun j => x (ix2 r j)) (fun j => g (ix2 0 j)) k := by
  unfold normed
  pointwise [k0_pay1]

theorem pay2_at (x : Vec Ideal S512x4096 .bf16) (w : Vec Ideal S4096x1024 .bf16) (r : Fin 512) (n : Fin 1024) :
    k0_pay2 (F := Ideal) x w (ix2 r n) = ∑ k : Fin 4096, x (ix2 r k) * w (ix2 k n) := by
  pointwise [k0_pay2]

variable (m : (ℓ : Loc nD τ sig) → Buf (Elt Ideal) ℓ)

theorem idx : ∀ t : Fin cfg0.N, win0_0.index t = ![t.val / 10, 0] ∧ win0_1.index t = ![0, t.val % 10]
    ∧ win0_2.index t = ![0, 0] ∧ win0_3.index t = ![t.val / 10, t.val % 10] :=
  (by decide +kernel : ∀ t : Fin grid0.N, _)

theorem points : cfg0.N = 170 := by decide +kernel

/-- The matrix as the host hands it to the kernel. -/
theorem matrix_at (c : Dev nD) (k : Fin 4096) (n : Fin 10240) :
    (V m c main_v0 (ix2 k n) : EReal) = m ((c.tc : Thread nD τ).loc main_arg1) (ix2 k n) := by
  entry_read
  pointwise []

/-- The gain as the host hands it to the kernel. -/
theorem gains_at (c : Dev nD) (k : Fin 4096) :
    (V m c main_v1 (ix2 0 k) : EReal) = m ((c.tc : Thread nD τ).loc main_arg2) (ix1 k) := by
  entry_read
  pointwise []

theorem read0 (c : Dev nD) (t : Fin cfg0.N) (ht : t.val < 170) (r : Fin 512) (k : Fin 4096) :
    (iblk m c 0 t (ix2 r k) : EReal) = m ((c.tc : Thread nD τ).loc main_arg0) (ix2 ⟨t.val / 10 * 512 + r.val, by omega⟩ k) := by
  blk_ext [iblk, V, idx t]

theorem read1 (c : Dev nD) (t : Fin cfg0.N) (ht : t.val < 170) (k : Fin 4096) (n : Fin 1024) :
    (iblk m c 1 t (ix2 k n) : EReal) = m ((c.tc : Thread nD τ).loc main_arg1) (ix2 k ⟨t.val % 10 * 1024 + n.val, by omega⟩) := by
  refine Eq.trans ?_ (matrix_at m c k ⟨t.val % 10 * 1024 + n.val, by omega⟩)
  blk_ext [iblk, idx t]

theorem read2 (c : Dev nD) (t : Fin cfg0.N) (k : Fin 4096) :
    (iblk m c 2 t (ix2 0 k) : EReal) = m ((c.tc : Thread nD τ).loc main_arg2) (ix1 k) := by
  refine Eq.trans ?_ (gains_at m c k)
  blk_ext [iblk, idx t]

/-- The normed rows a point would keep. -/
theorem kept_at (c : Dev nD) (t : Fin cfg0.N) (ht : t.val < 170) (r : Fin 512) (k : Fin 4096) :
    k0_pay1 (F := Ideal) (iblk m c 0 t) (iblk m c 2 t) (ix2 r k)
      = normed (fun j => (m ((c.tc : Thread nD τ).loc main_arg0) : S8704x4096.Idx → EReal) (ix2 ⟨t.val / 10 * 512 + r.val, by omega⟩ j))
          (fun j => (m ((c.tc : Thread nD τ).loc main_arg2) : S4096.Idx → EReal) (ix1 j)) k :=
  (pay1_at _ _ r k).trans (congrArg₂ (fun x g => normed x g k) (funext fun j => read0 m c t ht r j) (funext fun j => read2 m c t j))

/-- After a point the scratch holds the normed rows of the point's block. -/
theorem scratch_at (c : Dev nD) : ∀ (n : ℕ) (hn : n < cfg0.N) (h : n < 170) (r : Fin 512) (k : Fin 4096),
    ((outsAt0 m c n hn).2 (ix2 r k) : EReal)
      = normed (fun j => (m ((c.tc : Thread nD τ).loc main_arg0) : S8704x4096.Idx → EReal) (ix2 ⟨n / 10 * 512 + r.val, by omega⟩ j))
          (fun j => (m ((c.tc : Thread nD τ).loc main_arg2) : S4096.Idx → EReal) (ix1 j)) k := by
  intro n
  induction n with
  | zero =>
    intro hn h r k
    rw [show outsAt0 m c 0 hn = _ from outsAt0_A m c ⟨0, hn⟩ rfl]
    refine Eq.trans ?_ (kept_at m c ⟨0, hn⟩ h r k)
    frame_out
  | succ n ih =>
    intro hn h r k
    by_cases h0 : (n + 1) % 10 = 0
    · rw [show outsAt0 m c (n + 1) hn = _ from outsAt0_A m c ⟨n + 1, hn⟩ h0]
      refine Eq.trans ?_ (kept_at m c ⟨n + 1, hn⟩ h r k)
      frame_out
    · rw [show outsAt0 m c (n + 1) hn = _ from outsAt0_B m c ⟨n + 1, hn⟩ h0]
      refine Eq.trans (b := ((outsAt0 m c n (Nat.lt_of_succ_lt hn)).2 (ix2 r k) : EReal)) ?_ ((ih (Nat.lt_of_succ_lt hn) (by omega) r k).trans ?_)
      · rfl
      · have e : n / 10 = (n + 1) / 10 := by omega
        simp only [e]

/-- What a point leaves in its block: the kept rows against the point's columns. -/
theorem out_at (c : Dev nD) (t : Fin cfg0.N) (ht : t.val < 170) (r : Fin 512) (n : Fin 1024) :
    ((outsAt0 m c t.val t.isLt).1 (ix2 r n) : EReal)
      = ref (m ((c.tc : Thread nD τ).loc main_arg0)) (m ((c.tc : Thread nD τ).loc main_arg1)) (m ((c.tc : Thread nD τ).loc main_arg2))
          (ix2 ⟨t.val / 10 * 512 + r.val, by omega⟩ ⟨t.val % 10 * 1024 + n.val, by omega⟩) := by
  refine Eq.trans (b := k0_pay2 (F := Ideal) (outsAt0 m c t.val t.isLt).2 (iblk m c 1 t) (ix2 r n)) ?_ ?_
  · by_cases h0 : t.val % 10 = 0
    · rw [outsAt0_A m c t h0]
      frame_out
    · rw [outsAt0_B m c t h0]
      frame_out
      exact congrArg (fun z => k0_pay2 z (iblk m c 1 t) (ix2 r n)) ((Memref.isWhole_whole _).read_unread _)
  · refine (pay2_at _ _ r n).trans (Eq.trans ?_ (ref_at _ _ _ _ _).symm)
    refine Finset.sum_congr rfl fun k _ => ?_
    rw [scratch_at m c t.val t.isLt ht, read1 m c t ht]

/-- The whole array after the last point. -/
theorem final (c : Dev nD) :
    (dats m 0 c).arrAt 3 (cfgs 0).N
      = ref (m ((c.tc : Thread nD τ).loc main_arg0)) (m ((c.tc : Thread nD τ).loc main_arg1)) (m ((c.tc : Thread nD τ).loc main_arg2)) := by
  refine (dats m 0 c).arrAt_eq_of_covers 3 _ (by decide +kernel) fun t _ y => ?_
  have ht : t.val < 170 := lt_of_lt_of_eq t.isLt points
  blk_simp
  rw [after0_3]
  change S512x1024.Idx at y
  have ey : y = ix2 (y 0) (y 1) := by
    funext a; fin_cases a <;> rfl
  rw [ey]
  refine (out_at m c t ht (y 0) (y 1)).trans ?_
  blk_ext [idx t]

theorem frame_ref : letI := Cert.MixInRefIdeal.Gen.facts; Cert.quiescent_MixInRefIdeal := fun m g _ =>
  (θ_run Cert.MixInRefIdeal.defs _ _).mono (fun r h => ⟨fun c => (h c).2, sem_eq_zero_of_no_sems (by decide) r.2⟩)
    (Cert.MixInRefIdeal.Value.run (F := Ideal) m g)

theorem algebraic : letI := Cert.MixInIdeal.Gen.facts; letI := Cert.MixInRefIdeal.Gen.facts; Cert.algebraic_MixInIdeal_MixInRefIdeal := by
  pair_intro
  · run_from Cert.MixInIdeal.Gen.run_main m g
  · run_from Cert.MixInRefIdeal.Value.run m' g'
    exact (final m c).symm

end Cert.MixInIdeal.Product

end
-- ==== Proof.MixOut.lean ====
/- The mixers' output product: at a row's first column block the kernel keeps the row's block in a scratch, which the other
   column blocks then multiply. What it leaves is the reference's result. -/
module

public import proofs.«01_k».proof.Defs
public import proofs.«01_k».proof.Proof.Gen.MixOutIdeal.Value
public import proofs.«01_k».proof.Proof.Gen.MixOutRefIdeal.Run
public import Idealize.ShloMosaic.Lib.Claim
public import Idealize.ShloMosaic.Lib.Pipeline.ValueKit

@[expose] public section

set_option maxRecDepth 16384

noncomputable section

namespace Cert.MixOutRefIdeal.Product

open Cert.MixOutRefIdeal Cert.MixOutRefIdeal.Gen Idealize.ShloMosaic Idealize.ShloMosaic.TcCoe Idealize.SL.Sem

/-- The reference's result: the residual and the product. -/
def ref (o : FVec Ideal S8704x4096 .bf16) (w : FVec Ideal S4096x4096 .f32) (x : FVec Ideal S8704x4096 .f32) : FVec Ideal S8704x4096 .f32 :=
  addf x (Host.dotGeneral dot_S8704x4096_S4096x4096_S8704x4096_1_0_0_1_n_n none (extf .f32 o bitsLt_bf16_f32) w)

theorem add_at {s : Shape} (a b : FVec Ideal s .f32) (i : s.Idx) : addf a b i = a i + b i := rfl

theorem dot_at (x : FVec Ideal S8704x4096 .f32) (w : FVec Ideal S4096x4096 .f32) (r : Fin 8704) (n : Fin 4096) :
    Host.dotGeneral dot_S8704x4096_S4096x4096_S8704x4096_1_0_0_1_n_n none x w (ix2 r n) = ∑ k : Fin 4096, x (ix2 r k) * w (ix2 k n) := by
  pointwise []

theorem ref_at (o : FVec Ideal S8704x4096 .bf16) (w : FVec Ideal S4096x4096 .f32) (x : FVec Ideal S8704x4096 .f32) (r : Fin 8704) (n : Fin 4096) :
    ref o w x (ix2 r n) = x (ix2 r n) + ∑ k : Fin 4096, o (ix2 r k) * w (ix2 k n) := by
  unfold ref
  rw [add_at, dot_at]
  rfl

end Cert.MixOutRefIdeal.Product

namespace Cert.MixOutIdeal.Product

open Cert.MixOutIdeal Cert.MixOutIdeal.Gen Cert.MixOutRefIdeal.Product Idealize.ShloMosaic Idealize.ShloMosaic.TcCoe Idealize.SL.Sem
open Idealize.ShloMosaic.Pipeline (Dat)

theorem pay1_eq (x : Vec Ideal S512x4096 .bf16) (r : Fin 512) (k : Fin 4096) : k0_pay1 (F := Ideal) x (ix2 r k) = x (ix2 r k) := by
  pointwise [k0_pay1]

theorem pay2_at (x : Vec Ideal S512x4096 .bf16) (w : Vec Ideal S4096x1024 .bf16) (y : Vec Ideal S512x1024 .f32) (r : Fin 512) (n : Fin 1024) :
    k0_pay2 (F := Ideal) x w y (ix2 r n) = (∑ k : Fin 4096, x (ix2 r k) * w (ix2 k n)) + y (ix2 r n) := by
  pointwise [k0_pay2]

variable (m : (ℓ : Loc nD τ sig) → Buf (Elt Ideal) ℓ)

theorem idx : ∀ t : Fin cfg0.N, win0_0.index t = ![t.val / 4, 0] ∧ win0_1.index t = ![0, t.val % 4]
    ∧ win0_2.index t = ![t.val / 4, t.val % 4] ∧ win0_3.index t = ![t.val / 4, t.val % 4] :=
  (by decide +kernel : ∀ t : Fin grid0.N, _)

theorem points : cfg0.N = 68 := by decide +kernel

/-- The matrix as the host hands it to the kernel. -/
theorem matrix_at (c : Dev nD) (k n : Fin 4096) :
    (V m c main_v0 (ix2 k n) : EReal) = m ((c.tc : Thread nD τ).loc main_arg1) (ix2 k n) := by
  entry_read
  pointwise []

theorem read0 (c : Dev nD) (t : Fin cfg0.N) (ht : t.val < 68) (r : Fin 512) (k : Fin 4096) :
    (iblk m c 0 t (ix2 r k) : EReal) = m ((c.tc : Thread nD τ).loc main_arg0) (ix2 ⟨t.val / 4 * 512 + r.val, by omega⟩ k) := by
  blk_ext [iblk, V, idx t]

theorem read1 (c : Dev nD) (t : Fin cfg0.N) (ht : t.val < 68) (k : Fin 4096) (n : Fin 1024) :
    (iblk m c 1 t (ix2 k n) : EReal) = m ((c.tc : Thread nD τ).loc main_arg1) (ix2 k ⟨t.val % 4 * 1024 + n.val, by omega⟩) := by
  refine Eq.trans ?_ (matrix_at m c k ⟨t.val % 4 * 1024 + n.val, by omega⟩)
  blk_ext [iblk, idx t]

theorem read2 (c : Dev nD) (t : Fin cfg0.N) (ht : t.val < 68) (r : Fin 512) (n : Fin 1024) :
    (iblk m c 2 t (ix2 r n) : EReal) = m ((c.tc : Thread nD τ).loc main_arg2) (ix2 ⟨t.val / 4 * 512 + r.val, by omega⟩ ⟨t.val % 4 * 1024 + n.val, by omega⟩) := by
  blk_ext [iblk, V, idx t]

/-- After a point the scratch holds the point's block of rows. -/
theorem scratch_at (c : Dev nD) : ∀ (n : ℕ) (hn : n < cfg0.N) (h : n < 68) (r : Fin 512) (k : Fin 4096),
    ((outsAt0 m c n hn).2 (ix2 r k) : EReal) = m ((c.tc : Thread nD τ).loc main_arg0) (ix2 ⟨n / 4 * 512 + r.val, by omega⟩ k) := by
  intro n
  induction n with
  | zero =>
    intro hn h r k
    rw [show outsAt0 m c 0 hn = _ from outsAt0_A m c ⟨0, hn⟩ rfl]
    refine Eq.trans ?_ (read0 m c ⟨0, hn⟩ h r k)
    refine Eq.trans ?_ (pay1_eq (iblk m c 0 ⟨0, hn⟩) r k)
    frame_out
  | succ n ih =>
    intro hn h r k
    by_cases h0 : (n + 1) % 4 = 0
    · rw [show outsAt0 m c (n + 1) hn = _ from outsAt0_A m c ⟨n + 1, hn⟩ h0]
      refine Eq.trans ?_ (read0 m c ⟨n + 1, hn⟩ h r k)
      refine Eq.trans ?_ (pay1_eq (iblk m c 0 ⟨n + 1, hn⟩) r k)
      frame_out
    · rw [show outsAt0 m c (n + 1) hn = _ from outsAt0_B m c ⟨n + 1, hn⟩ h0]
      refine Eq.trans (b := ((outsAt0 m c n (Nat.lt_of_succ_lt hn)).2 (ix2 r k) : EReal)) ?_ ((ih (Nat.lt_of_succ_lt hn) (by omega) r k).trans ?_)
      · rfl
      · have e : n / 4 = (n + 1) / 4 := by omega
        simp only [e]

/-- What a point leaves in its block: the kept rows against the point's columns, and the residual. -/
theorem out_at (c : Dev nD) (t : Fin cfg0.N) (ht : t.val < 68) (r : Fin 512) (n : Fin 1024) :
    ((outsAt0 m c t.val t.isLt).1 (ix2 r n) : EReal)
      = ref (m ((c.tc : Thread nD τ).loc main_arg0)) (m ((c.tc : Thread nD τ).loc main_arg1)) (m ((c.tc : Thread nD τ).loc main_arg2))
          (ix2 ⟨t.val / 4 * 512 + r.val, by omega⟩ ⟨t.val % 4 * 1024 + n.val, by omega⟩) := by
  refine Eq.trans (b := k0_pay2 (F := Ideal) (outsAt0 m c t.val t.isLt).2 (iblk m c 1 t) (iblk m c 2 t) (ix2 r n)) ?_ ?_
  · by_cases h0 : t.val % 4 = 0
    · rw [outsAt0_A m c t h0]
      frame_out
    · rw [outsAt0_B m c t h0]
      frame_out
      exact congrArg (fun z => k0_pay2 z (iblk m c 1 t) (iblk m c 2 t) (ix2 r n)) ((Memref.isWhole_whole _).read_unread _)
  · refine (pay2_at _ _ _ r n).trans (Eq.trans ?_ (ref_at _ _ _ _ _).symm)
    rw [add_comm, read2 m c t ht]
    refine congrArg (fun z : EReal => (_ : EReal) + z) (Finset.sum_congr rfl fun k _ => ?_)
    rw [scratch_at m c t.val t.isLt ht, read1 m c t ht]

/-- The whole array after the last point. -/
theorem final (c : Dev nD) :
    (dats m 0 c).arrAt 3 (cfgs 0).N
      = ref (m ((c.tc : Thread nD τ).loc main_arg0)) (m ((c.tc : Thread nD τ).loc main_arg1)) (m ((c.tc : Thread nD τ).loc main_arg2)) := by
  refine (dats m 0 c).arrAt_eq_of_covers 3 _ (by decide +kernel) fun t _ y => ?_
  have ht : t.val < 68 := lt_of_lt_of_eq t.isLt points
  blk_simp
  rw [after0_3]
  change S512x1024.Idx at y
  have ey : y = ix2 (y 0) (y 1) := by
    funext a; fin_cases a <;> rfl
  rw [ey]
  refine (out_at m c t ht (y 0) (y 1)).trans ?_
  blk_ext [idx t]

theorem frame_ref : letI := Cert.MixOutRefIdeal.Gen.facts; Cert.quiescent_MixOutRefIdeal := fun m g _ =>
  (θ_run Cert.MixOutRefIdeal.defs _ _).mono (fun r h => ⟨fun c => (h c).2, sem_eq_zero_of_no_sems (by decide) r.2⟩)
    (Cert.MixOutRefIdeal.Value.run (F := Ideal) m g)

theorem algebraic : letI := Cert.MixOutIdeal.Gen.facts; letI := Cert.MixOutRefIdeal.Gen.facts; Cert.algebraic_MixOutIdeal_MixOutRefIdeal := by
  pair_intro
  · run_from Cert.MixOutIdeal.Gen.run_main m g
  · run_from Cert.MixOutRefIdeal.Value.run m' g'
    exact (final m c).symm

end Cert.MixOutIdeal.Product

end
-- ==== Proof.AttIn.lean ====
/- The attention layers' input product: the host lays the matrix out wider, with the rotary keys' columns once more with
   their halves swapped; at a row block's first column block the kernel norms the rows and keeps them in a scratch, which
   the other column blocks then multiply; the host takes the three results from the product's columns. What they leave is
   the reference's three results. -/
module

public import proofs.«01_k».proof.Defs
public import proofs.«01_k».proof.Proof.Gen.AttInIdeal.Frame
public import proofs.«01_k».proof.Proof.Gen.AttInRefIdeal.Run
public import Idealize.ShloMosaic.Lib.Claim
public import Idealize.ShloMosaic.Lib.Pipeline.ValueKit

@[expose] public section

set_option maxRecDepth 16384

noncomputable section

namespace Cert.AttInRefIdeal.Product

open Cert.AttInRefIdeal Cert.AttInRefIdeal.Gen Idealize.ShloMosaic Idealize.ShloMosaic.TcCoe Idealize.SL.Sem

/-- An element of a normed row: the row's element over the root of the mean square, times its gain. -/
def normed (x g : Fin 4096 → EReal) (k : Fin 4096) : EReal :=
  x k * Ideal.rsqrt (Ideal.div (∑ j : Fin 4096, x j * x j) (Ideal.ofBits .f32 0x45800000#32) + Ideal.ofBits .f32 0x358637BD#32) * g k

/-- The reference's row factors, one for a row. -/
def factors (x : FVec Ideal S8704x4096 .f32) : FVec Ideal S8704x1 .f32 :=
  Host.rsqrt (addf (Host.divf (broadcastInDim S8704x1 ![0] bcast_S8704_S8704x1_0 (Host.reduceAdd (mulf x x) (constant S_ .f32 0x00000000#32) reducesTo_S8704x4096_S8704_d1 h_S_)) (broadcastInDim S8704x1 ![] bcast_S_S8704x1 (constant S_ .f32 0x45800000#32))) (broadcastInDim S8704x1 ![] bcast_S_S8704x1 (constant S_ .f32 0x358637BD#32)))

/-- The reference's normed rows. -/
def rows (x : FVec Ideal S8704x4096 .f32) (g : FVec Ideal S4096 .f32) : FVec Ideal S8704x4096 .f32 :=
  mulf (mulf x (broadcastInDim S8704x4096 ![0, 1] bcast_S8704x1_S8704x4096_0_1 (factors x)))
    (broadcastInDim S8704x4096 ![0, 1] bcast_S1x4096_S8704x4096_0_1 (broadcastInDim S1x4096 ![1] bcast_S4096_S1x4096_1 g))

/-- The reference's product: the normed rows through the matrix. -/
def ref (x : FVec Ideal S8704x4096 .f32) (w : FVec Ideal S4096x7744 .f32) (g : FVec Ideal S4096 .f32) : FVec Ideal S8704x7744 .f32 :=
  Host.dotGeneral dot_S8704x4096_S4096x7744_S8704x7744_1_0_0_1_n_n none (rows x g) w

theorem mul_at {s : Shape} (a b : FVec Ideal s .f32) (i : s.Idx) : mulf a b i = a i * b i := rfl

theorem dot_at (x : FVec Ideal S8704x4096 .f32) (w : FVec Ideal S4096x7744 .f32) (r : Fin 8704) (n : Fin 7744) :
    Host.dotGeneral dot_S8704x4096_S4096x7744_S8704x7744_1_0_0_1_n_n none x w (ix2 r n) = ∑ k : Fin 4096, x (ix2 r k) * w (ix2 k n) := by
  pointwise []

theorem sum_at (x : FVec Ideal S8704x4096 .f32) (r : Fin 8704) :
    Host.reduceAdd x (constant S_ .f32 0x00000000#32) reducesTo_S8704x4096_S8704_d1 h_S_ (ix1 r) = ∑ j : Fin 4096, x (ix2 r j) := by
  pointwise []

theorem factor_at (s : FVec Ideal S8704 .f32) (r : Fin 8704) :
    Host.rsqrt (addf (Host.divf (broadcastInDim S8704x1 ![0] bcast_S8704_S8704x1_0 s) (broadcastInDim S8704x1 ![] bcast_S_S8704x1 (constant S_ .f32 0x45800000#32))) (broadcastInDim S8704x1 ![] bcast_S_S8704x1 (constant S_ .f32 0x358637BD#32))) (ix2 r 0)
      = Ideal.rsqrt (Ideal.div (s (ix1 r)) (Ideal.ofBits .f32 0x45800000#32) + Ideal.ofBits .f32 0x358637BD#32) := by
  pointwise []

theorem spread_at (f : FVec Ideal S8704x1 .f32) (r : Fin 8704) (k : Fin 4096) :
    broadcastInDim S8704x4096 ![0, 1] bcast_S8704x1_S8704x4096_0_1 f (ix2 r k) = f (ix2 r 0) := by
  pointwise []

theorem gain_at (g : FVec Ideal S4096 .f32) (r : Fin 8704) (k : Fin 4096) :
    broadcastInDim S8704x4096 ![0, 1] bcast_S1x4096_S8704x4096_0_1 (broadcastInDim S1x4096 ![1] bcast_S4096_S1x4096_1 g) (ix2 r k) = g (ix1 k) := by
  pointwise []

theorem rows_at (x : FVec Ideal S8704x4096 .f32) (g : FVec Ideal S4096 .f32) (r : Fin 8704) (k : Fin 4096) :
    rows x g (ix2 r k) = normed (fun j => x (ix2 r j)) (fun j => g (ix1 j)) k := by
  unfold rows factors normed
  rw [mul_at, mul_at, spread_at, gain_at, factor_at, sum_at]
  rfl

theorem ref_at (x : FVec Ideal S8704x4096 .f32) (w : FVec Ideal S4096x7744 .f32) (g : FVec Ideal S4096 .f32) (r : Fin 8704) (n : Fin 7744) :
    ref x w g (ix2 r n) = ∑ k : Fin 4096, normed (fun j => x (ix2 r j)) (fun j => g (ix1 j)) k * w (ix2 k n) := by
  unfold ref
  rw [dot_at]
  simp only [rows_at]

/-- The reference's first result, of the product: the columns up to the rotary keys' last. -/
def left (z : FVec Ideal S8704x7744 .f32) : FVec Ideal S8704x1600 .f32 :=
  extractStridedSlice S8704x1600 ![0, 0] z slices_S8704x7744_S8704x1600_0_0

/-- The reference's second result, of the product: the rotary keys with their halves swapped. -/
def swapped (z : FVec Ideal S8704x7744 .f32) : FVec Ideal S8704x64 .f32 :=
  concatenate S8704x64 1 [⟨S8704x32, (extractStridedSlice S8704x32 ![0, 32] (extractStridedSlice S8704x64 ![0, 1536] z slices_S8704x7744_S8704x64_0_1536) slices_S8704x64_S8704x32_0_32)⟩, ⟨S8704x32, (extractStridedSlice S8704x32 ![0, 0] (extractStridedSlice S8704x64 ![0, 1536] z slices_S8704x7744_S8704x64_0_1536) slices_S8704x64_S8704x32_0_0)⟩] concatenates_S8704x32_S8704x32_S8704x64_d1

/-- The reference's third result, of the product: the other columns. -/
def right (z : FVec Ideal S8704x7744 .f32) : FVec Ideal S8704x6144 .f32 :=
  extractStridedSlice S8704x6144 ![0, 1600] z slices_S8704x7744_S8704x6144_0_1600

theorem left_at (z : FVec Ideal S8704x7744 .f32) (r : Fin 8704) (n : Fin 1600) : left z (ix2 r n) = z (ix2 r ⟨n.val, by omega⟩) := by
  pointwise [left]

theorem right_at (z : FVec Ideal S8704x7744 .f32) (r : Fin 8704) (n : Fin 6144) : right z (ix2 r n) = z (ix2 r ⟨1600 + n.val, by omega⟩) := by
  pointwise [right]

/-- Where a column of the swapped halves comes from. -/
def other (n : Fin 64) : Fin 7744 := ⟨1536 + (n.val + 32) % 64, by omega⟩

theorem swapped_at (z : FVec Ideal S8704x7744 .f32) (r : Fin 8704) (n : Fin 64) : swapped z (ix2 r n) = z (ix2 r (other n)) := by
  unfold other
  pointwise [swapped]
  by_cases h : n.val < 32
  · have e : 1536 + (n.val + 32) % 64 = 1536 + (32 + n.val) := by omega
    simp [h, e]
  · have e : 1536 + (n.val + 32) % 64 = 1536 + (n.val - 32) := by omega
    simp [h, e]

end Cert.AttInRefIdeal.Product

namespace Cert.AttInIdeal.Product

open Cert.AttInIdeal Cert.AttInIdeal.Gen Cert.AttInRefIdeal.Product Idealize.ShloMosaic Idealize.ShloMosaic.TcCoe Idealize.SL.Sem
open Idealize.ShloMosaic.Pipeline (Dat)

theorem pay1_at (x : Vec Ideal S512x4096 .f32) (g : Vec Ideal S1x4096 .f32) (r : Fin 512) (k : Fin 4096) :
    k0_pay1 (F := Ideal) x g (ix2 r k) = normed (fun j => x (ix2 r j)) (fun j => g (ix2 0 j)) k := by
  unfold normed
  pointwise [k0_pay1]

theorem pay2_at (x : Vec Ideal S512x4096 .bf16) (w : Vec Ideal S4096x1024 .bf16) (r : Fin 512) (n : Fin 1024) :
    k0_pay2 (F := Ideal) x w (ix2 r n) = ∑ k : Fin 4096, x (ix2 r k) * w (ix2 k n) := by
  pointwise [k0_pay2]

variable (m : (ℓ : Loc nD τ sig) → Buf (Elt Ideal) ℓ)

theorem idx : ∀ t : Fin cfg0.N, win0_0.index t = ![t.val / 8, 0] ∧ win0_1.index t = ![0, t.val % 8]
    ∧ win0_2.index t = ![0, 0] ∧ win0_3.index t = ![t.val / 8, t.val % 8] :=
  (by decide +kernel : ∀ t : Fin grid0.N, _)

theorem points : cfg0.N = 136 := by decide +kernel

/-- A matrix laid out as the kernel reads it. -/
def laid (w : FVec Ideal S4096x7744 .f32) : FVec Ideal S4096x8192 .f32 :=
  concatenate S4096x8192 1 [⟨S4096x1600, extractStridedSlice S4096x1600 ![0, 0] w slices_S4096x7744_S4096x1600_0_0⟩,
    ⟨S4096x64, concatenate S4096x64 1 [⟨S4096x32, extractStridedSlice S4096x32 ![0, 32] (extractStridedSlice S4096x64 ![0, 1536] w slices_S4096x7744_S4096x64_0_1536) slices_S4096x64_S4096x32_0_32⟩, ⟨S4096x32, extractStridedSlice S4096x32 ![0, 0] (extractStridedSlice S4096x64 ![0, 1536] w slices_S4096x7744_S4096x64_0_1536) slices_S4096x64_S4096x32_0_0⟩] concatenates_S4096x32_S4096x32_S4096x64_d1⟩,
    ⟨S4096x384, broadcastInDim S4096x384 ![] bcast_S_S4096x384 (constant S_ .f32 0x00000000#32)⟩,
    ⟨S4096x6144, extractStridedSlice S4096x6144 ![0, 1600] w slices_S4096x7744_S4096x6144_0_1600⟩] concatenates_S4096x1600_S4096x64_S4096x384_S4096x6144_S4096x8192_d1

theorem laid_left (w : FVec Ideal S4096x7744 .f32) (k : Fin 4096) (n : Fin 1600) :
    laid w (ix2 k ⟨n.val, by omega⟩) = w (ix2 k ⟨n.val, by omega⟩) := by
  pointwise [laid]

theorem laid_swapped (w : FVec Ideal S4096x7744 .f32) (k : Fin 4096) (n : Fin 64) :
    laid w (ix2 k ⟨1600 + n.val, by omega⟩) = w (ix2 k (other n)) := by
  unfold other
  pointwise [laid]
  by_cases h : n.val < 32
  · have e : 1536 + (n.val + 32) % 64 = 1536 + (32 + n.val) := by omega
    simp [h, e]
  · have e : 1536 + (n.val + 32) % 64 = 1536 + (n.val - 32) := by omega
    simp [h, e]

theorem four_last (a : FVec Ideal S4096x1600 .f32) (b : FVec Ideal S4096x64 .f32) (d : FVec Ideal S4096x384 .f32) (e : FVec Ideal S4096x6144 .f32)
    (k : Fin 4096) (n : Fin 6144) :
    concatenate S4096x8192 1 [⟨S4096x1600, a⟩, ⟨S4096x64, b⟩, ⟨S4096x384, d⟩, ⟨S4096x6144, e⟩] concatenates_S4096x1600_S4096x64_S4096x384_S4096x6144_S4096x8192_d1
      (ix2 k ⟨2048 + n.val, by omega⟩) = e (ix2 k n) := by
  pointwise []
  rw [dif_neg (by omega), dif_neg (by omega), dif_neg (by omega)]
  exact congrArg (fun z => e (ix2 k z)) (Fin.ext (by show 2048 + n.val - 1600 - 64 - 384 = n.val; omega))

theorem last_at (w : FVec Ideal S4096x7744 .f32) (k : Fin 4096) (n : Fin 6144) :
    extractStridedSlice S4096x6144 ![0, 1600] w slices_S4096x7744_S4096x6144_0_1600 (ix2 k n) = w (ix2 k ⟨1600 + n.val, by omega⟩) := by
  pointwise []

theorem laid_right (w : FVec Ideal S4096x7744 .f32) (k : Fin 4096) (n : Fin 6144) :
    laid w (ix2 k ⟨2048 + n.val, by omega⟩) = w (ix2 k ⟨1600 + n.val, by omega⟩) :=
  (four_last _ _ _ _ k n).trans (last_at w k n)

/-- The matrix as the host hands it to the kernel. -/
theorem matrix_at (c : Dev nD) (k : Fin 4096) (n : Fin 8192) :
    (V m c main_v8 (ix2 k n) : EReal) = laid (m ((c.tc : Thread nD τ).loc main_arg1)) (ix2 k n) := by
  entry_read
  rfl

/-- The gain as the host hands it to the kernel. -/
theorem gains_at (c : Dev nD) (k : Fin 4096) :
    (V m c main_v9 (ix2 0 k) : EReal) = m ((c.tc : Thread nD τ).loc main_arg2) (ix1 k) := by
  show StableHlo.after hostOps0 (fun b => m (c, b)) (Proc.devRef .tc main_v9) (ix2 0 k) = _
  after_results
  pointwise []

theorem read0 (c : Dev nD) (t : Fin cfg0.N) (ht : t.val < 136) (r : Fin 512) (k : Fin 4096) :
    (iblk m c 0 t (ix2 r k) : EReal) = m ((c.tc : Thread nD τ).loc main_arg0) (ix2 ⟨t.val / 8 * 512 + r.val, by omega⟩ k) := by
  blk_ext [iblk, V, idx t]

theorem read1 (c : Dev nD) (t : Fin cfg0.N) (ht : t.val < 136) (k : Fin 4096) (n : Fin 1024) :
    (iblk m c 1 t (ix2 k n) : EReal) = laid (m ((c.tc : Thread nD τ).loc main_arg1)) (ix2 k ⟨t.val % 8 * 1024 + n.val, by omega⟩) := by
  refine Eq.trans ?_ (matrix_at m c k ⟨t.val % 8 * 1024 + n.val, by omega⟩)
  blk_ext [iblk, idx t]

theorem read2 (c : Dev nD) (t : Fin cfg0.N) (k : Fin 4096) :
    (iblk m c 2 t (ix2 0 k) : EReal) = m ((c.tc : Thread nD τ).loc main_arg2) (ix1 k) := by
  refine Eq.trans ?_ (gains_at m c k)
  blk_ext [iblk, idx t]

/-- The product with the matrix as it is laid out. -/
def wide (x : FVec Ideal S8704x4096 .f32) (w : FVec Ideal S4096x7744 .f32) (g : FVec Ideal S4096 .f32) : FVec Ideal S8704x8192 .f32 :=
  fun i => ∑ k : Fin 4096, normed (fun j => x (ix2 (i 0) j)) (fun j => g (ix1 j)) k * laid w (ix2 k (i 1))

theorem wide_at (x : FVec Ideal S8704x4096 .f32) (w : FVec Ideal S4096x7744 .f32) (g : FVec Ideal S4096 .f32) (r : Fin 8704) (n : Fin 8192) :
    wide x w g (ix2 r n) = ∑ k : Fin 4096, normed (fun j => x (ix2 r j)) (fun j => g (ix1 j)) k * laid w (ix2 k n) := rfl

theorem take_left (z : FVec Ideal S8704x8192 .f32) (r : Fin 8704) (n : Fin 1600) :
    extractStridedSlice S8704x1600 ![0, 0] z slices_S8704x8192_S8704x1600_0_0 (ix2 r n) = z (ix2 r ⟨n.val, by omega⟩) := by
  pointwise []

theorem wide_left_at (x : FVec Ideal S8704x4096 .f32) (w : FVec Ideal S4096x7744 .f32) (g : FVec Ideal S4096 .f32) (r : Fin 8704) (n : Fin 1600) :
    wide x w g (ix2 r ⟨n.val, by omega⟩) = left (ref x w g) (ix2 r n) := by
  rw [wide_at, left_at, ref_at]
  exact Finset.sum_congr rfl fun k _ => congrArg (fun z : EReal => (_ : EReal) * z) (laid_left w k n)

theorem wide_left (x : FVec Ideal S8704x4096 .f32) (w : FVec Ideal S4096x7744 .f32) (g : FVec Ideal S4096 .f32) :
    extractStridedSlice S8704x1600 ![0, 0] (wide x w g) slices_S8704x8192_S8704x1600_0_0 = left (ref x w g) := by
  funext i
  have e : i = ix2 (i 0) (i 1) := by
    funext a; fin_cases a <;> rfl
  rw [e]
  exact (take_left _ (i 0) (i 1)).trans (wide_left_at x w g (i 0) (i 1))

theorem take_swapped (z : FVec Ideal S8704x8192 .f32) (r : Fin 8704) (n : Fin 64) :
    extractStridedSlice S8704x64 ![0, 1600] z slices_S8704x8192_S8704x64_0_1600 (ix2 r n) = z (ix2 r ⟨1600 + n.val, by omega⟩) := by
  pointwise []

theorem wide_swapped_at (x : FVec Ideal S8704x4096 .f32) (w : FVec Ideal S4096x7744 .f32) (g : FVec Ideal S4096 .f32) (r : Fin 8704) (n : Fin 64) :
    wide x w g (ix2 r ⟨1600 + n.val, by omega⟩) = swapped (ref x w g) (ix2 r n) := by
  rw [wide_at, swapped_at, ref_at]
  exact Finset.sum_congr rfl fun k _ => congrArg (fun z : EReal => (_ : EReal) * z) (laid_swapped w k n)

theorem wide_swapped (x : FVec Ideal S8704x4096 .f32) (w : FVec Ideal S4096x7744 .f32) (g : FVec Ideal S4096 .f32) :
    extractStridedSlice S8704x64 ![0, 1600] (wide x w g) slices_S8704x8192_S8704x64_0_1600 = swapped (ref x w g) := by
  funext i
  have e : i = ix2 (i 0) (i 1) := by
    funext a; fin_cases a <;> rfl
  rw [e]
  exact (take_swapped _ (i 0) (i 1)).trans (wide_swapped_at x w g (i 0) (i 1))

theorem take_right (z : FVec Ideal S8704x8192 .f32) (r : Fin 8704) (n : Fin 6144) :
    extractStridedSlice S8704x6144 ![0, 2048] z slices_S8704x8192_S8704x6144_0_2048 (ix2 r n) = z (ix2 r ⟨2048 + n.val, by omega⟩) := by
  pointwise []

theorem wide_right_at (x : FVec Ideal S8704x4096 .f32) (w : FVec Ideal S4096x7744 .f32) (g : FVec Ideal S4096 .f32) (r : Fin 8704) (n : Fin 6144) :
    wide x w g (ix2 r ⟨2048 + n.val, by omega⟩) = right (ref x w g) (ix2 r n) := by
  rw [wide_at, right_at, ref_at]
  exact Finset.sum_congr rfl fun k _ => congrArg (fun z : EReal => (_ : EReal) * z) (laid_right w k n)

theorem wide_right (x : FVec Ideal S8704x4096 .f32) (w : FVec Ideal S4096x7744 .f32) (g : FVec Ideal S4096 .f32) :
    extractStridedSlice S8704x6144 ![0, 2048] (wide x w g) slices_S8704x8192_S8704x6144_0_2048 = right (ref x w g) := by
  funext i
  have e : i = ix2 (i 0) (i 1) := by
    funext a; fin_cases a <;> rfl
  rw [e]
  exact (take_right _ (i 0) (i 1)).trans (wide_right_at x w g (i 0) (i 1))

/-- The normed rows a point would keep. -/
theorem kept_at (c : Dev nD) (t : Fin cfg0.N) (ht : t.val < 136) (r : Fin 512) (k : Fin 4096) :
    k0_pay1 (F := Ideal) (iblk m c 0 t) (iblk m c 2 t) (ix2 r k)
      = normed (fun j => (m ((c.tc : Thread nD τ).loc main_arg0) : S8704x4096.Idx → EReal) (ix2 ⟨t.val / 8 * 512 + r.val, by omega⟩ j))
          (fun j => (m ((c.tc : Thread nD τ).loc main_arg2) : S4096.Idx → EReal) (ix1 j)) k :=
  (pay1_at _ _ r k).trans (congrArg₂ (fun x g => normed x g k) (funext fun j => read0 m c t ht r j) (funext fun j => read2 m c t j))

/-- After a point the scratch holds the normed rows of the point's block. -/
theorem scratch_at (c : Dev nD) : ∀ (n : ℕ) (hn : n < cfg0.N) (h : n < 136) (r : Fin 512) (k : Fin 4096),
    ((outsAt0 m c n hn).2 (ix2 r k) : EReal)
      = normed (fun j => (m ((c.tc : Thread nD τ).loc main_arg0) : S8704x4096.Idx → EReal) (ix2 ⟨n / 8 * 512 + r.val, by omega⟩ j))
          (fun j => (m ((c.tc : Thread nD τ).loc main_arg2) : S4096.Idx → EReal) (ix1 j)) k := by
  intro n
  induction n with
  | zero =>
    intro hn h r k
    rw [show outsAt0 m c 0 hn = _ from outsAt0_A m c ⟨0, hn⟩ rfl]
    refine Eq.trans ?_ (kept_at m c ⟨0, hn⟩ h r k)
    frame_out
  | succ n ih =>
    intro hn h r k
    by_cases h0 : (n + 1) % 8 = 0
    · rw [show outsAt0 m c (n + 1) hn = _ from outsAt0_A m c ⟨n + 1, hn⟩ h0]
      refine Eq.trans ?_ (kept_at m c ⟨n + 1, hn⟩ h r k)
      frame_out
    · rw [show outsAt0 m c (n + 1) hn = _ from outsAt0_B m c ⟨n + 1, hn⟩ h0]
      refine Eq.trans (b := ((outsAt0 m c n (Nat.lt_of_succ_lt hn)).2 (ix2 r k) : EReal)) ?_ ((ih (Nat.lt_of_succ_lt hn) (by omega) r k).trans ?_)
      · rfl
      · have e : n / 8 = (n + 1) / 8 := by omega
        simp only [e]

/-- What a point leaves in its block: the kept rows against the point's columns. -/
theorem out_at (c : Dev nD) (t : Fin cfg0.N) (ht : t.val < 136) (r : Fin 512) (n : Fin 1024) :
    ((outsAt0 m c t.val t.isLt).1 (ix2 r n) : EReal)
      = wide (m ((c.tc : Thread nD τ).loc main_arg0)) (m ((c.tc : Thread nD τ).loc main_arg1)) (m ((c.tc : Thread nD τ).loc main_arg2))
          (ix2 ⟨t.val / 8 * 512 + r.val, by omega⟩ ⟨t.val % 8 * 1024 + n.val, by omega⟩) := by
  refine Eq.trans (b := k0_pay2 (F := Ideal) (outsAt0 m c t.val t.isLt).2 (iblk m c 1 t) (ix2 r n)) ?_ ?_
  · by_cases h0 : t.val % 8 = 0
    · rw [outsAt0_A m c t h0]
      frame_out
    · rw [outsAt0_B m c t h0]
      frame_out
      exact congrArg (fun z => k0_pay2 z (iblk m c 1 t) (ix2 r n)) ((Memref.isWhole_whole _).read_unread _)
  · refine (pay2_at _ _ r n).trans (Eq.trans ?_ (wide_at _ _ _ _ _).symm)
    refine Finset.sum_congr rfl fun k _ => ?_
    rw [scratch_at m c t.val t.isLt ht, read1 m c t ht]

/-- The whole array after the last point. -/
theorem final (c : Dev nD) :
    (dats m 0 c).arrAt 3 (cfgs 0).N
      = wide (m ((c.tc : Thread nD τ).loc main_arg0)) (m ((c.tc : Thread nD τ).loc main_arg1)) (m ((c.tc : Thread nD τ).loc main_arg2)) := by
  refine (dats m 0 c).arrAt_eq_of_covers 3 _ (by decide +kernel) fun t _ y => ?_
  have ht : t.val < 136 := lt_of_lt_of_eq t.isLt points
  blk_simp
  rw [after0_3]
  change S512x1024.Idx at y
  have ey : y = ix2 (y 0) (y 1) := by
    funext a; fin_cases a <;> rfl
  rw [ey]
  refine (out_at m c t ht (y 0) (y 1)).trans ?_
  blk_ext [idx t]

/-- The product's array when the region is over. -/
theorem region (c : Dev nD) :
    Pipeline.withArrays (cfgs 0).spec c (V0 m c) (fun w => (dats m 0 c).arrAt w (cfgs 0).N) (Proc.devRef .tc main_v10)
      = (dats m 0 c).arrAt 3 (cfgs 0).N :=
  Pipeline.withArrays_arr spec0 winFacts0.arr_inj c (V0 m c) (fun w => (dats m 0 c).arrAt w (cfgs 0).N) 3

/-- The first result. -/
theorem end_left (c : Dev nD) :
    Pipeline.afterTail₀ cfgs (dats m) 0 (V0 m) [hostOps1] c main_v11
      = left (ref (m ((c.tc : Thread nD τ).loc main_arg0)) (m ((c.tc : Thread nD τ).loc main_arg1)) (m ((c.tc : Thread nD τ).loc main_arg2))) := by
  rw [← wide_left, ← final m c, ← region m c]
  unfold Pipeline.afterTail₀
  show StableHlo.after hostOps1 _ (Proc.devRef .tc main_v11) = _
  after_results

/-- The second result. -/
theorem end_swapped (c : Dev nD) :
    Pipeline.afterTail₀ cfgs (dats m) 0 (V0 m) [hostOps1] c main_v12
      = swapped (ref (m ((c.tc : Thread nD τ).loc main_arg0)) (m ((c.tc : Thread nD τ).loc main_arg1)) (m ((c.tc : Thread nD τ).loc main_arg2))) := by
  rw [← wide_swapped, ← final m c, ← region m c]
  unfold Pipeline.afterTail₀
  show StableHlo.after hostOps1 _ (Proc.devRef .tc main_v12) = _
  after_results

/-- The third result. -/
theorem end_right (c : Dev nD) :
    Pipeline.afterTail₀ cfgs (dats m) 0 (V0 m) [hostOps1] c main_v13
      = right (ref (m ((c.tc : Thread nD τ).loc main_arg0)) (m ((c.tc : Thread nD τ).loc main_arg1)) (m ((c.tc : Thread nD τ).loc main_arg2))) := by
  rw [← wide_right, ← final m c, ← region m c]
  unfold Pipeline.afterTail₀
  show StableHlo.after hostOps1 _ (Proc.devRef .tc main_v13) = _
  after_results

theorem frame_ref : letI := Cert.AttInRefIdeal.Gen.facts; Cert.quiescent_AttInRefIdeal := fun m g _ =>
  (θ_run Cert.AttInRefIdeal.defs _ _).mono (fun r h => ⟨fun c => (h c).2.2.2, sem_eq_zero_of_no_sems (by decide) r.2⟩)
    (Cert.AttInRefIdeal.Value.run (F := Ideal) m g)

theorem algebraic : letI := Cert.AttInIdeal.Gen.facts; letI := Cert.AttInRefIdeal.Gen.facts; Cert.algebraic_AttInIdeal_AttInRefIdeal := by
  pair_intro
  · run_from Cert.AttInIdeal.Gen.run_main m g
    · exact W_main_arg1 m (dats m) c
    · exact W_main_arg2 m (dats m) c
  · run_from Cert.AttInRefIdeal.Value.run m' g'
    · exact (end_left m c).symm
    · exact (congrArg (fun z => swapped (ref (m ((c.tc : Thread nD τ).loc main_arg0)) (m ((c.tc : Thread nD τ).loc main_arg1)) z)) (hagree c).2.2).trans (end_swapped m c).symm
    · exact (end_right m c).symm

end Cert.AttInIdeal.Product

end
-- ==== Proof.MemKv.lean ====
/- The prompt memory's keys and values: the kernel's one point norms the rows and multiplies them, and the host takes the keys
   and the values from the product's columns. What they leave is the reference's result. -/
module

public import proofs.«01_k».proof.Defs
public import proofs.«01_k».proof.Proof.Gen.MemKvIdeal.Frame
public import proofs.«01_k».proof.Proof.Gen.MemKvRefIdeal.Run
public import Idealize.ShloMosaic.Lib.Claim
public import Idealize.ShloMosaic.Lib.Pipeline.ValueKit

@[expose] public section

set_option maxRecDepth 16384

noncomputable section

namespace Cert.MemKvRefIdeal.Product

open Cert.MemKvRefIdeal Cert.MemKvRefIdeal.Gen Idealize.ShloMosaic Idealize.ShloMosaic.TcCoe Idealize.SL.Sem

/-- An element of a normed row: the row's element over the root of the mean square, times its gain. -/
def normed (x g : Fin 4096 → EReal) (k : Fin 4096) : EReal :=
  x k * Ideal.rsqrt (Ideal.div (∑ j : Fin 4096, x j * x j) (Ideal.ofBits .f32 0x45800000#32) + Ideal.ofBits .f32 0x358637BD#32) * g k

/-- The reference's row factors, one for a row. -/
def factors (x : FVec Ideal S256x4096 .f32) : FVec Ideal S256x1 .f32 :=
  Host.rsqrt (addf (Host.divf (broadcastInDim S256x1 ![0] bcast_S256_S256x1_0 (Host.reduceAdd (mulf x x) (constant S_ .f32 0x00000000#32) reducesTo_S256x4096_S256_d1 h_S_)) (broadcastInDim S256x1 ![] bcast_S_S256x1 (constant S_ .f32 0x45800000#32))) (broadcastInDim S256x1 ![] bcast_S_S256x1 (constant S_ .f32 0x358637BD#32)))

/-- The reference's normed rows. -/
def rows (x : FVec Ideal S256x4096 .f32) (g : FVec Ideal S4096 .f32) : FVec Ideal S256x4096 .f32 :=
  mulf (mulf x (broadcastInDim S256x4096 ![0, 1] bcast_S256x1_S256x4096_0_1 (factors x)))
    (broadcastInDim S256x4096 ![0, 1] bcast_S1x4096_S256x4096_0_1 (broadcastInDim S1x4096 ![1] bcast_S4096_S1x4096_1 g))

/-- The reference's product: the normed rows through the matrix. -/
def ref (x : FVec Ideal S256x4096 .f32) (w : FVec Ideal S4096x1024 .f32) (g : FVec Ideal S4096 .f32) : FVec Ideal S256x1024 .f32 :=
  Host.dotGeneral dot_S256x4096_S4096x1024_S256x1024_1_0_0_1_n_n none (rows x g) w

theorem mul_at {s : Shape} (a b : FVec Ideal s .f32) (i : s.Idx) : mulf a b i = a i * b i := rfl

theorem dot_at (x : FVec Ideal S256x4096 .f32) (w : FVec Ideal S4096x1024 .f32) (r : Fin 256) (n : Fin 1024) :
    Host.dotGeneral dot_S256x4096_S4096x1024_S256x1024_1_0_0_1_n_n none x w (ix2 r n) = ∑ k : Fin 4096, x (ix2 r k) * w (ix2 k n) := by
  pointwise []

theorem sum_at (x : FVec Ideal S256x4096 .f32) (r : Fin 256) :
    Host.reduceAdd x (constant S_ .f32 0x00000000#32) reducesTo_S256x4096_S256_d1 h_S_ (ix1 r) = ∑ j : Fin 4096, x (ix2 r j) := by
  pointwise []

theorem factor_at (s : FVec Ideal S256 .f32) (r : Fin 256) :
    Host.rsqrt (addf (Host.divf (broadcastInDim S256x1 ![0] bcast_S256_S256x1_0 s) (broadcastInDim S256x1 ![] bcast_S_S256x1 (constant S_ .f32 0x45800000#32))) (broadcastInDim S256x1 ![] bcast_S_S256x1 (constant S_ .f32 0x358637BD#32))) (ix2 r 0)
      = Ideal.rsqrt (Ideal.div (s (ix1 r)) (Ideal.ofBits .f32 0x45800000#32) + Ideal.ofBits .f32 0x358637BD#32) := by
  pointwise []

theorem spread_at (f : FVec Ideal S256x1 .f32) (r : Fin 256) (k : Fin 4096) :
    broadcastInDim S256x4096 ![0, 1] bcast_S256x1_S256x4096_0_1 f (ix2 r k) = f (ix2 r 0) := by
  pointwise []

theorem gain_at (g : FVec Ideal S4096 .f32) (r : Fin 256) (k : Fin 4096) :
    broadcastInDim S256x4096 ![0, 1] bcast_S1x4096_S256x4096_0_1 (broadcastInDim S1x4096 ![1] bcast_S4096_S1x4096_1 g) (ix2 r k) = g (ix1 k) := by
  pointwise []

theorem rows_at (x : FVec Ideal S256x4096 .f32) (g : FVec Ideal S4096 .f32) (r : Fin 256) (k : Fin 4096) :
    rows x g (ix2 r k) = normed (fun j => x (ix2 r j)) (fun j => g (ix1 j)) k := by
  unfold rows factors normed
  rw [mul_at, mul_at, spread_at, gain_at, factor_at, sum_at]
  rfl

theorem ref_at (x : FVec Ideal S256x4096 .f32) (w : FVec Ideal S4096x1024 .f32) (g : FVec Ideal S4096 .f32) (r : Fin 256) (n : Fin 1024) :
    ref x w g (ix2 r n) = ∑ k : Fin 4096, normed (fun j => x (ix2 r j)) (fun j => g (ix1 j)) k * w (ix2 k n) := by
  unfold ref
  rw [dot_at]
  simp only [rows_at]

/-- The reference's keys, of the product. -/
def keys (z : FVec Ideal S256x1024 .f32) : FVec Ideal S1x256x4x128 .f32 :=
  shapeCast _ (extractStridedSlice S1x256x1x4x128 ![0, 0, 0, 0, 0] (shapeCast _ z shapeCasts_S256x1024_S1x256x2x4x128) slices_S1x256x2x4x128_S1x256x1x4x128_0_0_0_0_0) shapeCasts_S1x256x1x4x128_S1x256x4x128

/-- The reference's values, of the product. -/
def values (z : FVec Ideal S256x1024 .f32) : FVec Ideal S1x256x4x128 .f32 :=
  shapeCast _ (extractStridedSlice S1x256x1x4x128 ![0, 0, 1, 0, 0] (shapeCast _ z shapeCasts_S256x1024_S1x256x2x4x128) slices_S1x256x2x4x128_S1x256x1x4x128_0_0_1_0_0) shapeCasts_S1x256x1x4x128_S1x256x4x128

theorem keys_at (z : FVec Ideal S256x1024 .f32) (r : Fin 256) (h : Fin 4) (d : Fin 128) :
    keys z (ix4 0 r h d) = z (ix2 r ⟨h.val * 128 + d.val, by omega⟩) := by
  pointwise [keys]

theorem values_at (z : FVec Ideal S256x1024 .f32) (r : Fin 256) (h : Fin 4) (d : Fin 128) :
    values z (ix4 0 r h d) = z (ix2 r ⟨512 + h.val * 128 + d.val, by omega⟩) := by
  pointwise [values]

end Cert.MemKvRefIdeal.Product

namespace Cert.MemKvIdeal.Product

open Cert.MemKvIdeal Cert.MemKvIdeal.Gen Cert.MemKvRefIdeal.Product Idealize.ShloMosaic Idealize.ShloMosaic.TcCoe Idealize.SL.Sem
open Idealize.ShloMosaic.Pipeline (Dat)

theorem pay1_at (x : Vec Ideal S256x4096 .f32) (g : Vec Ideal S1x4096 .f32) (r : Fin 256) (k : Fin 4096) :
    k0_pay1 (F := Ideal) x g (ix2 r k) = normed (fun j => x (ix2 r j)) (fun j => g (ix2 0 j)) k := by
  unfold normed
  pointwise [k0_pay1]

theorem pay2_at (x : Vec Ideal S256x4096 .bf16) (w : Vec Ideal S4096x1024 .bf16) (r : Fin 256) (n : Fin 1024) :
    k0_pay2 (F := Ideal) x w (ix2 r n) = ∑ k : Fin 4096, x (ix2 r k) * w (ix2 k n) := by
  pointwise [k0_pay2]

variable (m : (ℓ : Loc nD τ sig) → Buf (Elt Ideal) ℓ)

theorem idx : ∀ t : Fin cfg0.N, win0_0.index t = ![0, 0] ∧ win0_1.index t = ![0, 0]
    ∧ win0_2.index t = ![0, 0] ∧ win0_3.index t = ![0, 0] :=
  (by decide +kernel : ∀ t : Fin grid0.N, _)

/-- The matrix as the host hands it to the kernel. -/
theorem matrix_at (c : Dev nD) (k : Fin 4096) (n : Fin 1024) :
    (V m c main_v0 (ix2 k n) : EReal) = m ((c.tc : Thread nD τ).loc main_arg1) (ix2 k n) := by
  show StableHlo.after hostOps0 (fun b => m (c, b)) (Proc.devRef .tc main_v0) (ix2 k n) = _
  after_results
  pointwise []

/-- The gain as the host hands it to the kernel. -/
theorem gains_at (c : Dev nD) (k : Fin 4096) :
    (V m c main_v1 (ix2 0 k) : EReal) = m ((c.tc : Thread nD τ).loc main_arg2) (ix1 k) := by
  show StableHlo.after hostOps0 (fun b => m (c, b)) (Proc.devRef .tc main_v1) (ix2 0 k) = _
  after_results
  pointwise []

theorem read0 (c : Dev nD) (t : Fin cfg0.N) (r : Fin 256) (k : Fin 4096) :
    (iblk m c 0 t (ix2 r k) : EReal) = m ((c.tc : Thread nD τ).loc main_arg0) (ix2 r k) := by
  blk_ext [iblk, V, idx t]

theorem read1 (c : Dev nD) (t : Fin cfg0.N) (k : Fin 4096) (n : Fin 1024) :
    (iblk m c 1 t (ix2 k n) : EReal) = m ((c.tc : Thread nD τ).loc main_arg1) (ix2 k n) := by
  refine Eq.trans ?_ (matrix_at m c k n)
  blk_ext [iblk, idx t]

theorem read2 (c : Dev nD) (t : Fin cfg0.N) (k : Fin 4096) :
    (iblk m c 2 t (ix2 0 k) : EReal) = m ((c.tc : Thread nD τ).loc main_arg2) (ix1 k) := by
  refine Eq.trans ?_ (gains_at m c k)
  blk_ext [iblk, idx t]

/-- The normed rows a point would keep. -/
theorem kept_at (c : Dev nD) (t : Fin cfg0.N) (r : Fin 256) (k : Fin 4096) :
    k0_pay1 (F := Ideal) (iblk m c 0 t) (iblk m c 2 t) (ix2 r k)
      = normed (fun j => (m ((c.tc : Thread nD τ).loc main_arg0) : S256x4096.Idx → EReal) (ix2 r j))
          (fun j => (m ((c.tc : Thread nD τ).loc main_arg2) : S4096.Idx → EReal) (ix1 j)) k :=
  (pay1_at _ _ r k).trans (congrArg₂ (fun x g => normed x g k) (funext fun j => read0 m c t r j) (funext fun j => read2 m c t j))

/-- What a point leaves in its block: the normed rows against the columns. -/
theorem out_at (c : Dev nD) (t : Fin cfg0.N) (r : Fin 256) (n : Fin 1024) :
    (outsAt0 m c t (ix2 r n) : EReal)
      = ref (m ((c.tc : Thread nD τ).loc main_arg0)) (m ((c.tc : Thread nD τ).loc main_arg1)) (m ((c.tc : Thread nD τ).loc main_arg2))
          (ix2 r n) := by
  refine Eq.trans (b := k0_pay2 (F := Ideal) (k0_pay1 (F := Ideal) (iblk m c 0 t) (iblk m c 2 t)) (iblk m c 1 t) (ix2 r n)) ?_ ?_
  · unfold outsAt0
    frame_out
  · refine (pay2_at _ _ r n).trans (Eq.trans ?_ (ref_at _ _ _ _ _).symm)
    refine Finset.sum_congr rfl fun k _ => ?_
    rw [kept_at m c t, read1 m c t]

/-- The whole array after the last point. -/
theorem final (c : Dev nD) :
    (dats m 0 c).arrAt 3 (cfgs 0).N
      = ref (m ((c.tc : Thread nD τ).loc main_arg0)) (m ((c.tc : Thread nD τ).loc main_arg1)) (m ((c.tc : Thread nD τ).loc main_arg2)) := by
  refine (dats m 0 c).arrAt_eq_of_covers 3 _ (by decide +kernel) fun t _ y => ?_
  blk_simp
  rw [after0_3]
  change S256x1024.Idx at y
  have ey : y = ix2 (y 0) (y 1) := by
    funext a; fin_cases a <;> rfl
  rw [ey]
  refine (out_at m c t (y 0) (y 1)).trans ?_
  blk_ext [idx t]

/-- What the host takes as the keys and as the values. -/
theorem host_keys (z : FVec Ideal S256x1024 .f32) :
    shapeCast S1x256x4x128 (extractStridedSlice S256x512 ![0, 0] z slices_S256x1024_S256x512_0_0) shapeCasts_S256x512_S1x256x4x128 = keys z := by
  funext i
  have e : i = ix4 0 (i 1) (i 2) (i 3) := by
    funext a; fin_cases a <;> first | rfl | exact Subsingleton.elim (α := Fin 1) _ _
  rw [e]
  refine Eq.trans ?_ (keys_at z (i 1) (i 2) (i 3)).symm
  pointwise []

theorem host_values (z : FVec Ideal S256x1024 .f32) :
    shapeCast S1x256x4x128 (extractStridedSlice S256x512 ![0, 512] z slices_S256x1024_S256x512_0_512) shapeCasts_S256x512_S1x256x4x128 = values z := by
  funext i
  have e : i = ix4 0 (i 1) (i 2) (i 3) := by
    funext a; fin_cases a <;> first | rfl | exact Subsingleton.elim (α := Fin 1) _ _
  rw [e]
  refine Eq.trans ?_ (values_at z (i 1) (i 2) (i 3)).symm
  pointwise []
  exact congrArg (fun n => z (ix2 (i 1) n)) (Fin.ext (Nat.add_assoc _ _ _).symm)

/-- The product's array when the region is over. -/
theorem region (c : Dev nD) :
    Pipeline.withArrays (cfgs 0).spec c (V0 m c) (fun w => (dats m 0 c).arrAt w (cfgs 0).N) (Proc.devRef .tc main_v2)
      = (dats m 0 c).arrAt 3 (cfgs 0).N :=
  Pipeline.withArrays_arr spec0 winFacts0.arr_inj c (V0 m c) (fun w => (dats m 0 c).arrAt w (cfgs 0).N) 3

/-- The first result. -/
theorem end_keys (c : Dev nD) :
    Pipeline.afterTail₀ cfgs (dats m) 0 (V0 m) [hostOps1] c main_v4
      = keys (ref (m ((c.tc : Thread nD τ).loc main_arg0)) (m ((c.tc : Thread nD τ).loc main_arg1)) (m ((c.tc : Thread nD τ).loc main_arg2))) := by
  rw [← host_keys, ← final m c, ← region m c]
  unfold Pipeline.afterTail₀
  show StableHlo.after hostOps1 _ (Proc.devRef .tc main_v4) = _
  after_results
  rfl

/-- The second result. -/
theorem end_values (c : Dev nD) :
    Pipeline.afterTail₀ cfgs (dats m) 0 (V0 m) [hostOps1] c main_v6
      = values (ref (m ((c.tc : Thread nD τ).loc main_arg0)) (m ((c.tc : Thread nD τ).loc main_arg1)) (m ((c.tc : Thread nD τ).loc main_arg2))) := by
  rw [← host_values, ← final m c, ← region m c]
  unfold Pipeline.afterTail₀
  show StableHlo.after hostOps1 _ (Proc.devRef .tc main_v6) = _
  after_results
  rfl

theorem frame_ref : letI := Cert.MemKvRefIdeal.Gen.facts; Cert.quiescent_MemKvRefIdeal := fun m g _ =>
  (θ_run Cert.MemKvRefIdeal.defs _ _).mono (fun r h => ⟨fun c => (h c).2.2, sem_eq_zero_of_no_sems (by decide) r.2⟩)
    (Cert.MemKvRefIdeal.Value.run (F := Ideal) m g)

theorem algebraic : letI := Cert.MemKvIdeal.Gen.facts; letI := Cert.MemKvRefIdeal.Gen.facts; Cert.algebraic_MemKvIdeal_MemKvRefIdeal := by
  pair_intro
  · run_from Cert.MemKvIdeal.Gen.run_main m g
    · exact W_main_arg1 m (dats m) c
    · exact W_main_arg2 m (dats m) c
  · run_from Cert.MemKvRefIdeal.Value.run m' g'
    · exact (end_keys m c).symm
    · exact (end_values m c).symm

end Cert.MemKvIdeal.Product

end
-- ==== Proof.MemQ.lean ====
/- The prompt memory's query product: at a point the kernel norms the block's rows, keeps them in a scratch and multiplies
   them. What it leaves is the reference's result. -/
module

public import proofs.«01_k».proof.Defs
public import proofs.«01_k».proof.Proof.Gen.MemQIdeal.Frame
public import proofs.«01_k».proof.Proof.Gen.MemQRefIdeal.Run
public import Idealize.ShloMosaic.Lib.Claim
public import Idealize.ShloMosaic.Lib.Pipeline.ValueKit

@[expose] public section

set_option maxRecDepth 16384

noncomputable section

namespace Cert.MemQRefIdeal.Product

open Cert.MemQRefIdeal Cert.MemQRefIdeal.Gen Idealize.ShloMosaic Idealize.ShloMosaic.TcCoe Idealize.SL.Sem

/-- An element of a normed row: the row's element over the root of the mean square, times its gain. -/
def normed (x g : Fin 4096 → EReal) (k : Fin 4096) : EReal :=
  x k * Ideal.rsqrt (Ideal.div (∑ j : Fin 4096, x j * x j) (Ideal.ofBits .f32 0x45800000#32) + Ideal.ofBits .f32 0x358637BD#32) * g k

/-- The reference's row factors, one for a row. -/
def factors (x : FVec Ideal S8704x4096 .f32) : FVec Ideal S8704x1 .f32 :=
  Host.rsqrt (addf (Host.divf (broadcastInDim S8704x1 ![0] bcast_S8704_S8704x1_0 (Host.reduceAdd (mulf x x) (constant S_ .f32 0x00000000#32) reducesTo_S8704x4096_S8704_d1 h_S_)) (broadcastInDim S8704x1 ![] bcast_S_S8704x1 (constant S_ .f32 0x45800000#32))) (broadcastInDim S8704x1 ![] bcast_S_S8704x1 (constant S_ .f32 0x358637BD#32)))

/-- The reference's normed rows. -/
def rows (x : FVec Ideal S8704x4096 .f32) (g : FVec Ideal S4096 .f32) : FVec Ideal S8704x4096 .f32 :=
  mulf (mulf x (broadcastInDim S8704x4096 ![0, 1] bcast_S8704x1_S8704x4096_0_1 (factors x)))
    (broadcastInDim S8704x4096 ![0, 1] bcast_S1x4096_S8704x4096_0_1 (broadcastInDim S1x4096 ![1] bcast_S4096_S1x4096_1 g))

/-- The reference's result: the normed rows through the matrix. -/
def ref (x : FVec Ideal S8704x4096 .f32) (w : FVec Ideal S4096x512 .f32) (g : FVec Ideal S4096 .f32) : FVec Ideal S8704x512 .bf16 :=
  truncf .bf16 (Host.dotGeneral dot_S8704x4096_S4096x512_S8704x512_1_0_0_1_n_n none (rows x g) w) bitsLt_bf16_f32

theorem mul_at {s : Shape} (a b : FVec Ideal s .f32) (i : s.Idx) : mulf a b i = a i * b i := rfl

theorem cast_at {s : Shape} (a : FVec Ideal s .f32) (i : s.Idx) : (truncf .bf16 a bitsLt_bf16_f32 : FVec Ideal s .bf16) i = a i := rfl

theorem dot_at (x : FVec Ideal S8704x4096 .f32) (w : FVec Ideal S4096x512 .f32) (r : Fin 8704) (n : Fin 512) :
    Host.dotGeneral dot_S8704x4096_S4096x512_S8704x512_1_0_0_1_n_n none x w (ix2 r n) = ∑ k : Fin 4096, x (ix2 r k) * w (ix2 k n) := by
  pointwise []

theorem sum_at (x : FVec Ideal S8704x4096 .f32) (r : Fin 8704) :
    Host.reduceAdd x (constant S_ .f32 0x00000000#32) reducesTo_S8704x4096_S8704_d1 h_S_ (ix1 r) = ∑ j : Fin 4096, x (ix2 r j) := by
  pointwise []

theorem factor_at (s : FVec Ideal S8704 .f32) (r : Fin 8704) :
    Host.rsqrt (addf (Host.divf (broadcastInDim S8704x1 ![0] bcast_S8704_S8704x1_0 s) (broadcastInDim S8704x1 ![] bcast_S_S8704x1 (constant S_ .f32 0x45800000#32))) (broadcastInDim S8704x1 ![] bcast_S_S8704x1 (constant S_ .f32 0x358637BD#32))) (ix2 r 0)
      = Ideal.rsqrt (Ideal.div (s (ix1 r)) (Ideal.ofBits .f32 0x45800000#32) + Ideal.ofBits .f32 0x358637BD#32) := by
  pointwise []

theorem spread_at (f : FVec Ideal S8704x1 .f32) (r : Fin 8704) (k : Fin 4096) :
    broadcastInDim S8704x4096 ![0, 1] bcast_S8704x1_S8704x4096_0_1 f (ix2 r k) = f (ix2 r 0) := by
  pointwise []

theorem gain_at (g : FVec Ideal S4096 .f32) (r : Fin 8704) (k : Fin 4096) :
    broadcastInDim S8704x4096 ![0, 1] bcast_S1x4096_S8704x4096_0_1 (broadcastInDim S1x4096 ![1] bcast_S4096_S1x4096_1 g) (ix2 r k) = g (ix1 k) := by
  pointwise []

theorem rows_at (x : FVec Ideal S8704x4096 .f32) (g : FVec Ideal S4096 .f32) (r : Fin 8704) (k : Fin 4096) :
    rows x g (ix2 r k) = normed (fun j => x (ix2 r j)) (fun j => g (ix1 j)) k := by
  unfold rows factors normed
  rw [mul_at, mul_at, spread_at, gain_at, factor_at, sum_at]
  rfl

theorem ref_at (x : FVec Ideal S8704x4096 .f32) (w : FVec Ideal S4096x512 .f32) (g : FVec Ideal S4096 .f32) (r : Fin 8704) (n : Fin 512) :
    ref x w g (ix2 r n) = ∑ k : Fin 4096, normed (fun j => x (ix2 r j)) (fun j => g (ix1 j)) k * w (ix2 k n) := by
  unfold ref
  rw [cast_at, dot_at]
  simp only [rows_at]

end Cert.MemQRefIdeal.Product

namespace Cert.MemQIdeal.Product

open Cert.MemQIdeal Cert.MemQIdeal.Gen Cert.MemQRefIdeal.Product Idealize.ShloMosaic Idealize.ShloMosaic.TcCoe Idealize.SL.Sem
open Idealize.ShloMosaic.Pipeline (Dat)

theorem pay1_at (x : Vec Ideal S512x4096 .f32) (g : Vec Ideal S1x4096 .f32) (r : Fin 512) (k : Fin 4096) :
    k0_pay1 (F := Ideal) x g (ix2 r k) = normed (fun j => x (ix2 r j)) (fun j => g (ix2 0 j)) k := by
  unfold normed
  pointwise [k0_pay1]

theorem pay2_at (x : Vec Ideal S512x4096 .bf16) (w : Vec Ideal S4096x512 .bf16) (r : Fin 512) (n : Fin 512) :
    k0_pay2 (F := Ideal) x w (ix2 r n) = ∑ k : Fin 4096, x (ix2 r k) * w (ix2 k n) := by
  pointwise [k0_pay2]

variable (m : (ℓ : Loc nD τ sig) → Buf (Elt Ideal) ℓ)

theorem idx : ∀ t : Fin cfg0.N, win0_0.index t = ![t.val, 0] ∧ win0_1.index t = ![0, 0]
    ∧ win0_2.index t = ![0, 0] ∧ win0_3.index t = ![t.val, 0] :=
  (by decide +kernel : ∀ t : Fin grid0.N, _)

theorem points : cfg0.N = 17 := by decide +kernel

/-- The matrix as the host hands it to the kernel. -/
theorem matrix_at (c : Dev nD) (k : Fin 4096) (n : Fin 512) :
    (V m c main_v0 (ix2 k n) : EReal) = m ((c.tc : Thread nD τ).loc main_arg1) (ix2 k n) := by
  entry_read
  pointwise []

/-- The gain as the host hands it to the kernel. -/
theorem gains_at (c : Dev nD) (k : Fin 4096) :
    (V m c main_v1 (ix2 0 k) : EReal) = m ((c.tc : Thread nD τ).loc main_arg2) (ix1 k) := by
  entry_read
  pointwise []

theorem read0 (c : Dev nD) (t : Fin cfg0.N) (ht : t.val < 17) (r : Fin 512) (k : Fin 4096) :
    (iblk m c 0 t (ix2 r k) : EReal) = m ((c.tc : Thread nD τ).loc main_arg0) (ix2 ⟨t.val * 512 + r.val, by omega⟩ k) := by
  blk_ext [iblk, V, idx t]

theorem read1 (c : Dev nD) (t : Fin cfg0.N) (ht : t.val < 17) (k : Fin 4096) (n : Fin 512) :
    (iblk m c 1 t (ix2 k n) : EReal) = m ((c.tc : Thread nD τ).loc main_arg1) (ix2 k n) := by
  refine Eq.trans ?_ (matrix_at m c k n)
  blk_ext [iblk, idx t]

theorem read2 (c : Dev nD) (t : Fin cfg0.N) (k : Fin 4096) :
    (iblk m c 2 t (ix2 0 k) : EReal) = m ((c.tc : Thread nD τ).loc main_arg2) (ix1 k) := by
  refine Eq.trans ?_ (gains_at m c k)
  blk_ext [iblk, idx t]

/-- The normed rows a point would keep. -/
theorem kept_at (c : Dev nD) (t : Fin cfg0.N) (ht : t.val < 17) (r : Fin 512) (k : Fin 4096) :
    k0_pay1 (F := Ideal) (iblk m c 0 t) (iblk m c 2 t) (ix2 r k)
      = normed (fun j => (m ((c.tc : Thread nD τ).loc main_arg0) : S8704x4096.Idx → EReal) (ix2 ⟨t.val * 512 + r.val, by omega⟩ j))
          (fun j => (m ((c.tc : Thread nD τ).loc main_arg2) : S4096.Idx → EReal) (ix1 j)) k :=
  (pay1_at _ _ r k).trans (congrArg₂ (fun x g => normed x g k) (funext fun j => read0 m c t ht r j) (funext fun j => read2 m c t j))

/-- What a point leaves in its block: the normed rows against the columns. -/
theorem out_at (c : Dev nD) (t : Fin cfg0.N) (ht : t.val < 17) (r : Fin 512) (n : Fin 512) :
    (outsAt0 m c t (ix2 r n) : EReal)
      = ref (m ((c.tc : Thread nD τ).loc main_arg0)) (m ((c.tc : Thread nD τ).loc main_arg1)) (m ((c.tc : Thread nD τ).loc main_arg2))
          (ix2 ⟨t.val * 512 + r.val, by omega⟩ n) := by
  refine Eq.trans (b := k0_pay2 (F := Ideal) (k0_pay1 (F := Ideal) (iblk m c 0 t) (iblk m c 2 t)) (iblk m c 1 t) (ix2 r n)) ?_ ?_
  · unfold outsAt0
    frame_out
  · refine (pay2_at _ _ r n).trans (Eq.trans ?_ (ref_at _ _ _ _ _).symm)
    refine Finset.sum_congr rfl fun k _ => ?_
    rw [kept_at m c t ht, read1 m c t ht]

/-- The whole array after the last point. -/
theorem final (c : Dev nD) :
    (dats m 0 c).arrAt 3 (cfgs 0).N
      = ref (m ((c.tc : Thread nD τ).loc main_arg0)) (m ((c.tc : Thread nD τ).loc main_arg1)) (m ((c.tc : Thread nD τ).loc main_arg2)) := by
  refine (dats m 0 c).arrAt_eq_of_covers 3 _ (by decide +kernel) fun t _ y => ?_
  have ht : t.val < 17 := lt_of_lt_of_eq t.isLt points
  blk_simp
  rw [after0_3]
  change S512x512.Idx at y
  have ey : y = ix2 (y 0) (y 1) := by
    funext a; fin_cases a <;> rfl
  rw [ey]
  refine (out_at m c t ht (y 0) (y 1)).trans ?_
  blk_ext [idx t]

theorem frame_ref : letI := Cert.MemQRefIdeal.Gen.facts; Cert.quiescent_MemQRefIdeal := fun m g _ =>
  (θ_run Cert.MemQRefIdeal.defs _ _).mono (fun r h => ⟨fun c => (h c).2, sem_eq_zero_of_no_sems (by decide) r.2⟩)
    (Cert.MemQRefIdeal.Value.run (F := Ideal) m g)

theorem algebraic : letI := Cert.MemQIdeal.Gen.facts; letI := Cert.MemQRefIdeal.Gen.facts; Cert.algebraic_MemQIdeal_MemQRefIdeal := by
  pair_intro
  · run_from Cert.MemQIdeal.Gen.run_main m g
  · run_from Cert.MemQRefIdeal.Value.run m' g'
    exact (final m c).symm

end Cert.MemQIdeal.Product

end
-- ==== Proof.MemOut.lean ====
/- The prompt memory's output product: at a row's first column block the kernel keeps the row's block in a scratch, which the other
   column blocks then multiply. What it leaves is the reference's result. -/
module

public import proofs.«01_k».proof.Defs
public import proofs.«01_k».proof.Proof.Gen.MemOutIdeal.Frame
public import proofs.«01_k».proof.Proof.Gen.MemOutRefIdeal.Run
public import Idealize.ShloMosaic.Lib.Claim
public import Idealize.ShloMosaic.Lib.Pipeline.ValueKit

@[expose] public section

set_option maxRecDepth 16384

noncomputable section

namespace Cert.MemOutRefIdeal.Product

open Cert.MemOutRefIdeal Cert.MemOutRefIdeal.Gen Idealize.ShloMosaic Idealize.ShloMosaic.TcCoe Idealize.SL.Sem

/-- The reference's result: the residual and the product. -/
def ref (o : FVec Ideal S8704x512 .bf16) (w : FVec Ideal S512x4096 .f32) (x : FVec Ideal S8704x4096 .f32) : FVec Ideal S8704x4096 .f32 :=
  addf x (Host.dotGeneral dot_S8704x512_S512x4096_S8704x4096_1_0_0_1_n_n none (extf .f32 o bitsLt_bf16_f32) w)

theorem add_at {s : Shape} (a b : FVec Ideal s .f32) (i : s.Idx) : addf a b i = a i + b i := rfl

theorem dot_at (x : FVec Ideal S8704x512 .f32) (w : FVec Ideal S512x4096 .f32) (r : Fin 8704) (n : Fin 4096) :
    Host.dotGeneral dot_S8704x512_S512x4096_S8704x4096_1_0_0_1_n_n none x w (ix2 r n) = ∑ k : Fin 512, x (ix2 r k) * w (ix2 k n) := by
  pointwise []

theorem ref_at (o : FVec Ideal S8704x512 .bf16) (w : FVec Ideal S512x4096 .f32) (x : FVec Ideal S8704x4096 .f32) (r : Fin 8704) (n : Fin 4096) :
    ref o w x (ix2 r n) = x (ix2 r n) + ∑ k : Fin 512, o (ix2 r k) * w (ix2 k n) := by
  unfold ref
  rw [add_at, dot_at]
  rfl

end Cert.MemOutRefIdeal.Product

namespace Cert.MemOutIdeal.Product

open Cert.MemOutIdeal Cert.MemOutIdeal.Gen Cert.MemOutRefIdeal.Product Idealize.ShloMosaic Idealize.ShloMosaic.TcCoe Idealize.SL.Sem
open Idealize.ShloMosaic.Pipeline (Dat)

theorem pay1_eq (x : Vec Ideal S512x512 .bf16) (r : Fin 512) (k : Fin 512) : k0_pay1 (F := Ideal) x (ix2 r k) = x (ix2 r k) := by
  pointwise [k0_pay1]

theorem pay2_at (x : Vec Ideal S512x512 .bf16) (w : Vec Ideal S512x1024 .bf16) (y : Vec Ideal S512x1024 .f32) (r : Fin 512) (n : Fin 1024) :
    k0_pay2 (F := Ideal) x w y (ix2 r n) = (∑ k : Fin 512, x (ix2 r k) * w (ix2 k n)) + y (ix2 r n) := by
  pointwise [k0_pay2]

variable (m : (ℓ : Loc nD τ sig) → Buf (Elt Ideal) ℓ)

theorem idx : ∀ t : Fin cfg0.N, win0_0.index t = ![t.val / 4, 0] ∧ win0_1.index t = ![0, t.val % 4]
    ∧ win0_2.index t = ![t.val / 4, t.val % 4] ∧ win0_3.index t = ![t.val / 4, t.val % 4] :=
  (by decide +kernel : ∀ t : Fin grid0.N, _)

theorem points : cfg0.N = 68 := by decide +kernel

/-- The matrix as the host hands it to the kernel. -/
theorem matrix_at (c : Dev nD) (k : Fin 512) (n : Fin 4096) :
    (V m c main_v0 (ix2 k n) : EReal) = m ((c.tc : Thread nD τ).loc main_arg1) (ix2 k n) := by
  entry_read
  pointwise []

theorem read0 (c : Dev nD) (t : Fin cfg0.N) (ht : t.val < 68) (r : Fin 512) (k : Fin 512) :
    (iblk m c 0 t (ix2 r k) : EReal) = m ((c.tc : Thread nD τ).loc main_arg0) (ix2 ⟨t.val / 4 * 512 + r.val, by omega⟩ k) := by
  blk_ext [iblk, V, idx t]

theorem read1 (c : Dev nD) (t : Fin cfg0.N) (ht : t.val < 68) (k : Fin 512) (n : Fin 1024) :
    (iblk m c 1 t (ix2 k n) : EReal) = m ((c.tc : Thread nD τ).loc main_arg1) (ix2 k ⟨t.val % 4 * 1024 + n.val, by omega⟩) := by
  refine Eq.trans ?_ (matrix_at m c k ⟨t.val % 4 * 1024 + n.val, by omega⟩)
  blk_ext [iblk, idx t]

theorem read2 (c : Dev nD) (t : Fin cfg0.N) (ht : t.val < 68) (r : Fin 512) (n : Fin 1024) :
    (iblk m c 2 t (ix2 r n) : EReal) = m ((c.tc : Thread nD τ).loc main_arg2) (ix2 ⟨t.val / 4 * 512 + r.val, by omega⟩ ⟨t.val % 4 * 1024 + n.val, by omega⟩) := by
  blk_ext [iblk, V, idx t]

/-- After a point the scratch holds the point's block of rows. -/
theorem scratch_at (c : Dev nD) : ∀ (n : ℕ) (hn : n < cfg0.N) (h : n < 68) (r : Fin 512) (k : Fin 512),
    ((outsAt0 m c n hn).2 (ix2 r k) : EReal) = m ((c.tc : Thread nD τ).loc main_arg0) (ix2 ⟨n / 4 * 512 + r.val, by omega⟩ k) := by
  intro n
  induction n with
  | zero =>
    intro hn h r k
    rw [show outsAt0 m c 0 hn = _ from outsAt0_A m c ⟨0, hn⟩ rfl]
    refine Eq.trans ?_ (read0 m c ⟨0, hn⟩ h r k)
    refine Eq.trans ?_ (pay1_eq (iblk m c 0 ⟨0, hn⟩) r k)
    frame_out
  | succ n ih =>
    intro hn h r k
    by_cases h0 : (n + 1) % 4 = 0
    · rw [show outsAt0 m c (n + 1) hn = _ from outsAt0_A m c ⟨n + 1, hn⟩ h0]
      refine Eq.trans ?_ (read0 m c ⟨n + 1, hn⟩ h r k)
      refine Eq.trans ?_ (pay1_eq (iblk m c 0 ⟨n + 1, hn⟩) r k)
      frame_out
    · rw [show outsAt0 m c (n + 1) hn = _ from outsAt0_B m c ⟨n + 1, hn⟩ h0]
      refine Eq.trans (b := ((outsAt0 m c n (Nat.lt_of_succ_lt hn)).2 (ix2 r k) : EReal)) ?_ ((ih (Nat.lt_of_succ_lt hn) (by omega) r k).trans ?_)
      · rfl
      · have e : n / 4 = (n + 1) / 4 := by omega
        simp only [e]

/-- What a point leaves in its block: the kept rows against the point's columns, and the residual. -/
theorem out_at (c : Dev nD) (t : Fin cfg0.N) (ht : t.val < 68) (r : Fin 512) (n : Fin 1024) :
    ((outsAt0 m c t.val t.isLt).1 (ix2 r n) : EReal)
      = ref (m ((c.tc : Thread nD τ).loc main_arg0)) (m ((c.tc : Thread nD τ).loc main_arg1)) (m ((c.tc : Thread nD τ).loc main_arg2))
          (ix2 ⟨t.val / 4 * 512 + r.val, by omega⟩ ⟨t.val % 4 * 1024 + n.val, by omega⟩) := by
  refine Eq.trans (b := k0_pay2 (F := Ideal) (outsAt0 m c t.val t.isLt).2 (iblk m c 1 t) (iblk m c 2 t) (ix2 r n)) ?_ ?_
  · by_cases h0 : t.val % 4 = 0
    · rw [outsAt0_A m c t h0]
      frame_out
    · rw [outsAt0_B m c t h0]
      frame_out
      exact congrArg (fun z => k0_pay2 z (iblk m c 1 t) (iblk m c 2 t) (ix2 r n)) ((Memref.isWhole_whole _).read_unread _)
  · refine (pay2_at _ _ _ r n).trans (Eq.trans ?_ (ref_at _ _ _ _ _).symm)
    rw [add_comm, read2 m c t ht]
    refine congrArg (fun z : EReal => (_ : EReal) + z) (Finset.sum_congr rfl fun k _ => ?_)
    rw [scratch_at m c t.val t.isLt ht, read1 m c t ht]

/-- The whole array after the last point. -/
theorem final (c : Dev nD) :
    (dats m 0 c).arrAt 3 (cfgs 0).N
      = ref (m ((c.tc : Thread nD τ).loc main_arg0)) (m ((c.tc : Thread nD τ).loc main_arg1)) (m ((c.tc : Thread nD τ).loc main_arg2)) := by
  refine (dats m 0 c).arrAt_eq_of_covers 3 _ (by decide +kernel) fun t _ y => ?_
  have ht : t.val < 68 := lt_of_lt_of_eq t.isLt points
  blk_simp
  rw [after0_3]
  change S512x1024.Idx at y
  have ey : y = ix2 (y 0) (y 1) := by
    funext a; fin_cases a <;> rfl
  rw [ey]
  refine (out_at m c t ht (y 0) (y 1)).trans ?_
  blk_ext [idx t]

theorem frame_ref : letI := Cert.MemOutRefIdeal.Gen.facts; Cert.quiescent_MemOutRefIdeal := fun m g _ =>
  (θ_run Cert.MemOutRefIdeal.defs _ _).mono (fun r h => ⟨fun c => (h c).2, sem_eq_zero_of_no_sems (by decide) r.2⟩)
    (Cert.MemOutRefIdeal.Value.run (F := Ideal) m g)

theorem algebraic : letI := Cert.MemOutIdeal.Gen.facts; letI := Cert.MemOutRefIdeal.Gen.facts; Cert.algebraic_MemOutIdeal_MemOutRefIdeal := by
  pair_intro
  · run_from Cert.MemOutIdeal.Gen.run_main m g
  · run_from Cert.MemOutRefIdeal.Value.run m' g'
    exact (final m c).symm

end Cert.MemOutIdeal.Product

end
-- ==== Proof.Glu.lean ====
/- The recurrent mixer's gate: at a row's first column block the kernel keeps the row's block in a scratch, which the other
   column blocks then multiply. What it leaves is the reference's result. -/
module

public import proofs.«01_k».proof.Defs
public import proofs.«01_k».proof.Proof.Gen.GluIdeal.Frame
public import proofs.«01_k».proof.Proof.Gen.GluRefIdeal.Run
public import Idealize.ShloMosaic.Lib.Claim
public import Idealize.ShloMosaic.Lib.Pipeline.ValueKit

@[expose] public section

set_option maxRecDepth 16384

noncomputable section

namespace Cert.GluRefIdeal.Product

open Cert.GluRefIdeal Cert.GluRefIdeal.Gen Idealize.ShloMosaic Idealize.ShloMosaic.TcCoe Idealize.SL.Sem

/-- A value times the gate of another: the logistic function, written with the exponential. -/
def gated (y z : EReal) : EReal :=
  y * Ideal.div (Ideal.ofBits .f32 0x3F800000#32) (Ideal.ofBits .f32 0x3F800000#32 + Ideal.exp (-z))

/-- The reference's gated rows, of the rows and their product. -/
def gates (y z : FVec Ideal S8704x2048 .f32) : FVec Ideal S8704x2048 .bf16 :=
  truncf .bf16 (mulf y (Host.divf (broadcastInDim S8704x2048 ![] bcast_S_S8704x2048 (constant S_ .f32 0x3F800000#32)) (addf (broadcastInDim S8704x2048 ![] bcast_S_S8704x2048 (constant S_ .f32 0x3F800000#32)) (Host.exp (Host.negf z))))) bitsLt_bf16_f32

/-- The reference's result: the rows gated by their product with the matrix. -/
def ref (y : FVec Ideal S8704x2048 .f32) (w : FVec Ideal S2048x2048 .f32) : FVec Ideal S8704x2048 .bf16 :=
  gates y (Host.dotGeneral dot_S8704x2048_S2048x2048_S8704x2048_1_0_0_1_n_n none y w)

theorem dot_at (x : FVec Ideal S8704x2048 .f32) (w : FVec Ideal S2048x2048 .f32) (r : Fin 8704) (n : Fin 2048) :
    Host.dotGeneral dot_S8704x2048_S2048x2048_S8704x2048_1_0_0_1_n_n none x w (ix2 r n) = ∑ k : Fin 2048, x (ix2 r k) * w (ix2 k n) := by
  pointwise []

theorem gates_at (y z : FVec Ideal S8704x2048 .f32) (r : Fin 8704) (n : Fin 2048) :
    gates y z (ix2 r n) = gated (y (ix2 r n)) (z (ix2 r n)) := by
  unfold gated
  pointwise [gates]

theorem ref_at (y : FVec Ideal S8704x2048 .f32) (w : FVec Ideal S2048x2048 .f32) (r : Fin 8704) (n : Fin 2048) :
    ref y w (ix2 r n) = gated (y (ix2 r n)) (∑ k : Fin 2048, y (ix2 r k) * w (ix2 k n)) := by
  unfold ref
  rw [gates_at, dot_at]

end Cert.GluRefIdeal.Product

namespace Cert.GluIdeal.Product

open Cert.GluIdeal Cert.GluIdeal.Gen Cert.GluRefIdeal.Product Idealize.ShloMosaic Idealize.ShloMosaic.TcCoe Idealize.SL.Sem
open Idealize.ShloMosaic.Pipeline (Dat)

theorem pay1_eq (x : Vec Ideal S512x2048 .f32) (r : Fin 512) (k : Fin 2048) : k0_pay1 (F := Ideal) x (ix2 r k) = x (ix2 r k) := by
  pointwise [k0_pay1]

theorem pay2_at (x : Vec Ideal S512x2048 .bf16) (w : Vec Ideal S2048x1024 .bf16) (y : Vec Ideal S512x1024 .f32) (r : Fin 512) (n : Fin 1024) :
    k0_pay2 (F := Ideal) x w y (ix2 r n) = gated (y (ix2 r n)) (∑ k : Fin 2048, x (ix2 r k) * w (ix2 k n)) := by
  unfold gated
  pointwise [k0_pay2]
  rw [zero_sub]

variable (m : (ℓ : Loc nD τ sig) → Buf (Elt Ideal) ℓ)

theorem idx : ∀ t : Fin cfg0.N, win0_0.index t = ![t.val / 2, 0] ∧ win0_1.index t = ![0, t.val % 2]
    ∧ win0_2.index t = ![t.val / 2, t.val % 2] ∧ win0_3.index t = ![t.val / 2, t.val % 2] :=
  (by decide +kernel : ∀ t : Fin grid0.N, _)

theorem points : cfg0.N = 34 := by decide +kernel

/-- The matrix as the host hands it to the kernel. -/
theorem matrix_at (c : Dev nD) (k : Fin 2048) (n : Fin 2048) :
    (V m c main_v0 (ix2 k n) : EReal) = m ((c.tc : Thread nD τ).loc main_arg1) (ix2 k n) := by
  entry_read
  pointwise []

theorem read0 (c : Dev nD) (t : Fin cfg0.N) (ht : t.val < 34) (r : Fin 512) (k : Fin 2048) :
    (iblk m c 0 t (ix2 r k) : EReal) = m ((c.tc : Thread nD τ).loc main_arg0) (ix2 ⟨t.val / 2 * 512 + r.val, by omega⟩ k) := by
  blk_ext [iblk, V, idx t]

theorem read1 (c : Dev nD) (t : Fin cfg0.N) (ht : t.val < 34) (k : Fin 2048) (n : Fin 1024) :
    (iblk m c 1 t (ix2 k n) : EReal) = m ((c.tc : Thread nD τ).loc main_arg1) (ix2 k ⟨t.val % 2 * 1024 + n.val, by omega⟩) := by
  refine Eq.trans ?_ (matrix_at m c k ⟨t.val % 2 * 1024 + n.val, by omega⟩)
  blk_ext [iblk, idx t]

theorem read2 (c : Dev nD) (t : Fin cfg0.N) (ht : t.val < 34) (r : Fin 512) (n : Fin 1024) :
    (iblk m c 2 t (ix2 r n) : EReal) = m ((c.tc : Thread nD τ).loc main_arg0) (ix2 ⟨t.val / 2 * 512 + r.val, by omega⟩ ⟨t.val % 2 * 1024 + n.val, by omega⟩) := by
  blk_ext [iblk, V, idx t]

/-- After a point the scratch holds the point's block of rows. -/
theorem scratch_at (c : Dev nD) : ∀ (n : ℕ) (hn : n < cfg0.N) (h : n < 34) (r : Fin 512) (k : Fin 2048),
    ((outsAt0 m c n hn).2 (ix2 r k) : EReal) = m ((c.tc : Thread nD τ).loc main_arg0) (ix2 ⟨n / 2 * 512 + r.val, by omega⟩ k) := by
  intro n
  induction n with
  | zero =>
    intro hn h r k
    rw [show outsAt0 m c 0 hn = _ from outsAt0_A m c ⟨0, hn⟩ rfl]
    refine Eq.trans ?_ (read0 m c ⟨0, hn⟩ h r k)
    refine Eq.trans ?_ (pay1_eq (iblk m c 0 ⟨0, hn⟩) r k)
    frame_out
  | succ n ih =>
    intro hn h r k
    by_cases h0 : (n + 1) % 2 = 0
    · rw [show outsAt0 m c (n + 1) hn = _ from outsAt0_A m c ⟨n + 1, hn⟩ h0]
      refine Eq.trans ?_ (read0 m c ⟨n + 1, hn⟩ h r k)
      refine Eq.trans ?_ (pay1_eq (iblk m c 0 ⟨n + 1, hn⟩) r k)
      frame_out
    · rw [show outsAt0 m c (n + 1) hn = _ from outsAt0_B m c ⟨n + 1, hn⟩ h0]
      refine Eq.trans (b := ((outsAt0 m c n (Nat.lt_of_succ_lt hn)).2 (ix2 r k) : EReal)) ?_ ((ih (Nat.lt_of_succ_lt hn) (by omega) r k).trans ?_)
      · rfl
      · have e : n / 2 = (n + 1) / 2 := by omega
        simp only [e]

/-- What a point leaves in its block: the kept rows against the point's columns, as the gate of its own. -/
theorem out_at (c : Dev nD) (t : Fin cfg0.N) (ht : t.val < 34) (r : Fin 512) (n : Fin 1024) :
    ((outsAt0 m c t.val t.isLt).1 (ix2 r n) : EReal)
      = ref (m ((c.tc : Thread nD τ).loc main_arg0)) (m ((c.tc : Thread nD τ).loc main_arg1))
          (ix2 ⟨t.val / 2 * 512 + r.val, by omega⟩ ⟨t.val % 2 * 1024 + n.val, by omega⟩) := by
  refine Eq.trans (b := k0_pay2 (F := Ideal) (outsAt0 m c t.val t.isLt).2 (iblk m c 1 t) (iblk m c 2 t) (ix2 r n)) ?_ ?_
  · by_cases h0 : t.val % 2 = 0
    · rw [outsAt0_A m c t h0]
      frame_out
    · rw [outsAt0_B m c t h0]
      frame_out
      exact congrArg (fun z => k0_pay2 z (iblk m c 1 t) (iblk m c 2 t) (ix2 r n)) ((Memref.isWhole_whole _).read_unread _)
  · refine (pay2_at _ _ _ r n).trans (Eq.trans ?_ (ref_at _ _ _ _).symm)
    refine congrArg₂ gated (read2 m c t ht r n) (Finset.sum_congr rfl fun k _ => ?_)
    rw [scratch_at m c t.val t.isLt ht, read1 m c t ht]

/-- The whole array after the last point. -/
theorem final (c : Dev nD) :
    (dats m 0 c).arrAt 3 (cfgs 0).N
      = ref (m ((c.tc : Thread nD τ).loc main_arg0)) (m ((c.tc : Thread nD τ).loc main_arg1)) := by
  refine (dats m 0 c).arrAt_eq_of_covers 3 _ (by decide +kernel) fun t _ y => ?_
  have ht : t.val < 34 := lt_of_lt_of_eq t.isLt points
  blk_simp
  rw [after0_3]
  change S512x1024.Idx at y
  have ey : y = ix2 (y 0) (y 1) := by
    funext a; fin_cases a <;> rfl
  rw [ey]
  refine (out_at m c t ht (y 0) (y 1)).trans ?_
  blk_ext [idx t]

theorem frame_ref : letI := Cert.GluRefIdeal.Gen.facts; Cert.quiescent_GluRefIdeal := fun m g _ =>
  (θ_run Cert.GluRefIdeal.defs _ _).mono (fun r h => ⟨fun c => (h c).2, sem_eq_zero_of_no_sems (by decide) r.2⟩)
    (Cert.GluRefIdeal.Value.run (F := Ideal) m g)

theorem algebraic : letI := Cert.GluIdeal.Gen.facts; letI := Cert.GluRefIdeal.Gen.facts; Cert.algebraic_GluIdeal_GluRefIdeal := by
  pair_intro
  · run_from Cert.GluIdeal.Gen.run_main m g
  · run_from Cert.GluRefIdeal.Value.run m' g'
    exact (final m c).symm

end Cert.GluIdeal.Product

end
-- ==== Proof.LatPrompt.lean ====
/- The prompt rows' latents through the keys' and values' matrix: at a row's first column block the kernel keeps the row's block in a scratch, which the other
   column blocks then multiply. What it leaves is the reference's result. -/
module

public import proofs.«01_k».proof.Defs
public import proofs.«01_k».proof.Proof.Gen.LatPromptIdeal.Frame
public import proofs.«01_k».proof.Proof.Gen.LatPromptRefIdeal.Run
public import Idealize.ShloMosaic.Lib.Claim
public import Idealize.ShloMosaic.Lib.Pipeline.ValueKit

@[expose] public section

set_option maxRecDepth 16384

noncomputable section

namespace Cert.LatPromptRefIdeal.Product

open Cert.LatPromptRefIdeal Cert.LatPromptRefIdeal.Gen Idealize.ShloMosaic Idealize.ShloMosaic.TcCoe Idealize.SL.Sem

/-- The reference's result: the rows through the matrix. -/
def ref (x : FVec Ideal S8704x512 .f32) (w : FVec Ideal S512x4096 .f32) : FVec Ideal S8192x4096 .bf16 :=
  truncf .bf16 (Host.dotGeneral dot_S8192x512_S512x4096_S8192x4096_1_0_0_1_n_n none (extractStridedSlice S8192x512 ![0, 0] x slices_S8704x512_S8192x512_0_0) w) bitsLt_bf16_f32

theorem cast_at {s : Shape} (a : FVec Ideal s .f32) (i : s.Idx) : (truncf .bf16 a bitsLt_bf16_f32 : FVec Ideal s .bf16) i = a i := rfl

theorem dot_at (x : FVec Ideal S8192x512 .f32) (w : FVec Ideal S512x4096 .f32) (r : Fin 8192) (n : Fin 4096) :
    Host.dotGeneral dot_S8192x512_S512x4096_S8192x4096_1_0_0_1_n_n none x w (ix2 r n) = ∑ k : Fin 512, x (ix2 r k) * w (ix2 k n) := by
  pointwise []

theorem first_at (x : FVec Ideal S8704x512 .f32) (r : Fin 8192) (k : Fin 512) :
    extractStridedSlice S8192x512 ![0, 0] x slices_S8704x512_S8192x512_0_0 (ix2 r k) = x (ix2 ⟨r.val, by omega⟩ k) := by
  pointwise []

theorem ref_at (x : FVec Ideal S8704x512 .f32) (w : FVec Ideal S512x4096 .f32) (r : Fin 8192) (n : Fin 4096) :
    ref x w (ix2 r n) = ∑ k : Fin 512, x (ix2 ⟨r.val, by omega⟩ k) * w (ix2 k n) := by
  unfold ref
  rw [cast_at, dot_at]
  simp only [first_at]

end Cert.LatPromptRefIdeal.Product

namespace Cert.LatPromptIdeal.Product

open Cert.LatPromptIdeal Cert.LatPromptIdeal.Gen Cert.LatPromptRefIdeal.Product Idealize.ShloMosaic Idealize.ShloMosaic.TcCoe Idealize.SL.Sem
open Idealize.ShloMosaic.Pipeline (Dat)

theorem pay1_eq (x : Vec Ideal S512x512 .f32) (r : Fin 512) (k : Fin 512) : k0_pay1 (F := Ideal) x (ix2 r k) = x (ix2 r k) := by
  pointwise [k0_pay1]

theorem pay2_at (x : Vec Ideal S512x512 .bf16) (w : Vec Ideal S512x1024 .bf16) (r : Fin 512) (n : Fin 1024) :
    k0_pay2 (F := Ideal) x w (ix2 r n) = ∑ k : Fin 512, x (ix2 r k) * w (ix2 k n) := by
  pointwise [k0_pay2]

variable (m : (ℓ : Loc nD τ sig) → Buf (Elt Ideal) ℓ)

theorem idx : ∀ t : Fin cfg0.N, win0_0.index t = ![t.val / 4, 0] ∧ win0_1.index t = ![0, t.val % 4]
    ∧ win0_2.index t = ![t.val / 4, t.val % 4] :=
  (by decide +kernel : ∀ t : Fin grid0.N, _)

theorem points : cfg0.N = 64 := by decide +kernel

/-- The matrix as the host hands it to the kernel. -/
theorem matrix_at (c : Dev nD) (k : Fin 512) (n : Fin 4096) :
    (V m c main_v0 (ix2 k n) : EReal) = m ((c.tc : Thread nD τ).loc main_arg1) (ix2 k n) := by
  entry_read
  pointwise []

theorem read0 (c : Dev nD) (t : Fin cfg0.N) (ht : t.val < 64) (r : Fin 512) (k : Fin 512) :
    (iblk m c 0 t (ix2 r k) : EReal) = m ((c.tc : Thread nD τ).loc main_arg0) (ix2 ⟨t.val / 4 * 512 + r.val, by omega⟩ k) := by
  blk_ext [iblk, V, idx t]

theorem read1 (c : Dev nD) (t : Fin cfg0.N) (ht : t.val < 64) (k : Fin 512) (n : Fin 1024) :
    (iblk m c 1 t (ix2 k n) : EReal) = m ((c.tc : Thread nD τ).loc main_arg1) (ix2 k ⟨t.val % 4 * 1024 + n.val, by omega⟩) := by
  refine Eq.trans ?_ (matrix_at m c k ⟨t.val % 4 * 1024 + n.val, by omega⟩)
  blk_ext [iblk, idx t]

/-- After a point the scratch holds the point's block of rows. -/
theorem scratch_at (c : Dev nD) : ∀ (n : ℕ) (hn : n < cfg0.N) (h : n < 64) (r : Fin 512) (k : Fin 512),
    ((outsAt0 m c n hn).2 (ix2 r k) : EReal) = m ((c.tc : Thread nD τ).loc main_arg0) (ix2 ⟨n / 4 * 512 + r.val, by omega⟩ k) := by
  intro n
  induction n with
  | zero =>
    intro hn h r k
    rw [show outsAt0 m c 0 hn = _ from outsAt0_A m c ⟨0, hn⟩ rfl]
    refine Eq.trans ?_ (read0 m c ⟨0, hn⟩ h r k)
    refine Eq.trans ?_ (pay1_eq (iblk m c 0 ⟨0, hn⟩) r k)
    frame_out
  | succ n ih =>
    intro hn h r k
    by_cases h0 : (n + 1) % 4 = 0
    · rw [show outsAt0 m c (n + 1) hn = _ from outsAt0_A m c ⟨n + 1, hn⟩ h0]
      refine Eq.trans ?_ (read0 m c ⟨n + 1, hn⟩ h r k)
      refine Eq.trans ?_ (pay1_eq (iblk m c 0 ⟨n + 1, hn⟩) r k)
      frame_out
    · rw [show outsAt0 m c (n + 1) hn = _ from outsAt0_B m c ⟨n + 1, hn⟩ h0]
      refine Eq.trans (b := ((outsAt0 m c n (Nat.lt_of_succ_lt hn)).2 (ix2 r k) : EReal)) ?_ ((ih (Nat.lt_of_succ_lt hn) (by omega) r k).trans ?_)
      · rfl
      · have e : n / 4 = (n + 1) / 4 := by omega
        simp only [e]

/-- What a point leaves in its block: the kept rows against the point's columns. -/
theorem out_at (c : Dev nD) (t : Fin cfg0.N) (ht : t.val < 64) (r : Fin 512) (n : Fin 1024) :
    ((outsAt0 m c t.val t.isLt).1 (ix2 r n) : EReal)
      = ref (m ((c.tc : Thread nD τ).loc main_arg0)) (m ((c.tc : Thread nD τ).loc main_arg1))
          (ix2 ⟨t.val / 4 * 512 + r.val, by omega⟩ ⟨t.val % 4 * 1024 + n.val, by omega⟩) := by
  refine Eq.trans (b := k0_pay2 (F := Ideal) (outsAt0 m c t.val t.isLt).2 (iblk m c 1 t) (ix2 r n)) ?_ ?_
  · by_cases h0 : t.val % 4 = 0
    · rw [outsAt0_A m c t h0]
      frame_out
    · rw [outsAt0_B m c t h0]
      frame_out
      exact congrArg (fun z => k0_pay2 z (iblk m c 1 t) (ix2 r n)) ((Memref.isWhole_whole _).read_unread _)
  · refine (pay2_at _ _ r n).trans (Eq.trans ?_ (ref_at _ _ _ _).symm)
    refine Finset.sum_congr rfl fun k _ => ?_
    rw [scratch_at m c t.val t.isLt ht, read1 m c t ht]

/-- The whole array after the last point. -/
theorem final (c : Dev nD) :
    (dats m 0 c).arrAt 2 (cfgs 0).N
      = ref (m ((c.tc : Thread nD τ).loc main_arg0)) (m ((c.tc : Thread nD τ).loc main_arg1)) := by
  refine (dats m 0 c).arrAt_eq_of_covers 2 _ (by decide +kernel) fun t _ y => ?_
  have ht : t.val < 64 := lt_of_lt_of_eq t.isLt points
  blk_simp
  rw [after0_2]
  change S512x1024.Idx at y
  have ey : y = ix2 (y 0) (y 1) := by
    funext a; fin_cases a <;> rfl
  rw [ey]
  refine (out_at m c t ht (y 0) (y 1)).trans ?_
  blk_ext [idx t]

theorem frame_ref : letI := Cert.LatPromptRefIdeal.Gen.facts; Cert.quiescent_LatPromptRefIdeal := fun m g _ =>
  (θ_run Cert.LatPromptRefIdeal.defs _ _).mono (fun r h => ⟨fun c => (h c).2, sem_eq_zero_of_no_sems (by decide) r.2⟩)
    (Cert.LatPromptRefIdeal.Value.run (F := Ideal) m g)

theorem algebraic : letI := Cert.LatPromptIdeal.Gen.facts; letI := Cert.LatPromptRefIdeal.Gen.facts; Cert.algebraic_LatPromptIdeal_LatPromptRefIdeal := by
  pair_intro
  · run_from Cert.LatPromptIdeal.Gen.run_main m g
  · run_from Cert.LatPromptRefIdeal.Value.run m' g'
    exact (final m c).symm

end Cert.LatPromptIdeal.Product

end
-- ==== Proof.LatSample.lean ====
/- The sample rows' latents through the keys' and values' matrix: at a row's first column block the kernel keeps the row's block in a scratch, which the other
   column blocks then multiply. What it leaves is the reference's result. -/
module

public import proofs.«01_k».proof.Defs
public import proofs.«01_k».proof.Proof.Gen.LatSampleIdeal.Frame
public import proofs.«01_k».proof.Proof.Gen.LatSampleRefIdeal.Run
public import Idealize.ShloMosaic.Lib.Claim
public import Idealize.ShloMosaic.Lib.Pipeline.ValueKit

@[expose] public section

set_option maxRecDepth 16384

noncomputable section

namespace Cert.LatSampleRefIdeal.Product

open Cert.LatSampleRefIdeal Cert.LatSampleRefIdeal.Gen Idealize.ShloMosaic Idealize.ShloMosaic.TcCoe Idealize.SL.Sem

/-- The reference's result: the rows through the matrix. -/
def ref (x : FVec Ideal S16896x512 .f32) (w : FVec Ideal S512x4096 .f32) : FVec Ideal S16896x4096 .bf16 :=
  truncf .bf16 (Host.dotGeneral dot_S16896x512_S512x4096_S16896x4096_1_0_0_1_n_n none x w) bitsLt_bf16_f32

theorem cast_at {s : Shape} (a : FVec Ideal s .f32) (i : s.Idx) : (truncf .bf16 a bitsLt_bf16_f32 : FVec Ideal s .bf16) i = a i := rfl

theorem dot_at (x : FVec Ideal S16896x512 .f32) (w : FVec Ideal S512x4096 .f32) (r : Fin 16896) (n : Fin 4096) :
    Host.dotGeneral dot_S16896x512_S512x4096_S16896x4096_1_0_0_1_n_n none x w (ix2 r n) = ∑ k : Fin 512, x (ix2 r k) * w (ix2 k n) := by
  pointwise []

theorem ref_at (x : FVec Ideal S16896x512 .f32) (w : FVec Ideal S512x4096 .f32) (r : Fin 16896) (n : Fin 4096) :
    ref x w (ix2 r n) = ∑ k : Fin 512, x (ix2 r k) * w (ix2 k n) := by
  unfold ref
  rw [cast_at, dot_at]

end Cert.LatSampleRefIdeal.Product

namespace Cert.LatSampleIdeal.Product

open Cert.LatSampleIdeal Cert.LatSampleIdeal.Gen Cert.LatSampleRefIdeal.Product Idealize.ShloMosaic Idealize.ShloMosaic.TcCoe Idealize.SL.Sem
open Idealize.ShloMosaic.Pipeline (Dat)

theorem pay1_eq (x : Vec Ideal S528x512 .f32) (r : Fin 528) (k : Fin 512) : k0_pay1 (F := Ideal) x (ix2 r k) = x (ix2 r k) := by
  pointwise [k0_pay1]

theorem pay2_at (x : Vec Ideal S528x512 .bf16) (w : Vec Ideal S512x1024 .bf16) (r : Fin 528) (n : Fin 1024) :
    k0_pay2 (F := Ideal) x w (ix2 r n) = ∑ k : Fin 512, x (ix2 r k) * w (ix2 k n) := by
  pointwise [k0_pay2]

variable (m : (ℓ : Loc nD τ sig) → Buf (Elt Ideal) ℓ)

theorem idx : ∀ t : Fin cfg0.N, win0_0.index t = ![t.val / 4, 0] ∧ win0_1.index t = ![0, t.val % 4]
    ∧ win0_2.index t = ![t.val / 4, t.val % 4] :=
  (by decide +kernel : ∀ t : Fin grid0.N, _)

theorem points : cfg0.N = 128 := by decide +kernel

/-- The matrix as the host hands it to the kernel. -/
theorem matrix_at (c : Dev nD) (k : Fin 512) (n : Fin 4096) :
    (V m c main_v0 (ix2 k n) : EReal) = m ((c.tc : Thread nD τ).loc main_arg1) (ix2 k n) := by
  entry_read
  pointwise []

theorem read0 (c : Dev nD) (t : Fin cfg0.N) (ht : t.val < 128) (r : Fin 528) (k : Fin 512) :
    (iblk m c 0 t (ix2 r k) : EReal) = m ((c.tc : Thread nD τ).loc main_arg0) (ix2 ⟨t.val / 4 * 528 + r.val, by omega⟩ k) := by
  blk_ext [iblk, V, idx t]

theorem read1 (c : Dev nD) (t : Fin cfg0.N) (ht : t.val < 128) (k : Fin 512) (n : Fin 1024) :
    (iblk m c 1 t (ix2 k n) : EReal) = m ((c.tc : Thread nD τ).loc main_arg1) (ix2 k ⟨t.val % 4 * 1024 + n.val, by omega⟩) := by
  refine Eq.trans ?_ (matrix_at m c k ⟨t.val % 4 * 1024 + n.val, by omega⟩)
  blk_ext [iblk, idx t]

/-- After a point the scratch holds the point's block of rows. -/
theorem scratch_at (c : Dev nD) : ∀ (n : ℕ) (hn : n < cfg0.N) (h : n < 128) (r : Fin 528) (k : Fin 512),
    ((outsAt0 m c n hn).2 (ix2 r k) : EReal) = m ((c.tc : Thread nD τ).loc main_arg0) (ix2 ⟨n / 4 * 528 + r.val, by omega⟩ k) := by
  intro n
  induction n with
  | zero =>
    intro hn h r k
    rw [show outsAt0 m c 0 hn = _ from outsAt0_A m c ⟨0, hn⟩ rfl]
    refine Eq.trans ?_ (read0 m c ⟨0, hn⟩ h r k)
    refine Eq.trans ?_ (pay1_eq (iblk m c 0 ⟨0, hn⟩) r k)
    frame_out
  | succ n ih =>
    intro hn h r k
    by_cases h0 : (n + 1) % 4 = 0
    · rw [show outsAt0 m c (n + 1) hn = _ from outsAt0_A m c ⟨n + 1, hn⟩ h0]
      refine Eq.trans ?_ (read0 m c ⟨n + 1, hn⟩ h r k)
      refine Eq.trans ?_ (pay1_eq (iblk m c 0 ⟨n + 1, hn⟩) r k)
      frame_out
    · rw [show outsAt0 m c (n + 1) hn = _ from outsAt0_B m c ⟨n + 1, hn⟩ h0]
      refine Eq.trans (b := ((outsAt0 m c n (Nat.lt_of_succ_lt hn)).2 (ix2 r k) : EReal)) ?_ ((ih (Nat.lt_of_succ_lt hn) (by omega) r k).trans ?_)
      · rfl
      · have e : n / 4 = (n + 1) / 4 := by omega
        simp only [e]

/-- What a point leaves in its block: the kept rows against the point's columns. -/
theorem out_at (c : Dev nD) (t : Fin cfg0.N) (ht : t.val < 128) (r : Fin 528) (n : Fin 1024) :
    ((outsAt0 m c t.val t.isLt).1 (ix2 r n) : EReal)
      = ref (m ((c.tc : Thread nD τ).loc main_arg0)) (m ((c.tc : Thread nD τ).loc main_arg1))
          (ix2 ⟨t.val / 4 * 528 + r.val, by omega⟩ ⟨t.val % 4 * 1024 + n.val, by omega⟩) := by
  refine Eq.trans (b := k0_pay2 (F := Ideal) (outsAt0 m c t.val t.isLt).2 (iblk m c 1 t) (ix2 r n)) ?_ ?_
  · by_cases h0 : t.val % 4 = 0
    · rw [outsAt0_A m c t h0]
      frame_out
    · rw [outsAt0_B m c t h0]
      frame_out
      exact congrArg (fun z => k0_pay2 z (iblk m c 1 t) (ix2 r n)) ((Memref.isWhole_whole _).read_unread _)
  · refine (pay2_at _ _ r n).trans (Eq.trans ?_ (ref_at _ _ _ _).symm)
    refine Finset.sum_congr rfl fun k _ => ?_
    rw [scratch_at m c t.val t.isLt ht, read1 m c t ht]

/-- The whole array after the last point. -/
theorem final (c : Dev nD) :
    (dats m 0 c).arrAt 2 (cfgs 0).N
      = ref (m ((c.tc : Thread nD τ).loc main_arg0)) (m ((c.tc : Thread nD τ).loc main_arg1)) := by
  refine (dats m 0 c).arrAt_eq_of_covers 2 _ (by decide +kernel) fun t _ y => ?_
  have ht : t.val < 128 := lt_of_lt_of_eq t.isLt points
  blk_simp
  rw [after0_2]
  change S528x1024.Idx at y
  have ey : y = ix2 (y 0) (y 1) := by
    funext a; fin_cases a <;> rfl
  rw [ey]
  refine (out_at m c t ht (y 0) (y 1)).trans ?_
  blk_ext [idx t]

theorem frame_ref : letI := Cert.LatSampleRefIdeal.Gen.facts; Cert.quiescent_LatSampleRefIdeal := fun m g _ =>
  (θ_run Cert.LatSampleRefIdeal.defs _ _).mono (fun r h => ⟨fun c => (h c).2, sem_eq_zero_of_no_sems (by decide) r.2⟩)
    (Cert.LatSampleRefIdeal.Value.run (F := Ideal) m g)

theorem algebraic : letI := Cert.LatSampleIdeal.Gen.facts; letI := Cert.LatSampleRefIdeal.Gen.facts; Cert.algebraic_LatSampleIdeal_LatSampleRefIdeal := by
  pair_intro
  · run_from Cert.LatSampleIdeal.Gen.run_main m g
  · run_from Cert.LatSampleRefIdeal.Value.run m' g'
    exact (final m c).symm

end Cert.LatSampleIdeal.Product

end
-- ==== Proof.FinalNorm.lean ====
/- The last norm: at a point the kernel norms the block's rows, and the host takes the prompt's rows and the sample group's from
   the array. What they leave is the reference's two results, which norms the two groups apart. -/
module

public import proofs.«01_k».proof.Defs
public import proofs.«01_k».proof.Proof.Gen.FinalNormIdeal.Frame
public import proofs.«01_k».proof.Proof.Gen.FinalNormRefIdeal.Run
public import Idealize.ShloMosaic.Lib.Claim
public import Idealize.ShloMosaic.Lib.Pipeline.ValueKit

@[expose] public section

set_option maxRecDepth 16384

noncomputable section

namespace Cert.FinalNormRefIdeal.Norm

open Cert.FinalNormRefIdeal Cert.FinalNormRefIdeal.Gen Idealize.ShloMosaic Idealize.ShloMosaic.TcCoe Idealize.SL.Sem

/-- An element of a normed row: the row's element over the root of the mean square, times its gain. -/
def normed (x g : Fin 4096 → EReal) (k : Fin 4096) : EReal :=
  x k * Ideal.rsqrt (Ideal.div (∑ j : Fin 4096, x j * x j) (Ideal.ofBits .f32 0x45800000#32) + Ideal.ofBits .f32 0x358637BD#32) * g k

theorem mul_at {s : Shape} (a b : FVec Ideal s .f32) (i : s.Idx) : mulf a b i = a i * b i := rfl

/-- The prompt's row factors, one for a row. -/
def promptFactors (x : FVec Ideal S1x8192x4096 .f32) : FVec Ideal S1x8192x1 .f32 :=
  Host.rsqrt (addf (Host.divf (broadcastInDim S1x8192x1 ![0, 1] bcast_S1x8192_S1x8192x1_0_1 (Host.reduceAdd (mulf x x) (constant S_ .f32 0x00000000#32) reducesTo_S1x8192x4096_S1x8192_d2 h_S_)) (broadcastInDim S1x8192x1 ![] bcast_S_S1x8192x1 (constant S_ .f32 0x45800000#32))) (broadcastInDim S1x8192x1 ![] bcast_S_S1x8192x1 (constant S_ .f32 0x358637BD#32)))

/-- The prompt's normed rows. -/
def promptRows (x : FVec Ideal S1x8192x4096 .f32) (g : FVec Ideal S4096 .f32) : FVec Ideal S1x8192x4096 .f32 :=
  mulf (mulf x (broadcastInDim S1x8192x4096 ![0, 1, 2] bcast_S1x8192x1_S1x8192x4096_0_1_2 (promptFactors x)))
    (broadcastInDim S1x8192x4096 ![0, 1, 2] bcast_S1x1x4096_S1x8192x4096_0_1_2 (broadcastInDim S1x1x4096 ![2] bcast_S4096_S1x1x4096_2 g))

/-- The prompt's result: its rows taken from all rows, and normed. -/
def prompt (x : FVec Ideal S8704x4096 .f32) (g : FVec Ideal S4096 .f32) : FVec Ideal S1x8192x4096 .f32 :=
  promptRows (shapeCast _ (extractStridedSlice S8192x4096 ![0, 0] x slices_S8704x4096_S8192x4096_0_0) shapeCasts_S8192x4096_S1x8192x4096) g

theorem prompt_sum_at (x : FVec Ideal S1x8192x4096 .f32) (r : Fin 8192) :
    Host.reduceAdd x (constant S_ .f32 0x00000000#32) reducesTo_S1x8192x4096_S1x8192_d2 h_S_ (ix2 0 r) = ∑ j : Fin 4096, x (ix3 0 r j) := by
  pointwise []

theorem prompt_factor_at (s : FVec Ideal S1x8192 .f32) (r : Fin 8192) :
    Host.rsqrt (addf (Host.divf (broadcastInDim S1x8192x1 ![0, 1] bcast_S1x8192_S1x8192x1_0_1 s) (broadcastInDim S1x8192x1 ![] bcast_S_S1x8192x1 (constant S_ .f32 0x45800000#32))) (broadcastInDim S1x8192x1 ![] bcast_S_S1x8192x1 (constant S_ .f32 0x358637BD#32))) (ix3 0 r 0)
      = Ideal.rsqrt (Ideal.div (s (ix2 0 r)) (Ideal.ofBits .f32 0x45800000#32) + Ideal.ofBits .f32 0x358637BD#32) := by
  pointwise []

theorem prompt_spread_at (f : FVec Ideal S1x8192x1 .f32) (r : Fin 8192) (k : Fin 4096) :
    broadcastInDim S1x8192x4096 ![0, 1, 2] bcast_S1x8192x1_S1x8192x4096_0_1_2 f (ix3 0 r k) = f (ix3 0 r 0) := by
  pointwise []

theorem prompt_gain_at (g : FVec Ideal S4096 .f32) (r : Fin 8192) (k : Fin 4096) :
    broadcastInDim S1x8192x4096 ![0, 1, 2] bcast_S1x1x4096_S1x8192x4096_0_1_2 (broadcastInDim S1x1x4096 ![2] bcast_S4096_S1x1x4096_2 g) (ix3 0 r k) = g (ix1 k) := by
  pointwise []

theorem promptRows_at (x : FVec Ideal S1x8192x4096 .f32) (g : FVec Ideal S4096 .f32) (r : Fin 8192) (k : Fin 4096) :
    promptRows x g (ix3 0 r k) = normed (fun j => x (ix3 0 r j)) (fun j => g (ix1 j)) k := by
  unfold promptRows promptFactors normed
  rw [mul_at, mul_at, prompt_spread_at, prompt_gain_at, prompt_factor_at, prompt_sum_at]
  rfl

/-- Where a row of the prompt's lies among all rows. -/
theorem prompt_take_at (x : FVec Ideal S8704x4096 .f32) (r : Fin 8192) (k : Fin 4096) :
    (shapeCast S1x8192x4096 (extractStridedSlice S8192x4096 ![0, 0] x slices_S8704x4096_S8192x4096_0_0) shapeCasts_S8192x4096_S1x8192x4096 : FVec Ideal S1x8192x4096 .f32) (ix3 0 r k)
      = x (ix2 ⟨r.val, by omega⟩ k) := by
  pointwise []

theorem prompt_at (x : FVec Ideal S8704x4096 .f32) (g : FVec Ideal S4096 .f32) (r : Fin 8192) (k : Fin 4096) :
    prompt x g (ix3 0 r k) = normed (fun j => x (ix2 ⟨r.val, by omega⟩ j)) (fun j => g (ix1 j)) k := by
  unfold prompt
  rw [promptRows_at]
  simp only [prompt_take_at]

/-- The sample group's row factors, one for a row. -/
def sampleFactors (x : FVec Ideal S16x32x4096 .f32) : FVec Ideal S16x32x1 .f32 :=
  Host.rsqrt (addf (Host.divf (broadcastInDim S16x32x1 ![0, 1] bcast_S16x32_S16x32x1_0_1 (Host.reduceAdd (mulf x x) (constant S_ .f32 0x00000000#32) reducesTo_S16x32x4096_S16x32_d2 h_S_)) (broadcastInDim S16x32x1 ![] bcast_S_S16x32x1 (constant S_ .f32 0x45800000#32))) (broadcastInDim S16x32x1 ![] bcast_S_S16x32x1 (constant S_ .f32 0x358637BD#32)))

/-- The sample group's normed rows. -/
def sampleRows (x : FVec Ideal S16x32x4096 .f32) (g : FVec Ideal S4096 .f32) : FVec Ideal S16x32x4096 .f32 :=
  mulf (mulf x (broadcastInDim S16x32x4096 ![0, 1, 2] bcast_S16x32x1_S16x32x4096_0_1_2 (sampleFactors x)))
    (broadcastInDim S16x32x4096 ![0, 1, 2] bcast_S1x1x4096_S16x32x4096_0_1_2 (broadcastInDim S1x1x4096 ![2] bcast_S4096_S1x1x4096_2 g))

/-- The sample group's result: its rows taken from all rows, and normed. -/
def sample (x : FVec Ideal S8704x4096 .f32) (g : FVec Ideal S4096 .f32) : FVec Ideal S16x32x4096 .f32 :=
  sampleRows (shapeCast _ (extractStridedSlice S512x4096 ![8192, 0] x slices_S8704x4096_S512x4096_8192_0) shapeCasts_S512x4096_S16x32x4096) g

theorem sample_sum_at (x : FVec Ideal S16x32x4096 .f32) (b : Fin 16) (r : Fin 32) :
    Host.reduceAdd x (constant S_ .f32 0x00000000#32) reducesTo_S16x32x4096_S16x32_d2 h_S_ (ix2 b r) = ∑ j : Fin 4096, x (ix3 b r j) := by
  pointwise []

theorem sample_factor_at (s : FVec Ideal S16x32 .f32) (b : Fin 16) (r : Fin 32) :
    Host.rsqrt (addf (Host.divf (broadcastInDim S16x32x1 ![0, 1] bcast_S16x32_S16x32x1_0_1 s) (broadcastInDim S16x32x1 ![] bcast_S_S16x32x1 (constant S_ .f32 0x45800000#32))) (broadcastInDim S16x32x1 ![] bcast_S_S16x32x1 (constant S_ .f32 0x358637BD#32))) (ix3 b r 0)
      = Ideal.rsqrt (Ideal.div (s (ix2 b r)) (Ideal.ofBits .f32 0x45800000#32) + Ideal.ofBits .f32 0x358637BD#32) := by
  pointwise []

theorem sample_spread_at (f : FVec Ideal S16x32x1 .f32) (b : Fin 16) (r : Fin 32) (k : Fin 4096) :
    broadcastInDim S16x32x4096 ![0, 1, 2] bcast_S16x32x1_S16x32x4096_0_1_2 f (ix3 b r k) = f (ix3 b r 0) := by
  pointwise []

theorem sample_gain_at (g : FVec Ideal S4096 .f32) (b : Fin 16) (r : Fin 32) (k : Fin 4096) :
    broadcastInDim S16x32x4096 ![0, 1, 2] bcast_S1x1x4096_S16x32x4096_0_1_2 (broadcastInDim S1x1x4096 ![2] bcast_S4096_S1x1x4096_2 g) (ix3 b r k) = g (ix1 k) := by
  pointwise []

theorem sampleRows_at (x : FVec Ideal S16x32x4096 .f32) (g : FVec Ideal S4096 .f32) (b : Fin 16) (r : Fin 32) (k : Fin 4096) :
    sampleRows x g (ix3 b r k) = normed (fun j => x (ix3 b r j)) (fun j => g (ix1 j)) k := by
  unfold sampleRows sampleFactors normed
  rw [mul_at, mul_at, sample_spread_at, sample_gain_at, sample_factor_at, sample_sum_at]
  rfl

/-- Where a row of the sample group's lies among all rows. -/
theorem sample_take_at (x : FVec Ideal S8704x4096 .f32) (b : Fin 16) (r : Fin 32) (k : Fin 4096) :
    (shapeCast S16x32x4096 (extractStridedSlice S512x4096 ![8192, 0] x slices_S8704x4096_S512x4096_8192_0) shapeCasts_S512x4096_S16x32x4096 : FVec Ideal S16x32x4096 .f32) (ix3 b r k)
      = x (ix2 ⟨8192 + (b.val * 32 + r.val), by omega⟩ k) := by
  pointwise []

theorem sample_at (x : FVec Ideal S8704x4096 .f32) (g : FVec Ideal S4096 .f32) (b : Fin 16) (r : Fin 32) (k : Fin 4096) :
    sample x g (ix3 b r k) = normed (fun j => x (ix2 ⟨8192 + (b.val * 32 + r.val), by omega⟩ j)) (fun j => g (ix1 j)) k := by
  unfold sample
  rw [sampleRows_at]
  simp only [sample_take_at]

end Cert.FinalNormRefIdeal.Norm

namespace Cert.FinalNormIdeal.Norm

open Cert.FinalNormIdeal Cert.FinalNormIdeal.Gen Cert.FinalNormRefIdeal.Norm Idealize.ShloMosaic Idealize.ShloMosaic.TcCoe Idealize.SL.Sem
open Idealize.ShloMosaic.Pipeline (Dat)

theorem pay1_at (x : Vec Ideal S256x4096 .f32) (g : Vec Ideal S1x4096 .f32) (r : Fin 256) (k : Fin 4096) :
    k0_pay1 (F := Ideal) x g (ix2 r k) = normed (fun j => x (ix2 r j)) (fun j => g (ix2 0 j)) k := by
  unfold normed
  pointwise [k0_pay1]

/-- All rows, normed. -/
def whole (x : FVec Ideal S8704x4096 .f32) (g : FVec Ideal S4096 .f32) : FVec Ideal S8704x4096 .f32 :=
  fun i => normed (fun j => x (ix2 (i 0) j)) (fun j => g (ix1 j)) (i 1)

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

theorem points : cfg0.N = 34 := by decide +kernel

/-- The gain as the host hands it to the kernel. -/
theorem gains_at (c : Dev nD) (k : Fin 4096) :
    (V m c main_v0 (ix2 0 k) : EReal) = m ((c.tc : Thread nD τ).loc main_arg1) (ix1 k) := by
  show StableHlo.after hostOps0 (fun b => m (c, b)) (Proc.devRef .tc main_v0) (ix2 0 k) = _
  after_results
  pointwise []

theorem read0 (c : Dev nD) (t : Fin cfg0.N) (ht : t.val < 34) (r : Fin 256) (k : Fin 4096) :
    (iblk m c 0 t (ix2 r k) : EReal) = m ((c.tc : Thread nD τ).loc main_arg0) (ix2 ⟨t.val * 256 + r.val, by omega⟩ k) := by
  blk_ext [iblk, V, idx t]

theorem read1 (c : Dev nD) (t : Fin cfg0.N) (k : Fin 4096) :
    (iblk m c 1 t (ix2 0 k) : EReal) = m ((c.tc : Thread nD τ).loc main_arg1) (ix1 k) := by
  refine Eq.trans ?_ (gains_at m c k)
  blk_ext [iblk, idx t]

/-- What a point leaves in its block: its rows, normed. -/
theorem out_at (c : Dev nD) (t : Fin cfg0.N) (ht : t.val < 34) (r : Fin 256) (k : Fin 4096) :
    (out0_2 (iblk m c 0 t) (iblk m c 1 t) (ix2 r k) : EReal)
      = whole (m ((c.tc : Thread nD τ).loc main_arg0)) (m ((c.tc : Thread nD τ).loc main_arg1)) (ix2 ⟨t.val * 256 + r.val, by omega⟩ k) := by
  refine Eq.trans (b := k0_pay1 (F := Ideal) (iblk m c 0 t) (iblk m c 1 t) (ix2 r k)) ?_ ?_
  · unfold out0_2
    frame_out
  · exact (pay1_at _ _ r k).trans (congrArg₂ (fun x g => normed x g k) (funext fun j => read0 m c t ht r j) (funext fun j => read1 m c t j))

/-- The whole array after the last point. -/
theorem final (c : Dev nD) :
    (dats m 0 c).arrAt 2 (cfgs 0).N
      = whole (m ((c.tc : Thread nD τ).loc main_arg0)) (m ((c.tc : Thread nD τ).loc main_arg1)) := by
  refine (dats m 0 c).arrAt_eq_of_covers 2 _ (by decide +kernel) fun t _ y => ?_
  have ht : t.val < 34 := lt_of_lt_of_eq t.isLt points
  blk_simp
  rw [after0_2]
  change S256x4096.Idx at y
  have ey : y = ix2 (y 0) (y 1) := by
    funext a; fin_cases a <;> rfl
  rw [ey]
  refine (out_at m c t ht (y 0) (y 1)).trans ?_
  blk_ext [idx t]

/-- What the host takes as the prompt's rows. -/
theorem host_prompt (x : FVec Ideal S8704x4096 .f32) (g : FVec Ideal S4096 .f32) :
    shapeCast S1x8192x4096 (extractStridedSlice S8192x4096 ![0, 0] (whole x g) slices_S8704x4096_S8192x4096_0_0) shapeCasts_S8192x4096_S1x8192x4096 = prompt x g := by
  funext i
  have e : i = ix3 0 (i 1) (i 2) := by
    funext a; fin_cases a <;> first | rfl | exact Subsingleton.elim (α := Fin 1) _ _
  rw [e]
  exact (prompt_take_at (whole x g) (i 1) (i 2)).trans (prompt_at x g (i 1) (i 2)).symm

/-- What the host takes as the sample group's rows. -/
theorem host_sample (x : FVec Ideal S8704x4096 .f32) (g : FVec Ideal S4096 .f32) :
    shapeCast S16x32x4096 (extractStridedSlice S512x4096 ![8192, 0] (whole x g) slices_S8704x4096_S512x4096_8192_0) shapeCasts_S512x4096_S16x32x4096 = sample x g := by
  funext i
  have e : i = ix3 (i 0) (i 1) (i 2) := by
    funext a; fin_cases a <;> rfl
  rw [e]
  exact (sample_take_at (whole x g) (i 0) (i 1) (i 2)).trans (sample_at x g (i 0) (i 1) (i 2)).symm

/-- The norm's array when the region is over. -/
theorem region (c : Dev nD) :
    Pipeline.withArrays (cfgs 0).spec c (V0 m c) (fun w => (dats m 0 c).arrAt w (cfgs 0).N) (Proc.devRef .tc main_v1)
      = (dats m 0 c).arrAt 2 (cfgs 0).N :=
  Pipeline.withArrays_arr spec0 winFacts0.arr_inj c (V0 m c) (fun w => (dats m 0 c).arrAt w (cfgs 0).N) 2

/-- The first result. -/
theorem end_prompt (c : Dev nD) :
    Pipeline.afterTail₀ cfgs (dats m) 0 (V0 m) [hostOps1] c main_v3
      = prompt (m ((c.tc : Thread nD τ).loc main_arg0)) (m ((c.tc : Thread nD τ).loc main_arg1)) := by
  rw [← host_prompt, ← final m c, ← region m c]
  unfold Pipeline.afterTail₀
  show StableHlo.after hostOps1 _ (Proc.devRef .tc main_v3) = _
  after_results
  rfl

/-- The second result. -/
theorem end_sample (c : Dev nD) :
    Pipeline.afterTail₀ cfgs (dats m) 0 (V0 m) [hostOps1] c main_v5
      = sample (m ((c.tc : Thread nD τ).loc main_arg0)) (m ((c.tc : Thread nD τ).loc main_arg1)) := by
  rw [← host_sample, ← final m c, ← region m c]
  unfold Pipeline.afterTail₀
  show StableHlo.after hostOps1 _ (Proc.devRef .tc main_v5) = _
  after_results
  rfl

theorem frame_ref : letI := Cert.FinalNormRefIdeal.Gen.facts; Cert.quiescent_FinalNormRefIdeal := fun m g _ =>
  (θ_run Cert.FinalNormRefIdeal.defs _ _).mono (fun r h => ⟨fun c => (h c).2.2, sem_eq_zero_of_no_sems (by decide) r.2⟩)
    (Cert.FinalNormRefIdeal.Value.run (F := Ideal) m g)

theorem algebraic : letI := Cert.FinalNormIdeal.Gen.facts; letI := Cert.FinalNormRefIdeal.Gen.facts; Cert.algebraic_FinalNormIdeal_FinalNormRefIdeal := by
  pair_intro
  · run_from Cert.FinalNormIdeal.Gen.run_main m g
    · exact W_main_arg1 m (dats m) c
  · run_from Cert.FinalNormRefIdeal.Value.run m' g'
    · exact (end_prompt m c).symm
    · exact (end_sample m c).symm

end Cert.FinalNormIdeal.Norm

end
-- ==== Proof.AttPost.lean ====
/- The latents' norm and the shared rotary keys' rotation: at a point the kernel norms the block's latents, multiplies the key's
   128 lanes by the table's and adds to them the lanes 64 away, and keeps the first 64 lanes, the others zero, as the keys the
   attention reads. What it leaves is the reference's three results. -/
module

public import proofs.«01_k».proof.Defs
public import proofs.«01_k».proof.Proof.Gen.AttPostIdeal.Frame
public import proofs.«01_k».proof.Proof.Gen.AttPostRefIdeal.Run
public import Idealize.ShloMosaic.Lib.Claim
public import Idealize.ShloMosaic.Lib.Pipeline.ValueKit

@[expose] public section

set_option maxRecDepth 16384

noncomputable section

namespace Cert.AttPostRefIdeal.Norm

open Cert.AttPostRefIdeal Cert.AttPostRefIdeal.Gen Idealize.ShloMosaic Idealize.ShloMosaic.TcCoe Idealize.SL.Sem

/-- An element of a normed row: the row's element over the root of the mean square, times its gain. -/
def normed (x g : Fin 512 → EReal) (k : Fin 512) : EReal :=
  x k * Ideal.rsqrt (Ideal.div (∑ j : Fin 512, x j * x j) (Ideal.ofBits .f32 0x44000000#32) + Ideal.ofBits .f32 0x358637BD#32) * g k

/-- The raw latents among the product's columns. -/
def raw (z : FVec Ideal S8704x8192 .f32) : FVec Ideal S8704x512 .f32 :=
  extractStridedSlice S8704x512 ![0, 1024] z slices_S8704x8192_S8704x512_0_1024

/-- The reference's row factors, one for a row. -/
def factors (x : FVec Ideal S8704x512 .f32) : FVec Ideal S8704x1 .f32 :=
  Host.rsqrt (addf (Host.divf (broadcastInDim S8704x1 ![0] bcast_S8704_S8704x1_0 (Host.reduceAdd (mulf x x) (constant S_ .f32 0x00000000#32) reducesTo_S8704x512_S8704_d1 h_S_)) (broadcastInDim S8704x1 ![] bcast_S_S8704x1 (constant S_ .f32 0x44000000#32))) (broadcastInDim S8704x1 ![] bcast_S_S8704x1 (constant S_ .f32 0x358637BD#32)))

/-- The reference's normed rows. -/
def rows (x : FVec Ideal S8704x512 .f32) (g : FVec Ideal S512 .f32) : FVec Ideal S8704x512 .f32 :=
  mulf (mulf x (broadcastInDim S8704x512 ![0, 1] bcast_S8704x1_S8704x512_0_1 (factors x)))
    (broadcastInDim S8704x512 ![0, 1] bcast_S1x512_S8704x512_0_1 (broadcastInDim S1x512 ![1] bcast_S512_S1x512_1 g))

/-- The reference's first result: the latents. -/
def latents (z : FVec Ideal S8704x8192 .f32) (g : FVec Ideal S512 .f32) : FVec Ideal S8704x512 .f32 := rows (raw z) g

/-- The reference's second result: the rotated keys. -/
def keys (z : FVec Ideal S8704x8192 .f32) (cs : FVec Ideal S8704x128 .f32) : FVec Ideal S8704x64 .f32 :=
  addf (mulf (extractStridedSlice S8704x64 ![0, 1536] z slices_S8704x8192_S8704x64_0_1536) (extractStridedSlice S8704x64 ![0, 0] cs slices_S8704x128_S8704x64_0_0))
    (mulf (extractStridedSlice S8704x64 ![0, 1600] z slices_S8704x8192_S8704x64_0_1600) (extractStridedSlice S8704x64 ![0, 64] cs slices_S8704x128_S8704x64_0_64))

/-- The reference's third result, of the rotated keys: them and as many zeros. -/
def padded (k : FVec Ideal S8704x64 .f32) : FVec Ideal S8704x128 .bf16 :=
  concatenate S8704x128 1 [⟨S8704x64, truncf .bf16 k bitsLt_bf16_f32⟩, ⟨S8704x64, broadcastInDim S8704x64 ![] bcast_S_S8704x64 (constant S_ .bf16 0x0000#16)⟩] concatenates_S8704x64_S8704x64_S8704x128_d1

theorem mul_at {s : Shape} (a b : FVec Ideal s .f32) (i : s.Idx) : mulf a b i = a i * b i := rfl

theorem sum_at (x : FVec Ideal S8704x512 .f32) (r : Fin 8704) :
    Host.reduceAdd x (constant S_ .f32 0x00000000#32) reducesTo_S8704x512_S8704_d1 h_S_ (ix1 r) = ∑ j : Fin 512, x (ix2 r j) := by
  pointwise []

theorem factor_at (s : FVec Ideal S8704 .f32) (r : Fin 8704) :
    Host.rsqrt (addf (Host.divf (broadcastInDim S8704x1 ![0] bcast_S8704_S8704x1_0 s) (broadcastInDim S8704x1 ![] bcast_S_S8704x1 (constant S_ .f32 0x44000000#32))) (broadcastInDim S8704x1 ![] bcast_S_S8704x1 (constant S_ .f32 0x358637BD#32))) (ix2 r 0)
      = Ideal.rsqrt (Ideal.div (s (ix1 r)) (Ideal.ofBits .f32 0x44000000#32) + Ideal.ofBits .f32 0x358637BD#32) := by
  pointwise []

theorem spread_at (f : FVec Ideal S8704x1 .f32) (r : Fin 8704) (k : Fin 512) :
    broadcastInDim S8704x512 ![0, 1] bcast_S8704x1_S8704x512_0_1 f (ix2 r k) = f (ix2 r 0) := by
  pointwise []

theorem gain_at (g : FVec Ideal S512 .f32) (r : Fin 8704) (k : Fin 512) :
    broadcastInDim S8704x512 ![0, 1] bcast_S1x512_S8704x512_0_1 (broadcastInDim S1x512 ![1] bcast_S512_S1x512_1 g) (ix2 r k) = g (ix1 k) := by
  pointwise []

theorem rows_at (x : FVec Ideal S8704x512 .f32) (g : FVec Ideal S512 .f32) (r : Fin 8704) (k : Fin 512) :
    rows x g (ix2 r k) = normed (fun j => x (ix2 r j)) (fun j => g (ix1 j)) k := by
  unfold rows factors normed
  rw [mul_at, mul_at, spread_at, gain_at, factor_at, sum_at]
  rfl

theorem raw_at (z : FVec Ideal S8704x8192 .f32) (r : Fin 8704) (k : Fin 512) : raw z (ix2 r k) = z (ix2 r ⟨1024 + k.val, by omega⟩) := by
  pointwise [raw]

theorem latents_at (z : FVec Ideal S8704x8192 .f32) (g : FVec Ideal S512 .f32) (r : Fin 8704) (k : Fin 512) :
    latents z g (ix2 r k) = normed (fun j => z (ix2 r ⟨1024 + j.val, by omega⟩)) (fun j => g (ix1 j)) k := by
  unfold latents
  rw [rows_at]
  simp only [raw_at]

theorem keys_at (z : FVec Ideal S8704x8192 .f32) (cs : FVec Ideal S8704x128 .f32) (r : Fin 8704) (x : Fin 64) :
    keys z cs (ix2 r x) = z (ix2 r ⟨1536 + x.val, by omega⟩) * cs (ix2 r ⟨x.val, by omega⟩)
      + z (ix2 r ⟨1600 + x.val, by omega⟩) * cs (ix2 r ⟨64 + x.val, by omega⟩) := by
  pointwise [keys]

theorem padded_low (k : FVec Ideal S8704x64 .f32) (r : Fin 8704) (x : Fin 128) (hx : x.val < 64) :
    padded k (ix2 r x) = k (ix2 r ⟨x.val, hx⟩) := by
  pointwise [padded]
  rw [dif_pos hx]

theorem padded_high (k : FVec Ideal S8704x64 .f32) (r : Fin 8704) (x : Fin 128) (hx : ¬ x.val < 64) :
    padded k (ix2 r x) = (0 : EReal) := by
  pointwise [padded]
  rw [dif_neg hx]

end Cert.AttPostRefIdeal.Norm

namespace Cert.AttPostIdeal.Norm

open Cert.AttPostIdeal Cert.AttPostIdeal.Gen Cert.AttPostRefIdeal.Norm Idealize.ShloMosaic Idealize.ShloMosaic.TcCoe Idealize.SL.Sem
open Idealize.ShloMosaic.Pipeline (Dat)

/-- The lane 64 away. -/
def far (x : Fin 128) : Fin 128 := ⟨(x.val + 128 - 64) % 128, by omega⟩

theorem pay1_at (x : Vec Ideal S512x512 .f32) (g : Vec Ideal S1x512 .f32) (r : Fin 512) (k : Fin 512) :
    k0_pay1 (F := Ideal) x g (ix2 r k) = normed (fun j => x (ix2 r j)) (fun j => g (ix2 0 j)) k := by
  unfold normed
  pointwise [k0_pay1]

theorem pay2_at (k cs : Vec Ideal S512x128 .f32) (r : Fin 512) (x : Fin 128) :
    k0_pay2 (F := Ideal) k cs (ix2 r x) = (k (ix2 r x) : EReal) * cs (ix2 r x) + k (ix2 r (far x)) * cs (ix2 r (far x)) := by
  unfold far
  pointwise [k0_pay2]

/-- The lanes the kernel keeps. -/
theorem lane_iff (x : Fin 128) : IntOp.cmpi .slt (BitVec.ofNat 32 x.val) 64#32 = 1#1 ↔ x.val < 64 :=
  WordCmp.cmpi_slt_ofNat_eq_one_iff (w := 32) (a := x.val) (b := 64) (by omega) (by omega)

theorem pay3_low (k cs : Vec Ideal S512x128 .f32) (r : Fin 512) (x : Fin 128) (hx : x.val < 64) :
    k0_pay3 (F := Ideal) k cs (ix2 r x) = k0_pay2 (F := Ideal) k cs (ix2 r x) := by
  pointwise [k0_pay3]
  exact if_pos ((lane_iff x).2 hx)

theorem pay3_high (k cs : Vec Ideal S512x128 .f32) (r : Fin 512) (x : Fin 128) (hx : ¬ x.val < 64) :
    k0_pay3 (F := Ideal) k cs (ix2 r x) = (0 : EReal) := by
  pointwise [k0_pay3]
  exact if_neg fun h => hx ((lane_iff x).1 h)

/-- All 128 lanes of the rotated keys, as the kernel leaves them. -/
def turned (z : FVec Ideal S8704x8192 .f32) (cs : FVec Ideal S8704x128 .f32) (r : Fin 8704) (x : Fin 128) : EReal :=
  z (ix2 r ⟨1536 + x.val, by omega⟩) * cs (ix2 r x) + z (ix2 r ⟨1536 + (far x).val, by omega⟩) * cs (ix2 r (far x))

theorem turned_low (z : FVec Ideal S8704x8192 .f32) (cs : FVec Ideal S8704x128 .f32) (r : Fin 8704) (x : Fin 128) (hx : x.val < 64) :
    turned z cs r x = keys z cs (ix2 r ⟨x.val, hx⟩) := by
  have e : far x = ⟨64 + x.val, by omega⟩ := Fin.ext (by show (x.val + 128 - 64) % 128 = 64 + x.val; omega)
  refine Eq.trans ?_ (keys_at z cs r ⟨x.val, hx⟩).symm
  refine (congrArg (fun y : Fin 128 => z (ix2 r ⟨1536 + x.val, by omega⟩) * cs (ix2 r x) + z (ix2 r ⟨1536 + y.val, by omega⟩) * cs (ix2 r y)) e).trans ?_
  have e2 : (⟨1536 + (64 + x.val), by omega⟩ : Fin 8192) = ⟨1600 + x.val, by omega⟩ := Fin.ext (by show 1536 + (64 + x.val) = 1600 + x.val; omega)
  exact congrArg (fun n => z (ix2 r ⟨1536 + x.val, by omega⟩) * cs (ix2 r x) + z (ix2 r n) * cs (ix2 r ⟨64 + x.val, by omega⟩)) e2

/-- The array of the 128 lanes. -/
def lanes (z : FVec Ideal S8704x8192 .f32) (cs : FVec Ideal S8704x128 .f32) : FVec Ideal S8704x128 .f32 :=
  fun i => turned z cs (i 0) (i 1)

theorem lanes_at (z : FVec Ideal S8704x8192 .f32) (cs : FVec Ideal S8704x128 .f32) (r : Fin 8704) (x : Fin 128) :
    lanes z cs (ix2 r x) = turned z cs r x := rfl

variable (m : (ℓ : Loc nD τ sig) → Buf (Elt Ideal) ℓ)

theorem idx : ∀ t : Fin cfg0.N, win0_0.index t = ![t.val, 2] ∧ win0_1.index t = ![t.val, 12] ∧ win0_2.index t = ![0, 0]
    ∧ win0_3.index t = ![t.val, 0] ∧ win0_4.index t = ![t.val, 0] ∧ win0_5.index t = ![t.val, 0] ∧ win0_6.index t = ![t.val, 0] :=
  (by decide +kernel : ∀ t : Fin grid0.N, _)

theorem points : cfg0.N = 17 := by decide +kernel

/-- The gain as the host hands it to the kernel. -/
theorem gains_at (c : Dev nD) (k : Fin 512) :
    (V m c main_v0 (ix2 0 k) : EReal) = m ((c.tc : Thread nD τ).loc main_arg1) (ix1 k) := by
  show StableHlo.after hostOps0 (fun b => m (c, b)) (Proc.devRef .tc main_v0) (ix2 0 k) = _
  after_results
  pointwise []

theorem read0 (c : Dev nD) (t : Fin cfg0.N) (ht : t.val < 17) (r : Fin 512) (k : Fin 512) :
    (iblk m c 0 t (ix2 r k) : EReal) = m ((c.tc : Thread nD τ).loc main_arg0) (ix2 ⟨t.val * 512 + r.val, by omega⟩ ⟨1024 + k.val, by omega⟩) := by
  blk_ext [iblk, V, idx t]

theorem read1 (c : Dev nD) (t : Fin cfg0.N) (ht : t.val < 17) (r : Fin 512) (x : Fin 128) :
    (iblk m c 1 t (ix2 r x) : EReal) = m ((c.tc : Thread nD τ).loc main_arg0) (ix2 ⟨t.val * 512 + r.val, by omega⟩ ⟨1536 + x.val, by omega⟩) := by
  blk_ext [iblk, V, idx t]

theorem read2 (c : Dev nD) (t : Fin cfg0.N) (k : Fin 512) :
    (iblk m c 2 t (ix2 0 k) : EReal) = m ((c.tc : Thread nD τ).loc main_arg1) (ix1 k) := by
  refine Eq.trans ?_ (gains_at m c k)
  blk_ext [iblk, idx t]

theorem read3 (c : Dev nD) (t : Fin cfg0.N) (ht : t.val < 17) (r : Fin 512) (x : Fin 128) :
    (iblk m c 3 t (ix2 r x) : EReal) = m ((c.tc : Thread nD τ).loc main_arg2) (ix2 ⟨t.val * 512 + r.val, by omega⟩ x) := by
  blk_ext [iblk, V, idx t]

/-- What a point leaves of the latents: its rows, normed. -/
theorem latents_out (c : Dev nD) (t : Fin cfg0.N) (ht : t.val < 17) (r : Fin 512) (k : Fin 512) :
    (out0_4 (iblk m c 0 t) (iblk m c 1 t) (iblk m c 2 t) (iblk m c 3 t) (ix2 r k) : EReal)
      = latents (m ((c.tc : Thread nD τ).loc main_arg0)) (m ((c.tc : Thread nD τ).loc main_arg1)) (ix2 ⟨t.val * 512 + r.val, by omega⟩ k) := by
  refine Eq.trans (b := k0_pay1 (F := Ideal) (iblk m c 0 t) (iblk m c 2 t) (ix2 r k)) ?_ ?_
  · unfold out0_4
    frame_out
  · refine ((pay1_at _ _ r k).trans ?_).trans (latents_at _ _ _ _).symm
    exact congrArg₂ (fun x g => normed x g k) (funext fun j => read0 m c t ht r j) (funext fun j => read2 m c t j)

/-- The rotation over a point's blocks. -/
theorem turned_out (c : Dev nD) (t : Fin cfg0.N) (ht : t.val < 17) (r : Fin 512) (x : Fin 128) :
    k0_pay2 (F := Ideal) (iblk m c 1 t) (iblk m c 3 t) (ix2 r x)
      = turned (m ((c.tc : Thread nD τ).loc main_arg0)) (m ((c.tc : Thread nD τ).loc main_arg2)) ⟨t.val * 512 + r.val, by omega⟩ x := by
  refine (pay2_at _ _ r x).trans ?_
  rw [read1 m c t ht, read1 m c t ht, read3 m c t ht, read3 m c t ht]
  rfl

/-- What a point leaves of the keys' 128 lanes. -/
theorem lanes_out (c : Dev nD) (t : Fin cfg0.N) (ht : t.val < 17) (r : Fin 512) (x : Fin 128) :
    (out0_5 (iblk m c 0 t) (iblk m c 1 t) (iblk m c 2 t) (iblk m c 3 t) (ix2 r x) : EReal)
      = turned (m ((c.tc : Thread nD τ).loc main_arg0)) (m ((c.tc : Thread nD τ).loc main_arg2)) ⟨t.val * 512 + r.val, by omega⟩ x := by
  refine Eq.trans (b := k0_pay2 (F := Ideal) (iblk m c 1 t) (iblk m c 3 t) (ix2 r x)) ?_ (turned_out m c t ht r x)
  unfold out0_5
  frame_out

/-- What a point leaves of the padded keys. -/
theorem padded_out (c : Dev nD) (t : Fin cfg0.N) (ht : t.val < 17) (r : Fin 512) (x : Fin 128) :
    (out0_6 (iblk m c 0 t) (iblk m c 1 t) (iblk m c 2 t) (iblk m c 3 t) (ix2 r x) : EReal)
      = padded (keys (m ((c.tc : Thread nD τ).loc main_arg0)) (m ((c.tc : Thread nD τ).loc main_arg2))) (ix2 ⟨t.val * 512 + r.val, by omega⟩ x) := by
  refine Eq.trans (b := k0_pay3 (F := Ideal) (iblk m c 1 t) (iblk m c 3 t) (ix2 r x)) ?_ ?_
  · unfold out0_6
    frame_out
  · by_cases hx : x.val < 64
    · exact (pay3_low _ _ r x hx).trans ((turned_out m c t ht r x).trans ((turned_low _ _ _ x hx).trans (padded_low _ _ x hx).symm))
    · exact (pay3_high _ _ r x hx).trans (padded_high _ _ x hx).symm

/-- The latents after the last point. -/
theorem final_latents (c : Dev nD) :
    (dats m 0 c).arrAt 4 (cfgs 0).N
      = latents (m ((c.tc : Thread nD τ).loc main_arg0)) (m ((c.tc : Thread nD τ).loc main_arg1)) := by
  refine (dats m 0 c).arrAt_eq_of_covers 4 _ (by decide +kernel) fun t _ y => ?_
  have ht : t.val < 17 := lt_of_lt_of_eq t.isLt points
  blk_simp
  rw [after0_4]
  change S512x512.Idx at y
  have ey : y = ix2 (y 0) (y 1) := by
    funext a; fin_cases a <;> rfl
  rw [ey]
  refine (latents_out m c t ht (y 0) (y 1)).trans ?_
  blk_ext [idx t]

/-- The keys' 128 lanes after the last point. -/
theorem final_lanes (c : Dev nD) :
    (dats m 0 c).arrAt 5 (cfgs 0).N
      = lanes (m ((c.tc : Thread nD τ).loc main_arg0)) (m ((c.tc : Thread nD τ).loc main_arg2)) := by
  refine (dats m 0 c).arrAt_eq_of_covers 5 _ (by decide +kernel) fun t _ y => ?_
  have ht : t.val < 17 := lt_of_lt_of_eq t.isLt points
  blk_simp
  rw [after0_5]
  change S512x128.Idx at y
  have ey : y = ix2 (y 0) (y 1) := by
    funext a; fin_cases a <;> rfl
  rw [ey]
  refine ((lanes_out m c t ht (y 0) (y 1)).trans (lanes_at _ _ _ _).symm).trans ?_
  blk_ext [idx t]

/-- The padded keys after the last point. -/
theorem final_padded (c : Dev nD) :
    (dats m 0 c).arrAt 6 (cfgs 0).N
      = padded (keys (m ((c.tc : Thread nD τ).loc main_arg0)) (m ((c.tc : Thread nD τ).loc main_arg2))) := by
  refine (dats m 0 c).arrAt_eq_of_covers 6 _ (by decide +kernel) fun t _ y => ?_
  have ht : t.val < 17 := lt_of_lt_of_eq t.isLt points
  blk_simp
  rw [after0_6]
  change S512x128.Idx at y
  have ey : y = ix2 (y 0) (y 1) := by
    funext a; fin_cases a <;> rfl
  rw [ey]
  refine (padded_out m c t ht (y 0) (y 1)).trans ?_
  blk_ext [idx t]

theorem first_at (k : FVec Ideal S8704x128 .f32) (r : Fin 8704) (x : Fin 64) :
    extractStridedSlice S8704x64 ![0, 0] k slices_S8704x128_S8704x64_0_0 (ix2 r x) = k (ix2 r ⟨x.val, by omega⟩) := by
  pointwise []

/-- What the host takes as the rotated keys. -/
theorem host_keys (z : FVec Ideal S8704x8192 .f32) (cs : FVec Ideal S8704x128 .f32) :
    extractStridedSlice S8704x64 ![0, 0] (lanes z cs) slices_S8704x128_S8704x64_0_0 = keys z cs := by
  funext i
  have e : i = ix2 (i 0) (i 1) := by
    funext a; fin_cases a <;> rfl
  rw [e]
  exact (first_at (lanes z cs) (i 0) (i 1)).trans (turned_low z cs (i 0) ⟨(i 1).val, _⟩ (i 1).isLt)

/-- The keys' array when the region is over. -/
theorem region (c : Dev nD) :
    Pipeline.withArrays (cfgs 0).spec c (V0 m c) (fun w => (dats m 0 c).arrAt w (cfgs 0).N) (Proc.devRef .tc main_v1_1)
      = (dats m 0 c).arrAt 5 (cfgs 0).N :=
  (dats m 0 c).withArrays_arrAt sharedIn0 (V0 m c) (fun w => A_eq m c w) 5

/-- The second result. -/
theorem end_keys (c : Dev nD) :
    Pipeline.afterTail₀ cfgs (dats m) 0 (V0 m) [hostOps1] c main_v2
      = keys (m ((c.tc : Thread nD τ).loc main_arg0)) (m ((c.tc : Thread nD τ).loc main_arg2)) := by
  rw [← host_keys, ← final_lanes m c, ← region m c]
  unfold Pipeline.afterTail₀
  show StableHlo.after hostOps1 _ (Proc.devRef .tc main_v2) = _
  after_results

theorem frame_ref : letI := Cert.AttPostRefIdeal.Gen.facts; Cert.quiescent_AttPostRefIdeal := fun m g _ =>
  (θ_run Cert.AttPostRefIdeal.defs _ _).mono (fun r h => ⟨fun c => (h c).2.2.2, sem_eq_zero_of_no_sems (by decide) r.2⟩)
    (Cert.AttPostRefIdeal.Value.run (F := Ideal) m g)

theorem algebraic : letI := Cert.AttPostIdeal.Gen.facts; letI := Cert.AttPostRefIdeal.Gen.facts; Cert.algebraic_AttPostIdeal_AttPostRefIdeal := by
  pair_intro
  · run_from Cert.AttPostIdeal.Gen.run_main m g
    · exact W_main_arg1 m (dats m) c
  · run_from Cert.AttPostRefIdeal.Value.run m' g'
    · exact (final_latents m c).symm
    · exact (end_keys m c).symm
    · rw [(hagree c).2.2]
      exact (final_padded m c).symm

end Cert.AttPostIdeal.Norm

end
-- ==== Proof.AttUq.lean ====
/- The latent attention's query product: at a row block's first column block the kernel norms the first 1024 columns of the
   rows and keeps them in a scratch, which the other column blocks then multiply. What it leaves is the reference's result. -/
module

public import proofs.«01_k».proof.Defs
public import proofs.«01_k».proof.Proof.Gen.AttUqIdeal.Value
public import proofs.«01_k».proof.Proof.Gen.AttUqRefIdeal.Run
public import Idealize.ShloMosaic.Lib.Claim
public import Idealize.ShloMosaic.Lib.Pipeline.ValueKit

@[expose] public section

set_option maxRecDepth 16384

noncomputable section

namespace Cert.AttUqRefIdeal.Product

open Cert.AttUqRefIdeal Cert.AttUqRefIdeal.Gen Idealize.ShloMosaic Idealize.ShloMosaic.TcCoe Idealize.SL.Sem

/-- An element of a normed row: the row's element over the root of the mean square, times its gain. -/
def normed (x g : Fin 1024 → EReal) (k : Fin 1024) : EReal :=
  x k * Ideal.rsqrt (Ideal.div (∑ j : Fin 1024, x j * x j) (Ideal.ofBits .f32 0x44800000#32) + Ideal.ofBits .f32 0x358637BD#32) * g k

/-- The columns the queries are made of. -/
def front (z : FVec Ideal S8704x8192 .f32) : FVec Ideal S8704x1024 .f32 :=
  extractStridedSlice S8704x1024 ![0, 0] z slices_S8704x8192_S8704x1024_0_0

theorem front_at (z : FVec Ideal S8704x8192 .f32) (r : Fin 8704) (k : Fin 1024) :
    front z (ix2 r k) = z (ix2 r ⟨k.val, by omega⟩) := by
  unfold front
  pointwise []

/-- The reference's row factors, one for a row. -/
def factors (x : FVec Ideal S8704x1024 .f32) : FVec Ideal S8704x1 .f32 :=
  Host.rsqrt (addf (Host.divf (broadcastInDim S8704x1 ![0] bcast_S8704_S8704x1_0 (Host.reduceAdd (mulf x x) (constant S_ .f32 0x00000000#32) reducesTo_S8704x1024_S8704_d1 h_S_)) (broadcastInDim S8704x1 ![] bcast_S_S8704x1 (constant S_ .f32 0x44800000#32))) (broadcastInDim S8704x1 ![] bcast_S_S8704x1 (constant S_ .f32 0x358637BD#32)))

/-- The reference's normed rows. -/
def rows (x : FVec Ideal S8704x1024 .f32) (g : FVec Ideal S1024 .f32) : FVec Ideal S8704x1024 .f32 :=
  mulf (mulf x (broadcastInDim S8704x1024 ![0, 1] bcast_S8704x1_S8704x1024_0_1 (factors x)))
    (broadcastInDim S8704x1024 ![0, 1] bcast_S1x1024_S8704x1024_0_1 (broadcastInDim S1x1024 ![1] bcast_S1024_S1x1024_1 g))

/-- The reference's result: the normed rows through the matrix. -/
def ref (z : FVec Ideal S8704x8192 .f32) (w : FVec Ideal S1024x4096 .f32) (g : FVec Ideal S1024 .f32) : FVec Ideal S8704x4096 .f32 :=
  Host.dotGeneral dot_S8704x1024_S1024x4096_S8704x4096_1_0_0_1_n_n none (rows (front z) g) w

theorem mul_at {s : Shape} (a b : FVec Ideal s .f32) (i : s.Idx) : mulf a b i = a i * b i := rfl

theorem dot_at (x : FVec Ideal S8704x1024 .f32) (w : FVec Ideal S1024x4096 .f32) (r : Fin 8704) (n : Fin 4096) :
    Host.dotGeneral dot_S8704x1024_S1024x4096_S8704x4096_1_0_0_1_n_n none x w (ix2 r n) = ∑ k : Fin 1024, x (ix2 r k) * w (ix2 k n) := by
  pointwise []

theorem sum_at (x : FVec Ideal S8704x1024 .f32) (r : Fin 8704) :
    Host.reduceAdd x (constant S_ .f32 0x00000000#32) reducesTo_S8704x1024_S8704_d1 h_S_ (ix1 r) = ∑ j : Fin 1024, x (ix2 r j) := by
  pointwise []

theorem factor_at (s : FVec Ideal S8704 .f32) (r : Fin 8704) :
    Host.rsqrt (addf (Host.divf (broadcastInDim S8704x1 ![0] bcast_S8704_S8704x1_0 s) (broadcastInDim S8704x1 ![] bcast_S_S8704x1 (constant S_ .f32 0x44800000#32))) (broadcastInDim S8704x1 ![] bcast_S_S8704x1 (constant S_ .f32 0x358637BD#32))) (ix2 r 0)
      = Ideal.rsqrt (Ideal.div (s (ix1 r)) (Ideal.ofBits .f32 0x44800000#32) + Ideal.ofBits .f32 0x358637BD#32) := by
  pointwise []

theorem spread_at (f : FVec Ideal S8704x1 .f32) (r : Fin 8704) (k : Fin 1024) :
    broadcastInDim S8704x1024 ![0, 1] bcast_S8704x1_S8704x1024_0_1 f (ix2 r k) = f (ix2 r 0) := by
  pointwise []

theorem gain_at (g : FVec Ideal S1024 .f32) (r : Fin 8704) (k : Fin 1024) :
    broadcastInDim S8704x1024 ![0, 1] bcast_S1x1024_S8704x1024_0_1 (broadcastInDim S1x1024 ![1] bcast_S1024_S1x1024_1 g) (ix2 r k) = g (ix1 k) := by
  pointwise []

theorem rows_at (x : FVec Ideal S8704x1024 .f32) (g : FVec Ideal S1024 .f32) (r : Fin 8704) (k : Fin 1024) :
    rows x g (ix2 r k) = normed (fun j => x (ix2 r j)) (fun j => g (ix1 j)) k := by
  unfold rows factors normed
  rw [mul_at, mul_at, spread_at, gain_at, factor_at, sum_at]
  rfl

theorem ref_at (z : FVec Ideal S8704x8192 .f32) (w : FVec Ideal S1024x4096 .f32) (g : FVec Ideal S1024 .f32) (r : Fin 8704) (n : Fin 4096) :
    ref z w g (ix2 r n) = ∑ k : Fin 1024, normed (fun j => z (ix2 r ⟨j.val, by omega⟩)) (fun j => g (ix1 j)) k * w (ix2 k n) := by
  unfold ref
  rw [dot_at]
  simp only [rows_at, front_at]

end Cert.AttUqRefIdeal.Product

namespace Cert.AttUqIdeal.Product

open Cert.AttUqIdeal Cert.AttUqIdeal.Gen Cert.AttUqRefIdeal.Product Idealize.ShloMosaic Idealize.ShloMosaic.TcCoe Idealize.SL.Sem
open Idealize.ShloMosaic.Pipeline (Dat)

theorem pay1_at (x : Vec Ideal S512x1024 .f32) (g : Vec Ideal S1x1024 .f32) (r : Fin 512) (k : Fin 1024) :
    k0_pay1 (F := Ideal) x g (ix2 r k) = normed (fun j => x (ix2 r j)) (fun j => g (ix2 0 j)) k := by
  unfold normed
  pointwise [k0_pay1]

theorem pay2_at (x : Vec Ideal S512x1024 .bf16) (w : Vec Ideal S1024x1024 .bf16) (r : Fin 512) (n : Fin 1024) :
    k0_pay2 (F := Ideal) x w (ix2 r n) = ∑ k : Fin 1024, x (ix2 r k) * w (ix2 k n) := by
  pointwise [k0_pay2]

variable (m : (ℓ : Loc nD τ sig) → Buf (Elt Ideal) ℓ)

theorem idx : ∀ t : Fin cfg0.N, win0_0.index t = ![t.val / 4, 0] ∧ win0_1.index t = ![0, t.val % 4]
    ∧ win0_2.index t = ![0, 0] ∧ win0_3.index t = ![t.val / 4, t.val % 4] :=
  (by decide +kernel : ∀ t : Fin grid0.N, _)

theorem points : cfg0.N = 68 := by decide +kernel

/-- The matrix as the host hands it to the kernel. -/
theorem matrix_at (c : Dev nD) (k : Fin 1024) (n : Fin 4096) :
    (V m c main_v0 (ix2 k n) : EReal) = m ((c.tc : Thread nD τ).loc main_arg1) (ix2 k n) := by
  entry_read
  pointwise []

/-- The gain as the host hands it to the kernel. -/
theorem gains_at (c : Dev nD) (k : Fin 1024) :
    (V m c main_v1 (ix2 0 k) : EReal) = m ((c.tc : Thread nD τ).loc main_arg2) (ix1 k) := by
  entry_read
  pointwise []

theorem read0 (c : Dev nD) (t : Fin cfg0.N) (ht : t.val < 68) (r : Fin 512) (k : Fin 1024) :
    (iblk m c 0 t (ix2 r k) : EReal) = m ((c.tc : Thread nD τ).loc main_arg0) (ix2 ⟨t.val / 4 * 512 + r.val, by omega⟩ ⟨k.val, by omega⟩) := by
  blk_ext [iblk, V, idx t]

theorem read1 (c : Dev nD) (t : Fin cfg0.N) (ht : t.val < 68) (k : Fin 1024) (n : Fin 1024) :
    (iblk m c 1 t (ix2 k n) : EReal) = m ((c.tc : Thread nD τ).loc main_arg1) (ix2 k ⟨t.val % 4 * 1024 + n.val, by omega⟩) := by
  refine Eq.trans ?_ (matrix_at m c k ⟨t.val % 4 * 1024 + n.val, by omega⟩)
  blk_ext [iblk, idx t]

theorem read2 (c : Dev nD) (t : Fin cfg0.N) (k : Fin 1024) :
    (iblk m c 2 t (ix2 0 k) : EReal) = m ((c.tc : Thread nD τ).loc main_arg2) (ix1 k) := by
  refine Eq.trans ?_ (gains_at m c k)
  blk_ext [iblk, idx t]

/-- The normed rows a point would keep. -/
theorem kept_at (c : Dev nD) (t : Fin cfg0.N) (ht : t.val < 68) (r : Fin 512) (k : Fin 1024) :
    k0_pay1 (F := Ideal) (iblk m c 0 t) (iblk m c 2 t) (ix2 r k)
      = normed (fun j => (m ((c.tc : Thread nD τ).loc main_arg0) : S8704x8192.Idx → EReal) (ix2 ⟨t.val / 4 * 512 + r.val, by omega⟩ ⟨j.val, by omega⟩))
          (fun j => (m ((c.tc : Thread nD τ).loc main_arg2) : S1024.Idx → EReal) (ix1 j)) k :=
  (pay1_at _ _ r k).trans (congrArg₂ (fun x g => normed x g k) (funext fun j => read0 m c t ht r j) (funext fun j => read2 m c t j))

/-- After a point the scratch holds the normed rows of the point's block. -/
theorem scratch_at (c : Dev nD) : ∀ (n : ℕ) (hn : n < cfg0.N) (h : n < 68) (r : Fin 512) (k : Fin 1024),
    ((outsAt0 m c n hn).2 (ix2 r k) : EReal)
      = normed (fun j => (m ((c.tc : Thread nD τ).loc main_arg0) : S8704x8192.Idx → EReal) (ix2 ⟨n / 4 * 512 + r.val, by omega⟩ ⟨j.val, by omega⟩))
          (fun j => (m ((c.tc : Thread nD τ).loc main_arg2) : S1024.Idx → EReal) (ix1 j)) k := by
  intro n
  induction n with
  | zero =>
    intro hn h r k
    rw [show outsAt0 m c 0 hn = _ from outsAt0_A m c ⟨0, hn⟩ rfl]
    refine Eq.trans ?_ (kept_at m c ⟨0, hn⟩ h r k)
    frame_out
  | succ n ih =>
    intro hn h r k
    by_cases h0 : (n + 1) % 4 = 0
    · rw [show outsAt0 m c (n + 1) hn = _ from outsAt0_A m c ⟨n + 1, hn⟩ h0]
      refine Eq.trans ?_ (kept_at m c ⟨n + 1, hn⟩ h r k)
      frame_out
    · rw [show outsAt0 m c (n + 1) hn = _ from outsAt0_B m c ⟨n + 1, hn⟩ h0]
      refine Eq.trans (b := ((outsAt0 m c n (Nat.lt_of_succ_lt hn)).2 (ix2 r k) : EReal)) ?_ ((ih (Nat.lt_of_succ_lt hn) (by omega) r k).trans ?_)
      · rfl
      · have e : n / 4 = (n + 1) / 4 := by omega
        simp only [e]

/-- What a point leaves in its block: the kept rows against the point's columns. -/
theorem out_at (c : Dev nD) (t : Fin cfg0.N) (ht : t.val < 68) (r : Fin 512) (n : Fin 1024) :
    ((outsAt0 m c t.val t.isLt).1 (ix2 r n) : EReal)
      = ref (m ((c.tc : Thread nD τ).loc main_arg0)) (m ((c.tc : Thread nD τ).loc main_arg1)) (m ((c.tc : Thread nD τ).loc main_arg2))
          (ix2 ⟨t.val / 4 * 512 + r.val, by omega⟩ ⟨t.val % 4 * 1024 + n.val, by omega⟩) := by
  refine Eq.trans (b := k0_pay2 (F := Ideal) (outsAt0 m c t.val t.isLt).2 (iblk m c 1 t) (ix2 r n)) ?_ ?_
  · by_cases h0 : t.val % 4 = 0
    · rw [outsAt0_A m c t h0]
      frame_out
    · rw [outsAt0_B m c t h0]
      frame_out
      exact congrArg (fun z => k0_pay2 z (iblk m c 1 t) (ix2 r n)) ((Memref.isWhole_whole _).read_unread _)
  · refine (pay2_at _ _ r n).trans (Eq.trans ?_ (ref_at _ _ _ _ _).symm)
    refine Finset.sum_congr rfl fun k _ => ?_
    rw [scratch_at m c t.val t.isLt ht, read1 m c t ht]

/-- The whole array after the last point. -/
theorem final (c : Dev nD) :
    (dats m 0 c).arrAt 3 (cfgs 0).N
      = ref (m ((c.tc : Thread nD τ).loc main_arg0)) (m ((c.tc : Thread nD τ).loc main_arg1)) (m ((c.tc : Thread nD τ).loc main_arg2)) := by
  refine (dats m 0 c).arrAt_eq_of_covers 3 _ (by decide +kernel) fun t _ y => ?_
  have ht : t.val < 68 := lt_of_lt_of_eq t.isLt points
  blk_simp
  rw [after0_3]
  change S512x1024.Idx at y
  have ey : y = ix2 (y 0) (y 1) := by
    funext a; fin_cases a <;> rfl
  rw [ey]
  refine (out_at m c t ht (y 0) (y 1)).trans ?_
  blk_ext [idx t]

theorem frame_ref : letI := Cert.AttUqRefIdeal.Gen.facts; Cert.quiescent_AttUqRefIdeal := fun m g _ =>
  (θ_run Cert.AttUqRefIdeal.defs _ _).mono (fun r h => ⟨fun c => (h c).2, sem_eq_zero_of_no_sems (by decide) r.2⟩)
    (Cert.AttUqRefIdeal.Value.run (F := Ideal) m g)

theorem algebraic : letI := Cert.AttUqIdeal.Gen.facts; letI := Cert.AttUqRefIdeal.Gen.facts; Cert.algebraic_AttUqIdeal_AttUqRefIdeal := by
  pair_intro
  · run_from Cert.AttUqIdeal.Gen.run_main m g
  · run_from Cert.AttUqRefIdeal.Value.run m' g'
    exact (final m c).symm

end Cert.AttUqIdeal.Product

end
-- ==== Proof.lean ====
module

public import proofs.«01_k».proof.Defs
public import proofs.«01_k».proof.Proof.Attn
public import proofs.«01_k».proof.Proof.Gen.Attn.Frame
public import proofs.«01_k».proof.Proof.Gen.AttnIdeal.Frame
public import proofs.«01_k».proof.Proof.Gen.AttnIdeal.Value
public import proofs.«01_k».proof.Proof.Gen.AttnRefIdeal.Run
public import proofs.«01_k».proof.Proof.Gen.FfnTwo
public import proofs.«01_k».proof.Proof.Gen.FfnTwo.Skeleton
public import proofs.«01_k».proof.Proof.Gen.FfnTwo.Launch
public import proofs.«01_k».proof.Proof.Gen.FfnTwoIdeal
public import proofs.«01_k».proof.Proof.Gen.FfnTwoIdeal.Skeleton
public import proofs.«01_k».proof.Proof.Gen.FfnTwoIdeal.Launch
public import proofs.«01_k».proof.Proof.Gen.FfnTwoRefIdeal
public import proofs.«01_k».proof.Proof.Gen.FfnTwoRefIdeal.Run
public import proofs.«01_k».proof.Proof.Gen.FfnOne
public import proofs.«01_k».proof.Proof.Gen.FfnOne.Skeleton
public import proofs.«01_k».proof.Proof.Gen.FfnOne.Launch
public import proofs.«01_k».proof.Proof.Gen.FfnOneIdeal
public import proofs.«01_k».proof.Proof.Gen.FfnOneIdeal.Skeleton
public import proofs.«01_k».proof.Proof.Gen.FfnOneIdeal.Launch
public import proofs.«01_k».proof.Proof.Gen.FfnOneRefIdeal
public import proofs.«01_k».proof.Proof.Gen.FfnOneRefIdeal.Run
public import proofs.«01_k».proof.Proof.Gen.Pre_finite
public import proofs.«01_k».proof.Proof.Gen.Pre_tables2
public import proofs.«01_k».proof.Proof.Gen.Pre_tables3
public import proofs.«01_k».proof.Proof.FfnTwoClaim
public import proofs.«01_k».proof.Proof.FfnOneClaim
public import proofs.«01_k».proof.Proof.MixIn
public import proofs.«01_k».proof.Proof.MixOut
public import proofs.«01_k».proof.Proof.Gen.MixIn
public import proofs.«01_k».proof.Proof.Gen.MixIn.Skeleton
public import proofs.«01_k».proof.Proof.Gen.MixIn.Launch
public import proofs.«01_k».proof.Proof.Gen.MixIn.Frame
public import proofs.«01_k».proof.Proof.Gen.MixInIdeal
public import proofs.«01_k».proof.Proof.Gen.MixInIdeal.Skeleton
public import proofs.«01_k».proof.Proof.Gen.MixInIdeal.Launch
public import proofs.«01_k».proof.Proof.Gen.MixInIdeal.Frame
public import proofs.«01_k».proof.Proof.Gen.MixInIdeal.Value
public import proofs.«01_k».proof.Proof.Gen.MixInRefIdeal
public import proofs.«01_k».proof.Proof.Gen.MixInRefIdeal.Run
public import proofs.«01_k».proof.Proof.Gen.MixOut
public import proofs.«01_k».proof.Proof.Gen.MixOut.Skeleton
public import proofs.«01_k».proof.Proof.Gen.MixOut.Launch
public import proofs.«01_k».proof.Proof.Gen.MixOut.Frame
public import proofs.«01_k».proof.Proof.Gen.MixOutIdeal
public import proofs.«01_k».proof.Proof.Gen.MixOutIdeal.Skeleton
public import proofs.«01_k».proof.Proof.Gen.MixOutIdeal.Launch
public import proofs.«01_k».proof.Proof.Gen.MixOutIdeal.Frame
public import proofs.«01_k».proof.Proof.Gen.MixOutIdeal.Value
public import proofs.«01_k».proof.Proof.Gen.MixOutRefIdeal
public import proofs.«01_k».proof.Proof.Gen.MixOutRefIdeal.Run
public import proofs.«01_k».proof.Proof.Gen.AttIn
public import proofs.«01_k».proof.Proof.Gen.AttIn.Skeleton
public import proofs.«01_k».proof.Proof.Gen.AttIn.Launch
public import proofs.«01_k».proof.Proof.Gen.AttIn.Frame
public import proofs.«01_k».proof.Proof.Gen.AttInIdeal
public import proofs.«01_k».proof.Proof.Gen.AttInIdeal.Skeleton
public import proofs.«01_k».proof.Proof.Gen.AttInIdeal.Launch
public import proofs.«01_k».proof.Proof.Gen.AttInIdeal.Frame
public import proofs.«01_k».proof.Proof.Gen.AttInRefIdeal
public import proofs.«01_k».proof.Proof.Gen.AttInRefIdeal.Run
public import proofs.«01_k».proof.Proof.Gen.MemKv
public import proofs.«01_k».proof.Proof.Gen.MemKv.Skeleton
public import proofs.«01_k».proof.Proof.Gen.MemKv.Launch
public import proofs.«01_k».proof.Proof.Gen.MemKv.Frame
public import proofs.«01_k».proof.Proof.Gen.MemKvIdeal
public import proofs.«01_k».proof.Proof.Gen.MemKvIdeal.Skeleton
public import proofs.«01_k».proof.Proof.Gen.MemKvIdeal.Launch
public import proofs.«01_k».proof.Proof.Gen.MemKvIdeal.Frame
public import proofs.«01_k».proof.Proof.Gen.MemKvRefIdeal
public import proofs.«01_k».proof.Proof.Gen.MemKvRefIdeal.Run
public import proofs.«01_k».proof.Proof.Gen.MemQ
public import proofs.«01_k».proof.Proof.Gen.MemQ.Skeleton
public import proofs.«01_k».proof.Proof.Gen.MemQ.Launch
public import proofs.«01_k».proof.Proof.Gen.MemQ.Frame
public import proofs.«01_k».proof.Proof.Gen.MemQIdeal
public import proofs.«01_k».proof.Proof.Gen.MemQIdeal.Skeleton
public import proofs.«01_k».proof.Proof.Gen.MemQIdeal.Launch
public import proofs.«01_k».proof.Proof.Gen.MemQIdeal.Frame
public import proofs.«01_k».proof.Proof.Gen.MemQRefIdeal
public import proofs.«01_k».proof.Proof.Gen.MemQRefIdeal.Run
public import proofs.«01_k».proof.Proof.Gen.MemOut
public import proofs.«01_k».proof.Proof.Gen.MemOut.Skeleton
public import proofs.«01_k».proof.Proof.Gen.MemOut.Launch
public import proofs.«01_k».proof.Proof.Gen.MemOut.Frame
public import proofs.«01_k».proof.Proof.Gen.MemOutIdeal
public import proofs.«01_k».proof.Proof.Gen.MemOutIdeal.Skeleton
public import proofs.«01_k».proof.Proof.Gen.MemOutIdeal.Launch
public import proofs.«01_k».proof.Proof.Gen.MemOutIdeal.Frame
public import proofs.«01_k».proof.Proof.Gen.MemOutRefIdeal
public import proofs.«01_k».proof.Proof.Gen.MemOutRefIdeal.Run
public import proofs.«01_k».proof.Proof.Gen.Glu
public import proofs.«01_k».proof.Proof.Gen.Glu.Skeleton
public import proofs.«01_k».proof.Proof.Gen.Glu.Launch
public import proofs.«01_k».proof.Proof.Gen.Glu.Frame
public import proofs.«01_k».proof.Proof.Gen.GluIdeal
public import proofs.«01_k».proof.Proof.Gen.GluIdeal.Skeleton
public import proofs.«01_k».proof.Proof.Gen.GluIdeal.Launch
public import proofs.«01_k».proof.Proof.Gen.GluIdeal.Frame
public import proofs.«01_k».proof.Proof.Gen.GluRefIdeal
public import proofs.«01_k».proof.Proof.Gen.GluRefIdeal.Run
public import proofs.«01_k».proof.Proof.Gen.LatPrompt
public import proofs.«01_k».proof.Proof.Gen.LatPrompt.Skeleton
public import proofs.«01_k».proof.Proof.Gen.LatPrompt.Launch
public import proofs.«01_k».proof.Proof.Gen.LatPrompt.Frame
public import proofs.«01_k».proof.Proof.Gen.LatPromptIdeal
public import proofs.«01_k».proof.Proof.Gen.LatPromptIdeal.Skeleton
public import proofs.«01_k».proof.Proof.Gen.LatPromptIdeal.Launch
public import proofs.«01_k».proof.Proof.Gen.LatPromptIdeal.Frame
public import proofs.«01_k».proof.Proof.Gen.LatPromptRefIdeal
public import proofs.«01_k».proof.Proof.Gen.LatPromptRefIdeal.Run
public import proofs.«01_k».proof.Proof.Gen.LatSample
public import proofs.«01_k».proof.Proof.Gen.LatSample.Skeleton
public import proofs.«01_k».proof.Proof.Gen.LatSample.Launch
public import proofs.«01_k».proof.Proof.Gen.LatSample.Frame
public import proofs.«01_k».proof.Proof.Gen.LatSampleIdeal
public import proofs.«01_k».proof.Proof.Gen.LatSampleIdeal.Skeleton
public import proofs.«01_k».proof.Proof.Gen.LatSampleIdeal.Launch
public import proofs.«01_k».proof.Proof.Gen.LatSampleIdeal.Frame
public import proofs.«01_k».proof.Proof.Gen.LatSampleRefIdeal
public import proofs.«01_k».proof.Proof.Gen.LatSampleRefIdeal.Run
public import proofs.«01_k».proof.Proof.Gen.FinalNorm
public import proofs.«01_k».proof.Proof.Gen.FinalNorm.Skeleton
public import proofs.«01_k».proof.Proof.Gen.FinalNorm.Launch
public import proofs.«01_k».proof.Proof.Gen.FinalNorm.Frame
public import proofs.«01_k».proof.Proof.Gen.FinalNormIdeal
public import proofs.«01_k».proof.Proof.Gen.FinalNormIdeal.Skeleton
public import proofs.«01_k».proof.Proof.Gen.FinalNormIdeal.Launch
public import proofs.«01_k».proof.Proof.Gen.FinalNormIdeal.Frame
public import proofs.«01_k».proof.Proof.Gen.FinalNormRefIdeal
public import proofs.«01_k».proof.Proof.Gen.FinalNormRefIdeal.Run
public import proofs.«01_k».proof.Proof.Gen.AttPost
public import proofs.«01_k».proof.Proof.Gen.AttPost.Skeleton
public import proofs.«01_k».proof.Proof.Gen.AttPost.Launch
public import proofs.«01_k».proof.Proof.Gen.AttPost.Frame
public import proofs.«01_k».proof.Proof.Gen.AttPostIdeal
public import proofs.«01_k».proof.Proof.Gen.AttPostIdeal.Skeleton
public import proofs.«01_k».proof.Proof.Gen.AttPostIdeal.Launch
public import proofs.«01_k».proof.Proof.Gen.AttPostIdeal.Frame
public import proofs.«01_k».proof.Proof.Gen.AttPostRefIdeal
public import proofs.«01_k».proof.Proof.Gen.AttPostRefIdeal.Run
public import proofs.«01_k».proof.Proof.Gen.AttUq
public import proofs.«01_k».proof.Proof.Gen.AttUq.Skeleton
public import proofs.«01_k».proof.Proof.Gen.AttUq.Launch
public import proofs.«01_k».proof.Proof.Gen.AttUq.Frame
public import proofs.«01_k».proof.Proof.Gen.AttUqIdeal
public import proofs.«01_k».proof.Proof.Gen.AttUqIdeal.Skeleton
public import proofs.«01_k».proof.Proof.Gen.AttUqIdeal.Launch
public import proofs.«01_k».proof.Proof.Gen.AttUqIdeal.Frame
public import proofs.«01_k».proof.Proof.Gen.AttUqRefIdeal
public import proofs.«01_k».proof.Proof.Gen.AttUqRefIdeal.Run
public import proofs.«01_k».proof.Proof.AttIn
public import proofs.«01_k».proof.Proof.MemKv
public import proofs.«01_k».proof.Proof.MemQ
public import proofs.«01_k».proof.Proof.MemOut
public import proofs.«01_k».proof.Proof.Glu
public import proofs.«01_k».proof.Proof.LatPrompt
public import proofs.«01_k».proof.Proof.LatSample
public import proofs.«01_k».proof.Proof.FinalNorm
public import proofs.«01_k».proof.Proof.AttPost
public import proofs.«01_k».proof.Proof.AttUq
public import Idealize.ShloMosaic.Adequacy
public import Idealize.ShloMosaic.Init

@[expose] public section

noncomputable section

namespace Cert.Proof

open Idealize.ShloMosaic Idealize.SL.Sem

theorem claim : Cert.Claim :=
  ⟨Cert.Attn.Gen.facts, Cert.AttnIdeal.Gen.facts, Cert.AttnRefIdeal.Gen.facts,
    Cert.FfnTwo.Gen.facts, Cert.FfnTwoIdeal.Gen.facts, Cert.FfnTwoRefIdeal.Gen.facts, Cert.FfnOne.Gen.facts, Cert.FfnOneIdeal.Gen.facts, Cert.FfnOneRefIdeal.Gen.facts,
    Cert.MixIn.Gen.facts, Cert.MixInIdeal.Gen.facts, Cert.MixInRefIdeal.Gen.facts, Cert.MixOut.Gen.facts, Cert.MixOutIdeal.Gen.facts, Cert.MixOutRefIdeal.Gen.facts,
    Cert.AttIn.Gen.facts, Cert.AttInIdeal.Gen.facts, Cert.AttInRefIdeal.Gen.facts,
    Cert.MemKv.Gen.facts, Cert.MemKvIdeal.Gen.facts, Cert.MemKvRefIdeal.Gen.facts,
    Cert.MemQ.Gen.facts, Cert.MemQIdeal.Gen.facts, Cert.MemQRefIdeal.Gen.facts,
    Cert.MemOut.Gen.facts, Cert.MemOutIdeal.Gen.facts, Cert.MemOutRefIdeal.Gen.facts,
    Cert.Glu.Gen.facts, Cert.GluIdeal.Gen.facts, Cert.GluRefIdeal.Gen.facts,
    Cert.LatPrompt.Gen.facts, Cert.LatPromptIdeal.Gen.facts, Cert.LatPromptRefIdeal.Gen.facts,
    Cert.LatSample.Gen.facts, Cert.LatSampleIdeal.Gen.facts, Cert.LatSampleRefIdeal.Gen.facts,
    Cert.FinalNorm.Gen.facts, Cert.FinalNormIdeal.Gen.facts, Cert.FinalNormRefIdeal.Gen.facts,
    Cert.AttPost.Gen.facts, Cert.AttPostIdeal.Gen.facts, Cert.AttPostRefIdeal.Gen.facts,
    Cert.AttUq.Gen.facts, Cert.AttUqIdeal.Gen.facts, Cert.AttUqRefIdeal.Gen.facts,
    Cert.Pre_finite.Gen.facts, Cert.Pre_tables2.Gen.facts, Cert.Pre_tables3.Gen.facts,
    fun m ρ _ => Cert.Attn.Gen.frame m ρ, fun m ρ _ => Cert.AttnIdeal.Gen.frame m ρ, fun m ρ _ => Cert.AttnIdeal.Gen.frame m ρ,
    fun m ρ _ => (θ_run Cert.AttnRefIdeal.defs _ _).mono (fun r h => ⟨fun c => (h c).2, sem_eq_zero_of_no_sems (by decide) r.2⟩)
      (Cert.AttnRefIdeal.Value.run (F := Ideal) m ρ),
    fun m ρ _ => (θ_run Cert.AttnRefIdeal.defs _ _).mono (fun r h => ⟨fun c => (h c).2, sem_eq_zero_of_no_sems (by decide) r.2⟩)
      (Cert.AttnRefIdeal.Value.run (F := Ideal) m ρ),
    Cert.FfnTwoValue.frame_bits, Cert.FfnTwoValue.frame_ideal, Cert.FfnTwoValue.frame_ref, fun m g _ => Cert.FfnTwoValue.frame_ref m g trivial,
    Cert.FfnOneValue.frame_bits, Cert.FfnOneValue.frame_ideal, Cert.FfnOneValue.frame_ref, fun m g _ => Cert.FfnOneValue.frame_ref m g trivial,
    fun m ρ _ => Cert.MixIn.Gen.frame m ρ, fun m ρ _ => Cert.MixInIdeal.Gen.frame m ρ, Cert.MixInIdeal.Product.frame_ref,
    fun m ρ _ => Cert.MixOut.Gen.frame m ρ, fun m ρ _ => Cert.MixOutIdeal.Gen.frame m ρ, Cert.MixOutIdeal.Product.frame_ref,
    fun m ρ _ => Cert.AttIn.Gen.frame m ρ, fun m ρ _ => Cert.AttInIdeal.Gen.frame m ρ, Cert.AttInIdeal.Product.frame_ref,
    fun m ρ _ => Cert.MemKv.Gen.frame m ρ, fun m ρ _ => Cert.MemKvIdeal.Gen.frame m ρ, Cert.MemKvIdeal.Product.frame_ref,
    fun m ρ _ => Cert.MemQ.Gen.frame m ρ, fun m ρ _ => Cert.MemQIdeal.Gen.frame m ρ, Cert.MemQIdeal.Product.frame_ref,
    fun m ρ _ => Cert.MemOut.Gen.frame m ρ, fun m ρ _ => Cert.MemOutIdeal.Gen.frame m ρ, Cert.MemOutIdeal.Product.frame_ref,
    fun m ρ _ => Cert.Glu.Gen.frame m ρ, fun m ρ _ => Cert.GluIdeal.Gen.frame m ρ, Cert.GluIdeal.Product.frame_ref,
    fun m ρ _ => Cert.LatPrompt.Gen.frame m ρ, fun m ρ _ => Cert.LatPromptIdeal.Gen.frame m ρ, Cert.LatPromptIdeal.Product.frame_ref,
    fun m ρ _ => Cert.LatSample.Gen.frame m ρ, fun m ρ _ => Cert.LatSampleIdeal.Gen.frame m ρ, Cert.LatSampleIdeal.Product.frame_ref,
    fun m ρ _ => Cert.FinalNorm.Gen.frame m ρ, fun m ρ _ => Cert.FinalNormIdeal.Gen.frame m ρ, Cert.FinalNormIdeal.Norm.frame_ref,
    fun m ρ _ => Cert.AttPost.Gen.frame m ρ, fun m ρ _ => Cert.AttPostIdeal.Gen.frame m ρ, Cert.AttPostIdeal.Norm.frame_ref,
    fun m ρ _ => Cert.AttUq.Gen.frame m ρ, fun m ρ _ => Cert.AttUqIdeal.Gen.frame m ρ, Cert.AttUqIdeal.Product.frame_ref,
    trivial, Cert.Attention.algebraic, trivial, Cert.FfnTwoValue.algebraic, trivial, Cert.FfnOneValue.algebraic,
    trivial, Cert.MixInIdeal.Product.algebraic, trivial, Cert.MixOutIdeal.Product.algebraic,
    trivial, Cert.AttInIdeal.Product.algebraic, trivial, Cert.MemKvIdeal.Product.algebraic, trivial, Cert.MemQIdeal.Product.algebraic,
    trivial, Cert.MemOutIdeal.Product.algebraic, trivial, Cert.GluIdeal.Product.algebraic, trivial, Cert.LatPromptIdeal.Product.algebraic, trivial, Cert.LatSampleIdeal.Product.algebraic,
    trivial, Cert.FinalNormIdeal.Norm.algebraic, trivial, Cert.AttPostIdeal.Norm.algebraic,
    trivial, Cert.AttUqIdeal.Product.algebraic⟩

end Cert.Proof

end
